-- ==== Defs.lean ====
def Pre_Dq (m : (ℓ : Loc Cert.Dq.nD Cert.Dq.τ Cert.Dq.sig) → Buf (Elt Bits) ℓ) : Prop :=
  True

def Pre_DqIdeal (m : (ℓ : Loc Cert.DqIdeal.nD Cert.DqIdeal.τ Cert.DqIdeal.sig) → Buf (Elt Ideal) ℓ) : Prop :=
  True

def Pre_DqIdeal_finite [hPre_finite : Cert.Pre_finite.Facts] (m : (ℓ : Loc Cert.DqIdeal.nD Cert.DqIdeal.τ Cert.DqIdeal.sig) → Buf (Elt Ideal) ℓ) : Prop :=
  ∀ c : Dev Cert.DqIdeal.nD,
    (Cert.Pre_finite.fn (F := Ideal) (m ((c.tc : Thread Cert.DqIdeal.nD Cert.DqIdeal.τ).loc Cert.DqIdeal.main_arg0)) (m ((c.tc : Thread Cert.DqIdeal.nD Cert.DqIdeal.τ).loc Cert.DqIdeal.main_arg1)) (m ((c.tc : Thread Cert.DqIdeal.nD Cert.DqIdeal.τ).loc Cert.DqIdeal.main_arg2)) (m ((c.tc : Thread Cert.DqIdeal.nD Cert.DqIdeal.τ).loc Cert.DqIdeal.main_arg3))) = (fun _ => 1#1)

def Pre_DqRefIdeal (m : (ℓ : Loc Cert.DqRefIdeal.nD Cert.DqRefIdeal.τ Cert.DqRefIdeal.sig) → Buf (Elt Ideal) ℓ) : Prop :=
  True

def Pre_DqRefIdeal_finite [hPre_finite : Cert.Pre_finite.Facts] (m : (ℓ : Loc Cert.DqRefIdeal.nD Cert.DqRefIdeal.τ Cert.DqRefIdeal.sig) → Buf (Elt Ideal) ℓ) : Prop :=
  ∀ c : Dev Cert.DqRefIdeal.nD,
    (Cert.Pre_finite.fn (F := Ideal) (m ((c.tc : Thread Cert.DqRefIdeal.nD Cert.DqRefIdeal.τ).loc Cert.DqRefIdeal.main_arg0)) (m ((c.tc : Thread Cert.DqRefIdeal.nD Cert.DqRefIdeal.τ).loc Cert.DqRefIdeal.main_arg1)) (m ((c.tc : Thread Cert.DqRefIdeal.nD Cert.DqRefIdeal.τ).loc Cert.DqRefIdeal.main_arg2)) (m ((c.tc : Thread Cert.DqRefIdeal.nD Cert.DqRefIdeal.τ).loc Cert.DqRefIdeal.main_arg3))) = (fun _ => 1#1)

def Pre_Dkv (m : (ℓ : Loc Cert.Dkv.nD Cert.Dkv.τ Cert.Dkv.sig) → Buf (Elt Bits) ℓ) : Prop :=
  True

def Pre_DkvIdeal (m : (ℓ : Loc Cert.DkvIdeal.nD Cert.DkvIdeal.τ Cert.DkvIdeal.sig) → Buf (Elt Ideal) ℓ) : Prop :=
  True

def Pre_DkvIdeal_finite [hPre_finite : Cert.Pre_finite.Facts] (m : (ℓ : Loc Cert.DkvIdeal.nD Cert.DkvIdeal.τ Cert.DkvIdeal.sig) → Buf (Elt Ideal) ℓ) : Prop :=
  ∀ c : Dev Cert.DkvIdeal.nD,
    (Cert.Pre_finite.fn (F := Ideal) (m ((c.tc : Thread Cert.DkvIdeal.nD Cert.DkvIdeal.τ).loc Cert.DkvIdeal.main_arg0)) (m ((c.tc : Thread Cert.DkvIdeal.nD Cert.DkvIdeal.τ).loc Cert.DkvIdeal.main_arg1)) (m ((c.tc : Thread Cert.DkvIdeal.nD Cert.DkvIdeal.τ).loc Cert.DkvIdeal.main_arg2)) (m ((c.tc : Thread Cert.DkvIdeal.nD Cert.DkvIdeal.τ).loc Cert.DkvIdeal.main_arg3))) = (fun _ => 1#1)

def Pre_DkvRefIdeal (m : (ℓ : Loc Cert.DkvRefIdeal.nD Cert.DkvRefIdeal.τ Cert.DkvRefIdeal.sig) → Buf (Elt Ideal) ℓ) : Prop :=
  True

def Pre_DkvRefIdeal_finite [hPre_finite : Cert.Pre_finite.Facts] (m : (ℓ : Loc Cert.DkvRefIdeal.nD Cert.DkvRefIdeal.τ Cert.DkvRefIdeal.sig) → Buf (Elt Ideal) ℓ) : Prop :=
  ∀ c : Dev Cert.DkvRefIdeal.nD,
    (Cert.Pre_finite.fn (F := Ideal) (m ((c.tc : Thread Cert.DkvRefIdeal.nD Cert.DkvRefIdeal.τ).loc Cert.DkvRefIdeal.main_arg0)) (m ((c.tc : Thread Cert.DkvRefIdeal.nD Cert.DkvRefIdeal.τ).loc Cert.DkvRefIdeal.main_arg1)) (m ((c.tc : Thread Cert.DkvRefIdeal.nD Cert.DkvRefIdeal.τ).loc Cert.DkvRefIdeal.main_arg2)) (m ((c.tc : Thread Cert.DkvRefIdeal.nD Cert.DkvRefIdeal.τ).loc Cert.DkvRefIdeal.main_arg3))) = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_qkv [hPre_finite_qkv : Cert.Pre_finite_qkv.Facts] (m : (ℓ : Loc Cert.FwdIdeal.nD Cert.FwdIdeal.τ Cert.FwdIdeal.sig) → Buf (Elt Ideal) ℓ) : Prop :=
  ∀ c : Dev Cert.FwdIdeal.nD,
    (Cert.Pre_finite_qkv.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))) = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_finite_qkv [hPre_finite_qkv : Cert.Pre_finite_qkv.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_finite_qkv.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2))) = (fun _ => 1#1)

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_MixInDx (m : (ℓ : Loc Cert.MixInDx.nD Cert.MixInDx.τ Cert.MixInDx.sig) → Buf (Elt Bits) ℓ) : Prop :=
  True

def Pre_MixInDxIdeal (m : (ℓ : Loc Cert.MixInDxIdeal.nD Cert.MixInDxIdeal.τ Cert.MixInDxIdeal.sig) → Buf (Elt Ideal) ℓ) : Prop :=
  True

def Pre_MixInDxRefIdeal (m : (ℓ : Loc Cert.MixInDxRefIdeal.nD Cert.MixInDxRefIdeal.τ Cert.MixInDxRefIdeal.sig) → Buf (Elt Ideal) ℓ) : Prop :=
  True

def Pre_MixInDw (m : (ℓ : Loc Cert.MixInDw.nD Cert.MixInDw.τ Cert.MixInDw.sig) → Buf (Elt Bits) ℓ) : Prop :=
  True

def Pre_MixInDwIdeal (m : (ℓ : Loc Cert.MixInDwIdeal.nD Cert.MixInDwIdeal.τ Cert.MixInDwIdeal.sig) → Buf (Elt Ideal) ℓ) : Prop :=
  True

def Pre_MixInDwRefIdeal (m : (ℓ : Loc Cert.MixInDwRefIdeal.nD Cert.MixInDwRefIdeal.τ Cert.MixInDwRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_MixOutDx (m : (ℓ : Loc Cert.MixOutDx.nD Cert.MixOutDx.τ Cert.MixOutDx.sig) → Buf (Elt Bits) ℓ) : Prop :=
  True

def Pre_MixOutDxIdeal (m : (ℓ : Loc Cert.MixOutDxIdeal.nD Cert.MixOutDxIdeal.τ Cert.MixOutDxIdeal.sig) → Buf (Elt Ideal) ℓ) : Prop :=
  True

def Pre_MixOutDxRefIdeal (m : (ℓ : Loc Cert.MixOutDxRefIdeal.nD Cert.MixOutDxRefIdeal.τ Cert.MixOutDxRefIdeal.sig) → Buf (Elt Ideal) ℓ) : Prop :=
  True

def Pre_MixOutDw (m : (ℓ : Loc Cert.MixOutDw.nD Cert.MixOutDw.τ Cert.MixOutDw.sig) → Buf (Elt Bits) ℓ) : Prop :=
  True

def Pre_MixOutDwIdeal (m : (ℓ : Loc Cert.MixOutDwIdeal.nD Cert.MixOutDwIdeal.τ Cert.MixOutDwIdeal.sig) → Buf (Elt Ideal) ℓ) : Prop :=
  True

def Pre_MixOutDwRefIdeal (m : (ℓ : Loc Cert.MixOutDwRefIdeal.nD Cert.MixOutDwRefIdeal.τ Cert.MixOutDwRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def quiescent_Dq [hDq : Cert.Dq.Facts] : Prop :=
  ∀ (m : (ℓ : Loc Cert.Dq.nD Cert.Dq.τ Cert.Dq.sig) → Buf (Elt Bits) ℓ) (g : Dev Cert.Dq.nD → PrngReg), Pre_Dq m →
    θ_run (Cert.Dq.defs (F := Bits)) (onTc (τ := Cert.Dq.τ) (Cert.Dq.main (F := Bits))) ⟨m, fun _ => 0, g⟩ (fun r => (∀ c : Dev Cert.Dq.nD,
      r.2.mem ((c.tc : Thread Cert.Dq.nD Cert.Dq.τ).loc Cert.Dq.main_arg0) = m ((c.tc : Thread Cert.Dq.nD Cert.Dq.τ).loc Cert.Dq.main_arg0)
      ∧ r.2.mem ((c.tc : Thread Cert.Dq.nD Cert.Dq.τ).loc Cert.Dq.main_arg1) = m ((c.tc : Thread Cert.Dq.nD Cert.Dq.τ).loc Cert.Dq.main_arg1)
      ∧ r.2.mem ((c.tc : Thread Cert.Dq.nD Cert.Dq.τ).loc Cert.Dq.main_arg2) = m ((c.tc : Thread Cert.Dq.nD Cert.Dq.τ).loc Cert.Dq.main_arg2)
      ∧ r.2.mem ((c.tc : Thread Cert.Dq.nD Cert.Dq.τ).loc Cert.Dq.main_arg3) = m ((c.tc : Thread Cert.Dq.nD Cert.Dq.τ).loc Cert.Dq.main_arg3))
      ∧ r.2.sem = fun _ => 0)

def quiescent_DqIdeal [hDqIdeal : Cert.DqIdeal.Facts] : Prop :=
  ∀ (m : (ℓ : Loc Cert.DqIdeal.nD Cert.DqIdeal.τ Cert.DqIdeal.sig) → Buf (Elt Ideal) ℓ) (g : Dev Cert.DqIdeal.nD → PrngReg), Pre_DqIdeal m →
    θ_run (Cert.DqIdeal.defs (F := Ideal)) (onTc (τ := Cert.DqIdeal.τ) (Cert.DqIdeal.main (F := Ideal))) ⟨m, fun _ => 0, g⟩ (fun r => (∀ c : Dev Cert.DqIdeal.nD,
      r.2.mem ((c.tc : Thread Cert.DqIdeal.nD Cert.DqIdeal.τ).loc Cert.DqIdeal.main_arg0) = m ((c.tc : Thread Cert.DqIdeal.nD Cert.DqIdeal.τ).loc Cert.DqIdeal.main_arg0)
      ∧ r.2.mem ((c.tc : Thread Cert.DqIdeal.nD Cert.DqIdeal.τ).loc Cert.DqIdeal.main_arg1) = m ((c.tc : Thread Cert.DqIdeal.nD Cert.DqIdeal.τ).loc Cert.DqIdeal.main_arg1)
      ∧ r.2.mem ((c.tc : Thread Cert.DqIdeal.nD Cert.DqIdeal.τ).loc Cert.DqIdeal.main_arg2) = m ((c.tc : Thread Cert.DqIdeal.nD Cert.DqIdeal.τ).loc Cert.DqIdeal.main_arg2)
      ∧ r.2.mem ((c.tc : Thread Cert.DqIdeal.nD Cert.DqIdeal.τ).loc Cert.DqIdeal.main_arg3) = m ((c.tc : Thread Cert.DqIdeal.nD Cert.DqIdeal.τ).loc Cert.DqIdeal.main_arg3))
      ∧ r.2.sem = fun _ => 0)

def quiescent_DqIdeal_pre_finite [hDqIdeal : Cert.DqIdeal.Facts] [hPre_finite : Cert.Pre_finite.Facts] : Prop :=
  ∀ (m : (ℓ : Loc Cert.DqIdeal.nD Cert.DqIdeal.τ Cert.DqIdeal.sig) → Buf (Elt Ideal) ℓ) (g : Dev Cert.DqIdeal.nD → PrngReg), Pre_DqIdeal_finite m →
    θ_run (Cert.DqIdeal.defs (F := Ideal)) (onTc (τ := Cert.DqIdeal.τ) (Cert.DqIdeal.main (F := Ideal))) ⟨m, fun _ => 0, g⟩ (fun r => (∀ c : Dev Cert.DqIdeal.nD,
      r.2.mem ((c.tc : Thread Cert.DqIdeal.nD Cert.DqIdeal.τ).loc Cert.DqIdeal.main_arg0) = m ((c.tc : Thread Cert.DqIdeal.nD Cert.DqIdeal.τ).loc Cert.DqIdeal.main_arg0)
      ∧ r.2.mem ((c.tc : Thread Cert.DqIdeal.nD Cert.DqIdeal.τ).loc Cert.DqIdeal.main_arg1) = m ((c.tc : Thread Cert.DqIdeal.nD Cert.DqIdeal.τ).loc Cert.DqIdeal.main_arg1)
      ∧ r.2.mem ((c.tc : Thread Cert.DqIdeal.nD Cert.DqIdeal.τ).loc Cert.DqIdeal.main_arg2) = m ((c.tc : Thread Cert.DqIdeal.nD Cert.DqIdeal.τ).loc Cert.DqIdeal.main_arg2)
      ∧ r.2.mem ((c.tc : Thread Cert.DqIdeal.nD Cert.DqIdeal.τ).loc Cert.DqIdeal.main_arg3) = m ((c.tc : Thread Cert.DqIdeal.nD Cert.DqIdeal.τ).loc Cert.DqIdeal.main_arg3))
      ∧ r.2.sem = fun _ => 0)

def quiescent_DqRefIdeal [hDqRefIdeal : Cert.DqRefIdeal.Facts] : Prop :=
  ∀ (m : (ℓ : Loc Cert.DqRefIdeal.nD Cert.DqRefIdeal.τ Cert.DqRefIdeal.sig) → Buf (Elt Ideal) ℓ) (g : Dev Cert.DqRefIdeal.nD → PrngReg), Pre_DqRefIdeal m →
    θ_run (Cert.DqRefIdeal.defs (F := Ideal)) (onTc (τ := Cert.DqRefIdeal.τ) (Cert.DqRefIdeal.main (F := Ideal))) ⟨m, fun _ => 0, g⟩ (fun r => (∀ c : Dev Cert.DqRefIdeal.nD,
      r.2.mem ((c.tc : Thread Cert.DqRefIdeal.nD Cert.DqRefIdeal.τ).loc Cert.DqRefIdeal.main_arg0) = m ((c.tc : Thread Cert.DqRefIdeal.nD Cert.DqRefIdeal.τ).loc Cert.DqRefIdeal.main_arg0)
      ∧ r.2.mem ((c.tc : Thread Cert.DqRefIdeal.nD Cert.DqRefIdeal.τ).loc Cert.DqRefIdeal.main_arg1) = m ((c.tc : Thread Cert.DqRefIdeal.nD Cert.DqRefIdeal.τ).loc Cert.DqRefIdeal.main_arg1)
      ∧ r.2.mem ((c.tc : Thread Cert.DqRefIdeal.nD Cert.DqRefIdeal.τ).loc Cert.DqRefIdeal.main_arg2) = m ((c.tc : Thread Cert.DqRefIdeal.nD Cert.DqRefIdeal.τ).loc Cert.DqRefIdeal.main_arg2)
      ∧ r.2.mem ((c.tc : Thread Cert.DqRefIdeal.nD Cert.DqRefIdeal.τ).loc Cert.DqRefIdeal.main_arg3) = m ((c.tc : Thread Cert.DqRefIdeal.nD Cert.DqRefIdeal.τ).loc Cert.DqRefIdeal.main_arg3))
      ∧ r.2.sem = fun _ => 0)

def quiescent_DqRefIdeal_pre_finite [hDqRefIdeal : Cert.DqRefIdeal.Facts] [hPre_finite : Cert.Pre_finite.Facts] : Prop :=
  ∀ (m : (ℓ : Loc Cert.DqRefIdeal.nD Cert.DqRefIdeal.τ Cert.DqRefIdeal.sig) → Buf (Elt Ideal) ℓ) (g : Dev Cert.DqRefIdeal.nD → PrngReg), Pre_DqRefIdeal_finite m →
    θ_run (Cert.DqRefIdeal.defs (F := Ideal)) (onTc (τ := Cert.DqRefIdeal.τ) (Cert.DqRefIdeal.main (F := Ideal))) ⟨m, fun _ => 0, g⟩ (fun r => (∀ c : Dev Cert.DqRefIdeal.nD,
      r.2.mem ((c.tc : Thread Cert.DqRefIdeal.nD Cert.DqRefIdeal.τ).loc Cert.DqRefIdeal.main_arg0) = m ((c.tc : Thread Cert.DqRefIdeal.nD Cert.DqRefIdeal.τ).loc Cert.DqRefIdeal.main_arg0)
      ∧ r.2.mem ((c.tc : Thread Cert.DqRefIdeal.nD Cert.DqRefIdeal.τ).loc Cert.DqRefIdeal.main_arg1) = m ((c.tc : Thread Cert.DqRefIdeal.nD Cert.DqRefIdeal.τ).loc Cert.DqRefIdeal.main_arg1)
      ∧ r.2.mem ((c.tc : Thread Cert.DqRefIdeal.nD Cert.DqRefIdeal.τ).loc Cert.DqRefIdeal.main_arg2) = m ((c.tc : Thread Cert.DqRefIdeal.nD Cert.DqRefIdeal.τ).loc Cert.DqRefIdeal.main_arg2)
      ∧ r.2.mem ((c.tc : Thread Cert.DqRefIdeal.nD Cert.DqRefIdeal.τ).loc Cert.DqRefIdeal.main_arg3) = m ((c.tc : Thread Cert.DqRefIdeal.nD Cert.DqRefIdeal.τ).loc Cert.DqRefIdeal.main_arg3))
      ∧ r.2.sem = fun _ => 0)

def quiescent_Dkv [hDkv : Cert.Dkv.Facts] : Prop :=
  ∀ (m : (ℓ : Loc Cert.Dkv.nD Cert.Dkv.τ Cert.Dkv.sig) → Buf (Elt Bits) ℓ) (g : Dev Cert.Dkv.nD → PrngReg), Pre_Dkv m →
    θ_run (Cert.Dkv.defs (F := Bits)) (onTc (τ := Cert.Dkv.τ) (Cert.Dkv.main (F := Bits))) ⟨m, fun _ => 0, g⟩ (fun r => (∀ c : Dev Cert.Dkv.nD,
      r.2.mem ((c.tc : Thread Cert.Dkv.nD Cert.Dkv.τ).loc Cert.Dkv.main_arg0) = m ((c.tc : Thread Cert.Dkv.nD Cert.Dkv.τ).loc Cert.Dkv.main_arg0)
      ∧ r.2.mem ((c.tc : Thread Cert.Dkv.nD Cert.Dkv.τ).loc Cert.Dkv.main_arg1) = m ((c.tc : Thread Cert.Dkv.nD Cert.Dkv.τ).loc Cert.Dkv.main_arg1)
      ∧ r.2.mem ((c.tc : Thread Cert.Dkv.nD Cert.Dkv.τ).loc Cert.Dkv.main_arg2) = m ((c.tc : Thread Cert.Dkv.nD Cert.Dkv.τ).loc Cert.Dkv.main_arg2)
      ∧ r.2.mem ((c.tc : Thread Cert.Dkv.nD Cert.Dkv.τ).loc Cert.Dkv.main_arg3) = m ((c.tc : Thread Cert.Dkv.nD Cert.Dkv.τ).loc Cert.Dkv.main_arg3))
      ∧ r.2.sem = fun _ => 0)

def quiescent_DkvIdeal [hDkvIdeal : Cert.DkvIdeal.Facts] : Prop :=
  ∀ (m : (ℓ : Loc Cert.DkvIdeal.nD Cert.DkvIdeal.τ Cert.DkvIdeal.sig) → Buf (Elt Ideal) ℓ) (g : Dev Cert.DkvIdeal.nD → PrngReg), Pre_DkvIdeal m →
    θ_run (Cert.DkvIdeal.defs (F := Ideal)) (onTc (τ := Cert.DkvIdeal.τ) (Cert.DkvIdeal.main (F := Ideal))) ⟨m, fun _ => 0, g⟩ (fun r => (∀ c : Dev Cert.DkvIdeal.nD,
      r.2.mem ((c.tc : Thread Cert.DkvIdeal.nD Cert.DkvIdeal.τ).loc Cert.DkvIdeal.main_arg0) = m ((c.tc : Thread Cert.DkvIdeal.nD Cert.DkvIdeal.τ).loc Cert.DkvIdeal.main_arg0)
      ∧ r.2.mem ((c.tc : Thread Cert.DkvIdeal.nD Cert.DkvIdeal.τ).loc Cert.DkvIdeal.main_arg1) = m ((c.tc : Thread Cert.DkvIdeal.nD Cert.DkvIdeal.τ).loc Cert.DkvIdeal.main_arg1)
      ∧ r.2.mem ((c.tc : Thread Cert.DkvIdeal.nD Cert.DkvIdeal.τ).loc Cert.DkvIdeal.main_arg2) = m ((c.tc : Thread Cert.DkvIdeal.nD Cert.DkvIdeal.τ).loc Cert.DkvIdeal.main_arg2)
      ∧ r.2.mem ((c.tc : Thread Cert.DkvIdeal.nD Cert.DkvIdeal.τ).loc Cert.DkvIdeal.main_arg3) = m ((c.tc : Thread Cert.DkvIdeal.nD Cert.DkvIdeal.τ).loc Cert.DkvIdeal.main_arg3))
      ∧ r.2.sem = fun _ => 0)

def quiescent_DkvIdeal_pre_finite [hDkvIdeal : Cert.DkvIdeal.Facts] [hPre_finite : Cert.Pre_finite.Facts] : Prop :=
  ∀ (m : (ℓ : Loc Cert.DkvIdeal.nD Cert.DkvIdeal.τ Cert.DkvIdeal.sig) → Buf (Elt Ideal) ℓ) (g : Dev Cert.DkvIdeal.nD → PrngReg), Pre_DkvIdeal_finite m →
    θ_run (Cert.DkvIdeal.defs (F := Ideal)) (onTc (τ := Cert.DkvIdeal.τ) (Cert.DkvIdeal.main (F := Ideal))) ⟨m, fun _ => 0, g⟩ (fun r => (∀ c : Dev Cert.DkvIdeal.nD,
      r.2.mem ((c.tc : Thread Cert.DkvIdeal.nD Cert.DkvIdeal.τ).loc Cert.DkvIdeal.main_arg0) = m ((c.tc : Thread Cert.DkvIdeal.nD Cert.DkvIdeal.τ).loc Cert.DkvIdeal.main_arg0)
      ∧ r.2.mem ((c.tc : Thread Cert.DkvIdeal.nD Cert.DkvIdeal.τ).loc Cert.DkvIdeal.main_arg1) = m ((c.tc : Thread Cert.DkvIdeal.nD Cert.DkvIdeal.τ).loc Cert.DkvIdeal.main_arg1)
      ∧ r.2.mem ((c.tc : Thread Cert.DkvIdeal.nD Cert.DkvIdeal.τ).loc Cert.DkvIdeal.main_arg2) = m ((c.tc : Thread Cert.DkvIdeal.nD Cert.DkvIdeal.τ).loc Cert.DkvIdeal.main_arg2)
      ∧ r.2.mem ((c.tc : Thread Cert.DkvIdeal.nD Cert.DkvIdeal.τ).loc Cert.DkvIdeal.main_arg3) = m ((c.tc : Thread Cert.DkvIdeal.nD Cert.DkvIdeal.τ).loc Cert.DkvIdeal.main_arg3))
      ∧ r.2.sem = fun _ => 0)

def quiescent_DkvRefIdeal [hDkvRefIdeal : Cert.DkvRefIdeal.Facts] : Prop :=
  ∀ (m : (ℓ : Loc Cert.DkvRefIdeal.nD Cert.DkvRefIdeal.τ Cert.DkvRefIdeal.sig) → Buf (Elt Ideal) ℓ) (g : Dev Cert.DkvRefIdeal.nD → PrngReg), Pre_DkvRefIdeal m →
    θ_run (Cert.DkvRefIdeal.defs (F := Ideal)) (onTc (τ := Cert.DkvRefIdeal.τ) (Cert.DkvRefIdeal.main (F := Ideal))) ⟨m, fun _ => 0, g⟩ (fun r => (∀ c : Dev Cert.DkvRefIdeal.nD,
      r.2.mem ((c.tc : Thread Cert.DkvRefIdeal.nD Cert.DkvRefIdeal.τ).loc Cert.DkvRefIdeal.main_arg0) = m ((c.tc : Thread Cert.DkvRefIdeal.nD Cert.DkvRefIdeal.τ).loc Cert.DkvRefIdeal.main_arg0)
      ∧ r.2.mem ((c.tc : Thread Cert.DkvRefIdeal.nD Cert.DkvRefIdeal.τ).loc Cert.DkvRefIdeal.main_arg1) = m ((c.tc : Thread Cert.DkvRefIdeal.nD Cert.DkvRefIdeal.τ).loc Cert.DkvRefIdeal.main_arg1)
      ∧ r.2.mem ((c.tc : Thread Cert.DkvRefIdeal.nD Cert.DkvRefIdeal.τ).loc Cert.DkvRefIdeal.main_arg2) = m ((c.tc : Thread Cert.DkvRefIdeal.nD Cert.DkvRefIdeal.τ).loc Cert.DkvRefIdeal.main_arg2)
      ∧ r.2.mem ((c.tc : Thread Cert.DkvRefIdeal.nD Cert.DkvRefIdeal.τ).loc Cert.DkvRefIdeal.main_arg3) = m ((c.tc : Thread Cert.DkvRefIdeal.nD Cert.DkvRefIdeal.τ).loc Cert.DkvRefIdeal.main_arg3))
      ∧ r.2.sem = fun _ => 0)

def quiescent_DkvRefIdeal_pre_finite [hDkvRefIdeal : Cert.DkvRefIdeal.Facts] [hPre_finite : Cert.Pre_finite.Facts] : Prop :=
  ∀ (m : (ℓ : Loc Cert.DkvRefIdeal.nD Cert.DkvRefIdeal.τ Cert.DkvRefIdeal.sig) → Buf (Elt Ideal) ℓ) (g : Dev Cert.DkvRefIdeal.nD → PrngReg), Pre_DkvRefIdeal_finite m →
    θ_run (Cert.DkvRefIdeal.defs (F := Ideal)) (onTc (τ := Cert.DkvRefIdeal.τ) (Cert.DkvRefIdeal.main (F := Ideal))) ⟨m, fun _ => 0, g⟩ (fun r => (∀ c : Dev Cert.DkvRefIdeal.nD,
      r.2.mem ((c.tc : Thread Cert.DkvRefIdeal.nD Cert.DkvRefIdeal.τ).loc Cert.DkvRefIdeal.main_arg0) = m ((c.tc : Thread Cert.DkvRefIdeal.nD Cert.DkvRefIdeal.τ).loc Cert.DkvRefIdeal.main_arg0)
      ∧ r.2.mem ((c.tc : Thread Cert.DkvRefIdeal.nD Cert.DkvRefIdeal.τ).loc Cert.DkvRefIdeal.main_arg1) = m ((c.tc : Thread Cert.DkvRefIdeal.nD Cert.DkvRefIdeal.τ).loc Cert.DkvRefIdeal.main_arg1)
      ∧ r.2.mem ((c.tc : Thread Cert.DkvRefIdeal.nD Cert.DkvRefIdeal.τ).loc Cert.DkvRefIdeal.main_arg2) = m ((c.tc : Thread Cert.DkvRefIdeal.nD Cert.DkvRefIdeal.τ).loc Cert.DkvRefIdeal.main_arg2)
      ∧ r.2.mem ((c.tc : Thread Cert.DkvRefIdeal.nD Cert.DkvRefIdeal.τ).loc Cert.DkvRefIdeal.main_arg3) = m ((c.tc : Thread Cert.DkvRefIdeal.nD Cert.DkvRefIdeal.τ).loc Cert.DkvRefIdeal.main_arg3))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdIdeal_pre_finite_qkv [hFwdIdeal : Cert.FwdIdeal.Facts] [hPre_finite_qkv : Cert.Pre_finite_qkv.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_qkv m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_FwdRefIdeal_pre_finite_qkv [hFwdRefIdeal : Cert.FwdRefIdeal.Facts] [hPre_finite_qkv : Cert.Pre_finite_qkv.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_finite_qkv m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1)
      ∧ r.2.mem ((c.tc : Thread Cert.InDw.nD Cert.InDw.τ).loc Cert.InDw.main_arg2) = m ((c.tc : Thread Cert.InDw.nD Cert.InDw.τ).loc Cert.InDw.main_arg2))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
      ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1)
      ∧ r.2.mem ((c.tc : Thread Cert.InDwRefIdeal.nD Cert.InDwRefIdeal.τ).loc Cert.InDwRefIdeal.main_arg2) = m ((c.tc : Thread Cert.InDwRefIdeal.nD Cert.InDwRefIdeal.τ).loc Cert.InDwRefIdeal.main_arg2))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1)
      ∧ r.2.mem ((c.tc : Thread Cert.OutDx.nD Cert.OutDx.τ).loc Cert.OutDx.main_arg2) = m ((c.tc : Thread Cert.OutDx.nD Cert.OutDx.τ).loc Cert.OutDx.main_arg2))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
      ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1)
      ∧ r.2.mem ((c.tc : Thread Cert.OutDxRefIdeal.nD Cert.OutDxRefIdeal.τ).loc Cert.OutDxRefIdeal.main_arg2) = m ((c.tc : Thread Cert.OutDxRefIdeal.nD Cert.OutDxRefIdeal.τ).loc Cert.OutDxRefIdeal.main_arg2))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1)
      ∧ r.2.mem ((c.tc : Thread Cert.OutDw.nD Cert.OutDw.τ).loc Cert.OutDw.main_arg2) = m ((c.tc : Thread Cert.OutDw.nD Cert.OutDw.τ).loc Cert.OutDw.main_arg2))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
      ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1)
      ∧ r.2.mem ((c.tc : Thread Cert.OutDwRefIdeal.nD Cert.OutDwRefIdeal.τ).loc Cert.OutDwRefIdeal.main_arg2) = m ((c.tc : Thread Cert.OutDwRefIdeal.nD Cert.OutDwRefIdeal.τ).loc Cert.OutDwRefIdeal.main_arg2))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1))
      ∧ r.2.sem = fun _ => 0)

def quiescent_MixInDx [hMixInDx : Cert.MixInDx.Facts] : Prop :=
  ∀ (m : (ℓ : Loc Cert.MixInDx.nD Cert.MixInDx.τ Cert.MixInDx.sig) → Buf (Elt Bits) ℓ) (g : Dev Cert.MixInDx.nD → PrngReg), Pre_MixInDx m →
    θ_run (Cert.MixInDx.defs (F := Bits)) (onTc (τ := Cert.MixInDx.τ) (Cert.MixInDx.main (F := Bits))) ⟨m, fun _ => 0, g⟩ (fun r => (∀ c : Dev Cert.MixInDx.nD,
      r.2.mem ((c.tc : Thread Cert.MixInDx.nD Cert.MixInDx.τ).loc Cert.MixInDx.main_arg0) = m ((c.tc : Thread Cert.MixInDx.nD Cert.MixInDx.τ).loc Cert.MixInDx.main_arg0)
      ∧ r.2.mem ((c.tc : Thread Cert.MixInDx.nD Cert.MixInDx.τ).loc Cert.MixInDx.main_arg1) = m ((c.tc : Thread Cert.MixInDx.nD Cert.MixInDx.τ).loc Cert.MixInDx.main_arg1)
      ∧ r.2.mem ((c.tc : Thread Cert.MixInDx.nD Cert.MixInDx.τ).loc Cert.MixInDx.main_arg2) = m ((c.tc : Thread Cert.MixInDx.nD Cert.MixInDx.τ).loc Cert.MixInDx.main_arg2))
      ∧ r.2.sem = fun _ => 0)

def quiescent_MixInDxIdeal [hMixInDxIdeal : Cert.MixInDxIdeal.Facts] : Prop :=
  ∀ (m : (ℓ : Loc Cert.MixInDxIdeal.nD Cert.MixInDxIdeal.τ Cert.MixInDxIdeal.sig) → Buf (Elt Ideal) ℓ) (g : Dev Cert.MixInDxIdeal.nD → PrngReg), Pre_MixInDxIdeal m →
    θ_run (Cert.MixInDxIdeal.defs (F := Ideal)) (onTc (τ := Cert.MixInDxIdeal.τ) (Cert.MixInDxIdeal.main (F := Ideal))) ⟨m, fun _ => 0, g⟩ (fun r => (∀ c : Dev Cert.MixInDxIdeal.nD,
      r.2.mem ((c.tc : Thread Cert.MixInDxIdeal.nD Cert.MixInDxIdeal.τ).loc Cert.MixInDxIdeal.main_arg0) = m ((c.tc : Thread Cert.MixInDxIdeal.nD Cert.MixInDxIdeal.τ).loc Cert.MixInDxIdeal.main_arg0)
      ∧ r.2.mem ((c.tc : Thread Cert.MixInDxIdeal.nD Cert.MixInDxIdeal.τ).loc Cert.MixInDxIdeal.main_arg1) = m ((c.tc : Thread Cert.MixInDxIdeal.nD Cert.MixInDxIdeal.τ).loc Cert.MixInDxIdeal.main_arg1)
      ∧ r.2.mem ((c.tc : Thread Cert.MixInDxIdeal.nD Cert.MixInDxIdeal.τ).loc Cert.MixInDxIdeal.main_arg2) = m ((c.tc : Thread Cert.MixInDxIdeal.nD Cert.MixInDxIdeal.τ).loc Cert.MixInDxIdeal.main_arg2))
      ∧ r.2.sem = fun _ => 0)

def quiescent_MixInDxRefIdeal [hMixInDxRefIdeal : Cert.MixInDxRefIdeal.Facts] : Prop :=
  ∀ (m : (ℓ : Loc Cert.MixInDxRefIdeal.nD Cert.MixInDxRefIdeal.τ Cert.MixInDxRefIdeal.sig) → Buf (Elt Ideal) ℓ) (g : Dev Cert.MixInDxRefIdeal.nD → PrngReg), Pre_MixInDxRefIdeal m →
    θ_run (Cert.MixInDxRefIdeal.defs (F := Ideal)) (onTc (τ := Cert.MixInDxRefIdeal.τ) (Cert.MixInDxRefIdeal.main (F := Ideal))) ⟨m, fun _ => 0, g⟩ (fun r => (∀ c : Dev Cert.MixInDxRefIdeal.nD,
      r.2.mem ((c.tc : Thread Cert.MixInDxRefIdeal.nD Cert.MixInDxRefIdeal.τ).loc Cert.MixInDxRefIdeal.main_arg0) = m ((c.tc : Thread Cert.MixInDxRefIdeal.nD Cert.MixInDxRefIdeal.τ).loc Cert.MixInDxRefIdeal.main_arg0)
      ∧ r.2.mem ((c.tc : Thread Cert.MixInDxRefIdeal.nD Cert.MixInDxRefIdeal.τ).loc Cert.MixInDxRefIdeal.main_arg1) = m ((c.tc : Thread Cert.MixInDxRefIdeal.nD Cert.MixInDxRefIdeal.τ).loc Cert.MixInDxRefIdeal.main_arg1)
      ∧ r.2.mem ((c.tc : Thread Cert.MixInDxRefIdeal.nD Cert.MixInDxRefIdeal.τ).loc Cert.MixInDxRefIdeal.main_arg2) = m ((c.tc : Thread Cert.MixInDxRefIdeal.nD Cert.MixInDxRefIdeal.τ).loc Cert.MixInDxRefIdeal.main_arg2))
      ∧ r.2.sem = fun _ => 0)

def quiescent_MixInDw [hMixInDw : Cert.MixInDw.Facts] : Prop :=
  ∀ (m : (ℓ : Loc Cert.MixInDw.nD Cert.MixInDw.τ Cert.MixInDw.sig) → Buf (Elt Bits) ℓ) (g : Dev Cert.MixInDw.nD → PrngReg), Pre_MixInDw m →
    θ_run (Cert.MixInDw.defs (F := Bits)) (onTc (τ := Cert.MixInDw.τ) (Cert.MixInDw.main (F := Bits))) ⟨m, fun _ => 0, g⟩ (fun r => (∀ c : Dev Cert.MixInDw.nD,
      r.2.mem ((c.tc : Thread Cert.MixInDw.nD Cert.MixInDw.τ).loc Cert.MixInDw.main_arg0) = m ((c.tc : Thread Cert.MixInDw.nD Cert.MixInDw.τ).loc Cert.MixInDw.main_arg0)
      ∧ r.2.mem ((c.tc : Thread Cert.MixInDw.nD Cert.MixInDw.τ).loc Cert.MixInDw.main_arg1) = m ((c.tc : Thread Cert.MixInDw.nD Cert.MixInDw.τ).loc Cert.MixInDw.main_arg1)
      ∧ r.2.mem ((c.tc : Thread Cert.MixInDw.nD Cert.MixInDw.τ).loc Cert.MixInDw.main_arg2) = m ((c.tc : Thread Cert.MixInDw.nD Cert.MixInDw.τ).loc Cert.MixInDw.main_arg2))
      ∧ r.2.sem = fun _ => 0)

def quiescent_MixInDwIdeal [hMixInDwIdeal : Cert.MixInDwIdeal.Facts] : Prop :=
  ∀ (m : (ℓ : Loc Cert.MixInDwIdeal.nD Cert.MixInDwIdeal.τ Cert.MixInDwIdeal.sig) → Buf (Elt Ideal) ℓ) (g : Dev Cert.MixInDwIdeal.nD → PrngReg), Pre_MixInDwIdeal m →
    θ_run (Cert.MixInDwIdeal.defs (F := Ideal)) (onTc (τ := Cert.MixInDwIdeal.τ) (Cert.MixInDwIdeal.main (F := Ideal))) ⟨m, fun _ => 0, g⟩ (fun r => (∀ c : Dev Cert.MixInDwIdeal.nD,
      r.2.mem ((c.tc : Thread Cert.MixInDwIdeal.nD Cert.MixInDwIdeal.τ).loc Cert.MixInDwIdeal.main_arg0) = m ((c.tc : Thread Cert.MixInDwIdeal.nD Cert.MixInDwIdeal.τ).loc Cert.MixInDwIdeal.main_arg0)
      ∧ r.2.mem ((c.tc : Thread Cert.MixInDwIdeal.nD Cert.MixInDwIdeal.τ).loc Cert.MixInDwIdeal.main_arg1) = m ((c.tc : Thread Cert.MixInDwIdeal.nD Cert.MixInDwIdeal.τ).loc Cert.MixInDwIdeal.main_arg1)
      ∧ r.2.mem ((c.tc : Thread Cert.MixInDwIdeal.nD Cert.MixInDwIdeal.τ).loc Cert.MixInDwIdeal.main_arg2) = m ((c.tc : Thread Cert.MixInDwIdeal.nD Cert.MixInDwIdeal.τ).loc Cert.MixInDwIdeal.main_arg2))
      ∧ r.2.sem = fun _ => 0)

def quiescent_MixInDwRefIdeal [hMixInDwRefIdeal : Cert.MixInDwRefIdeal.Facts] : Prop :=
  ∀ (m : (ℓ : Loc Cert.MixInDwRefIdeal.nD Cert.MixInDwRefIdeal.τ Cert.MixInDwRefIdeal.sig) → Buf (Elt Ideal) ℓ) (g : Dev Cert.MixInDwRefIdeal.nD → PrngReg), Pre_MixInDwRefIdeal m →
    θ_run (Cert.MixInDwRefIdeal.defs (F := Ideal)) (onTc (τ := Cert.MixInDwRefIdeal.τ) (Cert.MixInDwRefIdeal.main (F := Ideal))) ⟨m, fun _ => 0, g⟩ (fun r => (∀ c : Dev Cert.MixInDwRefIdeal.nD,
      r.2.mem ((c.tc : Thread Cert.MixInDwRefIdeal.nD Cert.MixInDwRefIdeal.τ).loc Cert.MixInDwRefIdeal.main_arg0) = m ((c.tc : Thread Cert.MixInDwRefIdeal.nD Cert.MixInDwRefIdeal.τ).loc Cert.MixInDwRefIdeal.main_arg0)
      ∧ r.2.mem ((c.tc : Thread Cert.MixInDwRefIdeal.nD Cert.MixInDwRefIdeal.τ).loc Cert.MixInDwRefIdeal.main_arg1) = m ((c.tc : Thread Cert.MixInDwRefIdeal.nD Cert.MixInDwRefIdeal.τ).loc Cert.MixInDwRefIdeal.main_arg1)
      ∧ r.2.mem ((c.tc : Thread Cert.MixInDwRefIdeal.nD Cert.MixInDwRefIdeal.τ).loc Cert.MixInDwRefIdeal.main_arg2) = m ((c.tc : Thread Cert.MixInDwRefIdeal.nD Cert.MixInDwRefIdeal.τ).loc Cert.MixInDwRefIdeal.main_arg2))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1))
      ∧ r.2.sem = fun _ => 0)

def quiescent_MixOutDx [hMixOutDx : Cert.MixOutDx.Facts] : Prop :=
  ∀ (m : (ℓ : Loc Cert.MixOutDx.nD Cert.MixOutDx.τ Cert.MixOutDx.sig) → Buf (Elt Bits) ℓ) (g : Dev Cert.MixOutDx.nD → PrngReg), Pre_MixOutDx m →
    θ_run (Cert.MixOutDx.defs (F := Bits)) (onTc (τ := Cert.MixOutDx.τ) (Cert.MixOutDx.main (F := Bits))) ⟨m, fun _ => 0, g⟩ (fun r => (∀ c : Dev Cert.MixOutDx.nD,
      r.2.mem ((c.tc : Thread Cert.MixOutDx.nD Cert.MixOutDx.τ).loc Cert.MixOutDx.main_arg0) = m ((c.tc : Thread Cert.MixOutDx.nD Cert.MixOutDx.τ).loc Cert.MixOutDx.main_arg0)
      ∧ r.2.mem ((c.tc : Thread Cert.MixOutDx.nD Cert.MixOutDx.τ).loc Cert.MixOutDx.main_arg1) = m ((c.tc : Thread Cert.MixOutDx.nD Cert.MixOutDx.τ).loc Cert.MixOutDx.main_arg1)
      ∧ r.2.mem ((c.tc : Thread Cert.MixOutDx.nD Cert.MixOutDx.τ).loc Cert.MixOutDx.main_arg2) = m ((c.tc : Thread Cert.MixOutDx.nD Cert.MixOutDx.τ).loc Cert.MixOutDx.main_arg2))
      ∧ r.2.sem = fun _ => 0)

def quiescent_MixOutDxIdeal [hMixOutDxIdeal : Cert.MixOutDxIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg), Pre_MixOutDxIdeal m →
    θ_run (Cert.MixOutDxIdeal.defs (F := Ideal)) (onTc (τ := Cert.MixOutDxIdeal.τ) (Cert.MixOutDxIdeal.main (F := Ideal))) ⟨m, fun _ => 0, g⟩ (fun r => (∀ c : Dev Cert.MixOutDxIdeal.nD,
      r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
      ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1)
      ∧ r.2.mem ((c.tc : Thread Cert.MixOutDxIdeal.nD Cert.MixOutDxIdeal.τ).loc Cert.MixOutDxIdeal.main_arg2) = m ((c.tc : Thread Cert.MixOutDxIdeal.nD Cert.MixOutDxIdeal.τ).loc Cert.MixOutDxIdeal.main_arg2))
      ∧ r.2.sem = fun _ => 0)

def quiescent_MixOutDxRefIdeal [hMixOutDxRefIdeal : Cert.MixOutDxRefIdeal.Facts] : Prop :=
  ∀ (m : (ℓ : Loc Cert.MixOutDxRefIdeal.nD Cert.MixOutDxRefIdeal.τ Cert.MixOutDxRefIdeal.sig) → Buf (Elt Ideal) ℓ) (g : Dev Cert.MixOutDxRefIdeal.nD → PrngReg), Pre_MixOutDxRefIdeal m →
    θ_run (Cert.MixOutDxRefIdeal.defs (F := Ideal)) (onTc (τ := Cert.MixOutDxRefIdeal.τ) (Cert.MixOutDxRefIdeal.main (F := Ideal))) ⟨m, fun _ => 0, g⟩ (fun r => (∀ c : Dev Cert.MixOutDxRefIdeal.nD,
      r.2.mem ((c.tc : Thread Cert.MixOutDxRefIdeal.nD Cert.MixOutDxRefIdeal.τ).loc Cert.MixOutDxRefIdeal.main_arg0) = m ((c.tc : Thread Cert.MixOutDxRefIdeal.nD Cert.MixOutDxRefIdeal.τ).loc Cert.MixOutDxRefIdeal.main_arg0)
      ∧ r.2.mem ((c.tc : Thread Cert.MixOutDxRefIdeal.nD Cert.MixOutDxRefIdeal.τ).loc Cert.MixOutDxRefIdeal.main_arg1) = m ((c.tc : Thread Cert.MixOutDxRefIdeal.nD Cert.MixOutDxRefIdeal.τ).loc Cert.MixOutDxRefIdeal.main_arg1)
      ∧ r.2.mem ((c.tc : Thread Cert.MixOutDxRefIdeal.nD Cert.MixOutDxRefIdeal.τ).loc Cert.MixOutDxRefIdeal.main_arg2) = m ((c.tc : Thread Cert.MixOutDxRefIdeal.nD Cert.MixOutDxRefIdeal.τ).loc Cert.MixOutDxRefIdeal.main_arg2))
      ∧ r.2.sem = fun _ => 0)

def quiescent_MixOutDw [hMixOutDw : Cert.MixOutDw.Facts] : Prop :=
  ∀ (m : (ℓ : Loc Cert.MixOutDw.nD Cert.MixOutDw.τ Cert.MixOutDw.sig) → Buf (Elt Bits) ℓ) (g : Dev Cert.MixOutDw.nD → PrngReg), Pre_MixOutDw m →
    θ_run (Cert.MixOutDw.defs (F := Bits)) (onTc (τ := Cert.MixOutDw.τ) (Cert.MixOutDw.main (F := Bits))) ⟨m, fun _ => 0, g⟩ (fun r => (∀ c : Dev Cert.MixOutDw.nD,
      r.2.mem ((c.tc : Thread Cert.MixOutDw.nD Cert.MixOutDw.τ).loc Cert.MixOutDw.main_arg0) = m ((c.tc : Thread Cert.MixOutDw.nD Cert.MixOutDw.τ).loc Cert.MixOutDw.main_arg0)
      ∧ r.2.mem ((c.tc : Thread Cert.MixOutDw.nD Cert.MixOutDw.τ).loc Cert.MixOutDw.main_arg1) = m ((c.tc : Thread Cert.MixOutDw.nD Cert.MixOutDw.τ).loc Cert.MixOutDw.main_arg1)
      ∧ r.2.mem ((c.tc : Thread Cert.MixOutDw.nD Cert.MixOutDw.τ).loc Cert.MixOutDw.main_arg2) = m ((c.tc : Thread Cert.MixOutDw.nD Cert.MixOutDw.τ).loc Cert.MixOutDw.main_arg2))
      ∧ r.2.sem = fun _ => 0)

def quiescent_MixOutDwIdeal [hMixOutDwIdeal : Cert.MixOutDwIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg), Pre_MixOutDwIdeal m →
    θ_run (Cert.MixOutDwIdeal.defs (F := Ideal)) (onTc (τ := Cert.MixOutDwIdeal.τ) (Cert.MixOutDwIdeal.main (F := Ideal))) ⟨m, fun _ => 0, g⟩ (fun r => (∀ c : Dev Cert.MixOutDwIdeal.nD,
      r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
      ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1)
      ∧ r.2.mem ((c.tc : Thread Cert.MixOutDwIdeal.nD Cert.MixOutDwIdeal.τ).loc Cert.MixOutDwIdeal.main_arg2) = m ((c.tc : Thread Cert.MixOutDwIdeal.nD Cert.MixOutDwIdeal.τ).loc Cert.MixOutDwIdeal.main_arg2))
      ∧ r.2.sem = fun _ => 0)

def quiescent_MixOutDwRefIdeal [hMixOutDwRefIdeal : Cert.MixOutDwRefIdeal.Facts] : Prop :=
  ∀ (m : (ℓ : Loc Cert.MixOutDwRefIdeal.nD Cert.MixOutDwRefIdeal.τ Cert.MixOutDwRefIdeal.sig) → Buf (Elt Ideal) ℓ) (g : Dev Cert.MixOutDwRefIdeal.nD → PrngReg), Pre_MixOutDwRefIdeal m →
    θ_run (Cert.MixOutDwRefIdeal.defs (F := Ideal)) (onTc (τ := Cert.MixOutDwRefIdeal.τ) (Cert.MixOutDwRefIdeal.main (F := Ideal))) ⟨m, fun _ => 0, g⟩ (fun r => (∀ c : Dev Cert.MixOutDwRefIdeal.nD,
      r.2.mem ((c.tc : Thread Cert.MixOutDwRefIdeal.nD Cert.MixOutDwRefIdeal.τ).loc Cert.MixOutDwRefIdeal.main_arg0) = m ((c.tc : Thread Cert.MixOutDwRefIdeal.nD Cert.MixOutDwRefIdeal.τ).loc Cert.MixOutDwRefIdeal.main_arg0)
      ∧ r.2.mem ((c.tc : Thread Cert.MixOutDwRefIdeal.nD Cert.MixOutDwRefIdeal.τ).loc Cert.MixOutDwRefIdeal.main_arg1) = m ((c.tc : Thread Cert.MixOutDwRefIdeal.nD Cert.MixOutDwRefIdeal.τ).loc Cert.MixOutDwRefIdeal.main_arg1)
      ∧ r.2.mem ((c.tc : Thread Cert.MixOutDwRefIdeal.nD Cert.MixOutDwRefIdeal.τ).loc Cert.MixOutDwRefIdeal.main_arg2) = m ((c.tc : Thread Cert.MixOutDwRefIdeal.nD Cert.MixOutDwRefIdeal.τ).loc Cert.MixOutDwRefIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1))
      ∧ r.2.sem = fun _ => 0)

def preserves_Dq_DqIdeal : Prop :=
  IdealRules.named_const.Statement Cert.DqIdeal.κ "hidden" .f32 0xF149F2CA#32 ⊥
  ∧ IdealRules.named_const.Statement Cert.DqIdeal.κ "log2e" .f32 0x3FB8AA3B#32 (((Real.log 2)⁻¹ : ℝ) : EReal)

def algebraic_DqIdeal_DqRefIdeal_pre_finite [hDqIdeal : Cert.DqIdeal.Facts] [hDqRefIdeal : Cert.DqRefIdeal.Facts] [hPre_finite : Cert.Pre_finite.Facts] : Prop :=
  ∀ (m : (ℓ : Loc Cert.DqIdeal.nD Cert.DqIdeal.τ Cert.DqIdeal.sig) → Buf (Elt Ideal) ℓ) (g : Dev Cert.DqIdeal.nD → PrngReg)
    (m' : (ℓ : Loc Cert.DqRefIdeal.nD Cert.DqRefIdeal.τ Cert.DqRefIdeal.sig) → Buf (Elt Ideal) ℓ) (g' : Dev Cert.DqRefIdeal.nD → PrngReg), Pre_DqIdeal_finite m →
    (∀ c : Dev Cert.DqIdeal.nD,
      m' ((c.tc : Thread Cert.DqRefIdeal.nD Cert.DqRefIdeal.τ).loc Cert.DqRefIdeal.main_arg0) = m ((c.tc : Thread Cert.DqIdeal.nD Cert.DqIdeal.τ).loc Cert.DqIdeal.main_arg0)
      ∧ m' ((c.tc : Thread Cert.DqRefIdeal.nD Cert.DqRefIdeal.τ).loc Cert.DqRefIdeal.main_arg1) = m ((c.tc : Thread Cert.DqIdeal.nD Cert.DqIdeal.τ).loc Cert.DqIdeal.main_arg1)
      ∧ m' ((c.tc : Thread Cert.DqRefIdeal.nD Cert.DqRefIdeal.τ).loc Cert.DqRefIdeal.main_arg2) = m ((c.tc : Thread Cert.DqIdeal.nD Cert.DqIdeal.τ).loc Cert.DqIdeal.main_arg2)
      ∧ m' ((c.tc : Thread Cert.DqRefIdeal.nD Cert.DqRefIdeal.τ).loc Cert.DqRefIdeal.main_arg3) = m ((c.tc : Thread Cert.DqIdeal.nD Cert.DqIdeal.τ).loc Cert.DqIdeal.main_arg3)) →
    ∃ (v0 : (c : Dev Cert.DqIdeal.nD) → Buf (Elt Ideal) ((c.tc : Thread Cert.DqIdeal.nD Cert.DqIdeal.τ).loc Cert.DqIdeal.main_v70_0)) (v1 : (c : Dev Cert.DqIdeal.nD) → Buf (Elt Ideal) ((c.tc : Thread Cert.DqIdeal.nD Cert.DqIdeal.τ).loc Cert.DqIdeal.main_v70_1)),
      θ_run (Cert.DqIdeal.defs (F := Ideal)) (onTc (τ := Cert.DqIdeal.τ) (Cert.DqIdeal.main (F := Ideal))) ⟨m, fun _ => 0, g⟩ (fun r => ∀ c : Dev Cert.DqIdeal.nD,
          r.2.mem ((c.tc : Thread Cert.DqIdeal.nD Cert.DqIdeal.τ).loc Cert.DqIdeal.main_v70_0) = v0 c
          ∧ r.2.mem ((c.tc : Thread Cert.DqIdeal.nD Cert.DqIdeal.τ).loc Cert.DqIdeal.main_v70_1) = v1 c
          ∧ r.2.mem ((c.tc : Thread Cert.DqIdeal.nD Cert.DqIdeal.τ).loc Cert.DqIdeal.main_arg0) = m ((c.tc : Thread Cert.DqIdeal.nD Cert.DqIdeal.τ).loc Cert.DqIdeal.main_arg0)
          ∧ r.2.mem ((c.tc : Thread Cert.DqIdeal.nD Cert.DqIdeal.τ).loc Cert.DqIdeal.main_arg1) = m ((c.tc : Thread Cert.DqIdeal.nD Cert.DqIdeal.τ).loc Cert.DqIdeal.main_arg1)
          ∧ r.2.mem ((c.tc : Thread Cert.DqIdeal.nD Cert.DqIdeal.τ).loc Cert.DqIdeal.main_arg2) = m ((c.tc : Thread Cert.DqIdeal.nD Cert.DqIdeal.τ).loc Cert.DqIdeal.main_arg2)
          ∧ r.2.mem ((c.tc : Thread Cert.DqIdeal.nD Cert.DqIdeal.τ).loc Cert.DqIdeal.main_arg3) = m ((c.tc : Thread Cert.DqIdeal.nD Cert.DqIdeal.τ).loc Cert.DqIdeal.main_arg3))
      ∧ θ_run (Cert.DqRefIdeal.defs (F := Ideal)) (onTc (τ := Cert.DqRefIdeal.τ) (Cert.DqRefIdeal.main (F := Ideal))) ⟨m', fun _ => 0, g'⟩ (fun r => ∀ c : Dev Cert.DqRefIdeal.nD,
          r.2.mem ((c.tc : Thread Cert.DqRefIdeal.nD Cert.DqRefIdeal.τ).loc Cert.DqRefIdeal.main_v77) = v0 c
          ∧ r.2.mem ((c.tc : Thread Cert.DqRefIdeal.nD Cert.DqRefIdeal.τ).loc Cert.DqRefIdeal.main_v115) = v1 c
          ∧ r.2.mem ((c.tc : Thread Cert.DqRefIdeal.nD Cert.DqRefIdeal.τ).loc Cert.DqRefIdeal.main_arg0) = m' ((c.tc : Thread Cert.DqRefIdeal.nD Cert.DqRefIdeal.τ).loc Cert.DqRefIdeal.main_arg0)
          ∧ r.2.mem ((c.tc : Thread Cert.DqRefIdeal.nD Cert.DqRefIdeal.τ).loc Cert.DqRefIdeal.main_arg1) = m' ((c.tc : Thread Cert.DqRefIdeal.nD Cert.DqRefIdeal.τ).loc Cert.DqRefIdeal.main_arg1)
          ∧ r.2.mem ((c.tc : Thread Cert.DqRefIdeal.nD Cert.DqRefIdeal.τ).loc Cert.DqRefIdeal.main_arg2) = m' ((c.tc : Thread Cert.DqRefIdeal.nD Cert.DqRefIdeal.τ).loc Cert.DqRefIdeal.main_arg2)
          ∧ r.2.mem ((c.tc : Thread Cert.DqRefIdeal.nD Cert.DqRefIdeal.τ).loc Cert.DqRefIdeal.main_arg3) = m' ((c.tc : Thread Cert.DqRefIdeal.nD Cert.DqRefIdeal.τ).loc Cert.DqRefIdeal.main_arg3))

def preserves_Dkv_DkvIdeal : Prop :=
  IdealRules.named_const.Statement Cert.DkvIdeal.κ "hidden" .f32 0xF149F2CA#32 ⊥
  ∧ IdealRules.named_const.Statement Cert.DkvIdeal.κ "log2e" .f32 0x3FB8AA3B#32 (((Real.log 2)⁻¹ : ℝ) : EReal)
  ∧ IdealRules.named_const.Statement Cert.DkvIdeal.κ "ln2" .f32 0x3F317218#32 ((Real.log 2 : ℝ) : EReal)

def algebraic_DkvIdeal_DkvRefIdeal_pre_finite [hDkvIdeal : Cert.DkvIdeal.Facts] [hDkvRefIdeal : Cert.DkvRefIdeal.Facts] [hPre_finite : Cert.Pre_finite.Facts] : Prop :=
  ∀ (m : (ℓ : Loc Cert.DkvIdeal.nD Cert.DkvIdeal.τ Cert.DkvIdeal.sig) → Buf (Elt Ideal) ℓ) (g : Dev Cert.DkvIdeal.nD → PrngReg)
    (m' : (ℓ : Loc Cert.DkvRefIdeal.nD Cert.DkvRefIdeal.τ Cert.DkvRefIdeal.sig) → Buf (Elt Ideal) ℓ) (g' : Dev Cert.DkvRefIdeal.nD → PrngReg), Pre_DkvIdeal_finite m →
    (∀ c : Dev Cert.DkvIdeal.nD,
      m' ((c.tc : Thread Cert.DkvRefIdeal.nD Cert.DkvRefIdeal.τ).loc Cert.DkvRefIdeal.main_arg0) = m ((c.tc : Thread Cert.DkvIdeal.nD Cert.DkvIdeal.τ).loc Cert.DkvIdeal.main_arg0)
      ∧ m' ((c.tc : Thread Cert.DkvRefIdeal.nD Cert.DkvRefIdeal.τ).loc Cert.DkvRefIdeal.main_arg1) = m ((c.tc : Thread Cert.DkvIdeal.nD Cert.DkvIdeal.τ).loc Cert.DkvIdeal.main_arg1)
      ∧ m' ((c.tc : Thread Cert.DkvRefIdeal.nD Cert.DkvRefIdeal.τ).loc Cert.DkvRefIdeal.main_arg2) = m ((c.tc : Thread Cert.DkvIdeal.nD Cert.DkvIdeal.τ).loc Cert.DkvIdeal.main_arg2)
      ∧ m' ((c.tc : Thread Cert.DkvRefIdeal.nD Cert.DkvRefIdeal.τ).loc Cert.DkvRefIdeal.main_arg3) = m ((c.tc : Thread Cert.DkvIdeal.nD Cert.DkvIdeal.τ).loc Cert.DkvIdeal.main_arg3)) →
    ∃ (v0 : (c : Dev Cert.DkvIdeal.nD) → Buf (Elt Ideal) ((c.tc : Thread Cert.DkvIdeal.nD Cert.DkvIdeal.τ).loc Cert.DkvIdeal.main_v75_0)) (v1 : (c : Dev Cert.DkvIdeal.nD) → Buf (Elt Ideal) ((c.tc : Thread Cert.DkvIdeal.nD Cert.DkvIdeal.τ).loc Cert.DkvIdeal.main_v75_1)),
      θ_run (Cert.DkvIdeal.defs (F := Ideal)) (onTc (τ := Cert.DkvIdeal.τ) (Cert.DkvIdeal.main (F := Ideal))) ⟨m, fun _ => 0, g⟩ (fun r => ∀ c : Dev Cert.DkvIdeal.nD,
          r.2.mem ((c.tc : Thread Cert.DkvIdeal.nD Cert.DkvIdeal.τ).loc Cert.DkvIdeal.main_v75_0) = v0 c
          ∧ r.2.mem ((c.tc : Thread Cert.DkvIdeal.nD Cert.DkvIdeal.τ).loc Cert.DkvIdeal.main_v75_1) = v1 c
          ∧ r.2.mem ((c.tc : Thread Cert.DkvIdeal.nD Cert.DkvIdeal.τ).loc Cert.DkvIdeal.main_arg0) = m ((c.tc : Thread Cert.DkvIdeal.nD Cert.DkvIdeal.τ).loc Cert.DkvIdeal.main_arg0)
          ∧ r.2.mem ((c.tc : Thread Cert.DkvIdeal.nD Cert.DkvIdeal.τ).loc Cert.DkvIdeal.main_arg1) = m ((c.tc : Thread Cert.DkvIdeal.nD Cert.DkvIdeal.τ).loc Cert.DkvIdeal.main_arg1)
          ∧ r.2.mem ((c.tc : Thread Cert.DkvIdeal.nD Cert.DkvIdeal.τ).loc Cert.DkvIdeal.main_arg2) = m ((c.tc : Thread Cert.DkvIdeal.nD Cert.DkvIdeal.τ).loc Cert.DkvIdeal.main_arg2)
          ∧ r.2.mem ((c.tc : Thread Cert.DkvIdeal.nD Cert.DkvIdeal.τ).loc Cert.DkvIdeal.main_arg3) = m ((c.tc : Thread Cert.DkvIdeal.nD Cert.DkvIdeal.τ).loc Cert.DkvIdeal.main_arg3))
      ∧ θ_run (Cert.DkvRefIdeal.defs (F := Ideal)) (onTc (τ := Cert.DkvRefIdeal.τ) (Cert.DkvRefIdeal.main (F := Ideal))) ⟨m', fun _ => 0, g'⟩ (fun r => ∀ c : Dev Cert.DkvRefIdeal.nD,
          r.2.mem ((c.tc : Thread Cert.DkvRefIdeal.nD Cert.DkvRefIdeal.τ).loc Cert.DkvRefIdeal.main_v76) = v0 c
          ∧ r.2.mem ((c.tc : Thread Cert.DkvRefIdeal.nD Cert.DkvRefIdeal.τ).loc Cert.DkvRefIdeal.main_v55) = v1 c
          ∧ r.2.mem ((c.tc : Thread Cert.DkvRefIdeal.nD Cert.DkvRefIdeal.τ).loc Cert.DkvRefIdeal.main_arg0) = m' ((c.tc : Thread Cert.DkvRefIdeal.nD Cert.DkvRefIdeal.τ).loc Cert.DkvRefIdeal.main_arg0)
          ∧ r.2.mem ((c.tc : Thread Cert.DkvRefIdeal.nD Cert.DkvRefIdeal.τ).loc Cert.DkvRefIdeal.main_arg1) = m' ((c.tc : Thread Cert.DkvRefIdeal.nD Cert.DkvRefIdeal.τ).loc Cert.DkvRefIdeal.main_arg1)
          ∧ r.2.mem ((c.tc : Thread Cert.DkvRefIdeal.nD Cert.DkvRefIdeal.τ).loc Cert.DkvRefIdeal.main_arg2) = m' ((c.tc : Thread Cert.DkvRefIdeal.nD Cert.DkvRefIdeal.τ).loc Cert.DkvRefIdeal.main_arg2)
          ∧ r.2.mem ((c.tc : Thread Cert.DkvRefIdeal.nD Cert.DkvRefIdeal.τ).loc Cert.DkvRefIdeal.main_arg3) = m' ((c.tc : Thread Cert.DkvRefIdeal.nD Cert.DkvRefIdeal.τ).loc Cert.DkvRefIdeal.main_arg3))

def preserves_Fwd_FwdIdeal : Prop :=
  IdealRules.named_const.Statement Cert.FwdIdeal.κ "hidden" .f32 0xF149F2CA#32 ⊥
  ∧ IdealRules.named_const.Statement Cert.FwdIdeal.κ "ln2" .f32 0x3F317218#32 ((Real.log 2 : ℝ) : EReal)

def algebraic_FwdIdeal_FwdRefIdeal_pre_finite_qkv [hFwdIdeal : Cert.FwdIdeal.Facts] [hFwdRefIdeal : Cert.FwdRefIdeal.Facts] [hPre_finite_qkv : Cert.Pre_finite_qkv.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_finite_qkv m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)) →
    ∃ (v0 : (c : Dev Cert.FwdIdeal.nD) → Buf (Elt Ideal) ((c.tc : Thread Cert.FwdIdeal.nD Cert.FwdIdeal.τ).loc Cert.FwdIdeal.main_v9_0)) (v1 : (c : Dev Cert.FwdIdeal.nD) → Buf (Elt Ideal) ((c.tc : Thread Cert.FwdIdeal.nD Cert.FwdIdeal.τ).loc Cert.FwdIdeal.main_v9_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v9_0) = v0 c
          ∧ r.2.mem ((c.tc : Thread Cert.FwdIdeal.nD Cert.FwdIdeal.τ).loc Cert.FwdIdeal.main_v9_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v32) = v0 c
          ∧ r.2.mem ((c.tc : Thread Cert.FwdRefIdeal.nD Cert.FwdRefIdeal.τ).loc Cert.FwdRefIdeal.main_v60) = v1 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)) →
    ∃ (v0 : (c : Dev Cert.InDxIdeal.nD) → Buf (Elt Ideal) ((c.tc : Thread Cert.InDxIdeal.nD Cert.InDxIdeal.τ).loc Cert.InDxIdeal.main_v2)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v2) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v3) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)
      ∧ m' ((c.tc : Thread Cert.InDwRefIdeal.nD Cert.InDwRefIdeal.τ).loc Cert.InDwRefIdeal.main_arg2) = m ((c.tc : Thread Cert.InDwIdeal.nD Cert.InDwIdeal.τ).loc Cert.InDwIdeal.main_arg2)) →
    ∃ (v0 : (c : Dev Cert.InDwIdeal.nD) → Buf (Elt Ideal) ((c.tc : Thread Cert.InDwIdeal.nD Cert.InDwIdeal.τ).loc Cert.InDwIdeal.main_v2)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v2) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
          ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v2) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1)
          ∧ r.2.mem ((c.tc : Thread Cert.InDwRefIdeal.nD Cert.InDwRefIdeal.τ).loc Cert.InDwRefIdeal.main_arg2) = m' ((c.tc : Thread Cert.InDwRefIdeal.nD Cert.InDwRefIdeal.τ).loc Cert.InDwRefIdeal.main_arg2))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v2)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v2) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v1) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)
      ∧ m' ((c.tc : Thread Cert.OutDxRefIdeal.nD Cert.OutDxRefIdeal.τ).loc Cert.OutDxRefIdeal.main_arg2) = m ((c.tc : Thread Cert.OutDxIdeal.nD Cert.OutDxIdeal.τ).loc Cert.OutDxIdeal.main_arg2)) →
    ∃ (v0 : (c : Dev Cert.OutDxIdeal.nD) → Buf (Elt Ideal) ((c.tc : Thread Cert.OutDxIdeal.nD Cert.OutDxIdeal.τ).loc Cert.OutDxIdeal.main_v1)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v1) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
          ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v3) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1)
          ∧ r.2.mem ((c.tc : Thread Cert.OutDxRefIdeal.nD Cert.OutDxRefIdeal.τ).loc Cert.OutDxRefIdeal.main_arg2) = m' ((c.tc : Thread Cert.OutDxRefIdeal.nD Cert.OutDxRefIdeal.τ).loc Cert.OutDxRefIdeal.main_arg2))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)
      ∧ m' ((c.tc : Thread Cert.OutDwRefIdeal.nD Cert.OutDwRefIdeal.τ).loc Cert.OutDwRefIdeal.main_arg2) = m ((c.tc : Thread Cert.OutDwIdeal.nD Cert.OutDwIdeal.τ).loc Cert.OutDwIdeal.main_arg2)) →
    ∃ (v0 : (c : Dev Cert.OutDwIdeal.nD) → Buf (Elt Ideal) ((c.tc : Thread Cert.OutDwIdeal.nD Cert.OutDwIdeal.τ).loc Cert.OutDwIdeal.main_v1)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v1) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
          ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v2) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1)
          ∧ r.2.mem ((c.tc : Thread Cert.OutDwRefIdeal.nD Cert.OutDwRefIdeal.τ).loc Cert.OutDwRefIdeal.main_arg2) = m' ((c.tc : Thread Cert.OutDwRefIdeal.nD Cert.OutDwRefIdeal.τ).loc Cert.OutDwRefIdeal.main_arg2))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)) →
    ∃ (v0 : (c : Dev Cert.OutFwdIdeal.nD) → Buf (Elt Ideal) ((c.tc : Thread Cert.OutFwdIdeal.nD Cert.OutFwdIdeal.τ).loc Cert.OutFwdIdeal.main_v2)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v2) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v0) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1))

def preserves_MixInDx_MixInDxIdeal : Prop :=
  True

def algebraic_MixInDxIdeal_MixInDxRefIdeal [hMixInDxIdeal : Cert.MixInDxIdeal.Facts] [hMixInDxRefIdeal : Cert.MixInDxRefIdeal.Facts] : Prop :=
  ∀ (m : (ℓ : Loc Cert.MixInDxIdeal.nD Cert.MixInDxIdeal.τ Cert.MixInDxIdeal.sig) → Buf (Elt Ideal) ℓ) (g : Dev Cert.MixInDxIdeal.nD → PrngReg)
    (m' : (ℓ : Loc Cert.MixInDxRefIdeal.nD Cert.MixInDxRefIdeal.τ Cert.MixInDxRefIdeal.sig) → Buf (Elt Ideal) ℓ) (g' : Dev Cert.MixInDxRefIdeal.nD → PrngReg), Pre_MixInDxIdeal m →
    (∀ c : Dev Cert.MixInDxIdeal.nD,
      m' ((c.tc : Thread Cert.MixInDxRefIdeal.nD Cert.MixInDxRefIdeal.τ).loc Cert.MixInDxRefIdeal.main_arg0) = m ((c.tc : Thread Cert.MixInDxIdeal.nD Cert.MixInDxIdeal.τ).loc Cert.MixInDxIdeal.main_arg0)
      ∧ m' ((c.tc : Thread Cert.MixInDxRefIdeal.nD Cert.MixInDxRefIdeal.τ).loc Cert.MixInDxRefIdeal.main_arg1) = m ((c.tc : Thread Cert.MixInDxIdeal.nD Cert.MixInDxIdeal.τ).loc Cert.MixInDxIdeal.main_arg1)
      ∧ m' ((c.tc : Thread Cert.MixInDxRefIdeal.nD Cert.MixInDxRefIdeal.τ).loc Cert.MixInDxRefIdeal.main_arg2) = m ((c.tc : Thread Cert.MixInDxIdeal.nD Cert.MixInDxIdeal.τ).loc Cert.MixInDxIdeal.main_arg2)) →
    ∃ (v0 : (c : Dev Cert.MixInDxIdeal.nD) → Buf (Elt Ideal) ((c.tc : Thread Cert.MixInDxIdeal.nD Cert.MixInDxIdeal.τ).loc Cert.MixInDxIdeal.main_v6)),
      θ_run (Cert.MixInDxIdeal.defs (F := Ideal)) (onTc (τ := Cert.MixInDxIdeal.τ) (Cert.MixInDxIdeal.main (F := Ideal))) ⟨m, fun _ => 0, g⟩ (fun r => ∀ c : Dev Cert.MixInDxIdeal.nD,
          r.2.mem ((c.tc : Thread Cert.MixInDxIdeal.nD Cert.MixInDxIdeal.τ).loc Cert.MixInDxIdeal.main_v6) = v0 c
          ∧ r.2.mem ((c.tc : Thread Cert.MixInDxIdeal.nD Cert.MixInDxIdeal.τ).loc Cert.MixInDxIdeal.main_arg0) = m ((c.tc : Thread Cert.MixInDxIdeal.nD Cert.MixInDxIdeal.τ).loc Cert.MixInDxIdeal.main_arg0)
          ∧ r.2.mem ((c.tc : Thread Cert.MixInDxIdeal.nD Cert.MixInDxIdeal.τ).loc Cert.MixInDxIdeal.main_arg1) = m ((c.tc : Thread Cert.MixInDxIdeal.nD Cert.MixInDxIdeal.τ).loc Cert.MixInDxIdeal.main_arg1)
          ∧ r.2.mem ((c.tc : Thread Cert.MixInDxIdeal.nD Cert.MixInDxIdeal.τ).loc Cert.MixInDxIdeal.main_arg2) = m ((c.tc : Thread Cert.MixInDxIdeal.nD Cert.MixInDxIdeal.τ).loc Cert.MixInDxIdeal.main_arg2))
      ∧ θ_run (Cert.MixInDxRefIdeal.defs (F := Ideal)) (onTc (τ := Cert.MixInDxRefIdeal.τ) (Cert.MixInDxRefIdeal.main (F := Ideal))) ⟨m', fun _ => 0, g'⟩ (fun r => ∀ c : Dev Cert.MixInDxRefIdeal.nD,
          r.2.mem ((c.tc : Thread Cert.MixInDxRefIdeal.nD Cert.MixInDxRefIdeal.τ).loc Cert.MixInDxRefIdeal.main_v8) = v0 c
          ∧ r.2.mem ((c.tc : Thread Cert.MixInDxRefIdeal.nD Cert.MixInDxRefIdeal.τ).loc Cert.MixInDxRefIdeal.main_arg0) = m' ((c.tc : Thread Cert.MixInDxRefIdeal.nD Cert.MixInDxRefIdeal.τ).loc Cert.MixInDxRefIdeal.main_arg0)
          ∧ r.2.mem ((c.tc : Thread Cert.MixInDxRefIdeal.nD Cert.MixInDxRefIdeal.τ).loc Cert.MixInDxRefIdeal.main_arg1) = m' ((c.tc : Thread Cert.MixInDxRefIdeal.nD Cert.MixInDxRefIdeal.τ).loc Cert.MixInDxRefIdeal.main_arg1)
          ∧ r.2.mem ((c.tc : Thread Cert.MixInDxRefIdeal.nD Cert.MixInDxRefIdeal.τ).loc Cert.MixInDxRefIdeal.main_arg2) = m' ((c.tc : Thread Cert.MixInDxRefIdeal.nD Cert.MixInDxRefIdeal.τ).loc Cert.MixInDxRefIdeal.main_arg2))

def preserves_MixInDw_MixInDwIdeal : Prop :=
  True

def algebraic_MixInDwIdeal_MixInDwRefIdeal [hMixInDwIdeal : Cert.MixInDwIdeal.Facts] [hMixInDwRefIdeal : Cert.MixInDwRefIdeal.Facts] : Prop :=
  ∀ (m : (ℓ : Loc Cert.MixInDwIdeal.nD Cert.MixInDwIdeal.τ Cert.MixInDwIdeal.sig) → Buf (Elt Ideal) ℓ) (g : Dev Cert.MixInDwIdeal.nD → PrngReg)
    (m' : (ℓ : Loc Cert.MixInDwRefIdeal.nD Cert.MixInDwRefIdeal.τ Cert.MixInDwRefIdeal.sig) → Buf (Elt Ideal) ℓ) (g' : Dev Cert.MixInDwRefIdeal.nD → PrngReg), Pre_MixInDwIdeal m →
    (∀ c : Dev Cert.MixInDwIdeal.nD,
      m' ((c.tc : Thread Cert.MixInDwRefIdeal.nD Cert.MixInDwRefIdeal.τ).loc Cert.MixInDwRefIdeal.main_arg0) = m ((c.tc : Thread Cert.MixInDwIdeal.nD Cert.MixInDwIdeal.τ).loc Cert.MixInDwIdeal.main_arg0)
      ∧ m' ((c.tc : Thread Cert.MixInDwRefIdeal.nD Cert.MixInDwRefIdeal.τ).loc Cert.MixInDwRefIdeal.main_arg1) = m ((c.tc : Thread Cert.MixInDwIdeal.nD Cert.MixInDwIdeal.τ).loc Cert.MixInDwIdeal.main_arg1)
      ∧ m' ((c.tc : Thread Cert.MixInDwRefIdeal.nD Cert.MixInDwRefIdeal.τ).loc Cert.MixInDwRefIdeal.main_arg2) = m ((c.tc : Thread Cert.MixInDwIdeal.nD Cert.MixInDwIdeal.τ).loc Cert.MixInDwIdeal.main_arg2)) →
    ∃ (v0 : (c : Dev Cert.MixInDwIdeal.nD) → Buf (Elt Ideal) ((c.tc : Thread Cert.MixInDwIdeal.nD Cert.MixInDwIdeal.τ).loc Cert.MixInDwIdeal.main_v1)),
      θ_run (Cert.MixInDwIdeal.defs (F := Ideal)) (onTc (τ := Cert.MixInDwIdeal.τ) (Cert.MixInDwIdeal.main (F := Ideal))) ⟨m, fun _ => 0, g⟩ (fun r => ∀ c : Dev Cert.MixInDwIdeal.nD,
          r.2.mem ((c.tc : Thread Cert.MixInDwIdeal.nD Cert.MixInDwIdeal.τ).loc Cert.MixInDwIdeal.main_v1) = v0 c
          ∧ r.2.mem ((c.tc : Thread Cert.MixInDwIdeal.nD Cert.MixInDwIdeal.τ).loc Cert.MixInDwIdeal.main_arg0) = m ((c.tc : Thread Cert.MixInDwIdeal.nD Cert.MixInDwIdeal.τ).loc Cert.MixInDwIdeal.main_arg0)
          ∧ r.2.mem ((c.tc : Thread Cert.MixInDwIdeal.nD Cert.MixInDwIdeal.τ).loc Cert.MixInDwIdeal.main_arg1) = m ((c.tc : Thread Cert.MixInDwIdeal.nD Cert.MixInDwIdeal.τ).loc Cert.MixInDwIdeal.main_arg1)
          ∧ r.2.mem ((c.tc : Thread Cert.MixInDwIdeal.nD Cert.MixInDwIdeal.τ).loc Cert.MixInDwIdeal.main_arg2) = m ((c.tc : Thread Cert.MixInDwIdeal.nD Cert.MixInDwIdeal.τ).loc Cert.MixInDwIdeal.main_arg2))
      ∧ θ_run (Cert.MixInDwRefIdeal.defs (F := Ideal)) (onTc (τ := Cert.MixInDwRefIdeal.τ) (Cert.MixInDwRefIdeal.main (F := Ideal))) ⟨m', fun _ => 0, g'⟩ (fun r => ∀ c : Dev Cert.MixInDwRefIdeal.nD,
          r.2.mem ((c.tc : Thread Cert.MixInDwRefIdeal.nD Cert.MixInDwRefIdeal.τ).loc Cert.MixInDwRefIdeal.main_v7) = v0 c
          ∧ r.2.mem ((c.tc : Thread Cert.MixInDwRefIdeal.nD Cert.MixInDwRefIdeal.τ).loc Cert.MixInDwRefIdeal.main_arg0) = m' ((c.tc : Thread Cert.MixInDwRefIdeal.nD Cert.MixInDwRefIdeal.τ).loc Cert.MixInDwRefIdeal.main_arg0)
          ∧ r.2.mem ((c.tc : Thread Cert.MixInDwRefIdeal.nD Cert.MixInDwRefIdeal.τ).loc Cert.MixInDwRefIdeal.main_arg1) = m' ((c.tc : Thread Cert.MixInDwRefIdeal.nD Cert.MixInDwRefIdeal.τ).loc Cert.MixInDwRefIdeal.main_arg1)
          ∧ r.2.mem ((c.tc : Thread Cert.MixInDwRefIdeal.nD Cert.MixInDwRefIdeal.τ).loc Cert.MixInDwRefIdeal.main_arg2) = m' ((c.tc : Thread Cert.MixInDwRefIdeal.nD Cert.MixInDwRefIdeal.τ).loc Cert.MixInDwRefIdeal.main_arg2))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)) →
    ∃ (v0 : (c : Dev Cert.MixInIdeal.nD) → Buf (Elt Ideal) ((c.tc : Thread Cert.MixInIdeal.nD Cert.MixInIdeal.τ).loc Cert.MixInIdeal.main_v7)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v7) = v0 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v5) = v0 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1))

def preserves_MixOutDx_MixOutDxIdeal : Prop :=
  True

def algebraic_MixOutDxIdeal_MixOutDxRefIdeal [hMixOutDxIdeal : Cert.MixOutDxIdeal.Facts] [hMixOutDxRefIdeal : Cert.MixOutDxRefIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg)
    (m' : (ℓ : Loc Cert.MixOutDxRefIdeal.nD Cert.MixOutDxRefIdeal.τ Cert.MixOutDxRefIdeal.sig) → Buf (Elt Ideal) ℓ) (g' : Dev Cert.MixOutDxRefIdeal.nD → PrngReg), Pre_MixOutDxIdeal m →
    (∀ c : Dev Cert.MixOutDxIdeal.nD,
      m' ((c.tc : Thread Cert.MixOutDxRefIdeal.nD Cert.MixOutDxRefIdeal.τ).loc Cert.MixOutDxRefIdeal.main_arg0) = m ((c.tc : Thread Cert.MixOutDxIdeal.nD Cert.MixOutDxIdeal.τ).loc Cert.MixOutDxIdeal.main_arg0)
      ∧ m' ((c.tc : Thread Cert.MixOutDxRefIdeal.nD Cert.MixOutDxRefIdeal.τ).loc Cert.MixOutDxRefIdeal.main_arg1) = m ((c.tc : Thread Cert.MixOutDxIdeal.nD Cert.MixOutDxIdeal.τ).loc Cert.MixOutDxIdeal.main_arg1)
      ∧ m' ((c.tc : Thread Cert.MixOutDxRefIdeal.nD Cert.MixOutDxRefIdeal.τ).loc Cert.MixOutDxRefIdeal.main_arg2) = m ((c.tc : Thread Cert.MixOutDxIdeal.nD Cert.MixOutDxIdeal.τ).loc Cert.MixOutDxIdeal.main_arg2)) →
    ∃ (v0 : (c : Dev Cert.MixOutDxIdeal.nD) → Buf (Elt Ideal) ((c.tc : Thread Cert.MixOutDxIdeal.nD Cert.MixOutDxIdeal.τ).loc Cert.MixOutDxIdeal.main_v1)),
      θ_run (Cert.MixOutDxIdeal.defs (F := Ideal)) (onTc (τ := Cert.MixOutDxIdeal.τ) (Cert.MixOutDxIdeal.main (F := Ideal))) ⟨m, fun _ => 0, g⟩ (fun r => ∀ c : Dev Cert.MixOutDxIdeal.nD,
          r.2.mem ((c.tc : Thread Cert.MixOutDxIdeal.nD Cert.MixOutDxIdeal.τ).loc Cert.MixOutDxIdeal.main_v1) = v0 c
          ∧ r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
          ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1)
          ∧ r.2.mem ((c.tc : Thread Cert.MixOutDxIdeal.nD Cert.MixOutDxIdeal.τ).loc Cert.MixOutDxIdeal.main_arg2) = m ((c.tc : Thread Cert.MixOutDxIdeal.nD Cert.MixOutDxIdeal.τ).loc Cert.MixOutDxIdeal.main_arg2))
      ∧ θ_run (Cert.MixOutDxRefIdeal.defs (F := Ideal)) (onTc (τ := Cert.MixOutDxRefIdeal.τ) (Cert.MixOutDxRefIdeal.main (F := Ideal))) ⟨m', fun _ => 0, g'⟩ (fun r => ∀ c : Dev Cert.MixOutDxRefIdeal.nD,
          r.2.mem ((c.tc : Thread Cert.MixOutDxRefIdeal.nD Cert.MixOutDxRefIdeal.τ).loc Cert.MixOutDxRefIdeal.main_v3) = v0 c
          ∧ r.2.mem ((c.tc : Thread Cert.MixOutDxRefIdeal.nD Cert.MixOutDxRefIdeal.τ).loc Cert.MixOutDxRefIdeal.main_arg0) = m' ((c.tc : Thread Cert.MixOutDxRefIdeal.nD Cert.MixOutDxRefIdeal.τ).loc Cert.MixOutDxRefIdeal.main_arg0)
          ∧ r.2.mem ((c.tc : Thread Cert.MixOutDxRefIdeal.nD Cert.MixOutDxRefIdeal.τ).loc Cert.MixOutDxRefIdeal.main_arg1) = m' ((c.tc : Thread Cert.MixOutDxRefIdeal.nD Cert.MixOutDxRefIdeal.τ).loc Cert.MixOutDxRefIdeal.main_arg1)
          ∧ r.2.mem ((c.tc : Thread Cert.MixOutDxRefIdeal.nD Cert.MixOutDxRefIdeal.τ).loc Cert.MixOutDxRefIdeal.main_arg2) = m' ((c.tc : Thread Cert.MixOutDxRefIdeal.nD Cert.MixOutDxRefIdeal.τ).loc Cert.MixOutDxRefIdeal.main_arg2))

def preserves_MixOutDw_MixOutDwIdeal : Prop :=
  True

def algebraic_MixOutDwIdeal_MixOutDwRefIdeal [hMixOutDwIdeal : Cert.MixOutDwIdeal.Facts] [hMixOutDwRefIdeal : Cert.MixOutDwRefIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg)
    (m' : (ℓ : Loc Cert.MixOutDwRefIdeal.nD Cert.MixOutDwRefIdeal.τ Cert.MixOutDwRefIdeal.sig) → Buf (Elt Ideal) ℓ) (g' : Dev Cert.MixOutDwRefIdeal.nD → PrngReg), Pre_MixOutDwIdeal m →
    (∀ c : Dev Cert.MixOutDwIdeal.nD,
      m' ((c.tc : Thread Cert.MixOutDwRefIdeal.nD Cert.MixOutDwRefIdeal.τ).loc Cert.MixOutDwRefIdeal.main_arg0) = m ((c.tc : Thread Cert.MixOutDwIdeal.nD Cert.MixOutDwIdeal.τ).loc Cert.MixOutDwIdeal.main_arg0)
      ∧ m' ((c.tc : Thread Cert.MixOutDwRefIdeal.nD Cert.MixOutDwRefIdeal.τ).loc Cert.MixOutDwRefIdeal.main_arg1) = m ((c.tc : Thread Cert.MixOutDwIdeal.nD Cert.MixOutDwIdeal.τ).loc Cert.MixOutDwIdeal.main_arg1)
      ∧ m' ((c.tc : Thread Cert.MixOutDwRefIdeal.nD Cert.MixOutDwRefIdeal.τ).loc Cert.MixOutDwRefIdeal.main_arg2) = m ((c.tc : Thread Cert.MixOutDwIdeal.nD Cert.MixOutDwIdeal.τ).loc Cert.MixOutDwIdeal.main_arg2)) →
    ∃ (v0 : (c : Dev Cert.MixOutDwIdeal.nD) → Buf (Elt Ideal) ((c.tc : Thread Cert.MixOutDwIdeal.nD Cert.MixOutDwIdeal.τ).loc Cert.MixOutDwIdeal.main_v0)),
      θ_run (Cert.MixOutDwIdeal.defs (F := Ideal)) (onTc (τ := Cert.MixOutDwIdeal.τ) (Cert.MixOutDwIdeal.main (F := Ideal))) ⟨m, fun _ => 0, g⟩ (fun r => ∀ c : Dev Cert.MixOutDwIdeal.nD,
          r.2.mem ((c.tc : Thread Cert.MixOutDwIdeal.nD Cert.MixOutDwIdeal.τ).loc Cert.MixOutDwIdeal.main_v0) = v0 c
          ∧ r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
          ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1)
          ∧ r.2.mem ((c.tc : Thread Cert.MixOutDwIdeal.nD Cert.MixOutDwIdeal.τ).loc Cert.MixOutDwIdeal.main_arg2) = m ((c.tc : Thread Cert.MixOutDwIdeal.nD Cert.MixOutDwIdeal.τ).loc Cert.MixOutDwIdeal.main_arg2))
      ∧ θ_run (Cert.MixOutDwRefIdeal.defs (F := Ideal)) (onTc (τ := Cert.MixOutDwRefIdeal.τ) (Cert.MixOutDwRefIdeal.main (F := Ideal))) ⟨m', fun _ => 0, g'⟩ (fun r => ∀ c : Dev Cert.MixOutDwRefIdeal.nD,
          r.2.mem ((c.tc : Thread Cert.MixOutDwRefIdeal.nD Cert.MixOutDwRefIdeal.τ).loc Cert.MixOutDwRefIdeal.main_v2) = v0 c
          ∧ r.2.mem ((c.tc : Thread Cert.MixOutDwRefIdeal.nD Cert.MixOutDwRefIdeal.τ).loc Cert.MixOutDwRefIdeal.main_arg0) = m' ((c.tc : Thread Cert.MixOutDwRefIdeal.nD Cert.MixOutDwRefIdeal.τ).loc Cert.MixOutDwRefIdeal.main_arg0)
          ∧ r.2.mem ((c.tc : Thread Cert.MixOutDwRefIdeal.nD Cert.MixOutDwRefIdeal.τ).loc Cert.MixOutDwRefIdeal.main_arg1) = m' ((c.tc : Thread Cert.MixOutDwRefIdeal.nD Cert.MixOutDwRefIdeal.τ).loc Cert.MixOutDwRefIdeal.main_arg1)
          ∧ r.2.mem ((c.tc : Thread Cert.MixOutDwRefIdeal.nD Cert.MixOutDwRefIdeal.τ).loc Cert.MixOutDwRefIdeal.main_arg2) = m' ((c.tc : Thread Cert.MixOutDwRefIdeal.nD Cert.MixOutDwRefIdeal.τ).loc Cert.MixOutDwRefIdeal.main_arg2))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v1) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v0) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1))

def Claim : Prop :=
  ∃ (hDq : Cert.Dq.Facts) (hDqIdeal : Cert.DqIdeal.Facts) (hDqRefIdeal : Cert.DqRefIdeal.Facts) (hDkv : Cert.Dkv.Facts) (hDkvIdeal : Cert.DkvIdeal.Facts) (hDkvRefIdeal : Cert.DkvRefIdeal.Facts) (hFwd : Cert.Fwd.Facts) (hFwdIdeal : Cert.FwdIdeal.Facts) (hFwdRefIdeal : Cert.FwdRefIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hInFwd : Cert.InFwd.Facts) (hInFwdIdeal : Cert.InFwdIdeal.Facts) (hInFwdRefIdeal : Cert.InFwdRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hOutFwd : Cert.OutFwd.Facts) (hOutFwdIdeal : Cert.OutFwdIdeal.Facts) (hOutFwdRefIdeal : Cert.OutFwdRefIdeal.Facts) (hMixInDx : Cert.MixInDx.Facts) (hMixInDxIdeal : Cert.MixInDxIdeal.Facts) (hMixInDxRefIdeal : Cert.MixInDxRefIdeal.Facts) (hMixInDw : Cert.MixInDw.Facts) (hMixInDwIdeal : Cert.MixInDwIdeal.Facts) (hMixInDwRefIdeal : Cert.MixInDwRefIdeal.Facts) (hMixIn : Cert.MixIn.Facts) (hMixInIdeal : Cert.MixInIdeal.Facts) (hMixInRefIdeal : Cert.MixInRefIdeal.Facts) (hMixOutDx : Cert.MixOutDx.Facts) (hMixOutDxIdeal : Cert.MixOutDxIdeal.Facts) (hMixOutDxRefIdeal : Cert.MixOutDxRefIdeal.Facts) (hMixOutDw : Cert.MixOutDw.Facts) (hMixOutDwIdeal : Cert.MixOutDwIdeal.Facts) (hMixOutDwRefIdeal : Cert.MixOutDwRefIdeal.Facts) (hMixOut : Cert.MixOut.Facts) (hMixOutIdeal : Cert.MixOutIdeal.Facts) (hMixOutRefIdeal : Cert.MixOutRefIdeal.Facts) (hPre_finite : Cert.Pre_finite.Facts) (hPre_finite_qkv : Cert.Pre_finite_qkv.Facts),
    quiescent_Dq (hDq := hDq)
    ∧ quiescent_DqIdeal (hDqIdeal := hDqIdeal)
    ∧ quiescent_DqIdeal_pre_finite (hDqIdeal := hDqIdeal) (hPre_finite := hPre_finite)
    ∧ quiescent_DqRefIdeal (hDqRefIdeal := hDqRefIdeal)
    ∧ quiescent_DqRefIdeal_pre_finite (hDqRefIdeal := hDqRefIdeal) (hPre_finite := hPre_finite)
    ∧ quiescent_Dkv (hDkv := hDkv)
    ∧ quiescent_DkvIdeal (hDkvIdeal := hDkvIdeal)
    ∧ quiescent_DkvIdeal_pre_finite (hDkvIdeal := hDkvIdeal) (hPre_finite := hPre_finite)
    ∧ quiescent_DkvRefIdeal (hDkvRefIdeal := hDkvRefIdeal)
    ∧ quiescent_DkvRefIdeal_pre_finite (hDkvRefIdeal := hDkvRefIdeal) (hPre_finite := hPre_finite)
    ∧ quiescent_Fwd (hFwd := hFwd)
    ∧ quiescent_FwdIdeal (hFwdIdeal := hFwdIdeal)
    ∧ quiescent_FwdIdeal_pre_finite_qkv (hFwdIdeal := hFwdIdeal) (hPre_finite_qkv := hPre_finite_qkv)
    ∧ quiescent_FwdRefIdeal (hFwdRefIdeal := hFwdRefIdeal)
    ∧ quiescent_FwdRefIdeal_pre_finite_qkv (hFwdRefIdeal := hFwdRefIdeal) (hPre_finite_qkv := hPre_finite_qkv)
    ∧ quiescent_InDx (hInDx := hInDx)
    ∧ quiescent_InDxIdeal (hInDxIdeal := hInDxIdeal)
    ∧ quiescent_InDxRefIdeal (hInDxRefIdeal := hInDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_MixInDx (hMixInDx := hMixInDx)
    ∧ quiescent_MixInDxIdeal (hMixInDxIdeal := hMixInDxIdeal)
    ∧ quiescent_MixInDxRefIdeal (hMixInDxRefIdeal := hMixInDxRefIdeal)
    ∧ quiescent_MixInDw (hMixInDw := hMixInDw)
    ∧ quiescent_MixInDwIdeal (hMixInDwIdeal := hMixInDwIdeal)
    ∧ quiescent_MixInDwRefIdeal (hMixInDwRefIdeal := hMixInDwRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_MixOutDx (hMixOutDx := hMixOutDx)
    ∧ quiescent_MixOutDxIdeal (hMixOutDxIdeal := hMixOutDxIdeal)
    ∧ quiescent_MixOutDxRefIdeal (hMixOutDxRefIdeal := hMixOutDxRefIdeal)
    ∧ quiescent_MixOutDw (hMixOutDw := hMixOutDw)
    ∧ quiescent_MixOutDwIdeal (hMixOutDwIdeal := hMixOutDwIdeal)
    ∧ quiescent_MixOutDwRefIdeal (hMixOutDwRefIdeal := hMixOutDwRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ preserves_Dq_DqIdeal
    ∧ algebraic_DqIdeal_DqRefIdeal_pre_finite (hDqIdeal := hDqIdeal) (hDqRefIdeal := hDqRefIdeal) (hPre_finite := hPre_finite)
    ∧ preserves_Dkv_DkvIdeal
    ∧ algebraic_DkvIdeal_DkvRefIdeal_pre_finite (hDkvIdeal := hDkvIdeal) (hDkvRefIdeal := hDkvRefIdeal) (hPre_finite := hPre_finite)
    ∧ preserves_Fwd_FwdIdeal
    ∧ algebraic_FwdIdeal_FwdRefIdeal_pre_finite_qkv (hFwdIdeal := hFwdIdeal) (hFwdRefIdeal := hFwdRefIdeal) (hPre_finite_qkv := hPre_finite_qkv)
    ∧ preserves_InDx_InDxIdeal
    ∧ algebraic_InDxIdeal_InDxRefIdeal (hInDxIdeal := hInDxIdeal) (hInDxRefIdeal := hInDxRefIdeal)
    ∧ preserves_InDw_InDwIdeal
    ∧ algebraic_InDwIdeal_InDwRefIdeal (hInDwIdeal := hInDwIdeal) (hInDwRefIdeal := hInDwRefIdeal)
    ∧ preserves_InFwd_InFwdIdeal
    ∧ algebraic_InFwdIdeal_InFwdRefIdeal (hInFwdIdeal := hInFwdIdeal) (hInFwdRefIdeal := hInFwdRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_OutFwd_OutFwdIdeal
    ∧ algebraic_OutFwdIdeal_OutFwdRefIdeal (hOutFwdIdeal := hOutFwdIdeal) (hOutFwdRefIdeal := hOutFwdRefIdeal)
    ∧ preserves_MixInDx_MixInDxIdeal
    ∧ algebraic_MixInDxIdeal_MixInDxRefIdeal (hMixInDxIdeal := hMixInDxIdeal) (hMixInDxRefIdeal := hMixInDxRefIdeal)
    ∧ preserves_MixInDw_MixInDwIdeal
    ∧ algebraic_MixInDwIdeal_MixInDwRefIdeal (hMixInDwIdeal := hMixInDwIdeal) (hMixInDwRefIdeal := hMixInDwRefIdeal)
    ∧ preserves_MixIn_MixInIdeal
    ∧ algebraic_MixInIdeal_MixInRefIdeal (hMixInIdeal := hMixInIdeal) (hMixInRefIdeal := hMixInRefIdeal)
    ∧ preserves_MixOutDx_MixOutDxIdeal
    ∧ algebraic_MixOutDxIdeal_MixOutDxRefIdeal (hMixOutDxIdeal := hMixOutDxIdeal) (hMixOutDxRefIdeal := hMixOutDxRefIdeal)
    ∧ preserves_MixOutDw_MixOutDwIdeal
    ∧ algebraic_MixOutDwIdeal_MixOutDwRefIdeal (hMixOutDwIdeal := hMixOutDwIdeal) (hMixOutDwRefIdeal := hMixOutDwRefIdeal)
    ∧ preserves_MixOut_MixOutIdeal
    ∧ algebraic_MixOutIdeal_MixOutRefIdeal (hMixOutIdeal := hMixOutIdeal) (hMixOutRefIdeal := hMixOutRefIdeal)
-- ==== Pre_finite.lean ====
abbrev S8448x1024 : Shape := ⟨2, ![8448, 1024]⟩
abbrev S8448x256 : Shape := ⟨2, ![8448, 256]⟩
abbrev S_ : Shape := ⟨0, ![]⟩

class Facts : Prop where
  bcast_S_S8448x1024 : S_.BroadcastsInDim S8448x1024 (![] : Fin 0 → Fin S8448x1024.rank)
  reducesTo_S8448x1024_S_d0_1 : S8448x1024.ReducesTo [0, 1] S_
  h_S_ : 0 < S_.numel
  bcast_S_S8448x256 : S_.BroadcastsInDim S8448x256 (![] : Fin 0 → Fin S8448x256.rank)
  reducesTo_S8448x256_S_d0_1 : S8448x256.ReducesTo [0, 1] S_

variable [Facts]

def fn_part1 {F : FTy → Type} [FloatOps F] (main_v13 : IVec S_ 1) (main_v16 : IVec S8448x1024 1) : IVec S_ 1 :=
  let main_c_5 : IVec S_ 1 := constantI S_ 1 1#1
  let main_v17 : IVec S_ 1 := (fun x v => Host.reduce IntOp.andi x v reducesTo_S8448x1024_S_d0_1 h_S_) main_v16 main_c_5
  let main_v18 : IVec S_ 1 := andi main_v13 main_v17
  main_v18

def fn {F : FTy → Type} [FloatOps F] (main_arg0 : FVec F S8448x1024 .f32) (main_arg1 : FVec F S8448x256 .f32) (main_arg2 : FVec F S8448x256 .f32) (main_arg3 : FVec F S8448x1024 .f32) : IVec S_ 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_c : IVec S_ 1 := constantI S_ 1 1#1
  let main_v3 : IVec S_ 1 := (fun x v => Host.reduce IntOp.andi x v reducesTo_S8448x1024_S_d0_1 h_S_) main_v2 main_c
  let main_v4 : FVec F S8448x256 .f32 := Host.absf main_arg1
  let main_cst_0 : FVec F S_ .f32 := constant S_ .f32 0x7F800000#32
  let main_v5 : FVec F S8448x256 .f32 := broadcastInDim S8448x256 ![] bcast_S_S8448x256 main_cst_0
  let main_v6 : IVec S8448x256 1 := cmpf .olt main_v4 main_v5
  let main_c_1 : IVec S_ 1 := constantI S_ 1 1#1
  let main_v7 : IVec S_ 1 := (fun x v => Host.reduce IntOp.andi x v reducesTo_S8448x256_S_d0_1 h_S_) main_v6 main_c_1
  let main_v8 : IVec S_ 1 := andi main_v3 main_v7
  let main_v9 : FVec F S8448x256 .f32 := Host.absf main_arg2
  let main_cst_2 : FVec F S_ .f32 := constant S_ .f32 0x7F800000#32
  let main_v10 : FVec F S8448x256 .f32 := broadcastInDim S8448x256 ![] bcast_S_S8448x256 main_cst_2
  let main_v11 : IVec S8448x256 1 := cmpf .olt main_v9 main_v10
  let main_c_3 : IVec S_ 1 := constantI S_ 1 1#1
  let main_v12 : IVec S_ 1 := (fun x v => Host.reduce IntOp.andi x v reducesTo_S8448x256_S_d0_1 h_S_) main_v11 main_c_3
  let main_v13 : IVec S_ 1 := andi main_v8 main_v12
  let main_v14 : FVec F S8448x1024 .f32 := Host.absf main_arg3
  let main_cst_4 : FVec F S_ .f32 := constant S_ .f32 0x7F800000#32
  let main_v15 : FVec F S8448x1024 .f32 := broadcastInDim S8448x1024 ![] bcast_S_S8448x1024 main_cst_4
  let main_v16 : IVec S8448x1024 1 := cmpf .olt main_v14 main_v15
  fn_part1 (F := F) main_v13 main_v16
-- ==== Pre_finite_qkv.lean ====
abbrev S8448x1024 : Shape := ⟨2, ![8448, 1024]⟩
abbrev S8448x256 : Shape := ⟨2, ![8448, 256]⟩
abbrev S_ : Shape := ⟨0, ![]⟩

class Facts : Prop where
  bcast_S_S8448x1024 : S_.BroadcastsInDim S8448x1024 (![] : Fin 0 → Fin S8448x1024.rank)
  reducesTo_S8448x1024_S_d0_1 : S8448x1024.ReducesTo [0, 1] S_
  h_S_ : 0 < S_.numel
  bcast_S_S8448x256 : S_.BroadcastsInDim S8448x256 (![] : Fin 0 → Fin S8448x256.rank)
  reducesTo_S8448x256_S_d0_1 : S8448x256.ReducesTo [0, 1] S_

variable [Facts]

def fn {F : FTy → Type} [FloatOps F] (main_arg0 : FVec F S8448x1024 .f32) (main_arg1 : FVec F S8448x256 .f32) (main_arg2 : FVec F S8448x256 .f32) : IVec S_ 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_c : IVec S_ 1 := constantI S_ 1 1#1
  let main_v3 : IVec S_ 1 := (fun x v => Host.reduce IntOp.andi x v reducesTo_S8448x1024_S_d0_1 h_S_) main_v2 main_c
  let main_v4 : FVec F S8448x256 .f32 := Host.absf main_arg1
  let main_cst_0 : FVec F S_ .f32 := constant S_ .f32 0x7F800000#32
  let main_v5 : FVec F S8448x256 .f32 := broadcastInDim S8448x256 ![] bcast_S_S8448x256 main_cst_0
  let main_v6 : IVec S8448x256 1 := cmpf .olt main_v4 main_v5
  let main_c_1 : IVec S_ 1 := constantI S_ 1 1#1
  let main_v7 : IVec S_ 1 := (fun x v => Host.reduce IntOp.andi x v reducesTo_S8448x256_S_d0_1 h_S_) main_v6 main_c_1
  let main_v8 : IVec S_ 1 := andi main_v3 main_v7
  let main_v9 : FVec F S8448x256 .f32 := Host.absf main_arg2
  let main_cst_2 : FVec F S_ .f32 := constant S_ .f32 0x7F800000#32
  let main_v10 : FVec F S8448x256 .f32 := broadcastInDim S8448x256 ![] bcast_S_S8448x256 main_cst_2
  let main_v11 : IVec S8448x256 1 := cmpf .olt main_v9 main_v10
  let main_c_3 : IVec S_ 1 := constantI S_ 1 1#1
  let main_v12 : IVec S_ 1 := (fun x v => Host.reduce IntOp.andi x v reducesTo_S8448x256_S_d0_1 h_S_) main_v11 main_c_3
  let main_v13 : IVec S_ 1 := andi main_v8 main_v12
  main_v13
-- ==== Dq.lean ====
abbrev S8448x1024 : Shape := ⟨2, ![8448, 1024]⟩
abbrev S8448x256 : Shape := ⟨2, ![8448, 256]⟩
abbrev S_ : Shape := ⟨0, ![]⟩
abbrev S8448x2x4x128 : Shape := ⟨4, ![8448, 2, 4, 128]⟩
abbrev S8448x2x128 : Shape := ⟨3, ![8448, 2, 128]⟩
abbrev S2x8448x8448x4 : Shape := ⟨4, ![2, 8448, 8448, 4]⟩
abbrev S2x4x8448x8448 : Shape := ⟨4, ![2, 4, 8448, 8448]⟩
abbrev S8448 : Shape := ⟨1, ![8448]⟩
abbrev S8448x1 : Shape := ⟨2, ![8448, 1]⟩
abbrev S1x8448 : Shape := ⟨2, ![1, 8448]⟩
abbrev S8448x8448 : Shape := ⟨2, ![8448, 8448]⟩
abbrev S2x4x8448 : Shape := ⟨3, ![2, 4, 8448]⟩
abbrev S2x4x8448x1 : Shape := ⟨4, ![2, 4, 8448, 1]⟩
abbrev S2x128x4x8448 : Shape := ⟨4, ![2, 128, 4, 8448]⟩
abbrev S8x8448x1 : Shape := ⟨3, ![8, 8448, 1]⟩
abbrev S256x512 : Shape := ⟨2, ![256, 512]⟩
abbrev S1408x128 : Shape := ⟨2, ![1408, 128]⟩
abbrev S4x256x1 : Shape := ⟨3, ![4, 256, 1]⟩
abbrev S4x256x128 : Shape := ⟨3, ![4, 256, 128]⟩
abbrev S256x128 : Shape := ⟨2, ![256, 128]⟩
abbrev S256 : Shape := ⟨1, ![256]⟩
abbrev S256x1 : Shape := ⟨2, ![256, 1]⟩
abbrev S1x256x1 : Shape := ⟨3, ![1, 256, 1]⟩
abbrev S1x1408 : Shape := ⟨2, ![1, 1408]⟩
abbrev S256x1408 : Shape := ⟨2, ![256, 1408]⟩
abbrev S1x256x128 : Shape := ⟨3, ![1, 256, 128]⟩

abbrev nBuf : Space → Nat
  | .hbm => 97
  | .vmem => 18
  | .smem => 0
  | _ => 0

abbrev bufTy : (tb : Table) → Fin (tcTables nBuf tb) → BufTy
  | .hbm, ⟨0, _⟩ => ⟨S8448x1024, .f32⟩
  | .hbm, ⟨1, _⟩ => ⟨S8448x256, .f32⟩
  | .hbm, ⟨2, _⟩ => ⟨S8448x256, .f32⟩
  | .hbm, ⟨3, _⟩ => ⟨S8448x1024, .f32⟩
  | .hbm, ⟨4, _⟩ => ⟨S_, .f32⟩
  | .hbm, ⟨5, _⟩ => ⟨S8448x1024, .f32⟩
  | .hbm, ⟨6, _⟩ => ⟨S8448x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8448x1024, .f32⟩
  | .hbm, ⟨11, _⟩ => ⟨S8448x1024, .f32⟩
  | .hbm, ⟨12, _⟩ => ⟨S8448x1024, .bf16⟩
  | .hbm, ⟨13, _⟩ => ⟨S8448x256, .bf16⟩
  | .hbm, ⟨14, _⟩ => ⟨S8448x256, .bf16⟩
  | .hbm, ⟨15, _⟩ => ⟨S8448x2x4x128, .f32⟩
  | .hbm, ⟨16, _⟩ => ⟨S8448x2x128, .f32⟩
  | .hbm, ⟨17, _⟩ => ⟨S2x8448x8448x4, .f32⟩
  | .hbm, ⟨18, _⟩ => ⟨S2x4x8448x8448, .f32⟩
  | .hbm, ⟨19, _⟩ => ⟨S_, .f32⟩
  | .hbm, ⟨20, _⟩ => ⟨S2x4x8448x8448, .f32⟩
  | .hbm, ⟨21, _⟩ => ⟨S2x4x8448x8448, .f32⟩
  | .hbm, ⟨22, _⟩ => ⟨S8448, .i32⟩
  | .hbm, ⟨23, _⟩ => ⟨S8448x1, .i32⟩
  | .hbm, ⟨24, _⟩ => ⟨S_, .i32⟩
  | .hbm, ⟨25, _⟩ => ⟨S8448x1, .i32⟩
  | .hbm, ⟨26, _⟩ => ⟨S8448x1, .i1⟩
  | .hbm, ⟨27, _⟩ => ⟨S8448, .i32⟩
  | .hbm, ⟨28, _⟩ => ⟨S1x8448, .i32⟩
  | .hbm, ⟨29, _⟩ => ⟨S_, .i32⟩
  | .hbm, ⟨30, _⟩ => ⟨S1x8448, .i32⟩
  | .hbm, ⟨31, _⟩ => ⟨S1x8448, .i1⟩
  | .hbm, ⟨32, _⟩ => ⟨S8448x8448, .i1⟩
  | .hbm, ⟨33, _⟩ => ⟨S8448x8448, .i1⟩
  | .hbm, ⟨34, _⟩ => ⟨S8448x8448, .i1⟩
  | .hbm, ⟨35, _⟩ => ⟨S_, .f32⟩
  | .hbm, ⟨36, _⟩ => ⟨S_, .f32⟩
  | .hbm, ⟨37, _⟩ => ⟨S2x4x8448x8448, .i1⟩
  | .hbm, ⟨38, _⟩ => ⟨S2x4x8448x8448, .f32⟩
  | .hbm, ⟨39, _⟩ => ⟨S2x4x8448x8448, .f32⟩
  | .hbm, ⟨40, _⟩ => ⟨S_, .f32⟩
  | .hbm, ⟨41, _⟩ => ⟨S2x4x8448, .f32⟩
  | .hbm, ⟨42, _⟩ => ⟨S_, .f32⟩
  | .hbm, ⟨43, _⟩ => ⟨S2x4x8448, .f32⟩
  | .hbm, ⟨44, _⟩ => ⟨S2x4x8448, .f32⟩
  | .hbm, ⟨45, _⟩ => ⟨S2x4x8448x1, .f32⟩
  | .hbm, ⟨46, _⟩ => ⟨S2x4x8448x8448, .f32⟩
  | .hbm, ⟨47, _⟩ => ⟨S2x4x8448x8448, .f32⟩
  | .hbm, ⟨48, _⟩ => ⟨S2x4x8448x8448, .f32⟩
  | .hbm, ⟨49, _⟩ => ⟨S_, .f32⟩
  | .hbm, ⟨50, _⟩ => ⟨S2x4x8448, .f32⟩
  | .hbm, ⟨51, _⟩ => ⟨S2x4x8448x1, .f32⟩
  | .hbm, ⟨52, _⟩ => ⟨S2x4x8448x8448, .f32⟩
  | .hbm, ⟨53, _⟩ => ⟨S2x4x8448x8448, .f32⟩
  | .hbm, ⟨54, _⟩ => ⟨S8448x2x128, .f32⟩
  | .hbm, ⟨55, _⟩ => ⟨S2x128x4x8448, .f32⟩
  | .hbm, ⟨56, _⟩ => ⟨S8448x2x4x128, .f32⟩
  | .hbm, ⟨57, _⟩ => ⟨S8448x1024, .f32⟩
  | .hbm, ⟨58, _⟩ => ⟨S8448x2x4x128, .f32⟩
  | .hbm, ⟨59, _⟩ => ⟨S8448x2x128, .f32⟩
  | .hbm, ⟨60, _⟩ => ⟨S2x8448x8448x4, .f32⟩
  | .hbm, ⟨61, _⟩ => ⟨S2x4x8448x8448, .f32⟩
  | .hbm, ⟨62, _⟩ => ⟨S_, .f32⟩
  | .hbm, ⟨63, _⟩ => ⟨S2x4x8448x8448, .f32⟩
  | .hbm, ⟨64, _⟩ => ⟨S2x4x8448x8448, .f32⟩
  | .hbm, ⟨65, _⟩ => ⟨S8448, .i32⟩
  | .hbm, ⟨66, _⟩ => ⟨S8448x1, .i32⟩
  | .hbm, ⟨67, _⟩ => ⟨S_, .i32⟩
  | .hbm, ⟨68, _⟩ => ⟨S8448x1, .i32⟩
  | .hbm, ⟨69, _⟩ => ⟨S8448x1, .i1⟩
  | .hbm, ⟨70, _⟩ => ⟨S8448, .i32⟩
  | .hbm, ⟨71, _⟩ => ⟨S1x8448, .i32⟩
  | .hbm, ⟨72, _⟩ => ⟨S_, .i32⟩
  | .hbm, ⟨73, _⟩ => ⟨S1x8448, .i32⟩
  | .hbm, ⟨74, _⟩ => ⟨S1x8448, .i1⟩
  | .hbm, ⟨75, _⟩ => ⟨S8448x8448, .i1⟩
  | .hbm, ⟨76, _⟩ => ⟨S8448x8448, .i1⟩
  | .hbm, ⟨77, _⟩ => ⟨S8448x8448, .i1⟩
  | .hbm, ⟨78, _⟩ => ⟨S_, .f32⟩
  | .hbm, ⟨79, _⟩ => ⟨S_, .f32⟩
  | .hbm, ⟨80, _⟩ => ⟨S2x4x8448x8448, .i1⟩
  | .hbm, ⟨81, _⟩ => ⟨S2x4x8448x8448, .f32⟩
  | .hbm, ⟨82, _⟩ => ⟨S2x4x8448x8448, .f32⟩
  | .hbm, ⟨83, _⟩ => ⟨S_, .f32⟩
  | .hbm, ⟨84, _⟩ => ⟨S2x4x8448, .f32⟩
  | .hbm, ⟨85, _⟩ => ⟨S2x4x8448x1, .f32⟩
  | .hbm, ⟨86, _⟩ => ⟨S2x4x8448x8448, .f32⟩
  | .hbm, ⟨87, _⟩ => ⟨S2x4x8448x8448, .f32⟩
  | .hbm, ⟨88, _⟩ => ⟨S2x4x8448x8448, .f32⟩
  | .hbm, ⟨89, _⟩ => ⟨S_, .f32⟩
  | .hbm, ⟨90, _⟩ => ⟨S2x4x8448, .f32⟩
  | .hbm, ⟨91, _⟩ => ⟨S2x4x8448x1, .f32⟩
  | .hbm, ⟨92, _⟩ => ⟨S2x4x8448x1, .f32⟩
  | .hbm, ⟨93, _⟩ => ⟨S2x4x8448x1, .f32⟩
  | .hbm, ⟨94, _⟩ => ⟨S8x8448x1, .f32⟩
  | .hbm, ⟨95, _⟩ => ⟨S8448x1024, .f32⟩
  | .hbm, ⟨96, _⟩ => ⟨S8x8448x1, .f32⟩
  | .local _ .vmem, ⟨0, _⟩ => ⟨S256x512, .bf16⟩
  | .local _ .vmem, ⟨1, _⟩ => ⟨S256x512, .bf16⟩
  | .local _ .vmem, ⟨2, _⟩ => ⟨S1408x128, .bf16⟩
  | .local _ .vmem, ⟨3, _⟩ => ⟨S1408x128, .bf16⟩
  | .local _ .vmem, ⟨4, _⟩ => ⟨S1408x128, .bf16⟩
  | .local _ .vmem, ⟨5, _⟩ => ⟨S1408x128, .bf16⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S4x256x1, .f32⟩
  | .local _ .vmem, ⟨11, _⟩ => ⟨S4x256x1, .f32⟩
  | .local _ .vmem, ⟨12, _⟩ => ⟨S256x512, .f32⟩
  | .local _ .vmem, ⟨13, _⟩ => ⟨S256x512, .f32⟩
  | .local _ .vmem, ⟨14, _⟩ => ⟨S4x256x1, .f32⟩
  | .local _ .vmem, ⟨15, _⟩ => ⟨S4x256x1, .f32⟩
  | .local _ .vmem, ⟨16, _⟩ => ⟨S4x256x128, .f32⟩
  | .local _ .vmem, ⟨17, _⟩ => ⟨S4x256x1, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_8 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_10 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70_0 : Ref sig .tc := ⟨.hbm, 95, rfl⟩
abbrev main_v70_1 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 33, 6], ![false, false, false]⟩

def k0_cond4 (i : grid0.Coords) : BitVec 1 :=
  let arg2 : BitVec 32 := BitVec.ofNat 32 (i 2).val
  let c5_i32 : BitVec 32 := 5#32
  let v12 : BitVec 1 := Scalar.cmpi .eq arg2 c5_i32
  let v13 : BitVec 32 := Scalar.extui v12
  let c0_i32_3 : BitVec 32 := 0#32
  let v14 : BitVec 1 := Scalar.cmpi .ne v13 c0_i32_3
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1408x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S4x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S4x256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== DqIdeal.lean ====
variable {F : FTy → Type} [FloatOps F] [Named F]
def κ : String → Option EReal := fun
  | "hidden" => some ⊥
  | "ln2" => some ((Real.log 2 : ℝ) : EReal)
  | "log2e" => some (((Real.log 2)⁻¹ : ℝ) : EReal)
  | _ => none
-- ==== DqRefIdeal.lean ====
abbrev S8448x1024 : Shape := ⟨2, ![8448, 1024]⟩
abbrev S8448x256 : Shape := ⟨2, ![8448, 256]⟩
abbrev S8448x2x4x128 : Shape := ⟨4, ![8448, 2, 4, 128]⟩
abbrev S8448x2x128 : Shape := ⟨3, ![8448, 2, 128]⟩
abbrev S2x8448x8448x4 : Shape := ⟨4, ![2, 8448, 8448, 4]⟩
abbrev S2x4x8448x8448 : Shape := ⟨4, ![2, 4, 8448, 8448]⟩
abbrev S_ : Shape := ⟨0, ![]⟩
abbrev S8448 : Shape := ⟨1, ![8448]⟩
abbrev S8448x1 : Shape := ⟨2, ![8448, 1]⟩
abbrev S1x8448 : Shape := ⟨2, ![1, 8448]⟩
abbrev S8448x8448 : Shape := ⟨2, ![8448, 8448]⟩
abbrev S2x4x8448 : Shape := ⟨3, ![2, 4, 8448]⟩
abbrev S2x4x8448x1 : Shape := ⟨4, ![2, 4, 8448, 1]⟩
abbrev S2x128x4x8448 : Shape := ⟨4, ![2, 128, 4, 8448]⟩
abbrev S2x128x8448 : Shape := ⟨3, ![2, 128, 8448]⟩
abbrev S2x8448x4x128 : Shape := ⟨4, ![2, 8448, 4, 128]⟩
abbrev S2x8448x128 : Shape := ⟨3, ![2, 8448, 128]⟩
abbrev S8448x8x128 : Shape := ⟨3, ![8448, 8, 128]⟩
abbrev S8448x8 : Shape := ⟨2, ![8448, 8]⟩
abbrev S8x8448 : Shape := ⟨2, ![8, 8448]⟩
abbrev S8x8448x1 : Shape := ⟨3, ![8, 8448, 1]⟩

abbrev nBuf : Space → Nat
  | .hbm => 155
  | .vmem => 0
  | .smem => 0
  | _ => 0

abbrev hbmTy0_0 (i : Nat) : BufTy := match i % 128 with
  | 0 => ⟨S8448x1024, .f32⟩
  | 1 => ⟨S8448x256, .f32⟩
  | 2 => ⟨S8448x256, .f32⟩
  | 3 => ⟨S8448x1024, .f32⟩
  | 4 => ⟨S8448x2x4x128, .f32⟩
  | 5 => ⟨S8448x2x128, .f32⟩
  | 6 => ⟨S2x8448x8448x4, .f32⟩
  | 7 => ⟨S2x4x8448x8448, .f32⟩
  | 8 => ⟨S_, .f32⟩
  | 9 => ⟨S2x4x8448x8448, .f32⟩
  | 10 => ⟨S2x4x8448x8448, .f32⟩
  | 11 => ⟨S8448, .i32⟩
  | 12 => ⟨S8448x1, .i32⟩
  | 13 => ⟨S_, .i32⟩
  | 14 => ⟨S8448x1, .i32⟩
  | 15 => ⟨S8448x1, .i1⟩
  | 16 => ⟨S8448, .i32⟩
  | 17 => ⟨S1x8448, .i32⟩
  | 18 => ⟨S_, .i32⟩
  | 19 => ⟨S1x8448, .i32⟩
  | 20 => ⟨S1x8448, .i1⟩
  | 21 => ⟨S8448x8448, .i1⟩
  | 22 => ⟨S8448x8448, .i1⟩
  | 23 => ⟨S8448x8448, .i1⟩
  | 24 => ⟨S_, .f32⟩
  | 25 => ⟨S_, .f32⟩
  | 26 => ⟨S2x4x8448x8448, .i1⟩
  | 27 => ⟨S2x4x8448x8448, .f32⟩
  | 28 => ⟨S2x4x8448x8448, .f32⟩
  | 29 => ⟨S_, .f32⟩
  | 30 => ⟨S2x4x8448x8448, .f32⟩
  | 31 => ⟨S_, .f32⟩
  | 32 => ⟨S2x4x8448, .f32⟩
  | 33 => ⟨S2x4x8448x1, .f32⟩
  | 34 => ⟨S2x4x8448x8448, .f32⟩
  | 35 => ⟨S2x4x8448x8448, .i1⟩
  | 36 => ⟨S2x4x8448x8448, .f32⟩
  | 37 => ⟨S_, .f32⟩
  | 38 => ⟨S2x4x8448, .f32⟩
  | 39 => ⟨S_, .f32⟩
  | 40 => ⟨S2x4x8448, .f32⟩
  | 41 => ⟨S2x4x8448, .f32⟩
  | 42 => ⟨S_, .f32⟩
  | 43 => ⟨S2x4x8448, .f32⟩
  | 44 => ⟨S2x4x8448, .i1⟩
  | 45 => ⟨S_, .f32⟩
  | 46 => ⟨S2x4x8448, .f32⟩
  | 47 => ⟨S2x4x8448, .i1⟩
  | 48 => ⟨S_, .f32⟩
  | 49 => ⟨S2x4x8448, .f32⟩
  | 50 => ⟨S_, .f32⟩
  | 51 => ⟨S2x4x8448, .f32⟩
  | 52 => ⟨S_, .f32⟩
  | 53 => ⟨S2x4x8448, .f32⟩
  | 54 => ⟨S2x4x8448, .f32⟩
  | 55 => ⟨S2x4x8448, .f32⟩
  | 56 => ⟨S2x4x8448x1, .f32⟩
  | 57 => ⟨S2x4x8448x8448, .f32⟩
  | 58 => ⟨S2x4x8448x8448, .f32⟩
  | 59 => ⟨S2x4x8448x8448, .f32⟩
  | 60 => ⟨S_, .f32⟩
  | 61 => ⟨S2x4x8448, .f32⟩
  | 62 => ⟨S2x4x8448x1, .f32⟩
  | 63 => ⟨S2x4x8448x8448, .f32⟩
  | 64 => ⟨S2x4x8448x8448, .f32⟩
  | 65 => ⟨S2x4x8448x1, .f32⟩
  | 66 => ⟨S_, .f32⟩
  | 67 => ⟨S2x4x8448x1, .f32⟩
  | 68 => ⟨S2x4x8448x1, .f32⟩
  | 69 => ⟨S8448x2x128, .f32⟩
  | 70 => ⟨S2x128x4x8448, .f32⟩
  | 71 => ⟨S8448x2x4x128, .f32⟩
  | 72 => ⟨S8448x1024, .f32⟩
  | 73 => ⟨S8448x2x4x128, .f32⟩
  | 74 => ⟨S2x128x4x8448, .f32⟩
  | 75 => ⟨S2x4x8448x8448, .f32⟩
  | 76 => ⟨S2x128x8448, .f32⟩
  | 77 => ⟨S8448x2x128, .f32⟩
  | 78 => ⟨S8448x256, .f32⟩
  | 79 => ⟨S2x4x8448x8448, .f32⟩
  | 80 => ⟨S2x4x8448x8448, .f32⟩
  | 81 => ⟨S2x4x8448x8448, .f32⟩
  | 82 => ⟨S_, .f32⟩
  | 83 => ⟨S2x4x8448, .f32⟩
  | 84 => ⟨S2x4x8448x1, .f32⟩
  | 85 => ⟨S2x4x8448x1, .f32⟩
  | 86 => ⟨S2x4x8448x8448, .f32⟩
  | 87 => ⟨S2x4x8448x8448, .f32⟩
  | 88 => ⟨S_, .f32⟩
  | 89 => ⟨S2x4x8448, .f32⟩
  | 90 => ⟨S2x4x8448x8448, .f32⟩
  | 91 => ⟨S2x4x8448x8448, .f32⟩
  | 92 => ⟨S2x4x8448x8448, .f32⟩
  | 93 => ⟨S_, .f32⟩
  | 94 => ⟨S2x4x8448x8448, .f32⟩
  | 95 => ⟨S2x4x8448x8448, .f32⟩
  | 96 => ⟨S_, .f32⟩
  | 97 => ⟨S2x4x8448x8448, .f32⟩
  | 98 => ⟨S2x4x8448x8448, .f32⟩
  | 99 => ⟨S2x8448x8448x4, .f32⟩
  | 100 => ⟨S2x8448x4x128, .f32⟩
  | 101 => ⟨S8448x2x4x128, .f32⟩
  | 102 => ⟨S2x8448x128, .f32⟩
  | 103 => ⟨S8448x2x128, .f32⟩
  | 104 => ⟨S8448x256, .f32⟩
  | 105 => ⟨S8448x1024, .f32⟩
  | 106 => ⟨S8448x2x4x128, .f32⟩
  | 107 => ⟨S8448x2x128, .f32⟩
  | 108 => ⟨S2x8448x8448x4, .f32⟩
  | 109 => ⟨S2x4x8448x8448, .f32⟩
  | 110 => ⟨S_, .f32⟩
  | 111 => ⟨S2x4x8448x8448, .f32⟩
  | 112 => ⟨S2x4x8448x8448, .f32⟩
  | 113 => ⟨S8448, .i32⟩
  | 114 => ⟨S8448x1, .i32⟩
  | 115 => ⟨S_, .i32⟩
  | 116 => ⟨S8448x1, .i32⟩
  | 117 => ⟨S8448x1, .i1⟩
  | 118 => ⟨S8448, .i32⟩
  | 119 => ⟨S1x8448, .i32⟩
  | 120 => ⟨S_, .i32⟩
  | 121 => ⟨S1x8448, .i32⟩
  | 122 => ⟨S1x8448, .i1⟩
  | 123 => ⟨S8448x8448, .i1⟩
  | 124 => ⟨S8448x8448, .i1⟩
  | 125 => ⟨S8448x8448, .i1⟩
  | 126 => ⟨S_, .f32⟩
  | 127 => ⟨S_, .f32⟩
  | _ => ⟨S8448x1024, .f32⟩

abbrev hbmTy0_1 (i : Nat) : BufTy := match i % 128 with
  | 0 => ⟨S2x4x8448x8448, .i1⟩
  | 1 => ⟨S2x4x8448x8448, .f32⟩
  | 2 => ⟨S2x4x8448x8448, .f32⟩
  | 3 => ⟨S_, .f32⟩
  | 4 => ⟨S2x4x8448, .f32⟩
  | 5 => ⟨S_, .f32⟩
  | 6 => ⟨S2x4x8448, .f32⟩
  | 7 => ⟨S2x4x8448, .f32⟩
  | 8 => ⟨S2x4x8448x1, .f32⟩
  | 9 => ⟨S2x4x8448x8448, .f32⟩
  | 10 => ⟨S2x4x8448x8448, .f32⟩
  | 11 => ⟨S2x4x8448x8448, .f32⟩
  | 12 => ⟨S_, .f32⟩
  | 13 => ⟨S2x4x8448, .f32⟩
  | 14 => ⟨S2x4x8448x1, .f32⟩
  | 15 => ⟨S2x4x8448x8448, .f32⟩
  | 16 => ⟨S2x4x8448x8448, .f32⟩
  | 17 => ⟨S8448x2x128, .f32⟩
  | 18 => ⟨S2x128x4x8448, .f32⟩
  | 19 => ⟨S8448x2x4x128, .f32⟩
  | 20 => ⟨S8448x1024, .f32⟩
  | 21 => ⟨S8448x1024, .f32⟩
  | 22 => ⟨S8448x8x128, .f32⟩
  | 23 => ⟨S_, .f32⟩
  | 24 => ⟨S8448x8, .f32⟩
  | 25 => ⟨S8x8448, .f32⟩
  | 26 => ⟨S8x8448x1, .f32⟩
  | _ => ⟨S8448x1024, .f32⟩

abbrev hbmTy (i : Nat) : BufTy := match i / 128 with
  | 0 => hbmTy0_0 i
  | 1 => hbmTy0_1 i
  | _ => ⟨S8448x1024, .f32⟩

abbrev bufTy : (tb : Table) → Fin (tcTables nBuf tb) → BufTy
  | .hbm, ⟨i, _⟩ => hbmTy i
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_call0_v0 : Ref sig .tc := ⟨.hbm, 25, rfl⟩
abbrev main_v17_1 : Ref sig .tc := ⟨.hbm, 26, rfl⟩
abbrev main_call0_v2 : Ref sig .tc := ⟨.hbm, 27, rfl⟩
abbrev main_v17_0 : Ref sig .tc := ⟨.hbm, 28, rfl⟩
abbrev main_call0_cst : Ref sig .tc := ⟨.hbm, 29, rfl⟩
abbrev main_v17_2 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_cst_9 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_11 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_13 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_call1_cst : Ref sig .tc := ⟨.hbm, 93, rfl⟩
abbrev main_call1_v0 : Ref sig .tc := ⟨.hbm, 94, rfl⟩
abbrev main_v68 : Ref sig .tc := ⟨.hbm, 95, rfl⟩
abbrev main_cst_14 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_15 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_c_16 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_c_17 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_18 : Ref sig .tc := ⟨.hbm, 126, rfl⟩
abbrev main_call2_v0 : Ref sig .tc := ⟨.hbm, 127, rfl⟩
abbrev main_call2_v1 : Ref sig .tc := ⟨.hbm, 128, rfl⟩
abbrev main_call2_v2 : Ref sig .tc := ⟨.hbm, 129, rfl⟩
abbrev main_v95 : Ref sig .tc := ⟨.hbm, 130, rfl⟩
abbrev main_cst_19 : Ref sig .tc := ⟨.hbm, 131, rfl⟩
abbrev main_v96 : Ref sig .tc := ⟨.hbm, 132, rfl⟩
abbrev main_cst_20 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_21 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_cst_22 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩

abbrev nD : Nat := 1
abbrev τ : Topo := Topo.v7x

variable {F : FTy → Type} [FloatOps F]

def κ : String → Option EReal := fun
  | "hidden" => some ⊥
  | "ln2" => some ((Real.log 2 : ℝ) : EReal)
  | "log2e" => some (((Real.log 2)⁻¹ : ℝ) : EReal)
  | _ => none
-- ==== Dkv.lean ====
abbrev S8448x1024 : Shape := ⟨2, ![8448, 1024]⟩
abbrev S8448x256 : Shape := ⟨2, ![8448, 256]⟩
abbrev S_ : Shape := ⟨0, ![]⟩
abbrev S8448x2x4x128 : Shape := ⟨4, ![8448, 2, 4, 128]⟩
abbrev S8448x2x128 : Shape := ⟨3, ![8448, 2, 128]⟩
abbrev S2x8448x8448x4 : Shape := ⟨4, ![2, 8448, 8448, 4]⟩
abbrev S2x4x8448x8448 : Shape := ⟨4, ![2, 4, 8448, 8448]⟩
abbrev S8448 : Shape := ⟨1, ![8448]⟩
abbrev S8448x1 : Shape := ⟨2, ![8448, 1]⟩
abbrev S1x8448 : Shape := ⟨2, ![1, 8448]⟩
abbrev S8448x8448 : Shape := ⟨2, ![8448, 8448]⟩
abbrev S2x4x8448 : Shape := ⟨3, ![2, 4, 8448]⟩
abbrev S2x4x8448x1 : Shape := ⟨4, ![2, 4, 8448, 1]⟩
abbrev S8x8448x1 : Shape := ⟨3, ![8, 8448, 1]⟩
abbrev S2x128x4x8448 : Shape := ⟨4, ![2, 128, 4, 8448]⟩
abbrev S8448x8x128 : Shape := ⟨3, ![8448, 8, 128]⟩
abbrev S8448x8 : Shape := ⟨2, ![8448, 8]⟩
abbrev S8x8448 : Shape := ⟨2, ![8, 8448]⟩
abbrev S256x512 : Shape := ⟨2, ![256, 512]⟩
abbrev S768x128 : Shape := ⟨2, ![768, 128]⟩
abbrev S4x256x1 : Shape := ⟨3, ![4, 256, 1]⟩
abbrev S1x768 : Shape := ⟨2, ![1, 768]⟩
abbrev S256x128 : Shape := ⟨2, ![256, 128]⟩
abbrev S256x768 : Shape := ⟨2, ![256, 768]⟩
abbrev S1x256x1 : Shape := ⟨3, ![1, 256, 1]⟩
abbrev S256x1 : Shape := ⟨2, ![256, 1]⟩

abbrev nBuf : Space → Nat
  | .hbm => 103
  | .vmem => 18
  | .smem => 0
  | _ => 0

abbrev bufTy : (tb : Table) → Fin (tcTables nBuf tb) → BufTy
  | .hbm, ⟨0, _⟩ => ⟨S8448x1024, .f32⟩
  | .hbm, ⟨1, _⟩ => ⟨S8448x256, .f32⟩
  | .hbm, ⟨2, _⟩ => ⟨S8448x256, .f32⟩
  | .hbm, ⟨3, _⟩ => ⟨S8448x1024, .f32⟩
  | .hbm, ⟨4, _⟩ => ⟨S_, .f32⟩
  | .hbm, ⟨5, _⟩ => ⟨S8448x1024, .f32⟩
  | .hbm, ⟨6, _⟩ => ⟨S8448x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8448x1024, .f32⟩
  | .hbm, ⟨11, _⟩ => ⟨S8448x1024, .f32⟩
  | .hbm, ⟨12, _⟩ => ⟨S8448x1024, .bf16⟩
  | .hbm, ⟨13, _⟩ => ⟨S8448x256, .bf16⟩
  | .hbm, ⟨14, _⟩ => ⟨S8448x256, .bf16⟩
  | .hbm, ⟨15, _⟩ => ⟨S8448x2x4x128, .f32⟩
  | .hbm, ⟨16, _⟩ => ⟨S8448x2x128, .f32⟩
  | .hbm, ⟨17, _⟩ => ⟨S2x8448x8448x4, .f32⟩
  | .hbm, ⟨18, _⟩ => ⟨S2x4x8448x8448, .f32⟩
  | .hbm, ⟨19, _⟩ => ⟨S_, .f32⟩
  | .hbm, ⟨20, _⟩ => ⟨S2x4x8448x8448, .f32⟩
  | .hbm, ⟨21, _⟩ => ⟨S2x4x8448x8448, .f32⟩
  | .hbm, ⟨22, _⟩ => ⟨S8448, .i32⟩
  | .hbm, ⟨23, _⟩ => ⟨S8448x1, .i32⟩
  | .hbm, ⟨24, _⟩ => ⟨S_, .i32⟩
  | .hbm, ⟨25, _⟩ => ⟨S8448x1, .i32⟩
  | .hbm, ⟨26, _⟩ => ⟨S8448x1, .i1⟩
  | .hbm, ⟨27, _⟩ => ⟨S8448, .i32⟩
  | .hbm, ⟨28, _⟩ => ⟨S1x8448, .i32⟩
  | .hbm, ⟨29, _⟩ => ⟨S_, .i32⟩
  | .hbm, ⟨30, _⟩ => ⟨S1x8448, .i32⟩
  | .hbm, ⟨31, _⟩ => ⟨S1x8448, .i1⟩
  | .hbm, ⟨32, _⟩ => ⟨S8448x8448, .i1⟩
  | .hbm, ⟨33, _⟩ => ⟨S8448x8448, .i1⟩
  | .hbm, ⟨34, _⟩ => ⟨S8448x8448, .i1⟩
  | .hbm, ⟨35, _⟩ => ⟨S_, .f32⟩
  | .hbm, ⟨36, _⟩ => ⟨S_, .f32⟩
  | .hbm, ⟨37, _⟩ => ⟨S2x4x8448x8448, .i1⟩
  | .hbm, ⟨38, _⟩ => ⟨S2x4x8448x8448, .f32⟩
  | .hbm, ⟨39, _⟩ => ⟨S2x4x8448x8448, .f32⟩
  | .hbm, ⟨40, _⟩ => ⟨S_, .f32⟩
  | .hbm, ⟨41, _⟩ => ⟨S2x4x8448, .f32⟩
  | .hbm, ⟨42, _⟩ => ⟨S2x4x8448x1, .f32⟩
  | .hbm, ⟨43, _⟩ => ⟨S2x4x8448x8448, .f32⟩
  | .hbm, ⟨44, _⟩ => ⟨S2x4x8448x8448, .f32⟩
  | .hbm, ⟨45, _⟩ => ⟨S2x4x8448x8448, .f32⟩
  | .hbm, ⟨46, _⟩ => ⟨S_, .f32⟩
  | .hbm, ⟨47, _⟩ => ⟨S2x4x8448, .f32⟩
  | .hbm, ⟨48, _⟩ => ⟨S2x4x8448x1, .f32⟩
  | .hbm, ⟨49, _⟩ => ⟨S2x4x8448x1, .f32⟩
  | .hbm, ⟨50, _⟩ => ⟨S2x4x8448x1, .f32⟩
  | .hbm, ⟨51, _⟩ => ⟨S8x8448x1, .f32⟩
  | .hbm, ⟨52, _⟩ => ⟨S8448x2x4x128, .f32⟩
  | .hbm, ⟨53, _⟩ => ⟨S8448x2x128, .f32⟩
  | .hbm, ⟨54, _⟩ => ⟨S2x8448x8448x4, .f32⟩
  | .hbm, ⟨55, _⟩ => ⟨S2x4x8448x8448, .f32⟩
  | .hbm, ⟨56, _⟩ => ⟨S_, .f32⟩
  | .hbm, ⟨57, _⟩ => ⟨S2x4x8448x8448, .f32⟩
  | .hbm, ⟨58, _⟩ => ⟨S2x4x8448x8448, .f32⟩
  | .hbm, ⟨59, _⟩ => ⟨S8448, .i32⟩
  | .hbm, ⟨60, _⟩ => ⟨S8448x1, .i32⟩
  | .hbm, ⟨61, _⟩ => ⟨S_, .i32⟩
  | .hbm, ⟨62, _⟩ => ⟨S8448x1, .i32⟩
  | .hbm, ⟨63, _⟩ => ⟨S8448x1, .i1⟩
  | .hbm, ⟨64, _⟩ => ⟨S8448, .i32⟩
  | .hbm, ⟨65, _⟩ => ⟨S1x8448, .i32⟩
  | .hbm, ⟨66, _⟩ => ⟨S_, .i32⟩
  | .hbm, ⟨67, _⟩ => ⟨S1x8448, .i32⟩
  | .hbm, ⟨68, _⟩ => ⟨S1x8448, .i1⟩
  | .hbm, ⟨69, _⟩ => ⟨S8448x8448, .i1⟩
  | .hbm, ⟨70, _⟩ => ⟨S8448x8448, .i1⟩
  | .hbm, ⟨71, _⟩ => ⟨S8448x8448, .i1⟩
  | .hbm, ⟨72, _⟩ => ⟨S_, .f32⟩
  | .hbm, ⟨73, _⟩ => ⟨S_, .f32⟩
  | .hbm, ⟨74, _⟩ => ⟨S2x4x8448x8448, .i1⟩
  | .hbm, ⟨75, _⟩ => ⟨S2x4x8448x8448, .f32⟩
  | .hbm, ⟨76, _⟩ => ⟨S2x4x8448x8448, .f32⟩
  | .hbm, ⟨77, _⟩ => ⟨S_, .f32⟩
  | .hbm, ⟨78, _⟩ => ⟨S2x4x8448, .f32⟩
  | .hbm, ⟨79, _⟩ => ⟨S_, .f32⟩
  | .hbm, ⟨80, _⟩ => ⟨S2x4x8448, .f32⟩
  | .hbm, ⟨81, _⟩ => ⟨S2x4x8448, .f32⟩
  | .hbm, ⟨82, _⟩ => ⟨S2x4x8448x1, .f32⟩
  | .hbm, ⟨83, _⟩ => ⟨S2x4x8448x8448, .f32⟩
  | .hbm, ⟨84, _⟩ => ⟨S2x4x8448x8448, .f32⟩
  | .hbm, ⟨85, _⟩ => ⟨S2x4x8448x8448, .f32⟩
  | .hbm, ⟨86, _⟩ => ⟨S_, .f32⟩
  | .hbm, ⟨87, _⟩ => ⟨S2x4x8448, .f32⟩
  | .hbm, ⟨88, _⟩ => ⟨S2x4x8448x1, .f32⟩
  | .hbm, ⟨89, _⟩ => ⟨S2x4x8448x8448, .f32⟩
  | .hbm, ⟨90, _⟩ => ⟨S2x4x8448x8448, .f32⟩
  | .hbm, ⟨91, _⟩ => ⟨S8448x2x128, .f32⟩
  | .hbm, ⟨92, _⟩ => ⟨S2x128x4x8448, .f32⟩
  | .hbm, ⟨93, _⟩ => ⟨S8448x2x4x128, .f32⟩
  | .hbm, ⟨94, _⟩ => ⟨S8448x1024, .f32⟩
  | .hbm, ⟨95, _⟩ => ⟨S8448x1024, .f32⟩
  | .hbm, ⟨96, _⟩ => ⟨S8448x8x128, .f32⟩
  | .hbm, ⟨97, _⟩ => ⟨S_, .f32⟩
  | .hbm, ⟨98, _⟩ => ⟨S8448x8, .f32⟩
  | .hbm, ⟨99, _⟩ => ⟨S8x8448, .f32⟩
  | .hbm, ⟨100, _⟩ => ⟨S8x8448x1, .f32⟩
  | .hbm, ⟨101, _⟩ => ⟨S8448x256, .f32⟩
  | .hbm, ⟨102, _⟩ => ⟨S8448x256, .f32⟩
  | .local _ .vmem, ⟨0, _⟩ => ⟨S256x512, .bf16⟩
  | .local _ .vmem, ⟨1, _⟩ => ⟨S256x512, .bf16⟩
  | .local _ .vmem, ⟨2, _⟩ => ⟨S768x128, .bf16⟩
  | .local _ .vmem, ⟨3, _⟩ => ⟨S768x128, .bf16⟩
  | .local _ .vmem, ⟨4, _⟩ => ⟨S768x128, .bf16⟩
  | .local _ .vmem, ⟨5, _⟩ => ⟨S768x128, .bf16⟩
  | .local _ .vmem, ⟨6, _⟩ => ⟨S256x512, .f32⟩
  | .local _ .vmem, ⟨7, _⟩ => ⟨S256x512, .f32⟩
  | .local _ .vmem, ⟨8, _⟩ => ⟨S4x256x1, .f32⟩
  | .local _ .vmem, ⟨9, _⟩ => ⟨S4x256x1, .f32⟩
  | .local _ .vmem, ⟨10, _⟩ => ⟨S4x256x1, .f32⟩
  | .local _ .vmem, ⟨11, _⟩ => ⟨S4x256x1, .f32⟩
  | .local _ .vmem, ⟨12, _⟩ => ⟨S768x128, .f32⟩
  | .local _ .vmem, ⟨13, _⟩ => ⟨S768x128, .f32⟩
  | .local _ .vmem, ⟨14, _⟩ => ⟨S768x128, .f32⟩
  | .local _ .vmem, ⟨15, _⟩ => ⟨S768x128, .f32⟩
  | .local _ .vmem, ⟨16, _⟩ => ⟨S768x128, .f32⟩
  | .local _ .vmem, ⟨17, _⟩ => ⟨S768x128, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_8 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_13 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75_0 : Ref sig .tc := ⟨.hbm, 101, rfl⟩
abbrev main_v75_1 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 11, 33], ![false, false, false]⟩

def k0_cond4 (i : grid0.Coords) : BitVec 1 :=
  let arg2 : BitVec 32 := BitVec.ofNat 32 (i 2).val
  let c32_i32 : BitVec 32 := 32#32
  let v12 : BitVec 1 := Scalar.cmpi .eq arg2 c32_i32
  let v13 : BitVec 32 := Scalar.extui v12
  let c0_i32_3 : BitVec 32 := 0#32
  let v14 : BitVec 1 := Scalar.cmpi .ne v13 c0_i32_3
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S768x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S4x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S4x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S768x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S768x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== DkvIdeal.lean ====
variable {F : FTy → Type} [FloatOps F] [Named F]
def κ : String → Option EReal := fun
  | "hidden" => some ⊥
  | "ln2" => some ((Real.log 2 : ℝ) : EReal)
  | "log2e" => some (((Real.log 2)⁻¹ : ℝ) : EReal)
  | _ => none
-- ==== DkvRefIdeal.lean ====
abbrev S8448x1024 : Shape := ⟨2, ![8448, 1024]⟩
abbrev S8448x256 : Shape := ⟨2, ![8448, 256]⟩
abbrev S8448x2x4x128 : Shape := ⟨4, ![8448, 2, 4, 128]⟩
abbrev S8448x2x128 : Shape := ⟨3, ![8448, 2, 128]⟩
abbrev S2x8448x8448x4 : Shape := ⟨4, ![2, 8448, 8448, 4]⟩
abbrev S2x4x8448x8448 : Shape := ⟨4, ![2, 4, 8448, 8448]⟩
abbrev S_ : Shape := ⟨0, ![]⟩
abbrev S8448 : Shape := ⟨1, ![8448]⟩
abbrev S8448x1 : Shape := ⟨2, ![8448, 1]⟩
abbrev S1x8448 : Shape := ⟨2, ![1, 8448]⟩
abbrev S8448x8448 : Shape := ⟨2, ![8448, 8448]⟩
abbrev S2x4x8448 : Shape := ⟨3, ![2, 4, 8448]⟩
abbrev S2x4x8448x1 : Shape := ⟨4, ![2, 4, 8448, 1]⟩
abbrev S2x128x4x8448 : Shape := ⟨4, ![2, 128, 4, 8448]⟩
abbrev S2x128x8448 : Shape := ⟨3, ![2, 128, 8448]⟩
abbrev S2x8448x4x128 : Shape := ⟨4, ![2, 8448, 4, 128]⟩
abbrev S2x8448x128 : Shape := ⟨3, ![2, 8448, 128]⟩

abbrev nBuf : Space → Nat
  | .hbm => 106
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x256, .f32⟩
  | .hbm, ⟨2, _⟩ => ⟨S8448x256, .f32⟩
  | .hbm, ⟨3, _⟩ => ⟨S8448x1024, .f32⟩
  | .hbm, ⟨4, _⟩ => ⟨S8448x2x4x128, .f32⟩
  | .hbm, ⟨5, _⟩ => ⟨S8448x2x128, .f32⟩
  | .hbm, ⟨6, _⟩ => ⟨S2x8448x8448x4, .f32⟩
  | .hbm, ⟨7, _⟩ => ⟨S2x4x8448x8448, .f32⟩
  | .hbm, ⟨8, _⟩ => ⟨S_, .f32⟩
  | .hbm, ⟨9, _⟩ => ⟨S2x4x8448x8448, .f32⟩
  | .hbm, ⟨10, _⟩ => ⟨S2x4x8448x8448, .f32⟩
  | .hbm, ⟨11, _⟩ => ⟨S8448, .i32⟩
  | .hbm, ⟨12, _⟩ => ⟨S8448x1, .i32⟩
  | .hbm, ⟨13, _⟩ => ⟨S_, .i32⟩
  | .hbm, ⟨14, _⟩ => ⟨S8448x1, .i32⟩
  | .hbm, ⟨15, _⟩ => ⟨S8448x1, .i1⟩
  | .hbm, ⟨16, _⟩ => ⟨S8448, .i32⟩
  | .hbm, ⟨17, _⟩ => ⟨S1x8448, .i32⟩
  | .hbm, ⟨18, _⟩ => ⟨S_, .i32⟩
  | .hbm, ⟨19, _⟩ => ⟨S1x8448, .i32⟩
  | .hbm, ⟨20, _⟩ => ⟨S1x8448, .i1⟩
  | .hbm, ⟨21, _⟩ => ⟨S8448x8448, .i1⟩
  | .hbm, ⟨22, _⟩ => ⟨S8448x8448, .i1⟩
  | .hbm, ⟨23, _⟩ => ⟨S8448x8448, .i1⟩
  | .hbm, ⟨24, _⟩ => ⟨S_, .f32⟩
  | .hbm, ⟨25, _⟩ => ⟨S_, .f32⟩
  | .hbm, ⟨26, _⟩ => ⟨S2x4x8448x8448, .i1⟩
  | .hbm, ⟨27, _⟩ => ⟨S2x4x8448x8448, .f32⟩
  | .hbm, ⟨28, _⟩ => ⟨S2x4x8448x8448, .f32⟩
  | .hbm, ⟨29, _⟩ => ⟨S_, .f32⟩
  | .hbm, ⟨30, _⟩ => ⟨S2x4x8448x8448, .f32⟩
  | .hbm, ⟨31, _⟩ => ⟨S_, .f32⟩
  | .hbm, ⟨32, _⟩ => ⟨S2x4x8448, .f32⟩
  | .hbm, ⟨33, _⟩ => ⟨S2x4x8448x1, .f32⟩
  | .hbm, ⟨34, _⟩ => ⟨S2x4x8448x8448, .f32⟩
  | .hbm, ⟨35, _⟩ => ⟨S2x4x8448x8448, .i1⟩
  | .hbm, ⟨36, _⟩ => ⟨S2x4x8448x8448, .f32⟩
  | .hbm, ⟨37, _⟩ => ⟨S_, .f32⟩
  | .hbm, ⟨38, _⟩ => ⟨S2x4x8448, .f32⟩
  | .hbm, ⟨39, _⟩ => ⟨S_, .f32⟩
  | .hbm, ⟨40, _⟩ => ⟨S2x4x8448, .f32⟩
  | .hbm, ⟨41, _⟩ => ⟨S2x4x8448, .f32⟩
  | .hbm, ⟨42, _⟩ => ⟨S_, .f32⟩
  | .hbm, ⟨43, _⟩ => ⟨S2x4x8448, .f32⟩
  | .hbm, ⟨44, _⟩ => ⟨S2x4x8448, .i1⟩
  | .hbm, ⟨45, _⟩ => ⟨S_, .f32⟩
  | .hbm, ⟨46, _⟩ => ⟨S2x4x8448, .f32⟩
  | .hbm, ⟨47, _⟩ => ⟨S2x4x8448, .i1⟩
  | .hbm, ⟨48, _⟩ => ⟨S_, .f32⟩
  | .hbm, ⟨49, _⟩ => ⟨S2x4x8448, .f32⟩
  | .hbm, ⟨50, _⟩ => ⟨S_, .f32⟩
  | .hbm, ⟨51, _⟩ => ⟨S2x4x8448, .f32⟩
  | .hbm, ⟨52, _⟩ => ⟨S_, .f32⟩
  | .hbm, ⟨53, _⟩ => ⟨S2x4x8448, .f32⟩
  | .hbm, ⟨54, _⟩ => ⟨S2x4x8448, .f32⟩
  | .hbm, ⟨55, _⟩ => ⟨S2x4x8448, .f32⟩
  | .hbm, ⟨56, _⟩ => ⟨S2x4x8448x1, .f32⟩
  | .hbm, ⟨57, _⟩ => ⟨S2x4x8448x8448, .f32⟩
  | .hbm, ⟨58, _⟩ => ⟨S2x4x8448x8448, .f32⟩
  | .hbm, ⟨59, _⟩ => ⟨S2x4x8448x8448, .f32⟩
  | .hbm, ⟨60, _⟩ => ⟨S_, .f32⟩
  | .hbm, ⟨61, _⟩ => ⟨S2x4x8448, .f32⟩
  | .hbm, ⟨62, _⟩ => ⟨S2x4x8448x1, .f32⟩
  | .hbm, ⟨63, _⟩ => ⟨S2x4x8448x8448, .f32⟩
  | .hbm, ⟨64, _⟩ => ⟨S2x4x8448x8448, .f32⟩
  | .hbm, ⟨65, _⟩ => ⟨S2x4x8448x1, .f32⟩
  | .hbm, ⟨66, _⟩ => ⟨S_, .f32⟩
  | .hbm, ⟨67, _⟩ => ⟨S2x4x8448x1, .f32⟩
  | .hbm, ⟨68, _⟩ => ⟨S2x4x8448x1, .f32⟩
  | .hbm, ⟨69, _⟩ => ⟨S8448x2x128, .f32⟩
  | .hbm, ⟨70, _⟩ => ⟨S2x128x4x8448, .f32⟩
  | .hbm, ⟨71, _⟩ => ⟨S8448x2x4x128, .f32⟩
  | .hbm, ⟨72, _⟩ => ⟨S8448x1024, .f32⟩
  | .hbm, ⟨73, _⟩ => ⟨S8448x2x4x128, .f32⟩
  | .hbm, ⟨74, _⟩ => ⟨S2x128x4x8448, .f32⟩
  | .hbm, ⟨75, _⟩ => ⟨S2x4x8448x8448, .f32⟩
  | .hbm, ⟨76, _⟩ => ⟨S2x128x8448, .f32⟩
  | .hbm, ⟨77, _⟩ => ⟨S8448x2x128, .f32⟩
  | .hbm, ⟨78, _⟩ => ⟨S8448x256, .f32⟩
  | .hbm, ⟨79, _⟩ => ⟨S2x4x8448x8448, .f32⟩
  | .hbm, ⟨80, _⟩ => ⟨S2x4x8448x8448, .f32⟩
  | .hbm, ⟨81, _⟩ => ⟨S2x4x8448x8448, .f32⟩
  | .hbm, ⟨82, _⟩ => ⟨S_, .f32⟩
  | .hbm, ⟨83, _⟩ => ⟨S2x4x8448, .f32⟩
  | .hbm, ⟨84, _⟩ => ⟨S2x4x8448x1, .f32⟩
  | .hbm, ⟨85, _⟩ => ⟨S2x4x8448x1, .f32⟩
  | .hbm, ⟨86, _⟩ => ⟨S2x4x8448x8448, .f32⟩
  | .hbm, ⟨87, _⟩ => ⟨S2x4x8448x8448, .f32⟩
  | .hbm, ⟨88, _⟩ => ⟨S_, .f32⟩
  | .hbm, ⟨89, _⟩ => ⟨S2x4x8448, .f32⟩
  | .hbm, ⟨90, _⟩ => ⟨S2x4x8448x8448, .f32⟩
  | .hbm, ⟨91, _⟩ => ⟨S2x4x8448x8448, .f32⟩
  | .hbm, ⟨92, _⟩ => ⟨S2x4x8448x8448, .f32⟩
  | .hbm, ⟨93, _⟩ => ⟨S_, .f32⟩
  | .hbm, ⟨94, _⟩ => ⟨S2x4x8448x8448, .f32⟩
  | .hbm, ⟨95, _⟩ => ⟨S2x4x8448x8448, .f32⟩
  | .hbm, ⟨96, _⟩ => ⟨S_, .f32⟩
  | .hbm, ⟨97, _⟩ => ⟨S2x4x8448x8448, .f32⟩
  | .hbm, ⟨98, _⟩ => ⟨S2x4x8448x8448, .f32⟩
  | .hbm, ⟨99, _⟩ => ⟨S2x8448x8448x4, .f32⟩
  | .hbm, ⟨100, _⟩ => ⟨S2x8448x4x128, .f32⟩
  | .hbm, ⟨101, _⟩ => ⟨S8448x2x4x128, .f32⟩
  | .hbm, ⟨102, _⟩ => ⟨S2x8448x128, .f32⟩
  | .hbm, ⟨103, _⟩ => ⟨S8448x2x128, .f32⟩
  | .hbm, ⟨104, _⟩ => ⟨S8448x256, .f32⟩
  | .hbm, ⟨105, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_call0_v0 : Ref sig .tc := ⟨.hbm, 25, rfl⟩
abbrev main_v17_1 : Ref sig .tc := ⟨.hbm, 26, rfl⟩
abbrev main_call0_v2 : Ref sig .tc := ⟨.hbm, 27, rfl⟩
abbrev main_v17_0 : Ref sig .tc := ⟨.hbm, 28, rfl⟩
abbrev main_call0_cst : Ref sig .tc := ⟨.hbm, 29, rfl⟩
abbrev main_v17_2 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_cst_9 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_11 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_13 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_call1_cst : Ref sig .tc := ⟨.hbm, 93, rfl⟩
abbrev main_call1_v0 : Ref sig .tc := ⟨.hbm, 94, rfl⟩
abbrev main_v68 : Ref sig .tc := ⟨.hbm, 95, rfl⟩
abbrev main_cst_14 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩

abbrev nD : Nat := 1
abbrev τ : Topo := Topo.v7x

variable {F : FTy → Type} [FloatOps F]

def κ : String → Option EReal := fun
  | "hidden" => some ⊥
  | "ln2" => some ((Real.log 2 : ℝ) : EReal)
  | "log2e" => some (((Real.log 2)⁻¹ : ℝ) : EReal)
  | _ => none
-- ==== Fwd.lean ====
abbrev S8448x1024 : Shape := ⟨2, ![8448, 1024]⟩
abbrev S8448x256 : Shape := ⟨2, ![8448, 256]⟩
abbrev S_ : Shape := ⟨0, ![]⟩
abbrev S8x8448x1 : Shape := ⟨3, ![8, 8448, 1]⟩
abbrev S256x512 : Shape := ⟨2, ![256, 512]⟩
abbrev S2816x128 : Shape := ⟨2, ![2816, 128]⟩
abbrev S4x256x1 : Shape := ⟨3, ![4, 256, 1]⟩
abbrev S4x256x256 : Shape := ⟨3, ![4, 256, 256]⟩
abbrev S1x2816 : Shape := ⟨2, ![1, 2816]⟩
abbrev S2816x256 : Shape := ⟨2, ![2816, 256]⟩
abbrev S256x128 : Shape := ⟨2, ![256, 128]⟩
abbrev S1x256x1 : Shape := ⟨3, ![1, 256, 1]⟩
abbrev S256x1 : Shape := ⟨2, ![256, 1]⟩
abbrev S1x256x256 : Shape := ⟨3, ![1, 256, 256]⟩
abbrev S256x256 : Shape := ⟨2, ![256, 256]⟩
abbrev S256x2816 : Shape := ⟨2, ![256, 2816]⟩
abbrev S256 : Shape := ⟨1, ![256]⟩

abbrev nBuf : Space → Nat
  | .hbm => 16
  | .vmem => 12
  | .smem => 0
  | _ => 0

abbrev bufTy : (tb : Table) → Fin (tcTables nBuf tb) → BufTy
  | .hbm, ⟨0, _⟩ => ⟨S8448x1024, .f32⟩
  | .hbm, ⟨1, _⟩ => ⟨S8448x256, .f32⟩
  | .hbm, ⟨2, _⟩ => ⟨S8448x256, .f32⟩
  | .hbm, ⟨3, _⟩ => ⟨S_, .f32⟩
  | .hbm, ⟨4, _⟩ => ⟨S8448x1024, .f32⟩
  | .hbm, ⟨5, _⟩ => ⟨S8448x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8448x1024, .f32⟩
  | .hbm, ⟨10, _⟩ => ⟨S8448x1024, .f32⟩
  | .hbm, ⟨11, _⟩ => ⟨S8448x1024, .bf16⟩
  | .hbm, ⟨12, _⟩ => ⟨S8448x256, .bf16⟩
  | .hbm, ⟨13, _⟩ => ⟨S8448x256, .bf16⟩
  | .hbm, ⟨14, _⟩ => ⟨S8448x1024, .f32⟩
  | .hbm, ⟨15, _⟩ => ⟨S8x8448x1, .f32⟩
  | .local _ .vmem, ⟨0, _⟩ => ⟨S256x512, .bf16⟩
  | .local _ .vmem, ⟨1, _⟩ => ⟨S256x512, .bf16⟩
  | .local _ .vmem, ⟨2, _⟩ => ⟨S2816x128, .bf16⟩
  | .local _ .vmem, ⟨3, _⟩ => ⟨S2816x128, .bf16⟩
  | .local _ .vmem, ⟨4, _⟩ => ⟨S2816x128, .bf16⟩
  | .local _ .vmem, ⟨5, _⟩ => ⟨S2816x128, .bf16⟩
  | .local _ .vmem, ⟨6, _⟩ => ⟨S256x512, .f32⟩
  | .local _ .vmem, ⟨7, _⟩ => ⟨S256x512, .f32⟩
  | .local _ .vmem, ⟨8, _⟩ => ⟨S4x256x1, .f32⟩
  | .local _ .vmem, ⟨9, _⟩ => ⟨S4x256x1, .f32⟩
  | .local _ .vmem, ⟨10, _⟩ => ⟨S4x256x1, .f32⟩
  | .local _ .vmem, ⟨11, _⟩ => ⟨S4x256x256, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 33, 3], ![false, false, false]⟩

def k0_cond4 (i : grid0.Coords) : BitVec 1 :=
  let arg2 : BitVec 32 := BitVec.ofNat 32 (i 2).val
  let c2_i32 : BitVec 32 := 2#32
  let v12 : BitVec 1 := Scalar.cmpi .eq arg2 c2_i32
  let v13 : BitVec 32 := Scalar.extui v12
  let c0_i32_3 : BitVec 32 := 0#32
  let v14 : BitVec 1 := Scalar.cmpi .ne v13 c0_i32_3
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2816x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2816x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FwdIdeal.lean ====
variable {F : FTy → Type} [FloatOps F] [Named F]
def κ : String → Option EReal := fun
  | "hidden" => some ⊥
  | "ln2" => some ((Real.log 2 : ℝ) : EReal)
  | "log2e" => some (((Real.log 2)⁻¹ : ℝ) : EReal)
  | _ => none
-- ==== FwdRefIdeal.lean ====
abbrev S8448x1024 : Shape := ⟨2, ![8448, 1024]⟩
abbrev S8448x256 : Shape := ⟨2, ![8448, 256]⟩
abbrev S8448x2x4x128 : Shape := ⟨4, ![8448, 2, 4, 128]⟩
abbrev S8448x2x128 : Shape := ⟨3, ![8448, 2, 128]⟩
abbrev S2x8448x8448x4 : Shape := ⟨4, ![2, 8448, 8448, 4]⟩
abbrev S2x4x8448x8448 : Shape := ⟨4, ![2, 4, 8448, 8448]⟩
abbrev S_ : Shape := ⟨0, ![]⟩
abbrev S8448 : Shape := ⟨1, ![8448]⟩
abbrev S8448x1 : Shape := ⟨2, ![8448, 1]⟩
abbrev S1x8448 : Shape := ⟨2, ![1, 8448]⟩
abbrev S8448x8448 : Shape := ⟨2, ![8448, 8448]⟩
abbrev S2x4x8448 : Shape := ⟨3, ![2, 4, 8448]⟩
abbrev S2x4x8448x1 : Shape := ⟨4, ![2, 4, 8448, 1]⟩
abbrev S2x128x4x8448 : Shape := ⟨4, ![2, 128, 4, 8448]⟩
abbrev S8x8448x1 : Shape := ⟨3, ![8, 8448, 1]⟩

abbrev nBuf : Space → Nat
  | .hbm => 83
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x256, .f32⟩
  | .hbm, ⟨2, _⟩ => ⟨S8448x256, .f32⟩
  | .hbm, ⟨3, _⟩ => ⟨S8448x2x4x128, .f32⟩
  | .hbm, ⟨4, _⟩ => ⟨S8448x2x128, .f32⟩
  | .hbm, ⟨5, _⟩ => ⟨S2x8448x8448x4, .f32⟩
  | .hbm, ⟨6, _⟩ => ⟨S2x4x8448x8448, .f32⟩
  | .hbm, ⟨7, _⟩ => ⟨S_, .f32⟩
  | .hbm, ⟨8, _⟩ => ⟨S2x4x8448x8448, .f32⟩
  | .hbm, ⟨9, _⟩ => ⟨S2x4x8448x8448, .f32⟩
  | .hbm, ⟨10, _⟩ => ⟨S8448, .i32⟩
  | .hbm, ⟨11, _⟩ => ⟨S8448x1, .i32⟩
  | .hbm, ⟨12, _⟩ => ⟨S_, .i32⟩
  | .hbm, ⟨13, _⟩ => ⟨S8448x1, .i32⟩
  | .hbm, ⟨14, _⟩ => ⟨S8448x1, .i1⟩
  | .hbm, ⟨15, _⟩ => ⟨S8448, .i32⟩
  | .hbm, ⟨16, _⟩ => ⟨S1x8448, .i32⟩
  | .hbm, ⟨17, _⟩ => ⟨S_, .i32⟩
  | .hbm, ⟨18, _⟩ => ⟨S1x8448, .i32⟩
  | .hbm, ⟨19, _⟩ => ⟨S1x8448, .i1⟩
  | .hbm, ⟨20, _⟩ => ⟨S8448x8448, .i1⟩
  | .hbm, ⟨21, _⟩ => ⟨S8448x8448, .i1⟩
  | .hbm, ⟨22, _⟩ => ⟨S8448x8448, .i1⟩
  | .hbm, ⟨23, _⟩ => ⟨S_, .f32⟩
  | .hbm, ⟨24, _⟩ => ⟨S_, .f32⟩
  | .hbm, ⟨25, _⟩ => ⟨S2x4x8448x8448, .i1⟩
  | .hbm, ⟨26, _⟩ => ⟨S2x4x8448x8448, .f32⟩
  | .hbm, ⟨27, _⟩ => ⟨S2x4x8448x8448, .f32⟩
  | .hbm, ⟨28, _⟩ => ⟨S_, .f32⟩
  | .hbm, ⟨29, _⟩ => ⟨S2x4x8448, .f32⟩
  | .hbm, ⟨30, _⟩ => ⟨S_, .f32⟩
  | .hbm, ⟨31, _⟩ => ⟨S2x4x8448, .f32⟩
  | .hbm, ⟨32, _⟩ => ⟨S2x4x8448, .f32⟩
  | .hbm, ⟨33, _⟩ => ⟨S2x4x8448x1, .f32⟩
  | .hbm, ⟨34, _⟩ => ⟨S2x4x8448x8448, .f32⟩
  | .hbm, ⟨35, _⟩ => ⟨S2x4x8448x8448, .f32⟩
  | .hbm, ⟨36, _⟩ => ⟨S2x4x8448x8448, .f32⟩
  | .hbm, ⟨37, _⟩ => ⟨S_, .f32⟩
  | .hbm, ⟨38, _⟩ => ⟨S2x4x8448, .f32⟩
  | .hbm, ⟨39, _⟩ => ⟨S2x4x8448x1, .f32⟩
  | .hbm, ⟨40, _⟩ => ⟨S2x4x8448x8448, .f32⟩
  | .hbm, ⟨41, _⟩ => ⟨S2x4x8448x8448, .f32⟩
  | .hbm, ⟨42, _⟩ => ⟨S8448x2x128, .f32⟩
  | .hbm, ⟨43, _⟩ => ⟨S2x128x4x8448, .f32⟩
  | .hbm, ⟨44, _⟩ => ⟨S8448x2x4x128, .f32⟩
  | .hbm, ⟨45, _⟩ => ⟨S8448x1024, .f32⟩
  | .hbm, ⟨46, _⟩ => ⟨S8448x2x4x128, .f32⟩
  | .hbm, ⟨47, _⟩ => ⟨S8448x2x128, .f32⟩
  | .hbm, ⟨48, _⟩ => ⟨S2x8448x8448x4, .f32⟩
  | .hbm, ⟨49, _⟩ => ⟨S2x4x8448x8448, .f32⟩
  | .hbm, ⟨50, _⟩ => ⟨S_, .f32⟩
  | .hbm, ⟨51, _⟩ => ⟨S2x4x8448x8448, .f32⟩
  | .hbm, ⟨52, _⟩ => ⟨S2x4x8448x8448, .f32⟩
  | .hbm, ⟨53, _⟩ => ⟨S8448, .i32⟩
  | .hbm, ⟨54, _⟩ => ⟨S8448x1, .i32⟩
  | .hbm, ⟨55, _⟩ => ⟨S_, .i32⟩
  | .hbm, ⟨56, _⟩ => ⟨S8448x1, .i32⟩
  | .hbm, ⟨57, _⟩ => ⟨S8448x1, .i1⟩
  | .hbm, ⟨58, _⟩ => ⟨S8448, .i32⟩
  | .hbm, ⟨59, _⟩ => ⟨S1x8448, .i32⟩
  | .hbm, ⟨60, _⟩ => ⟨S_, .i32⟩
  | .hbm, ⟨61, _⟩ => ⟨S1x8448, .i32⟩
  | .hbm, ⟨62, _⟩ => ⟨S1x8448, .i1⟩
  | .hbm, ⟨63, _⟩ => ⟨S8448x8448, .i1⟩
  | .hbm, ⟨64, _⟩ => ⟨S8448x8448, .i1⟩
  | .hbm, ⟨65, _⟩ => ⟨S8448x8448, .i1⟩
  | .hbm, ⟨66, _⟩ => ⟨S_, .f32⟩
  | .hbm, ⟨67, _⟩ => ⟨S_, .f32⟩
  | .hbm, ⟨68, _⟩ => ⟨S2x4x8448x8448, .i1⟩
  | .hbm, ⟨69, _⟩ => ⟨S2x4x8448x8448, .f32⟩
  | .hbm, ⟨70, _⟩ => ⟨S2x4x8448x8448, .f32⟩
  | .hbm, ⟨71, _⟩ => ⟨S_, .f32⟩
  | .hbm, ⟨72, _⟩ => ⟨S2x4x8448, .f32⟩
  | .hbm, ⟨73, _⟩ => ⟨S2x4x8448x1, .f32⟩
  | .hbm, ⟨74, _⟩ => ⟨S2x4x8448x8448, .f32⟩
  | .hbm, ⟨75, _⟩ => ⟨S2x4x8448x8448, .f32⟩
  | .hbm, ⟨76, _⟩ => ⟨S2x4x8448x8448, .f32⟩
  | .hbm, ⟨77, _⟩ => ⟨S_, .f32⟩
  | .hbm, ⟨78, _⟩ => ⟨S2x4x8448, .f32⟩
  | .hbm, ⟨79, _⟩ => ⟨S2x4x8448x1, .f32⟩
  | .hbm, ⟨80, _⟩ => ⟨S2x4x8448x1, .f32⟩
  | .hbm, ⟨81, _⟩ => ⟨S2x4x8448x1, .f32⟩
  | .hbm, ⟨82, _⟩ => ⟨S8x8448x1, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_7 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_10 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]

def κ : String → Option EReal := fun
  | "hidden" => some ⊥
  | "ln2" => some ((Real.log 2 : ℝ) : EReal)
  | "log2e" => some (((Real.log 2)⁻¹ : ℝ) : EReal)
  | _ => none
-- ==== InDx.lean ====
abbrev S8448x2048 : Shape := ⟨2, ![8448, 2048]⟩
abbrev S2048x11264 : Shape := ⟨2, ![2048, 11264]⟩
abbrev S8448x11264 : Shape := ⟨2, ![8448, 11264]⟩
abbrev S768x2816 : Shape := ⟨2, ![768, 2816]⟩
abbrev S1024x2816 : Shape := ⟨2, ![1024, 2816]⟩
abbrev S768x1024 : Shape := ⟨2, ![768, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S2048x11264, .f32⟩
  | .hbm, ⟨2, _⟩ => ⟨S8448x11264, .f32⟩
  | .hbm, ⟨3, _⟩ => ⟨S8448x11264, .bf16⟩
  | .hbm, ⟨4, _⟩ => ⟨S2048x11264, .bf16⟩
  | .hbm, ⟨5, _⟩ => ⟨S8448x2048, .f32⟩
  | .local _ .vmem, ⟨0, _⟩ => ⟨S768x2816, .bf16⟩
  | .local _ .vmem, ⟨1, _⟩ => ⟨S768x2816, .bf16⟩
  | .local _ .vmem, ⟨2, _⟩ => ⟨S1024x2816, .bf16⟩
  | .local _ .vmem, ⟨3, _⟩ => ⟨S1024x2816, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S8448x2048 : Shape := ⟨2, ![8448, 2048]⟩
abbrev S2048x11264 : Shape := ⟨2, ![2048, 11264]⟩
abbrev S8448x11264 : Shape := ⟨2, ![8448, 11264]⟩
abbrev S11264x2048 : Shape := ⟨2, ![11264, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x11264, .f32⟩
  | .hbm, ⟨2, _⟩ => ⟨S8448x11264, .f32⟩
  | .hbm, ⟨3, _⟩ => ⟨S8448x11264, .f32⟩
  | .hbm, ⟨4, _⟩ => ⟨S11264x2048, .f32⟩
  | .hbm, ⟨5, _⟩ => ⟨S2048x11264, .f32⟩
  | .hbm, ⟨6, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InDw.lean ====
abbrev S8448x2048 : Shape := ⟨2, ![8448, 2048]⟩
abbrev S2048x11264 : Shape := ⟨2, ![2048, 11264]⟩
abbrev S8448x11264 : Shape := ⟨2, ![8448, 11264]⟩
abbrev S4224x512 : Shape := ⟨2, ![4224, 512]⟩
abbrev S4224x1024 : Shape := ⟨2, ![4224, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S2048x11264, .f32⟩
  | .hbm, ⟨2, _⟩ => ⟨S8448x11264, .f32⟩
  | .hbm, ⟨3, _⟩ => ⟨S8448x2048, .bf16⟩
  | .hbm, ⟨4, _⟩ => ⟨S8448x11264, .bf16⟩
  | .hbm, ⟨5, _⟩ => ⟨S2048x11264, .f32⟩
  | .local _ .vmem, ⟨0, _⟩ => ⟨S4224x512, .bf16⟩
  | .local _ .vmem, ⟨1, _⟩ => ⟨S4224x512, .bf16⟩
  | .local _ .vmem, ⟨2, _⟩ => ⟨S4224x1024, .bf16⟩
  | .local _ .vmem, ⟨3, _⟩ => ⟨S4224x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S8448x2048 : Shape := ⟨2, ![8448, 2048]⟩
abbrev S2048x11264 : Shape := ⟨2, ![2048, 11264]⟩
abbrev S8448x11264 : Shape := ⟨2, ![8448, 11264]⟩
abbrev S11264x2048 : Shape := ⟨2, ![11264, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x11264, .f32⟩
  | .hbm, ⟨2, _⟩ => ⟨S8448x11264, .f32⟩
  | .hbm, ⟨3, _⟩ => ⟨S8448x11264, .f32⟩
  | .hbm, ⟨4, _⟩ => ⟨S11264x2048, .f32⟩
  | .hbm, ⟨5, _⟩ => ⟨S2048x11264, .f32⟩
  | .hbm, ⟨6, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InFwd.lean ====
abbrev S8448x2048 : Shape := ⟨2, ![8448, 2048]⟩
abbrev S2048x11264 : Shape := ⟨2, ![2048, 11264]⟩
abbrev S8448x11264 : Shape := ⟨2, ![8448, 11264]⟩
abbrev S768x2048 : Shape := ⟨2, ![768, 2048]⟩
abbrev S2048x1024 : Shape := ⟨2, ![2048, 1024]⟩
abbrev S768x1024 : Shape := ⟨2, ![768, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S2048x11264, .f32⟩
  | .hbm, ⟨2, _⟩ => ⟨S8448x2048, .bf16⟩
  | .hbm, ⟨3, _⟩ => ⟨S2048x11264, .bf16⟩
  | .hbm, ⟨4, _⟩ => ⟨S8448x11264, .bf16⟩
  | .local _ .vmem, ⟨0, _⟩ => ⟨S768x2048, .bf16⟩
  | .local _ .vmem, ⟨1, _⟩ => ⟨S768x2048, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .bf16⟩
  | .local _ .vmem, ⟨5, _⟩ => ⟨S768x1024, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwdRefIdeal.lean ====
abbrev S8448x2048 : Shape := ⟨2, ![8448, 2048]⟩
abbrev S2048x11264 : Shape := ⟨2, ![2048, 11264]⟩
abbrev S8448x11264 : Shape := ⟨2, ![8448, 11264]⟩

abbrev nBuf : Space → Nat
  | .hbm => 4
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x11264, .f32⟩
  | .hbm, ⟨2, _⟩ => ⟨S8448x11264, .f32⟩
  | .hbm, ⟨3, _⟩ => ⟨S8448x11264, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutDx.lean ====
abbrev S8448x5632 : Shape := ⟨2, ![8448, 5632]⟩
abbrev S5632x2048 : Shape := ⟨2, ![5632, 2048]⟩
abbrev S8448x2048 : Shape := ⟨2, ![8448, 2048]⟩
abbrev S768x2048 : Shape := ⟨2, ![768, 2048]⟩
abbrev S512x2048 : Shape := ⟨2, ![512, 2048]⟩
abbrev S768x512 : Shape := ⟨2, ![768, 512]⟩

abbrev nBuf : Space → Nat
  | .hbm => 5
  | .vmem => 6
  | .smem => 0
  | _ => 0

abbrev bufTy : (tb : Table) → Fin (tcTables nBuf tb) → BufTy
  | .hbm, ⟨0, _⟩ => ⟨S8448x5632, .f32⟩
  | .hbm, ⟨1, _⟩ => ⟨S5632x2048, .f32⟩
  | .hbm, ⟨2, _⟩ => ⟨S8448x2048, .f32⟩
  | .hbm, ⟨3, _⟩ => ⟨S5632x2048, .bf16⟩
  | .hbm, ⟨4, _⟩ => ⟨S8448x5632, .f32⟩
  | .local _ .vmem, ⟨0, _⟩ => ⟨S768x2048, .f32⟩
  | .local _ .vmem, ⟨1, _⟩ => ⟨S768x2048, .f32⟩
  | .local _ .vmem, ⟨2, _⟩ => ⟨S512x2048, .bf16⟩
  | .local _ .vmem, ⟨3, _⟩ => ⟨S512x2048, .bf16⟩
  | .local _ .vmem, ⟨4, _⟩ => ⟨S768x512, .f32⟩
  | .local _ .vmem, ⟨5, _⟩ => ⟨S768x512, .f32⟩
  | _, _ => ⟨S8448x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S8448x5632 : Shape := ⟨2, ![8448, 5632]⟩
abbrev S5632x2048 : Shape := ⟨2, ![5632, 2048]⟩
abbrev S8448x2048 : Shape := ⟨2, ![8448, 2048]⟩
abbrev S2048x5632 : Shape := ⟨2, ![2048, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8448x5632, .f32⟩
  | .hbm, ⟨1, _⟩ => ⟨S5632x2048, .f32⟩
  | .hbm, ⟨2, _⟩ => ⟨S8448x2048, .f32⟩
  | .hbm, ⟨3, _⟩ => ⟨S8448x2048, .f32⟩
  | .hbm, ⟨4, _⟩ => ⟨S2048x5632, .f32⟩
  | .hbm, ⟨5, _⟩ => ⟨S5632x2048, .f32⟩
  | .hbm, ⟨6, _⟩ => ⟨S8448x5632, .f32⟩
  | _, _ => ⟨S8448x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDw.lean ====
abbrev S8448x5632 : Shape := ⟨2, ![8448, 5632]⟩
abbrev S5632x2048 : Shape := ⟨2, ![5632, 2048]⟩
abbrev S8448x2048 : Shape := ⟨2, ![8448, 2048]⟩
abbrev S2816x512 : Shape := ⟨2, ![2816, 512]⟩
abbrev S2816x1024 : Shape := ⟨2, ![2816, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8448x5632, .f32⟩
  | .hbm, ⟨1, _⟩ => ⟨S5632x2048, .f32⟩
  | .hbm, ⟨2, _⟩ => ⟨S8448x2048, .f32⟩
  | .hbm, ⟨3, _⟩ => ⟨S8448x5632, .bf16⟩
  | .hbm, ⟨4, _⟩ => ⟨S5632x2048, .f32⟩
  | .local _ .vmem, ⟨0, _⟩ => ⟨S2816x512, .bf16⟩
  | .local _ .vmem, ⟨1, _⟩ => ⟨S2816x512, .bf16⟩
  | .local _ .vmem, ⟨2, _⟩ => ⟨S2816x1024, .f32⟩
  | .local _ .vmem, ⟨3, _⟩ => ⟨S2816x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8448x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 3], ![false, false, false]⟩

def k0_cond3 (i : grid0.Coords) : BitVec 1 :=
  let arg2 : BitVec 32 := BitVec.ofNat 32 (i 2).val
  let c2_i32_6 : BitVec 32 := 2#32
  let v13 : BitVec 1 := Scalar.cmpi .eq arg2 c2_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S8448x5632 : Shape := ⟨2, ![8448, 5632]⟩
abbrev S5632x2048 : Shape := ⟨2, ![5632, 2048]⟩
abbrev S8448x2048 : Shape := ⟨2, ![8448, 2048]⟩
abbrev S2048x5632 : Shape := ⟨2, ![2048, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8448x5632, .f32⟩
  | .hbm, ⟨1, _⟩ => ⟨S5632x2048, .f32⟩
  | .hbm, ⟨2, _⟩ => ⟨S8448x2048, .f32⟩
  | .hbm, ⟨3, _⟩ => ⟨S8448x2048, .f32⟩
  | .hbm, ⟨4, _⟩ => ⟨S2048x5632, .f32⟩
  | .hbm, ⟨5, _⟩ => ⟨S5632x2048, .f32⟩
  | .hbm, ⟨6, _⟩ => ⟨S8448x5632, .f32⟩
  | _, _ => ⟨S8448x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutFwd.lean ====
abbrev S8448x5632 : Shape := ⟨2, ![8448, 5632]⟩
abbrev S5632x2048 : Shape := ⟨2, ![5632, 2048]⟩
abbrev S8448x2048 : Shape := ⟨2, ![8448, 2048]⟩
abbrev S768x2816 : Shape := ⟨2, ![768, 2816]⟩
abbrev S2816x1024 : Shape := ⟨2, ![2816, 1024]⟩
abbrev S768x1024 : Shape := ⟨2, ![768, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8448x5632, .f32⟩
  | .hbm, ⟨1, _⟩ => ⟨S5632x2048, .f32⟩
  | .hbm, ⟨2, _⟩ => ⟨S8448x5632, .bf16⟩
  | .hbm, ⟨3, _⟩ => ⟨S5632x2048, .bf16⟩
  | .hbm, ⟨4, _⟩ => ⟨S8448x2048, .f32⟩
  | .local _ .vmem, ⟨0, _⟩ => ⟨S768x2816, .bf16⟩
  | .local _ .vmem, ⟨1, _⟩ => ⟨S768x2816, .bf16⟩
  | .local _ .vmem, ⟨2, _⟩ => ⟨S2816x1024, .bf16⟩
  | .local _ .vmem, ⟨3, _⟩ => ⟨S2816x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8448x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutFwdRefIdeal.lean ====
abbrev S8448x5632 : Shape := ⟨2, ![8448, 5632]⟩
abbrev S5632x2048 : Shape := ⟨2, ![5632, 2048]⟩
abbrev S8448x2048 : Shape := ⟨2, ![8448, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8448x5632, .f32⟩
  | .hbm, ⟨1, _⟩ => ⟨S5632x2048, .f32⟩
  | .hbm, ⟨2, _⟩ => ⟨S8448x2048, .f32⟩
  | _, _ => ⟨S8448x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MixInDx.lean ====
abbrev S8448x2048 : Shape := ⟨2, ![8448, 2048]⟩
abbrev S2048x5648 : Shape := ⟨2, ![2048, 5648]⟩
abbrev S8448x5760 : Shape := ⟨2, ![8448, 5760]⟩
abbrev S2048x4096 : Shape := ⟨2, ![2048, 4096]⟩
abbrev S2048x1536 : Shape := ⟨2, ![2048, 1536]⟩
abbrev S2048x16 : Shape := ⟨2, ![2048, 16]⟩
abbrev S_ : Shape := ⟨0, ![]⟩
abbrev S2048x112 : Shape := ⟨2, ![2048, 112]⟩
abbrev S2048x5760 : Shape := ⟨2, ![2048, 5760]⟩
abbrev S768x1920 : Shape := ⟨2, ![768, 1920]⟩
abbrev S1024x1920 : Shape := ⟨2, ![1024, 1920]⟩
abbrev S768x1024 : Shape := ⟨2, ![768, 1024]⟩

abbrev nBuf : Space → Nat
  | .hbm => 11
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S2048x5648, .f32⟩
  | .hbm, ⟨2, _⟩ => ⟨S8448x5760, .f32⟩
  | .hbm, ⟨3, _⟩ => ⟨S2048x4096, .f32⟩
  | .hbm, ⟨4, _⟩ => ⟨S2048x1536, .f32⟩
  | .hbm, ⟨5, _⟩ => ⟨S2048x16, .f32⟩
  | .hbm, ⟨6, _⟩ => ⟨S_, .f32⟩
  | .hbm, ⟨7, _⟩ => ⟨S2048x112, .f32⟩
  | .hbm, ⟨8, _⟩ => ⟨S2048x5760, .f32⟩
  | .hbm, ⟨9, _⟩ => ⟨S2048x5760, .bf16⟩
  | .hbm, ⟨10, _⟩ => ⟨S8448x2048, .f32⟩
  | .local _ .vmem, ⟨0, _⟩ => ⟨S768x1920, .f32⟩
  | .local _ .vmem, ⟨1, _⟩ => ⟨S768x1920, .f32⟩
  | .local _ .vmem, ⟨2, _⟩ => ⟨S1024x1920, .bf16⟩
  | .local _ .vmem, ⟨3, _⟩ => ⟨S1024x1920, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 3], ![false, false, false]⟩

def k0_cond3 (i : grid0.Coords) : BitVec 1 :=
  let arg2 : BitVec 32 := BitVec.ofNat 32 (i 2).val
  let c2_i32_6 : BitVec 32 := 2#32
  let v13 : BitVec 1 := Scalar.cmpi .eq arg2 c2_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInDxRefIdeal.lean ====
abbrev S8448x2048 : Shape := ⟨2, ![8448, 2048]⟩
abbrev S2048x5648 : Shape := ⟨2, ![2048, 5648]⟩
abbrev S8448x5760 : Shape := ⟨2, ![8448, 5760]⟩
abbrev S2048x4096 : Shape := ⟨2, ![2048, 4096]⟩
abbrev S2048x1536 : Shape := ⟨2, ![2048, 1536]⟩
abbrev S2048x16 : Shape := ⟨2, ![2048, 16]⟩
abbrev S_ : Shape := ⟨0, ![]⟩
abbrev S2048x112 : Shape := ⟨2, ![2048, 112]⟩
abbrev S2048x5760 : Shape := ⟨2, ![2048, 5760]⟩
abbrev S5760x2048 : Shape := ⟨2, ![5760, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x5648, .f32⟩
  | .hbm, ⟨2, _⟩ => ⟨S8448x5760, .f32⟩
  | .hbm, ⟨3, _⟩ => ⟨S2048x4096, .f32⟩
  | .hbm, ⟨4, _⟩ => ⟨S2048x1536, .f32⟩
  | .hbm, ⟨5, _⟩ => ⟨S2048x16, .f32⟩
  | .hbm, ⟨6, _⟩ => ⟨S_, .f32⟩
  | .hbm, ⟨7, _⟩ => ⟨S2048x112, .f32⟩
  | .hbm, ⟨8, _⟩ => ⟨S2048x5760, .f32⟩
  | .hbm, ⟨9, _⟩ => ⟨S8448x5760, .f32⟩
  | .hbm, ⟨10, _⟩ => ⟨S5760x2048, .f32⟩
  | .hbm, ⟨11, _⟩ => ⟨S2048x5760, .f32⟩
  | .hbm, ⟨12, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== MixInDw.lean ====
abbrev S8448x2048 : Shape := ⟨2, ![8448, 2048]⟩
abbrev S2048x5648 : Shape := ⟨2, ![2048, 5648]⟩
abbrev S8448x5760 : Shape := ⟨2, ![8448, 5760]⟩
abbrev S2048x5760 : Shape := ⟨2, ![2048, 5760]⟩
abbrev S4224x512 : Shape := ⟨2, ![4224, 512]⟩
abbrev S4224x640 : Shape := ⟨2, ![4224, 640]⟩
abbrev S512x640 : Shape := ⟨2, ![512, 640]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S2048x5648, .f32⟩
  | .hbm, ⟨2, _⟩ => ⟨S8448x5760, .f32⟩
  | .hbm, ⟨3, _⟩ => ⟨S8448x2048, .bf16⟩
  | .hbm, ⟨4, _⟩ => ⟨S2048x5760, .f32⟩
  | .local _ .vmem, ⟨0, _⟩ => ⟨S4224x512, .bf16⟩
  | .local _ .vmem, ⟨1, _⟩ => ⟨S4224x512, .bf16⟩
  | .local _ .vmem, ⟨2, _⟩ => ⟨S4224x640, .f32⟩
  | .local _ .vmem, ⟨3, _⟩ => ⟨S4224x640, .f32⟩
  | .local _ .vmem, ⟨4, _⟩ => ⟨S512x640, .f32⟩
  | .local _ .vmem, ⟨5, _⟩ => ⟨S512x640, .f32⟩
  | .local _ .vmem, ⟨6, _⟩ => ⟨S512x640, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 9, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInDwRefIdeal.lean ====
abbrev S8448x2048 : Shape := ⟨2, ![8448, 2048]⟩
abbrev S2048x5648 : Shape := ⟨2, ![2048, 5648]⟩
abbrev S8448x5760 : Shape := ⟨2, ![8448, 5760]⟩
abbrev S2048x4096 : Shape := ⟨2, ![2048, 4096]⟩
abbrev S2048x1536 : Shape := ⟨2, ![2048, 1536]⟩
abbrev S2048x16 : Shape := ⟨2, ![2048, 16]⟩
abbrev S_ : Shape := ⟨0, ![]⟩
abbrev S2048x112 : Shape := ⟨2, ![2048, 112]⟩
abbrev S2048x5760 : Shape := ⟨2, ![2048, 5760]⟩
abbrev S5760x2048 : Shape := ⟨2, ![5760, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x5648, .f32⟩
  | .hbm, ⟨2, _⟩ => ⟨S8448x5760, .f32⟩
  | .hbm, ⟨3, _⟩ => ⟨S2048x4096, .f32⟩
  | .hbm, ⟨4, _⟩ => ⟨S2048x1536, .f32⟩
  | .hbm, ⟨5, _⟩ => ⟨S2048x16, .f32⟩
  | .hbm, ⟨6, _⟩ => ⟨S_, .f32⟩
  | .hbm, ⟨7, _⟩ => ⟨S2048x112, .f32⟩
  | .hbm, ⟨8, _⟩ => ⟨S2048x5760, .f32⟩
  | .hbm, ⟨9, _⟩ => ⟨S8448x5760, .f32⟩
  | .hbm, ⟨10, _⟩ => ⟨S5760x2048, .f32⟩
  | .hbm, ⟨11, _⟩ => ⟨S2048x5760, .f32⟩
  | .hbm, ⟨12, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== MixIn.lean ====
abbrev S8448x2048 : Shape := ⟨2, ![8448, 2048]⟩
abbrev S2048x5648 : Shape := ⟨2, ![2048, 5648]⟩
abbrev S2048x4096 : Shape := ⟨2, ![2048, 4096]⟩
abbrev S2048x1536 : Shape := ⟨2, ![2048, 1536]⟩
abbrev S2048x16 : Shape := ⟨2, ![2048, 16]⟩
abbrev S_ : Shape := ⟨0, ![]⟩
abbrev S2048x112 : Shape := ⟨2, ![2048, 112]⟩
abbrev S2048x5760 : Shape := ⟨2, ![2048, 5760]⟩
abbrev S8448x5760 : Shape := ⟨2, ![8448, 5760]⟩
abbrev S768x2048 : Shape := ⟨2, ![768, 2048]⟩
abbrev S2048x640 : Shape := ⟨2, ![2048, 640]⟩
abbrev S768x640 : Shape := ⟨2, ![768, 640]⟩

abbrev nBuf : Space → Nat
  | .hbm => 11
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S2048x5648, .f32⟩
  | .hbm, ⟨2, _⟩ => ⟨S8448x2048, .bf16⟩
  | .hbm, ⟨3, _⟩ => ⟨S2048x4096, .f32⟩
  | .hbm, ⟨4, _⟩ => ⟨S2048x1536, .f32⟩
  | .hbm, ⟨5, _⟩ => ⟨S2048x16, .f32⟩
  | .hbm, ⟨6, _⟩ => ⟨S_, .f32⟩
  | .hbm, ⟨7, _⟩ => ⟨S2048x112, .f32⟩
  | .hbm, ⟨8, _⟩ => ⟨S2048x5760, .f32⟩
  | .hbm, ⟨9, _⟩ => ⟨S2048x5760, .bf16⟩
  | .hbm, ⟨10, _⟩ => ⟨S8448x5760, .f32⟩
  | .local _ .vmem, ⟨0, _⟩ => ⟨S768x2048, .bf16⟩
  | .local _ .vmem, ⟨1, _⟩ => ⟨S768x2048, .bf16⟩
  | .local _ .vmem, ⟨2, _⟩ => ⟨S2048x640, .bf16⟩
  | .local _ .vmem, ⟨3, _⟩ => ⟨S2048x640, .bf16⟩
  | .local _ .vmem, ⟨4, _⟩ => ⟨S768x640, .f32⟩
  | .local _ .vmem, ⟨5, _⟩ => ⟨S768x640, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInRefIdeal.lean ====
abbrev S8448x2048 : Shape := ⟨2, ![8448, 2048]⟩
abbrev S2048x5648 : Shape := ⟨2, ![2048, 5648]⟩
abbrev S2048x4096 : Shape := ⟨2, ![2048, 4096]⟩
abbrev S2048x1536 : Shape := ⟨2, ![2048, 1536]⟩
abbrev S2048x16 : Shape := ⟨2, ![2048, 16]⟩
abbrev S_ : Shape := ⟨0, ![]⟩
abbrev S2048x112 : Shape := ⟨2, ![2048, 112]⟩
abbrev S2048x5760 : Shape := ⟨2, ![2048, 5760]⟩
abbrev S8448x5760 : Shape := ⟨2, ![8448, 5760]⟩

abbrev nBuf : Space → Nat
  | .hbm => 9
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x5648, .f32⟩
  | .hbm, ⟨2, _⟩ => ⟨S2048x4096, .f32⟩
  | .hbm, ⟨3, _⟩ => ⟨S2048x1536, .f32⟩
  | .hbm, ⟨4, _⟩ => ⟨S2048x16, .f32⟩
  | .hbm, ⟨5, _⟩ => ⟨S_, .f32⟩
  | .hbm, ⟨6, _⟩ => ⟨S2048x112, .f32⟩
  | .hbm, ⟨7, _⟩ => ⟨S2048x5760, .f32⟩
  | .hbm, ⟨8, _⟩ => ⟨S8448x5760, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MixOutDx.lean ====
abbrev S8448x2048 : Shape := ⟨2, ![8448, 2048]⟩
abbrev S2048x2048 : Shape := ⟨2, ![2048, 2048]⟩
abbrev S768x2048 : Shape := ⟨2, ![768, 2048]⟩
abbrev S1024x2048 : Shape := ⟨2, ![1024, 2048]⟩
abbrev S768x1024 : Shape := ⟨2, ![768, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S2048x2048, .f32⟩
  | .hbm, ⟨2, _⟩ => ⟨S8448x2048, .f32⟩
  | .hbm, ⟨3, _⟩ => ⟨S2048x2048, .bf16⟩
  | .hbm, ⟨4, _⟩ => ⟨S8448x2048, .f32⟩
  | .local _ .vmem, ⟨0, _⟩ => ⟨S768x2048, .f32⟩
  | .local _ .vmem, ⟨1, _⟩ => ⟨S768x2048, .f32⟩
  | .local _ .vmem, ⟨2, _⟩ => ⟨S1024x2048, .bf16⟩
  | .local _ .vmem, ⟨3, _⟩ => ⟨S1024x2048, .bf16⟩
  | .local _ .vmem, ⟨4, _⟩ => ⟨S768x1024, .f32⟩
  | .local _ .vmem, ⟨5, _⟩ => ⟨S768x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDxRefIdeal.lean ====
abbrev S8448x2048 : Shape := ⟨2, ![8448, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x2048, .f32⟩
  | .hbm, ⟨2, _⟩ => ⟨S8448x2048, .f32⟩
  | .hbm, ⟨3, _⟩ => ⟨S8448x2048, .f32⟩
  | .hbm, ⟨4, _⟩ => ⟨S2048x2048, .f32⟩
  | .hbm, ⟨5, _⟩ => ⟨S2048x2048, .f32⟩
  | .hbm, ⟨6, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MixOutDw.lean ====
abbrev S8448x2048 : Shape := ⟨2, ![8448, 2048]⟩
abbrev S2048x2048 : Shape := ⟨2, ![2048, 2048]⟩
abbrev S2816x512 : Shape := ⟨2, ![2816, 512]⟩
abbrev S2816x1024 : Shape := ⟨2, ![2816, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S2048x2048, .f32⟩
  | .hbm, ⟨2, _⟩ => ⟨S8448x2048, .f32⟩
  | .hbm, ⟨3, _⟩ => ⟨S2048x2048, .f32⟩
  | .local _ .vmem, ⟨0, _⟩ => ⟨S2816x512, .f32⟩
  | .local _ .vmem, ⟨1, _⟩ => ⟨S2816x512, .f32⟩
  | .local _ .vmem, ⟨2, _⟩ => ⟨S2816x1024, .f32⟩
  | .local _ .vmem, ⟨3, _⟩ => ⟨S2816x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32_6 : BitVec 32 := 2#32
  let v13 : BitVec 1 := Scalar.cmpi .eq arg2 c2_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDwRefIdeal.lean ====
abbrev S8448x2048 : Shape := ⟨2, ![8448, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x2048, .f32⟩
  | .hbm, ⟨2, _⟩ => ⟨S8448x2048, .f32⟩
  | .hbm, ⟨3, _⟩ => ⟨S8448x2048, .f32⟩
  | .hbm, ⟨4, _⟩ => ⟨S2048x2048, .f32⟩
  | .hbm, ⟨5, _⟩ => ⟨S2048x2048, .f32⟩
  | .hbm, ⟨6, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MixOut.lean ====
abbrev S8448x2048 : Shape := ⟨2, ![8448, 2048]⟩
abbrev S2048x2048 : Shape := ⟨2, ![2048, 2048]⟩
abbrev S768x2048 : Shape := ⟨2, ![768, 2048]⟩
abbrev S2048x1024 : Shape := ⟨2, ![2048, 1024]⟩
abbrev S768x1024 : Shape := ⟨2, ![768, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S2048x2048, .f32⟩
  | .hbm, ⟨2, _⟩ => ⟨S2048x2048, .bf16⟩
  | .hbm, ⟨3, _⟩ => ⟨S8448x2048, .f32⟩
  | .local _ .vmem, ⟨0, _⟩ => ⟨S768x2048, .f32⟩
  | .local _ .vmem, ⟨1, _⟩ => ⟨S768x2048, .f32⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutRefIdeal.lean ====
abbrev S8448x2048 : Shape := ⟨2, ![8448, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x2048, .f32⟩
  | .hbm, ⟨2, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Runs.lean ====
/-
  Every program's run ends, with its arguments unchanged; and each named constant stands for what it was printed from.
-/
module

public import proofs.«01_k».proof.Defs
public import proofs.«01_k».proof.Proof.Gen.Dq.Frame
public import proofs.«01_k».proof.Proof.Gen.DqIdeal.Frame
public import proofs.«01_k».proof.Proof.Gen.DqRefIdeal.Run
public import proofs.«01_k».proof.Proof.Gen.Dkv.Frame
public import proofs.«01_k».proof.Proof.Gen.DkvIdeal.Frame
public import proofs.«01_k».proof.Proof.Gen.DkvRefIdeal.Run
public import proofs.«01_k».proof.Proof.Gen.Fwd.Frame
public import proofs.«01_k».proof.Proof.Gen.FwdIdeal.Frame
public import proofs.«01_k».proof.Proof.Gen.FwdRefIdeal.Run
public import proofs.«01_k».proof.Proof.Gen.Pre_finite
public import proofs.«01_k».proof.Proof.Gen.Pre_finite_qkv
public import Idealize.ShloMosaic.Adequacy
public import Idealize.ShloMosaic.Init

@[expose] public section

noncomputable section

namespace Cert.Proof

open Idealize.ShloMosaic Idealize.SL.Sem

theorem dq_frame : Cert.quiescent_Dq := fun m ρ _ => Cert.Dq.Gen.frame m ρ

theorem dq_ideal_frame : Cert.quiescent_DqIdeal := fun m ρ _ => Cert.DqIdeal.Gen.frame m ρ

theorem dq_ideal_frame_pre : Cert.quiescent_DqIdeal_pre_finite := fun m ρ _ => Cert.DqIdeal.Gen.frame m ρ

theorem dq_ref_frame : Cert.quiescent_DqRefIdeal := fun m ρ _ =>
  (θ_run Cert.DqRefIdeal.defs _ _).mono (fun r h => ⟨fun c => (h c).2.2, sem_eq_zero_of_no_sems (by decide) r.2⟩)
    (Cert.DqRefIdeal.Value.run (F := Ideal) m ρ)

theorem dq_ref_frame_pre : Cert.quiescent_DqRefIdeal_pre_finite := fun m ρ _ => dq_ref_frame m ρ trivial

theorem dkv_frame : Cert.quiescent_Dkv := fun m ρ _ => Cert.Dkv.Gen.frame m ρ

theorem dkv_ideal_frame : Cert.quiescent_DkvIdeal := fun m ρ _ => Cert.DkvIdeal.Gen.frame m ρ

theorem dkv_ideal_frame_pre : Cert.quiescent_DkvIdeal_pre_finite := fun m ρ _ => Cert.DkvIdeal.Gen.frame m ρ

theorem dkv_ref_frame : Cert.quiescent_DkvRefIdeal := fun m ρ _ =>
  (θ_run Cert.DkvRefIdeal.defs _ _).mono (fun r h => ⟨fun c => (h c).2.2, sem_eq_zero_of_no_sems (by decide) r.2⟩)
    (Cert.DkvRefIdeal.Value.run (F := Ideal) m ρ)

theorem dkv_ref_frame_pre : Cert.quiescent_DkvRefIdeal_pre_finite := fun m ρ _ => dkv_ref_frame m ρ trivial

theorem fwd_frame : Cert.quiescent_Fwd := fun m ρ _ => Cert.Fwd.Gen.frame m ρ

theorem fwd_ideal_frame : Cert.quiescent_FwdIdeal := fun m ρ _ => Cert.FwdIdeal.Gen.frame m ρ

theorem fwd_ideal_frame_pre : Cert.quiescent_FwdIdeal_pre_finite_qkv := fun m ρ _ => Cert.FwdIdeal.Gen.frame m ρ

theorem fwd_ref_frame : Cert.quiescent_FwdRefIdeal := fun m ρ _ =>
  (θ_run Cert.FwdRefIdeal.defs _ _).mono (fun r h => ⟨fun c => (h c).2.2, sem_eq_zero_of_no_sems (by decide) r.2⟩)
    (Cert.FwdRefIdeal.Value.run (F := Ideal) m ρ)

theorem fwd_ref_frame_pre : Cert.quiescent_FwdRefIdeal_pre_finite_qkv := fun m ρ _ => fwd_ref_frame m ρ trivial

theorem dq_preserves : Cert.preserves_Dq_DqIdeal :=
  ⟨IdealRules.named_const.statement _ _ _ _ _ rfl, IdealRules.named_const.statement _ _ _ _ _ rfl⟩

theorem dkv_preserves : Cert.preserves_Dkv_DkvIdeal :=
  ⟨IdealRules.named_const.statement _ _ _ _ _ rfl, IdealRules.named_const.statement _ _ _ _ _ rfl,
    IdealRules.named_const.statement _ _ _ _ _ rfl⟩

theorem fwd_preserves : Cert.preserves_Fwd_FwdIdeal :=
  ⟨IdealRules.named_const.statement _ _ _ _ _ rfl, IdealRules.named_const.statement _ _ _ _ _ rfl⟩

end Cert.Proof

end
-- ==== Proof.Softmax.lean ====
/-
  Facts about one row of a softmax over the reals, as the programs meet them over the extended reals: a row of scores
  holds a real at the keys it sees and minus infinity elsewhere.
-/
module

public import Idealize.ShloMosaic.Lib.Pointwise

@[expose] public section

noncomputable section

namespace Cert.Attn

open Idealize.ShloMosaic

/-- A key's weight before the division: `exp (s - M)` where the row sees the key, zero elsewhere. -/
def wt (vis : Prop) [Decidable vis] (s M : ℝ) : ℝ := if vis then Real.exp (s - M) else 0

theorem wt_nonneg (vis : Prop) [Decidable vis] (s M : ℝ) : 0 ≤ wt vis s M := by
  unfold wt; split
  · exact (Real.exp_pos _).le
  · exact le_rfl

/-- The exponential of a masked score less a real. -/
theorem exp_masked (vis : Prop) [Decidable vis] (s M : ℝ) :
    Ideal.exp ((if vis then (s : EReal) else ⊥) - (M : EReal)) = (wt vis s M : EReal) := by
  unfold wt
  split
  · rw [← EReal.coe_sub, Ideal.exp_coe]
  · rw [EReal.bot_sub, Ideal.exp_bot]; rfl

/-- The base-two exponential of a masked score, in units of `log 2`, less the row's logarithm of its sum: the weight
    over the sum. -/
theorem exp2_masked (vis : Prop) [Decidable vis] (s M : ℝ) {l : ℝ} (hl : 0 < l) :
    Ideal.exp2 ((if vis then ((s * (Real.log 2)⁻¹ : ℝ) : EReal) else ⊥)
      - (((M + Real.log l) * (Real.log 2)⁻¹ : ℝ) : EReal)) = ((wt vis s M / l : ℝ) : EReal) := by
  unfold wt
  split
  · rw [← EReal.coe_sub, Ideal.exp2_coe, EReal.coe_eq_coe_iff]
    have h2 : Real.log 2 ≠ 0 := (Real.log_pos one_lt_two).ne'
    rw [show ∀ x : ℝ, Real.rpow 2 x = (2 : ℝ) ^ x from fun _ => rfl, Real.rpow_def_of_pos two_pos]
    have : Real.log 2 * (s * (Real.log 2)⁻¹ - (M + Real.log l) * (Real.log 2)⁻¹) = (s - M) - Real.log l := by
      field_simp; ring
    rw [this, Real.exp_sub, Real.exp_log hl]
  · rw [EReal.bot_sub, Ideal.exp2_bot]; simp

/-- The largest score of a row that sees at least one key is real. -/
theorem fold_max_real {K : Type} [Fintype K] (vis : K → Prop) [DecidablePred vis] (s : K → ℝ) {k₀ : K} (h₀ : vis k₀) :
    ∃ M : ℝ, (Finset.univ.fold max (⊥ : EReal) fun k => if vis k then (s k : EReal) else ⊥) = (M : EReal) := by
  classical
  have key : ∀ S : Finset K, (S.fold max (⊥ : EReal) fun k => if vis k then (s k : EReal) else ⊥) ≠ ⊤
      ∧ (k₀ ∈ S → (S.fold max (⊥ : EReal) fun k => if vis k then (s k : EReal) else ⊥) ≠ ⊥) := by
    intro S
    induction S using Finset.induction_on with
    | empty => simp
    | insert a S ha ih =>
      rw [Finset.fold_insert ha]
      refine ⟨?_, fun hm => ?_⟩
      · rw [Ne, max_eq_top, not_or]
        exact ⟨by split <;> simp, ih.1⟩
      · rw [Ne, max_eq_bot, not_and_or]
        rcases Finset.mem_insert.mp hm with rfl | hm
        · left; rw [if_pos h₀]; simp
        · exact .inr (ih.2 hm)
  obtain ⟨h1, h2⟩ := key Finset.univ
  exact ⟨_, (EReal.coe_toReal h1 (h2 (Finset.mem_univ _))).symm⟩

/-- The sum of the weights of a row that sees at least one key is positive. -/
theorem sum_wt_pos {K : Type} [Fintype K] (vis : K → Prop) [DecidablePred vis] (s : K → ℝ) (M : ℝ) {k₀ : K}
    (h₀ : vis k₀) : 0 < ∑ k, wt (vis k) (s k) M :=
  Finset.sum_pos' (fun _ _ => wt_nonneg _ _ _)
    ⟨k₀, Finset.mem_univ _, by unfold wt; rw [if_pos h₀]; exact Real.exp_pos _⟩

/-- A finite sum of reals, read in the extended reals. -/
theorem coe_sum {K : Type} (S : Finset K) (f : K → ℝ) : (∑ k ∈ S, (f k : EReal)) = ((∑ k ∈ S, f k : ℝ) : EReal) := by
  classical
  induction S using Finset.induction_on with
  | empty => simp
  | insert a S ha ih => rw [Finset.sum_insert ha, Finset.sum_insert ha, ih, EReal.coe_add]

/-- Division by a positive real. -/
theorem div_pos_coe (x : ℝ) {l : ℝ} (hl : 0 < l) : Ideal.div (x : EReal) (l : EReal) = ((x / l : ℝ) : EReal) := by
  rw [Ideal.div_coe hl.ne', ← EReal.coe_mul]; congr 1; ring

/-- The logarithm of a positive real. -/
theorem log_pos_coe {l : ℝ} (hl : 0 < l) : Ideal.log (l : EReal) = ((Real.log l : ℝ) : EReal) := by
  rw [Ideal.log_coe, if_neg (not_le.mpr hl)]

end Cert.Attn

end
-- ==== Proof.Spec.lean ====
/-
  The attention and its gradients over the reals: two groups of four heads of width 128 sharing a key head, 8448 rows of
  which the first 256 are context rows, which see the context's keys alone.
-/
module

public import proofs.«01_k».proof.Proof.Softmax

@[expose] public section

noncomputable section

namespace Cert.Attn

open Idealize.ShloMosaic

/-- The factor of the scores: the float the programs write for `1 / sqrt 128`. -/
def scale : ℝ := (Ideal.ofBits .f32 0x3DB504F3#32).toReal

theorem ofBits_scale : Ideal.ofBits .f32 0x3DB504F3#32 = (scale : EReal) := by
  have h : Ideal.ofBits .f32 0x3DB504F3#32 = ((11863283 * (2 ^ 27)⁻¹ : ℝ) : EReal) := by
    simp [Ideal.ofBits, Ideal.ieee, EReal.coe_mul]
  rw [scale, h, EReal.toReal_coe]

/-- The arrays of one attention, by row and column: queries, keys, values, and the result's cotangent. -/
structure Data where
  q : ℕ → ℕ → ℝ
  k : ℕ → ℕ → ℝ
  v : ℕ → ℕ → ℝ
  d : ℕ → ℕ → ℝ

variable (A : Data)

/-- Row `i` sees key `j`. -/
abbrev vis (i j : ℕ) : Prop := 256 ≤ i ∨ j < 256

namespace Data

/-- The score of row `i` and key `j` in head `h` of group `g`. -/
def score (g h i j : ℕ) : ℝ := (∑ d : Fin 128, A.k j (g * 128 + d) * A.q i (g * 512 + h * 128 + d)) * scale

/-- The row's largest score. -/
def top (g h i : ℕ) : ℝ :=
  (Finset.univ.fold max (⊥ : EReal) fun j : Fin 8448 => if vis i j then (A.score g h i j : EReal) else ⊥).toReal

/-- The weight of a key before the division. -/
def w (g h i j : ℕ) : ℝ := wt (vis i j) (A.score g h i j) (A.top g h i)

/-- The sum of a row's weights. -/
def tot (g h i : ℕ) : ℝ := ∑ j : Fin 8448, A.w g h i j

/-- The softmax of the scores. -/
def prob (g h i j : ℕ) : ℝ := A.w g h i j / A.tot g h i

/-- The logarithm of the sum of a row's exponentials. -/
def lse (g h i : ℕ) : ℝ := A.top g h i + Real.log (A.tot g h i)

/-- The attention's result. -/
def out (g h i d : ℕ) : ℝ := ∑ j : Fin 8448, A.v j (g * 128 + d) * A.prob g h i j

/-- The cotangent of the softmax. -/
def dprob (g h i j : ℕ) : ℝ := ∑ d : Fin 128, A.d i (g * 512 + h * 128 + d) * A.v j (g * 128 + d)

/-- A row's mean of that cotangent. -/
def delta (g h i : ℕ) : ℝ := ∑ j : Fin 8448, A.prob g h i j * A.dprob g h i j

/-- The cotangent of the scores. -/
def dscore (g h i j : ℕ) : ℝ := A.prob g h i j * (A.dprob g h i j - A.delta g h i)

/-- The gradient of the queries. -/
def gradQ (g h i d : ℕ) : ℝ := (∑ j : Fin 8448, A.dscore g h i j * A.k j (g * 128 + d)) * scale

/-- The gradient of the keys. -/
def gradK (g j d : ℕ) : ℝ := (∑ h : Fin 4, ∑ i : Fin 8448, A.dscore g h i j * A.q i (g * 512 + h * 128 + d)) * scale

/-- The gradient of the values. -/
def gradV (g j d : ℕ) : ℝ := ∑ h : Fin 4, ∑ i : Fin 8448, A.prob g h i j * A.d i (g * 512 + h * 128 + d)

theorem fold_eq_top (g h i : ℕ) :
    (Finset.univ.fold max (⊥ : EReal) fun j : Fin 8448 => if vis i j then (A.score g h i j : EReal) else ⊥)
      = (A.top g h i : EReal) := by
  obtain ⟨M, hM⟩ := fold_max_real (fun j : Fin 8448 => vis i j) (fun j => A.score g h i j) (k₀ := 0) (.inr (by decide))
  unfold top
  rw [hM, EReal.toReal_coe]

theorem tot_pos (g h i : ℕ) : 0 < A.tot g h i :=
  sum_wt_pos (fun j : Fin 8448 => vis i j) (fun j => A.score g h i j) _ (k₀ := 0) (.inr (by decide))

theorem w_eq_prob (g h i j : ℕ) : A.w g h i j = A.prob g h i j * A.tot g h i := by
  unfold prob; rw [div_mul_cancel₀ _ (A.tot_pos g h i).ne']

theorem prob_of_not_vis (g h i j : ℕ) (hv : ¬ vis i j) : A.prob g h i j = 0 := by
  unfold prob w wt; rw [if_neg hv, zero_div]

theorem dscore_of_not_vis (g h i j : ℕ) (hv : ¬ vis i j) : A.dscore g h i j = 0 := by
  unfold dscore; rw [A.prob_of_not_vis g h i j hv, zero_mul]

/-- The mean of the softmax's cotangent is the inner product of the result and its cotangent. -/
theorem delta_eq (g h i : ℕ) :
    (∑ d : Fin 128, A.out g h i d * A.d i (g * 512 + h * 128 + d)) = A.delta g h i := by
  unfold delta out dprob
  simp only [Finset.sum_mul, Finset.mul_sum]
  rw [Finset.sum_comm]
  exact Finset.sum_congr rfl fun j _ => Finset.sum_congr rfl fun d _ => by ring

end Data

/-- An array of two axes whose every element is a real, read as reals by row and column. -/
def rd {a b : ℕ} (x : (⟨2, ![a, b]⟩ : Shape).Idx → EReal) (r c : ℕ) : ℝ :=
  if h : r < a ∧ c < b then (x (ix2 ⟨r, h.1⟩ ⟨c, h.2⟩)).toReal else 0

theorem rd_apply {a b : ℕ} (x : (⟨2, ![a, b]⟩ : Shape).Idx → EReal) (hx : ∀ i, x i ≠ ⊤ ∧ x i ≠ ⊥) (r : Fin a)
    (c : Fin b) : x (ix2 r c) = (rd x r c : EReal) := by
  unfold rd
  rw [dif_pos ⟨r.isLt, c.isLt⟩, EReal.coe_toReal (hx _).1 (hx _).2]

/-- The bit of a decidable proposition chooses as the proposition does. -/
theorem select_ite (p : Prop) [Decidable p] (x y : EReal) :
    Scalar.select (if p then 1#1 else 0#1) x y = if p then x else y := by
  split <;> rfl

end Cert.Attn

end
-- ==== Proof.DqStep.lean ====
/-
  The queries' gradient: what one grid point adds to the accumulator and leaves in the outputs, at an index.
-/
module

public import proofs.«01_k».proof.Proof.Spec
public import proofs.«01_k».proof.Proof.Gen.DqIdeal.Value
public import Idealize.ShloMosaic.Lib.Pipeline.ValueKit
public import Idealize.ShloMosaic.Lib.Pipeline.ReadBack
public import Idealize.ShloMosaic.Lib.WordCmp

@[expose] public section

set_option maxRecDepth 16384

noncomputable section

namespace Cert.DqIdeal.Step

open Cert.Attn Cert.DqIdeal Cert.DqIdeal.Gen Idealize.ShloMosaic Idealize.ShloMosaic.TcCoe Idealize.SL.Sem

/-- The reciprocal of the natural logarithm of two, under its name. -/
theorem named_log2e : (Named.named κ "log2e" 1069066811#32 : Ideal .f32) = (((Real.log 2)⁻¹ : ℝ) : EReal) :=
  IdealRules.named_const.ideal_named_scalar _ _ _ _ rfl

/-- A hidden score, under its name. -/
theorem named_hidden : (Named.named κ "hidden" 4048155338#32 : Ideal .f32) = (⊥ : EReal) :=
  IdealRules.named_const.ideal_named_scalar _ _ _ _ rfl

/-- The columns of head `h` in a block of four heads. -/
def cols {e : EltTy} (X : Vec Ideal S256x512 e) (h : Fin 4) : Vec Ideal S256x128 e :=
  fun y => X (ix2 (y 0) ⟨h * 128 + (y 1).val, by have := (y 1).isLt; have := h.isLt; simp at *; omega⟩)

/-- The rows of head `h`, one number each. -/
def rows (X : Vec Ideal S4x256x1 .f32) (h : Fin 4) : Vec Ideal S1x256x1 .f32 := fun y => X (ix3 h (y 1) (y 2))

/-- The rows of head `h`. -/
def slab (X : Vec Ideal S4x256x128 .f32) (h : Fin 4) : Vec Ideal S1x256x128 .f32 := fun y => X (ix3 h (y 1) (y 2))

/-- The four slices that a block is read through are its heads' columns. -/
theorem ld_cols {e : EltTy} (X : Vec Ideal S256x512 e) :
    View.ld X (Rect.unit ![0, 0] ![256, 128] inb_S256x512_S256x128_0_0) = cols X 0
    ∧ View.ld X (Rect.unit ![0, 128] ![256, 128] inb_S256x512_S256x128_0_128) = cols X 1
    ∧ View.ld X (Rect.unit ![0, 256] ![256, 128] inb_S256x512_S256x128_0_256) = cols X 2
    ∧ View.ld X (Rect.unit ![0, 384] ![256, 128] inb_S256x512_S256x128_0_384) = cols X 3 := by
  refine ⟨?_, ?_, ?_, ?_⟩ <;>
    exact funext fun y => View.ld_unit_apply_of _ _ _ _ _ _ fun a => by fin_cases a <;> simp [ix2]

theorem ld_rows (X : Vec Ideal S4x256x1 .f32) :
    View.ld X (Rect.unit ![0, 0, 0] ![1, 256, 1] inb_S4x256x1_S1x256x1_0_0_0) = rows X 0
    ∧ View.ld X (Rect.unit ![1, 0, 0] ![1, 256, 1] inb_S4x256x1_S1x256x1_1_0_0) = rows X 1
    ∧ View.ld X (Rect.unit ![2, 0, 0] ![1, 256, 1] inb_S4x256x1_S1x256x1_2_0_0) = rows X 2
    ∧ View.ld X (Rect.unit ![3, 0, 0] ![1, 256, 1] inb_S4x256x1_S1x256x1_3_0_0) = rows X 3 := by
  refine ⟨?_, ?_, ?_, ?_⟩ <;>
    exact funext fun y => View.ld_unit_apply_of _ _ _ _ _ _ fun a => by
      fin_cases a <;> simp [ix3] <;> have := (y 0).isLt <;> simp at this <;> omega

theorem ld_slab (X : Vec Ideal S4x256x128 .f32) :
    View.ld X (Rect.unit ![0, 0, 0] ![1, 256, 128] inb_S4x256x128_S1x256x128_0_0_0) = slab X 0
    ∧ View.ld X (Rect.unit ![1, 0, 0] ![1, 256, 128] inb_S4x256x128_S1x256x128_1_0_0) = slab X 1
    ∧ View.ld X (Rect.unit ![2, 0, 0] ![1, 256, 128] inb_S4x256x128_S1x256x128_2_0_0) = slab X 2
    ∧ View.ld X (Rect.unit ![3, 0, 0] ![1, 256, 128] inb_S4x256x128_S1x256x128_3_0_0) = slab X 3 := by
  refine ⟨?_, ?_, ?_, ?_⟩ <;>
    exact funext fun y => View.ld_unit_apply_of _ _ _ _ _ _ fun a => by
      fin_cases a <;> simp [ix3] <;> have := (y 0).isLt <;> simp at this <;> omega

/-- One term of a row's gradient of the scores: the weight times the weight's gradient less `g`, `l` the row's log-sum. Key `j` of the block
    is hidden where `hid j` holds. -/
def term (hid : ℕ → Prop) [DecidablePred hid] (q : FVec Ideal S256x128 .bf16) (k v : FVec Ideal S1408x128 .bf16)
    (d : FVec Ideal S256x128 .f32) (l g : EReal) (i : Fin 256) (j : Fin 1408) : EReal :=
  Ideal.exp2 ((if hid j then ⊥ else ∑ x : Fin 128, q (ix2 i x) * k (ix2 j x)) -
      l * (((Real.log 2)⁻¹ : ℝ) : EReal)) *
    (∑ x : Fin 128, d (ix2 i x) * v (ix2 j x) - g)

/-- Whether a key lies past the context, as the kernel compares it. -/
theorem key_hidden (b j : ℕ) (hb : b < 6) (hj : j < 1408) :
    IntOp.cmpi CmpIPredicate.sge (IntOp.addi (Scalar.muli (BitVec.ofNat 32 b) 1408#32) (BitVec.ofNat 32 j)) 256#32
      = if 256 ≤ b * 1408 + j then 1#1 else 0#1 := by
  exact WordCmp.cmpi_sge_mul_add_ofNat b 1408 j 256 (by omega) (by omega)

section

variable (q : FVec Ideal S256x128 .bf16) (k v : FVec Ideal S1408x128 .bf16) (d o : FVec Ideal S256x128 .f32)
  (lse dl : FVec Ideal S1x256x1 .f32) (acc : FVec Ideal S1x256x128 .f32) (a : Fin 1) (i : Fin 256) (x : Fin 128)

/-- What a latent row's point stores into each head's accumulator: what it held and the block's terms times the keys. -/
theorem full :
    k0_pay49 (k0_pay34 k) (k0_pay46 (k0_pay36 k q) (k0_pay40 v d) lse dl) acc (ix3 a i x)
      = acc (ix3 0 i x) + ∑ j, term (fun _ => False) q k v d (lse (ix3 0 i 0)) (dl (ix3 0 i 0)) i j * k (ix2 j x)
    ∧ k0_pay50 (k0_pay34 k) (k0_pay47 (k0_pay37 k q) (k0_pay41 v d) lse dl) acc (ix3 a i x)
      = acc (ix3 0 i x) + ∑ j, term (fun _ => False) q k v d (lse (ix3 0 i 0)) (dl (ix3 0 i 0)) i j * k (ix2 j x)
    ∧ k0_pay7 (k0_pay51 (k0_pay34 k) (k0_pay42 v d) (k0_pay44 (k0_pay38 k q) lse) dl acc) (ix3 a i x)
      = acc (ix3 0 i x) + ∑ j, term (fun _ => False) q k v d (lse (ix3 0 i 0)) (dl (ix3 0 i 0)) i j * k (ix2 j x)
    ∧ k0_pay8 (k0_pay48 (k0_pay34 k) (k0_pay43 v d) (k0_pay45 (k0_pay39 k q) lse) dl) acc (ix3 a i x)
      = acc (ix3 0 i x) + ∑ j, term (fun _ => False) q k v d (lse (ix3 0 i 0)) (dl (ix3 0 i 0)) i j * k (ix2 j x) := by
  refine ⟨?_, ?_, ?_, ?_⟩ <;>
  · pointwise [k0_pay7, k0_pay8, k0_pay34, k0_pay36, k0_pay37, k0_pay38, k0_pay39, k0_pay40, k0_pay41, k0_pay42, k0_pay43,
    k0_pay44, k0_pay45, k0_pay46, k0_pay47, k0_pay48, k0_pay49, k0_pay50, k0_pay51, k0_pay35]
    simp only [named_log2e, term, if_false]
    rfl

/-- The same for a context row's point, where the keys past the context are hidden. -/
theorem masked (b : ℕ) (hb : b < 6) :
    k0_pay3 (k0_pay33 (k0_pay17 k) (k0_pay23 (k0_pay18 v) d) (k0_pay27 (k0_pay19 (BitVec.ofNat 32 b) k q) lse) dl acc) (ix3 a i x)
      = acc (ix3 0 i x) + ∑ j, term (fun j => 256 ≤ b * 1408 + j) q k v d (lse (ix3 0 i 0)) (dl (ix3 0 i 0)) i j * k (ix2 j x)
    ∧ k0_pay4 (k0_pay30 (k0_pay17 k) (k0_pay24 (k0_pay18 v) d) (k0_pay28 (k0_pay20 (BitVec.ofNat 32 b) k q) lse) dl) acc (ix3 a i x)
      = acc (ix3 0 i x) + ∑ j, term (fun j => 256 ≤ b * 1408 + j) q k v d (lse (ix3 0 i 0)) (dl (ix3 0 i 0)) i j * k (ix2 j x)
    ∧ k0_pay5 (k0_pay31 (k0_pay17 k) (k0_pay25 (k0_pay18 v) d) (k0_pay29 (k0_pay21 (BitVec.ofNat 32 b) k q) lse) dl) acc (ix3 a i x)
      = acc (ix3 0 i x) + ∑ j, term (fun j => 256 ≤ b * 1408 + j) q k v d (lse (ix3 0 i 0)) (dl (ix3 0 i 0)) i j * k (ix2 j x)
    ∧ k0_pay6 (k0_pay32 (k0_pay17 k) (k0_pay22 (BitVec.ofNat 32 b) k q) (k0_pay26 (k0_pay18 v) d) lse dl) acc (ix3 a i x)
      = acc (ix3 0 i x) + ∑ j, term (fun j => 256 ≤ b * 1408 + j) q k v d (lse (ix3 0 i 0)) (dl (ix3 0 i 0)) i j * k (ix2 j x) := by
  refine ⟨?_, ?_, ?_, ?_⟩ <;>
  · pointwise [k0_pay3, k0_pay4, k0_pay5, k0_pay6, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay16]
    simp only [named_log2e, named_hidden, term]
    refine congrArg _ (Finset.sum_congr rfl fun j _ => ?_)
    rw [key_hidden b j hb j.isLt, select_ite]
    rfl

/-- A row's product of the output and its gradient, summed. -/
def dsum (i : Fin 256) : EReal := ∑ y : Fin 128, d (ix2 i y) * o (ix2 i y)

theorem delta (b : Fin 1) :
    k0_pay13 (F := Ideal) d o (ix3 a i b) = dsum d o i
    ∧ k0_pay14 (F := Ideal) d o (ix3 a i b) = dsum d o i
    ∧ k0_pay1 (F := Ideal) (k0_pay15 d o) (ix3 a i b) = dsum d o i
    ∧ k0_pay2 (F := Ideal) d o (ix3 a i b) = dsum d o i := by
  refine ⟨?_, ?_, ?_, ?_⟩ <;>
  · pointwise [dsum, k0_pay1, k0_pay2, k0_pay13, k0_pay14, k0_pay15]

/-- What the last point of a row block stores: the accumulator times the scale. -/
theorem scaled :
    k0_pay52 acc (ix2 i x) = acc (ix3 0 i x) * Ideal.ofBits .f32 0x3DB504F3#32
    ∧ k0_pay54 acc (ix2 i x) = acc (ix3 0 i x) * Ideal.ofBits .f32 0x3DB504F3#32
    ∧ k0_pay56 acc (ix2 i x) = acc (ix3 0 i x) * Ideal.ofBits .f32 0x3DB504F3#32
    ∧ k0_pay10 acc (ix2 i x) = acc (ix3 0 i x) * Ideal.ofBits .f32 0x3DB504F3#32 := by
  refine ⟨?_, ?_, ?_, ?_⟩ <;>
  · pointwise [k0_pay10, k0_pay52, k0_pay54, k0_pay56]

theorem kept :
    k0_pay53 dl = dl
    ∧ k0_pay55 dl = dl
    ∧ k0_pay9 dl = dl
    ∧ k0_pay11 dl = dl := by
  refine ⟨?_, ?_, ?_, ?_⟩ <;>
  · funext y
    obtain ⟨a, i, b, rfl⟩ : ∃ a i b, y = ix3 a i b := ⟨_, _, _, eq_ix3 y⟩
    pointwise [k0_pay9, k0_pay11, k0_pay53, k0_pay55]

theorem cleared (y : S4x256x128.Idx) : k0_pay12 (F := Ideal) y = (0 : EReal) := by
  pointwise [k0_pay12]

end

end Cert.DqIdeal.Step

end
-- ==== Proof.DqCase.lean ====
/-
  The queries' gradient: the accumulator, the rows' sums and the outputs after one grid point, in each of its cases.
-/
module

public import proofs.«01_k».proof.Proof.DqStep

@[expose] public section

set_option maxRecDepth 16384

noncomputable section

namespace Cert.DqIdeal.Step

open Cert.Attn Cert.DqIdeal Cert.DqIdeal.Gen Idealize.ShloMosaic Idealize.ShloMosaic.TcCoe Idealize.SL.Sem

variable (m : (ℓ : Loc nD τ sig) → Buf (Elt Ideal) ℓ) (c : Dev nD)

/-- The term of one grid point. -/
def pterm (hid : ℕ → Prop) [DecidablePred hid] (t : Fin cfg0.N) (g : EReal) (h : Fin 4) (i : Fin 256) (j : Fin 1408) :
    EReal :=
  term hid (cols (iblk m c 0 t) h) (iblk m c 1 t) (iblk m c 2 t) (cols (iblk m c 4 t) h)
    (rows (iblk m c 5 t) h (ix3 0 i 0)) g i j

/-- The row sums that a row block's first point computes. -/
def psum (t : Fin cfg0.N) (h : Fin 4) (i : Fin 256) : EReal := dsum (cols (iblk m c 4 t) h) (cols (iblk m c 3 t) h) i

/-- The stores that cover an index decide what it holds, whatever was stored before them. -/
theorem canon_append {S : Shape} {e : EltTy} (L' : List (View.Piece (Elt Ideal) S e)) :
    ∀ (L : List (View.Piece (Elt Ideal) S e)) (y : S.Idx) (_ : ∃ p ∈ L, y ∈ p.1.set),
      View.canon (L ++ L') y = View.canon L y
  | [], y, h => absurd h (by simp)
  | p :: L, y, h => by
    rw [List.cons_append]
    by_cases hm : y ∈ p.1.set
    · obtain ⟨x, rfl⟩ := p.1.exists_idx_of_mem hm
      rw [show p.1.idx x = p.1.emb x from rfl, View.canon_cons_emb, View.canon_cons_emb]
    · rw [View.canon_cons_of_not_mem _ _ hm, View.canon_cons_of_not_mem _ _ hm]
      refine canon_append L' L y ?_
      obtain ⟨q, hq, hy⟩ := h
      rcases List.mem_cons.mp hq with rfl | hq
      · exact absurd hy hm
      · exact ⟨q, hq, hy⟩

theorem coords_eq (t : Fin cfg0.N) : (grid0.coords t 2).val = t.val % 6 := by
  revert t
  decide +kernel

theorem mod_lt (t : Fin cfg0.N) : t.val % 6 < 6 := by omega

theorem cleared_slab (h : Fin 4) (y : S1x256x128.Idx) : slab (k0_pay12 (F := Ideal)) h y = (0 : EReal) := cleared _

set_option maxHeartbeats 1000000 in
theorem acc_A (t : Fin cfg0.N) (h0 : t.val % 6 = 0) (h1 : t.val % 198 = 0) (h2 : ¬1 ≤ t.val / 6 % 33)
    (h3 : ¬t.val % 6 = 5) (h : Fin 4) (i : Fin 256) (d : Fin 128) :
    (outsAt0 m c t.val t.isLt).2.2.1 (ix3 h i d)
      = (0 : EReal) + ∑ j : Fin 1408,
        pterm m c (fun j => 256 ≤ t.val % 6 * 1408 + j) t (psum m c t h i) h i j
          * (iblk m c 1 t : Vec Ideal S1408x128 .bf16) (ix2 j d) := by
  rw [outsAt0_A m c t h0 h1 h2 h3]
  dsimp only
  frame_out
  simp (disch := decide) only [↓ View.readCov_skip, ↓ View.readCov_cons_toLoadRect, ↓ View.readCov_fill]
  simp only [ld_cols, ld_rows, ld_slab]
  refine (canon_append [_] [_, _, _, _] _ (View.cover_of_tiled_head _ _ _ (by rfl) _)).trans ?_
  canon_tiles x hx
  all_goals
    obtain ⟨a, b, e, rfl⟩ : ∃ a b e, x = ix3 a b e := ⟨_, _, _, eq_ix3 x⟩
    have hi : i = b := Fin.ext hx1
    have hd : d = e := Fin.ext hx2
    subst hi hd
    simp only [coords_eq, masked _ _ _ _ _ _ _ _ _ _ _ (mod_lt t), delta, cleared_slab]
    first
      | (have hh : h = 3 := by apply Fin.ext; simpa [ix3] using hx0
         subst hh)
      | (have hh : h = 2 := by apply Fin.ext; simpa [ix3] using hx0
         subst hh)
      | (have hh : h = 1 := by apply Fin.ext; simpa [ix3] using hx0
         subst hh)
      | (have hh : h = 0 := by apply Fin.ext; simpa [ix3] using hx0
         subst hh)
    rfl

set_option maxHeartbeats 1000000 in
theorem acc_D (t : Fin cfg0.N) (h0 : t.val % 6 = 0) (h1 : ¬t.val % 198 = 0) (h2 : 1 ≤ t.val / 6 % 33)
    (h3 : ¬t.val % 6 = 5) (h : Fin 4) (i : Fin 256) (d : Fin 128) :
    (outsAt0 m c t.val t.isLt).2.2.1 (ix3 h i d)
      = (0 : EReal) + ∑ j : Fin 1408,
        pterm m c (fun _ => False) t (psum m c t h i) h i j
          * (iblk m c 1 t : Vec Ideal S1408x128 .bf16) (ix2 j d) := by
  rw [outsAt0_D m c t h0 h1 h2 h3]
  dsimp only
  frame_out
  simp (disch := decide) only [↓ View.readCov_skip, ↓ View.readCov_cons_toLoadRect, ↓ View.readCov_fill]
  simp only [ld_cols, ld_rows, ld_slab]
  refine (canon_append [_] [_, _, _, _] _ (View.cover_of_tiled_head _ _ _ (by rfl) _)).trans ?_
  canon_tiles x hx
  all_goals
    obtain ⟨a, b, e, rfl⟩ : ∃ a b e, x = ix3 a b e := ⟨_, _, _, eq_ix3 x⟩
    have hi : i = b := Fin.ext hx1
    have hd : d = e := Fin.ext hx2
    subst hi hd
    simp only [full, delta, cleared_slab]
    first
      | (have hh : h = 3 := by apply Fin.ext; simpa [ix3] using hx0
         subst hh)
      | (have hh : h = 2 := by apply Fin.ext; simpa [ix3] using hx0
         subst hh)
      | (have hh : h = 1 := by apply Fin.ext; simpa [ix3] using hx0
         subst hh)
      | (have hh : h = 0 := by apply Fin.ext; simpa [ix3] using hx0
         subst hh)
    rfl

set_option maxHeartbeats 1000000 in
theorem acc_E (t : Fin cfg0.N) (h0 : ¬t.val % 6 = 0) (h1 : ¬t.val % 198 = 0) (h2 : 1 ≤ t.val / 6 % 33)
    (h3 : ¬t.val % 6 = 5) (h : Fin 4) (i : Fin 256) (d : Fin 128) :
    (outsAt0 m c t.val t.isLt).2.2.1 (ix3 h i d)
      = (outsAt0 m c (t.val - 1) (by omega)).2.2.1 (ix3 h i d) + ∑ j : Fin 1408,
        pterm m c (fun _ => False) t ((outsAt0 m c (t.val - 1) (by omega)).2.2.2 (ix3 h i 0)) h i j
          * (iblk m c 1 t : Vec Ideal S1408x128 .bf16) (ix2 j d) := by
  rw [outsAt0_E m c t h0 h1 h2 h3]
  dsimp only
  frame_out
  simp only [read_unread_whole, ld_cols, ld_rows, ld_slab]
  canon_tiles x hx
  all_goals
    obtain ⟨a, b, e, rfl⟩ : ∃ a b e, x = ix3 a b e := ⟨_, _, _, eq_ix3 x⟩
    have hi : i = b := Fin.ext hx1
    have hd : d = e := Fin.ext hx2
    subst hi hd
    simp only [full]
    first
      | (have hh : h = 3 := by apply Fin.ext; simpa [ix3] using hx0
         subst hh)
      | (have hh : h = 2 := by apply Fin.ext; simpa [ix3] using hx0
         subst hh)
      | (have hh : h = 1 := by apply Fin.ext; simpa [ix3] using hx0
         subst hh)
      | (have hh : h = 0 := by apply Fin.ext; simpa [ix3] using hx0
         subst hh)
    rfl

set_option maxHeartbeats 1000000 in
theorem acc_F (t : Fin cfg0.N) (h0 : ¬t.val % 6 = 0) (h1 : ¬t.val % 198 = 0) (h2 : 1 ≤ t.val / 6 % 33)
    (h3 : t.val % 6 = 5) (h : Fin 4) (i : Fin 256) (d : Fin 128) :
    (outsAt0 m c t.val t.isLt).2.2.1 (ix3 h i d)
      = (outsAt0 m c (t.val - 1) (by omega)).2.2.1 (ix3 h i d) + ∑ j : Fin 1408,
        pterm m c (fun _ => False) t ((outsAt0 m c (t.val - 1) (by omega)).2.2.2 (ix3 h i 0)) h i j
          * (iblk m c 1 t : Vec Ideal S1408x128 .bf16) (ix2 j d) := by
  rw [outsAt0_F m c t h0 h1 h2 h3]
  dsimp only
  frame_out
  simp only [read_unread_whole, ld_cols, ld_rows, ld_slab]
  canon_tiles x hx
  all_goals
    obtain ⟨a, b, e, rfl⟩ : ∃ a b e, x = ix3 a b e := ⟨_, _, _, eq_ix3 x⟩
    have hi : i = b := Fin.ext hx1
    have hd : d = e := Fin.ext hx2
    subst hi hd
    simp only [full]
    first
      | (have hh : h = 3 := by apply Fin.ext; simpa [ix3] using hx0
         subst hh)
      | (have hh : h = 2 := by apply Fin.ext; simpa [ix3] using hx0
         subst hh)
      | (have hh : h = 1 := by apply Fin.ext; simpa [ix3] using hx0
         subst hh)
      | (have hh : h = 0 := by apply Fin.ext; simpa [ix3] using hx0
         subst hh)
    rfl

set_option maxHeartbeats 1000000 in
theorem sum_A (t : Fin cfg0.N) (h0 : t.val % 6 = 0) (h1 : t.val % 198 = 0) (h2 : ¬1 ≤ t.val / 6 % 33)
    (h3 : ¬t.val % 6 = 5) (h : Fin 4) (i : Fin 256) :
    (outsAt0 m c t.val t.isLt).2.2.2 (ix3 h i 0) = psum m c t h i := by
  rw [outsAt0_A m c t h0 h1 h2 h3]
  dsimp only
  frame_out
  simp only [ld_cols]
  canon_tiles x hx
  all_goals
    obtain ⟨a, b, e, rfl⟩ : ∃ a b e, x = ix3 a b e := ⟨_, _, _, eq_ix3 x⟩
    have hi : i = b := Fin.ext hx1
    subst hi
    simp only [delta]
    first
      | (have hh : h = 3 := by apply Fin.ext; simpa [ix3] using hx0
         subst hh)
      | (have hh : h = 2 := by apply Fin.ext; simpa [ix3] using hx0
         subst hh)
      | (have hh : h = 1 := by apply Fin.ext; simpa [ix3] using hx0
         subst hh)
      | (have hh : h = 0 := by apply Fin.ext; simpa [ix3] using hx0
         subst hh)
    rfl

set_option maxHeartbeats 1000000 in
theorem sum_D (t : Fin cfg0.N) (h0 : t.val % 6 = 0) (h1 : ¬t.val % 198 = 0) (h2 : 1 ≤ t.val / 6 % 33)
    (h3 : ¬t.val % 6 = 5) (h : Fin 4) (i : Fin 256) :
    (outsAt0 m c t.val t.isLt).2.2.2 (ix3 h i 0) = psum m c t h i := by
  rw [outsAt0_D m c t h0 h1 h2 h3]
  dsimp only
  frame_out
  simp only [ld_cols]
  canon_tiles x hx
  all_goals
    obtain ⟨a, b, e, rfl⟩ : ∃ a b e, x = ix3 a b e := ⟨_, _, _, eq_ix3 x⟩
    have hi : i = b := Fin.ext hx1
    subst hi
    simp only [delta]
    first
      | (have hh : h = 3 := by apply Fin.ext; simpa [ix3] using hx0
         subst hh)
      | (have hh : h = 2 := by apply Fin.ext; simpa [ix3] using hx0
         subst hh)
      | (have hh : h = 1 := by apply Fin.ext; simpa [ix3] using hx0
         subst hh)
      | (have hh : h = 0 := by apply Fin.ext; simpa [ix3] using hx0
         subst hh)
    rfl

theorem keep_B (t : Fin cfg0.N) (h0 : ¬t.val % 6 = 0) (h1 : ¬t.val % 198 = 0) (h2 : ¬1 ≤ t.val / 6 % 33)
    (h3 : ¬t.val % 6 = 5) :
    (outsAt0 m c t.val t.isLt).2.2 = (outsAt0 m c (t.val - 1) (by omega)).2.2 := by
  rw [outsAt0_B m c t h0 h1 h2 h3]
  exact rfl

theorem keep_C (t : Fin cfg0.N) (h0 : ¬t.val % 6 = 0) (h1 : ¬t.val % 198 = 0) (h2 : ¬1 ≤ t.val / 6 % 33)
    (h3 : t.val % 6 = 5) :
    (outsAt0 m c t.val t.isLt).2.2 = (outsAt0 m c (t.val - 1) (by omega)).2.2 := by
  rw [outsAt0_C m c t h0 h1 h2 h3]
  exact rfl

theorem sum_E (t : Fin cfg0.N) (h0 : ¬t.val % 6 = 0) (h1 : ¬t.val % 198 = 0) (h2 : 1 ≤ t.val / 6 % 33)
    (h3 : ¬t.val % 6 = 5) :
    (outsAt0 m c t.val t.isLt).2.2.2 = (outsAt0 m c (t.val - 1) (by omega)).2.2.2 := by
  rw [outsAt0_E m c t h0 h1 h2 h3]
  exact rfl

theorem sum_F (t : Fin cfg0.N) (h0 : ¬t.val % 6 = 0) (h1 : ¬t.val % 198 = 0) (h2 : 1 ≤ t.val / 6 % 33)
    (h3 : t.val % 6 = 5) :
    (outsAt0 m c t.val t.isLt).2.2.2 = (outsAt0 m c (t.val - 1) (by omega)).2.2.2 := by
  rw [outsAt0_F m c t h0 h1 h2 h3]
  exact rfl

set_option maxHeartbeats 1000000 in
theorem out_C (t : Fin cfg0.N) (h0 : ¬t.val % 6 = 0) (h1 : ¬t.val % 198 = 0) (h2 : ¬1 ≤ t.val / 6 % 33)
    (h3 : t.val % 6 = 5) (h : Fin 4) (i : Fin 256) (d : Fin 128) :
    (outsAt0 m c t.val t.isLt).1 (ix2 i ⟨h * 128 + d, by omega⟩)
      = (outsAt0 m c t.val t.isLt).2.2.1 (ix3 h i d) * Ideal.ofBits .f32 0x3DB504F3#32 := by
  rw [keep_C m c t h0 h1 h2 h3, outsAt0_C m c t h0 h1 h2 h3]
  dsimp only
  frame_out
  simp only [read_unread_whole, ld_cols, ld_rows, ld_slab]
  canon_tiles x hx
  all_goals
    obtain ⟨b, e, rfl⟩ : ∃ b e, x = ix2 b e := ⟨_, _, eq_ix2 x⟩
    have hi : i = b := Fin.ext hx0
    subst hi
    have he := e.isLt
    have hd := d.isLt
    simp only [scaled, full]
    first
      | (have hh : h.val * 128 + d.val = 384 + e.val := hx1
         have hn : h = 3 := by apply Fin.ext; show h.val = 3; omega
         have hd : d = e := by apply Fin.ext; subst hn; exact Nat.add_left_cancel (n := 384) (by simpa using hh)
         subst hn hd)
      | (have hh : h.val * 128 + d.val = 256 + e.val := hx1
         have hn : h = 2 := by apply Fin.ext; show h.val = 2; omega
         have hd : d = e := by apply Fin.ext; subst hn; exact Nat.add_left_cancel (n := 256) (by simpa using hh)
         subst hn hd)
      | (have hh : h.val * 128 + d.val = 128 + e.val := hx1
         have hn : h = 1 := by apply Fin.ext; show h.val = 1; omega
         have hd : d = e := by apply Fin.ext; subst hn; exact Nat.add_left_cancel (n := 128) (by simpa using hh)
         subst hn hd)
      | (have hh : h.val * 128 + d.val = e.val := hx1
         have hn : h = 0 := by apply Fin.ext; show h.val = 0; omega
         have hd : d = e := by apply Fin.ext; subst hn; exact Nat.add_left_cancel (n := 0) (by simpa using hh)
         subst hn hd)
    rfl

theorem sums_C (t : Fin cfg0.N) (h0 : ¬t.val % 6 = 0) (h1 : ¬t.val % 198 = 0) (h2 : ¬1 ≤ t.val / 6 % 33)
    (h3 : t.val % 6 = 5) (h : Fin 4) (i : Fin 256) :
    (outsAt0 m c t.val t.isLt).2.1 (ix3 h i 0) = (outsAt0 m c (t.val - 1) (by omega)).2.2.2 (ix3 h i 0) := by
  rw [outsAt0_C m c t h0 h1 h2 h3]
  dsimp only
  frame_out
  simp only [read_unread_whole, ld_rows, kept]
  canon_tiles x hx
  all_goals
    obtain ⟨a, b, e, rfl⟩ : ∃ a b e, x = ix3 a b e := ⟨_, _, _, eq_ix3 x⟩
    have hi : i = b := Fin.ext hx1
    obtain rfl : e = 0 := Subsingleton.elim _ _
    subst hi
    first
      | (have hh : h = 3 := by apply Fin.ext; simpa [ix3] using hx0
         subst hh)
      | (have hh : h = 2 := by apply Fin.ext; simpa [ix3] using hx0
         subst hh)
      | (have hh : h = 1 := by apply Fin.ext; simpa [ix3] using hx0
         subst hh)
      | (have hh : h = 0 := by apply Fin.ext; simpa [ix3] using hx0
         subst hh)
    rfl

set_option maxHeartbeats 1000000 in
theorem out_F (t : Fin cfg0.N) (h0 : ¬t.val % 6 = 0) (h1 : ¬t.val % 198 = 0) (h2 : 1 ≤ t.val / 6 % 33)
    (h3 : t.val % 6 = 5) (h : Fin 4) (i : Fin 256) (d : Fin 128) :
    (outsAt0 m c t.val t.isLt).1 (ix2 i ⟨h * 128 + d, by omega⟩)
      = (outsAt0 m c t.val t.isLt).2.2.1 (ix3 h i d) * Ideal.ofBits .f32 0x3DB504F3#32 := by
  rw [acc_F m c t h0 h1 h2 h3, outsAt0_F m c t h0 h1 h2 h3]
  dsimp only
  frame_out
  simp (disch := decide) only [↓ View.readCov_skip, ↓ View.readCov_cons_toLoadRect, ↓ View.readCov_fill]
  simp only [read_unread_whole, ld_cols, ld_rows, ld_slab]
  canon_tiles x hx
  all_goals
    obtain ⟨b, e, rfl⟩ : ∃ b e, x = ix2 b e := ⟨_, _, eq_ix2 x⟩
    have hi : i = b := Fin.ext hx0
    subst hi
    have he := e.isLt
    have hd := d.isLt
    simp only [scaled, full]
    first
      | (have hh : h.val * 128 + d.val = 384 + e.val := hx1
         have hn : h = 3 := by apply Fin.ext; show h.val = 3; omega
         have hd : d = e := by apply Fin.ext; subst hn; exact Nat.add_left_cancel (n := 384) (by simpa using hh)
         subst hn hd)
      | (have hh : h.val * 128 + d.val = 256 + e.val := hx1
         have hn : h = 2 := by apply Fin.ext; show h.val = 2; omega
         have hd : d = e := by apply Fin.ext; subst hn; exact Nat.add_left_cancel (n := 256) (by simpa using hh)
         subst hn hd)
      | (have hh : h.val * 128 + d.val = 128 + e.val := hx1
         have hn : h = 1 := by apply Fin.ext; show h.val = 1; omega
         have hd : d = e := by apply Fin.ext; subst hn; exact Nat.add_left_cancel (n := 128) (by simpa using hh)
         subst hn hd)
      | (have hh : h.val * 128 + d.val = e.val := hx1
         have hn : h = 0 := by apply Fin.ext; show h.val = 0; omega
         have hd : d = e := by apply Fin.ext; subst hn; exact Nat.add_left_cancel (n := 0) (by simpa using hh)
         subst hn hd)
    rfl

theorem sums_F (t : Fin cfg0.N) (h0 : ¬t.val % 6 = 0) (h1 : ¬t.val % 198 = 0) (h2 : 1 ≤ t.val / 6 % 33)
    (h3 : t.val % 6 = 5) (h : Fin 4) (i : Fin 256) :
    (outsAt0 m c t.val t.isLt).2.1 (ix3 h i 0) = (outsAt0 m c (t.val - 1) (by omega)).2.2.2 (ix3 h i 0) := by
  rw [outsAt0_F m c t h0 h1 h2 h3]
  dsimp only
  frame_out
  simp only [read_unread_whole, ld_rows, kept]
  canon_tiles x hx
  all_goals
    obtain ⟨a, b, e, rfl⟩ : ∃ a b e, x = ix3 a b e := ⟨_, _, _, eq_ix3 x⟩
    have hi : i = b := Fin.ext hx1
    obtain rfl : e = 0 := Subsingleton.elim _ _
    subst hi
    first
      | (have hh : h = 3 := by apply Fin.ext; simpa [ix3] using hx0
         subst hh)
      | (have hh : h = 2 := by apply Fin.ext; simpa [ix3] using hx0
         subst hh)
      | (have hh : h = 1 := by apply Fin.ext; simpa [ix3] using hx0
         subst hh)
      | (have hh : h = 0 := by apply Fin.ext; simpa [ix3] using hx0
         subst hh)
    rfl

end Cert.DqIdeal.Step

end
-- ==== Proof.DqValue.lean ====
/-
  The queries' gradient: what the kernel's blocks hold of the arrays, and its outputs on the reals.
-/
module

public import proofs.«01_k».proof.Proof.DqCase
public import proofs.«01_k».proof.Proof.Softmax

@[expose] public section

set_option maxRecDepth 16384

noncomputable section

namespace Cert.DqIdeal.Step

open Cert.Attn Cert.DqIdeal Cert.DqIdeal.Gen Idealize.ShloMosaic Idealize.ShloMosaic.TcCoe Idealize.SL.Sem

variable (m : (ℓ : Loc nD τ sig) → Buf (Elt Ideal) ℓ) (c : Dev nD)

/-- The blocks that one grid point reads: the row blocks go with the second coordinate, the key blocks with the third. -/
theorem idx_rows : ∀ t : Fin cfg0.N,
    (win0_0.index t (0 : Fin 2) = t.val / 6 % 33 ∧ win0_0.index t (1 : Fin 2) = t.val / 198)
    ∧ (win0_3.index t (0 : Fin 2) = t.val / 6 % 33 ∧ win0_3.index t (1 : Fin 2) = t.val / 198)
    ∧ (win0_4.index t (0 : Fin 2) = t.val / 6 % 33 ∧ win0_4.index t (1 : Fin 2) = t.val / 198)
    ∧ (win0_5.index t (0 : Fin 3) = t.val / 198 ∧ win0_5.index t (1 : Fin 3) = t.val / 6 % 33
      ∧ win0_5.index t (2 : Fin 3) = 0) :=
  (by decide +kernel : ∀ t : Fin grid0.N, _)

theorem idx_keys : ∀ t : Fin cfg0.N,
    (win0_1.index t (0 : Fin 2) = t.val % 6 ∧ win0_1.index t (1 : Fin 2) = t.val / 198)
    ∧ (win0_2.index t (0 : Fin 2) = t.val % 6 ∧ win0_2.index t (1 : Fin 2) = t.val / 198) :=
  (by decide +kernel : ∀ t : Fin grid0.N, _)

theorem lt_points (t : Fin cfg0.N) : t.val < 396 := t.isLt

/-- A row of the blocks in the whole array. -/
abbrev row (t : Fin cfg0.N) (i : Fin 256) : Fin 8448 := ⟨t.val / 6 % 33 * 256 + i, by omega⟩

/-- A key of the blocks in the whole array. -/
abbrev key (t : Fin cfg0.N) (j : Fin 1408) : Fin 8448 := ⟨t.val % 6 * 1408 + j, by omega⟩

theorem block_0 (X : Vec Ideal S8448x1024 .bf16) (t : Fin cfg0.N) (i : Fin 256) (x : Fin 512) :
    (((cfg0.win 0).blk t).view.read (Elt Ideal) X : Vec Ideal S256x512 .bf16) (ix2 i x)
      = X (ix2 (row t i) ⟨t.val / 198 * 512 + x, by have := lt_points t; omega⟩) := by
  blk_simp [idx_rows t]
  blk_ext [idx_rows t]

theorem block_3 (X : Vec Ideal S8448x1024 .f32) (t : Fin cfg0.N) (i : Fin 256) (x : Fin 512) :
    (((cfg0.win 3).blk t).view.read (Elt Ideal) X : Vec Ideal S256x512 .f32) (ix2 i x)
      = X (ix2 (row t i) ⟨t.val / 198 * 512 + x, by have := lt_points t; omega⟩) := by
  blk_simp [idx_rows t]
  blk_ext [idx_rows t]

theorem block_4 (X : Vec Ideal S8448x1024 .f32) (t : Fin cfg0.N) (i : Fin 256) (x : Fin 512) :
    (((cfg0.win 4).blk t).view.read (Elt Ideal) X : Vec Ideal S256x512 .f32) (ix2 i x)
      = X (ix2 (row t i) ⟨t.val / 198 * 512 + x, by have := lt_points t; omega⟩) := by
  blk_simp [idx_rows t]
  blk_ext [idx_rows t]

theorem block_1 (X : Vec Ideal S8448x256 .bf16) (t : Fin cfg0.N) (j : Fin 1408) (d : Fin 128) :
    (((cfg0.win 1).blk t).view.read (Elt Ideal) X : Vec Ideal S1408x128 .bf16) (ix2 j d)
      = X (ix2 (key t j) ⟨t.val / 198 * 128 + d, by have := lt_points t; omega⟩) := by
  blk_simp [idx_keys t]
  blk_ext [idx_keys t]

theorem block_2 (X : Vec Ideal S8448x256 .bf16) (t : Fin cfg0.N) (j : Fin 1408) (d : Fin 128) :
    (((cfg0.win 2).blk t).view.read (Elt Ideal) X : Vec Ideal S1408x128 .bf16) (ix2 j d)
      = X (ix2 (key t j) ⟨t.val / 198 * 128 + d, by have := lt_points t; omega⟩) := by
  blk_simp [idx_keys t]
  blk_ext [idx_keys t]

theorem block_5 (X : Vec Ideal S8x8448x1 .f32) (t : Fin cfg0.N) (h : Fin 4) (i : Fin 256) :
    (((cfg0.win 5).blk t).view.read (Elt Ideal) X : Vec Ideal S4x256x1 .f32) (ix3 h i 0)
      = X (ix3 ⟨t.val / 198 * 4 + h, by have := lt_points t; omega⟩ (row t i) 0) := by
  blk_simp [idx_rows t]
  blk_ext [idx_rows t]

/-- What the kernel is given: the scaled queries, the keys, the values, the result of the attention, its cotangent,
    and the logarithms of the rows' sums, all real. -/
structure Entry (A : Data) : Prop where
  q : ∀ (r : Fin 8448) (x : Fin 1024), (V m c main_v6 : FVec Ideal S8448x1024 .bf16) (ix2 r x)
    = ((A.q r x * scale * (Real.log 2)⁻¹ : ℝ) : EReal)
  k : ∀ (r : Fin 8448) (x : Fin 256), (V m c main_v7 : FVec Ideal S8448x256 .bf16) (ix2 r x) = (A.k r x : EReal)
  v : ∀ (r : Fin 8448) (x : Fin 256), (V m c main_v8 : FVec Ideal S8448x256 .bf16) (ix2 r x) = (A.v r x : EReal)
  o : ∀ (r : Fin 8448) (x : Fin 1024), (V m c main_v41 : FVec Ideal S8448x1024 .f32) (ix2 r x)
    = (A.out (x / 512) (x / 128 % 4) r (x % 128) : EReal)
  d : ∀ (r : Fin 8448) (x : Fin 1024), (V m c main_arg3 : FVec Ideal S8448x1024 .f32) (ix2 r x) = (A.d r x : EReal)
  l : ∀ (n : Fin 8) (r : Fin 8448), (V m c main_v69 : FVec Ideal S8x8448x1 .f32) (ix3 n r 0)
    = (A.lse (n / 4) (n % 4) r : EReal)

variable {m c} {A : Data} (E : Entry m c A) (t : Fin cfg0.N) (h : Fin 4) (i : Fin 256)
include E

theorem q_at (x : Fin 128) : cols (iblk m c 0 t) h (ix2 i x)
    = ((A.q (row t i) (t.val / 198 * 512 + h * 128 + x) * scale * (Real.log 2)⁻¹ : ℝ) : EReal) := by
  refine ((block_0 (V m c main_v6) t i _).trans (E.q _ _)).trans ?_
  simp [ix2, Nat.add_assoc]

theorem d_at (x : Fin 128) : cols (iblk m c 4 t) h (ix2 i x)
    = (A.d (row t i) (t.val / 198 * 512 + h * 128 + x) : EReal) := by
  refine ((block_4 (V m c main_arg3) t i _).trans (E.d _ _)).trans ?_
  simp [ix2, Nat.add_assoc]

theorem o_at (x : Fin 128) : cols (iblk m c 3 t) h (ix2 i x)
    = (A.out (t.val / 198) h (row t i) x : EReal) := by
  refine ((block_3 (V m c main_v41) t i _).trans (E.o _ _)).trans ?_
  simp only [ix2]
  congr 2 <;> simp <;> omega

theorem k_at (j : Fin 1408) (x : Fin 128) : (iblk m c 1 t : Vec Ideal S1408x128 .bf16) (ix2 j x)
    = (A.k (key t j) (t.val / 198 * 128 + x) : EReal) :=
  (block_1 (V m c main_v7) t j x).trans (E.k _ _)

theorem v_at (j : Fin 1408) (x : Fin 128) : (iblk m c 2 t : Vec Ideal S1408x128 .bf16) (ix2 j x)
    = (A.v (key t j) (t.val / 198 * 128 + x) : EReal) :=
  (block_2 (V m c main_v8) t j x).trans (E.v _ _)

theorem l_at : rows (iblk m c 5 t) h (ix3 0 i 0) = (A.lse (t.val / 198) h (row t i) : EReal) := by
  refine ((block_5 (V m c main_v69) t h i).trans (E.l _ _)).trans ?_
  congr 2 <;> simp <;> omega

/-- The kernel's row sums are the means of the softmax's cotangent. -/
theorem psum_eq : psum m c t h i = (A.delta (t.val / 198) h (row t i) : EReal) := by
  unfold psum dsum
  simp only [d_at E, o_at E, ← EReal.coe_mul, coe_sum]
  rw [← A.delta_eq]
  simp only [mul_comm]

omit E in
/-- A term on real scores: the weight of a key that the row sees, times its cotangent less the row's mean. -/
theorem term_real (hid : ℕ → Prop) [DecidablePred hid] (q : FVec Ideal S256x128 .bf16) (k v : FVec Ideal S1408x128 .bf16)
    (d : FVec Ideal S256x128 .f32) (i : Fin 256) (j : Fin 1408) (s M L p g : ℝ) (sees : Prop) [Decidable sees]
    (hs : ∑ x : Fin 128, q (ix2 i x) * k (ix2 j x) = ((s * (Real.log 2)⁻¹ : ℝ) : EReal))
    (hd : ∑ x : Fin 128, d (ix2 i x) * v (ix2 j x) = (p : EReal)) (hL : 0 < L) (hh : hid j ↔ ¬ sees) :
    term hid q k v d ((M + Real.log L : ℝ) : EReal) (g : EReal) i j = ((wt sees s M / L * (p - g) : ℝ) : EReal) := by
  have hv : (if hid j then (⊥ : EReal) else ((s * (Real.log 2)⁻¹ : ℝ) : EReal))
      = if sees then ((s * (Real.log 2)⁻¹ : ℝ) : EReal) else ⊥ := by
    by_cases hk : hid j
    · rw [if_pos hk, if_neg (hh.1 hk)]
    · rw [if_neg hk, if_pos (not_not.1 fun h => hk (hh.2 h))]
  unfold term
  rw [hs, hd, hv, ← EReal.coe_mul, exp2_masked _ _ _ hL, ← EReal.coe_sub, ← EReal.coe_mul]

/-- The kernel's term is the cotangent of the score. -/
theorem pterm_eq (hid : ℕ → Prop) [DecidablePred hid] (j : Fin 1408) (hh : hid j ↔ ¬ vis (row t i) (key t j)) :
    pterm m c hid t (A.delta (t.val / 198) h (row t i) : EReal) h i j
      = (A.dscore (t.val / 198) h (row t i) (key t j) : EReal) := by
  unfold pterm
  rw [l_at E]
  refine term_real hid _ _ _ _ i j (A.score (t.val / 198) h (row t i) (key t j)) _ _
    (A.dprob (t.val / 198) h (row t i) (key t j)) _ (vis (row t i) (key t j)) ?_ ?_ (A.tot_pos _ _ _) hh
  · simp only [q_at E, k_at E, ← EReal.coe_mul, coe_sum]
    unfold Data.score
    rw [Finset.sum_mul, Finset.sum_mul]
    exact congrArg _ (Finset.sum_congr rfl fun x _ => by ring)
  · simp only [d_at E, v_at E, ← EReal.coe_mul, coe_sum]
    rfl

omit E in
/-- A sum over whole blocks of keys, with one block more. -/
theorem sum_block (f : ℕ → ℝ) (b : ℕ) :
    ∑ j ∈ Finset.range ((b + 1) * 1408), f j
      = (∑ j ∈ Finset.range (b * 1408), f j) + ∑ j : Fin 1408, f (b * 1408 + j) := by
  rw [Nat.succ_mul, Finset.sum_range_add, Finset.sum_range (fun x => f (b * 1408 + x))]

/-- The products that one point adds to the accumulator. -/
theorem step_eq (hid : ℕ → Prop) [DecidablePred hid] (hh : ∀ j : Fin 1408, hid j ↔ ¬ vis (row t i) (key t j))
    (d : Fin 128) :
    ∑ j : Fin 1408, pterm m c hid t (A.delta (t.val / 198) h (row t i) : EReal) h i j
        * (iblk m c 1 t : Vec Ideal S1408x128 .bf16) (ix2 j d)
      = ((∑ j : Fin 1408, A.dscore (t.val / 198) h (row t i) (t.val % 6 * 1408 + j)
          * A.k (t.val % 6 * 1408 + j) (t.val / 198 * 128 + d) : ℝ) : EReal) := by
  rw [← coe_sum]
  exact Finset.sum_congr rfl fun j _ => by rw [pterm_eq E t h i hid j (hh j), k_at E, ← EReal.coe_mul]

/-- After every point, the accumulator holds the sum over the keys so far, and the row sums hold their means: a context
    row's hidden keys add nothing to either. -/
theorem inv (n : ℕ) (hn : n < cfg0.N) (h : Fin 4) (i : Fin 256) :
    (∀ d : Fin 128, (outsAt0 m c n hn).2.2.1 (ix3 h i d)
      = ((∑ j ∈ Finset.range ((n % 6 + 1) * 1408), A.dscore (n / 198) h (row ⟨n, hn⟩ i) j * A.k j (n / 198 * 128 + d) : ℝ)
        : EReal))
    ∧ (outsAt0 m c n hn).2.2.2 (ix3 h i 0) = (A.delta (n / 198) h (row ⟨n, hn⟩ i) : EReal) := by
  induction n with
  | zero =>
    constructor
    · intro d
      rw [acc_A m c ⟨0, hn⟩ rfl rfl (by simp) (by simp) h i d, psum_eq E, step_eq E]
      · rw [zero_add, sum_block]; simp
      · intro j; show 256 ≤ 0 % 6 * 1408 + (j : ℕ) ↔ ¬(256 ≤ 0 / 6 % 33 * 256 + (i : ℕ) ∨ 0 % 6 * 1408 + (j : ℕ) < 256); omega
    · rw [sum_A m c ⟨0, hn⟩ rfl rfl (by simp) (by simp) h i, psum_eq E]
  | succ n ih =>
    have hN : n + 1 < 396 := hn
    have k1 : (n + 1) % 198 = 0 → (n + 1) / 6 % 33 = 0 := by omega
    have k2 : (n + 1) % 6 = 0 → ¬(n + 1) % 198 = 0 → 1 ≤ (n + 1) / 6 % 33 := by omega
    by_cases h0 : (n + 1) % 6 = 0
    · by_cases h1 : (n + 1) % 198 = 0
      · have k1 := k1 h1
        have H2 : ¬1 ≤ (n + 1) / 6 % 33 := by rw [k1]; decide
        constructor
        · intro d
          rw [acc_A m c ⟨n + 1, hn⟩ h0 h1 H2 (by rw [h0]; decide) h i d, psum_eq E, step_eq E]
          · rw [zero_add, sum_block]; simp [h0]
          · intro j
            show 256 ≤ (n + 1) % 6 * 1408 + (j : ℕ)
              ↔ ¬(256 ≤ (n + 1) / 6 % 33 * 256 + (i : ℕ) ∨ (n + 1) % 6 * 1408 + (j : ℕ) < 256)
            rw [k1]; omega
        · rw [sum_A m c ⟨n + 1, hn⟩ h0 h1 H2 (by rw [h0]; decide) h i, psum_eq E]
      · have H2 := k2 h0 h1
        constructor
        · intro d
          rw [acc_D m c ⟨n + 1, hn⟩ h0 h1 H2 (by rw [h0]; decide) h i d, psum_eq E, step_eq E]
          · rw [zero_add, sum_block]; simp [h0]
          · intro j
            show False ↔ ¬(256 ≤ (n + 1) / 6 % 33 * 256 + (i : ℕ) ∨ (n + 1) % 6 * 1408 + (j : ℕ) < 256)
            rw [false_iff, not_not]; left; omega
        · rw [sum_D m c ⟨n + 1, hn⟩ h0 h1 H2 (by rw [h0]; decide) h i, psum_eq E]
    · have hg : n / 198 = (n + 1) / 198 := by omega
      have hr : row ⟨n, Nat.lt_of_succ_lt hn⟩ i = row ⟨n + 1, hn⟩ i := by
        apply Fin.ext; simp only [row]; omega
      have hb : n % 6 + 1 = (n + 1) % 6 := by omega
      have ih := ih (Nat.lt_of_succ_lt hn)
      rw [hg, hr, hb] at ih
      have h1 : ¬ (n + 1) % 198 = 0 := by omega
      by_cases h2 : 1 ≤ (n + 1) / 6 % 33
      · have hs : (outsAt0 m c (n + 1) hn).2.2.2 = (outsAt0 m c n (Nat.lt_of_succ_lt hn)).2.2.2 := by
          by_cases h3 : (n + 1) % 6 = 5
          · exact sum_F m c ⟨n + 1, hn⟩ h0 h1 h2 h3
          · exact sum_E m c ⟨n + 1, hn⟩ h0 h1 h2 h3
        refine ⟨fun d => ?_, by rw [hs]; exact ih.2⟩
        have ha : (outsAt0 m c (n + 1) hn).2.2.1 (ix3 h i d)
            = (outsAt0 m c n (Nat.lt_of_succ_lt hn)).2.2.1 (ix3 h i d) + ∑ j : Fin 1408,
              pterm m c (fun _ => False) ⟨n + 1, hn⟩ ((outsAt0 m c n (Nat.lt_of_succ_lt hn)).2.2.2 (ix3 h i 0)) h i j
                * (iblk m c 1 ⟨n + 1, hn⟩ : Vec Ideal S1408x128 .bf16) (ix2 j d) := by
          by_cases h3 : (n + 1) % 6 = 5
          · exact acc_F m c ⟨n + 1, hn⟩ h0 h1 h2 h3 h i d
          · exact acc_E m c ⟨n + 1, hn⟩ h0 h1 h2 h3 h i d
        rw [ha, ih.1, ih.2, sum_block, EReal.coe_add]
        refine congrArg _ (step_eq E ⟨n + 1, hn⟩ h i _ (fun j => ?_) d)
        show False ↔ ¬(256 ≤ (n + 1) / 6 % 33 * 256 + (i : ℕ) ∨ (n + 1) % 6 * 1408 + (j : ℕ) < 256)
        rw [false_iff, not_not]; left; omega
      · have hs : (outsAt0 m c (n + 1) hn).2.2 = (outsAt0 m c n (Nat.lt_of_succ_lt hn)).2.2 := by
          by_cases h3 : (n + 1) % 6 = 5
          · exact keep_C m c ⟨n + 1, hn⟩ h0 h1 h2 h3
          · exact keep_B m c ⟨n + 1, hn⟩ h0 h1 h2 h3
        rw [hs]
        refine ⟨fun d => ?_, ih.2⟩
        rw [ih.1, sum_block, Finset.sum_eq_zero (s := Finset.univ), add_zero]
        intro j _
        have hv : ¬vis ((n + 1) / 6 % 33 * 256 + (i : ℕ)) ((n + 1) % 6 * 1408 + (j : ℕ)) := by
          rw [show (n + 1) / 6 % 33 = 0 by omega]
          rintro (h | h) <;> omega
        exact mul_eq_zero_of_left (A.dscore_of_not_vis _ _ _ _ hv) _

/-- A row block's last point leaves the gradient of its queries. -/
theorem out_eq (t : Fin cfg0.N) (h5 : t.val % 6 = 5) (h : Fin 4) (i : Fin 256) (d : Fin 128) :
    (outsAt0 m c t.val t.isLt).1 (ix2 i ⟨h * 128 + d, by omega⟩)
      = (A.gradQ (t.val / 198) h (row t i) d : EReal) := by
  have hs : (outsAt0 m c t.val t.isLt).1 (ix2 i ⟨h * 128 + d, by omega⟩)
      = (outsAt0 m c t.val t.isLt).2.2.1 (ix3 h i d) * Ideal.ofBits .f32 0x3DB504F3#32 := by
    by_cases h2 : 1 ≤ t.val / 6 % 33
    · exact out_F m c t (by omega) (by omega) h2 h5 h i d
    · exact out_C m c t (by omega) (by omega) h2 h5 h i d
  rw [hs, (inv E t.val t.isLt h i).1 d, ofBits_scale, ← EReal.coe_mul, h5, Data.gradQ, Finset.sum_range]

/-- It leaves the rows' means too. -/
theorem sums_eq (t : Fin cfg0.N) (h5 : t.val % 6 = 5) (h : Fin 4) (i : Fin 256) :
    (outsAt0 m c t.val t.isLt).2.1 (ix3 h i 0) = (A.delta (t.val / 198) h (row t i) : EReal) := by
  rw [← (inv E t.val t.isLt h i).2]
  by_cases h2 : 1 ≤ t.val / 6 % 33
  · rw [sums_F m c t (by omega) (by omega) h2 h5, sum_F m c t (by omega) (by omega) h2 h5]
  · rw [sums_C m c t (by omega) (by omega) h2 h5, keep_C m c t (by omega) (by omega) h2 h5]

end Cert.DqIdeal.Step

end
-- ==== Proof.Stages.lean ====
/-
  The plain attention over whole arrays, in stages, as every program's host lines compute it.
  The shapes are those of `DqRefIdeal`; the other programs' shapes are the same.
-/
module

public import proofs.«01_k».proof.Proof.Spec
public import proofs.«01_k».proof.Proof.Gen.DqRefIdeal
public import proofs.«01_k».proof.Proof.Gen.FwdRefIdeal

@[expose] public section

set_option maxRecDepth 16384

noncomputable section

namespace Cert.Attn

open Cert.DqRefIdeal Cert.DqRefIdeal.Gen Idealize.ShloMosaic

/-- Which keys a query's row sees: all of them for a latent row, the context's for a context row. -/
def seen : IVec S2x4x8448x8448 1 :=
  broadcastInDim S2x4x8448x8448 ![2, 3] bcast_S8448x8448_S2x4x8448x8448_2_3
    (ori
      (broadcastInDim S8448x8448 ![0, 1] bcast_S8448x1_S8448x8448_0_1
        (cmpi .sge (broadcastInDim S8448x1 ![0] bcast_S8448_S8448x1_0 (iotaInDim S8448 32 0))
          (broadcastInDim S8448x1 ![] bcast_S_S8448x1 (constantI S_ 32 256#32))))
      (broadcastInDim S8448x8448 ![0, 1] bcast_S1x8448_S8448x8448_0_1
        (cmpi .slt (broadcastInDim S1x8448 ![1] bcast_S8448_S1x8448_1 (iotaInDim S8448 32 0))
          (broadcastInDim S1x8448 ![] bcast_S_S1x8448 (constantI S_ 32 256#32)))))

/-- The masked scores. -/
def scoresA (q : FVec Ideal S8448x1024 .f32) (k : FVec Ideal S8448x256 .f32) : FVec Ideal S2x4x8448x8448 .f32 :=
  select seen
    (mulf (transpose S2x4x8448x8448 [0, 3, 2, 1]
        (Host.dotGeneral dot_S8448x2x128_S8448x2x4x128_S2x8448x8448x4_2_3_0_02_1_1 none
          (shapeCast _ k shapeCasts_S8448x256_S8448x2x128 : FVec Ideal S8448x2x128 .f32)
          (shapeCast _ q shapeCasts_S8448x1024_S8448x2x4x128 : FVec Ideal S8448x2x4x128 .f32))
        transposes_S2x8448x8448x4_S2x4x8448x8448_0_3_2_1)
      (broadcastInDim S2x4x8448x8448 ![] bcast_S_S2x4x8448x8448 (constant S_ .f32 0x3DB504F3#32)))
    (broadcastInDim S2x4x8448x8448 ![] bcast_S_S2x4x8448x8448 (id (constant S_ .f32 0xFF800000#32)))

/-- Each row's largest score. -/
def maxA (s : FVec Ideal S2x4x8448x8448 .f32) : FVec Ideal S2x4x8448 .f32 :=
  Host.reduce FloatOps.maximumf s (constant S_ .f32 0xFF800000#32) reducesTo_S2x4x8448x8448_S2x4x8448_d3 h_S_

/-- The exponentials of a row of scores less a number of the row's own. -/
def expA (s : FVec Ideal S2x4x8448x8448 .f32) (t : FVec Ideal S2x4x8448 .f32) : FVec Ideal S2x4x8448x8448 .f32 :=
  Host.exp (subf s (broadcastInDim S2x4x8448x8448 ![0, 1, 2, 3] bcast_S2x4x8448x1_S2x4x8448x8448_0_1_2_3
    (broadcastInDim S2x4x8448x1 ![0, 1, 2] bcast_S2x4x8448_S2x4x8448x1_0_1_2 t)))

/-- The sums of the rows of weights. -/
def sumA (e : FVec Ideal S2x4x8448x8448 .f32) : FVec Ideal S2x4x8448x1 .f32 :=
  broadcastInDim S2x4x8448x1 ![0, 1, 2] bcast_S2x4x8448_S2x4x8448x1_0_1_2
    (Host.reduceAdd e (constant S_ .f32 0x00000000#32) reducesTo_S2x4x8448x8448_S2x4x8448_d3 h_S_)

/-- A row's maximum, and minus infinity where that is larger. -/
def botMaxA (t : FVec Ideal S2x4x8448 .f32) : FVec Ideal S2x4x8448 .f32 :=
  maximumf (broadcastInDim S2x4x8448 ![] bcast_S_S2x4x8448 (constant S_ .f32 0xFF800000#32)) t

/-- The weights as `jax.nn.softmax` computes them, the row's maximum taken once more with minus infinity. -/
def weightsA (q : FVec Ideal S8448x1024 .f32) (k : FVec Ideal S8448x256 .f32) : FVec Ideal S2x4x8448x8448 .f32 :=
  expA (scoresA q k) (botMaxA (maxA (scoresA q k)))

/-- A row of numbers, one to a key. -/
def rowsA (l : FVec Ideal S2x4x8448x1 .f32) : FVec Ideal S2x4x8448x8448 .f32 :=
  broadcastInDim S2x4x8448x8448 ![0, 1, 2, 3] bcast_S2x4x8448x1_S2x4x8448x8448_0_1_2_3 l

/-- The softmax. -/
def probA (q : FVec Ideal S8448x1024 .f32) (k : FVec Ideal S8448x256 .f32) : FVec Ideal S2x4x8448x8448 .f32 :=
  Host.divf (weightsA q k) (rowsA (sumA (weightsA q k)))

/-- The values' array by key head. -/
def headsA (k : FVec Ideal S8448x256 .f32) : FVec Ideal S8448x2x128 .f32 :=
  shapeCast _ k shapeCasts_S8448x256_S8448x2x128

/-- The attention's result. -/
def attnA (q : FVec Ideal S8448x1024 .f32) (k v : FVec Ideal S8448x256 .f32) : FVec Ideal S8448x1024 .f32 :=
  shapeCast _ (transpose S8448x2x4x128 [3, 0, 2, 1]
    (Host.dotGeneral dot_S8448x2x128_S2x4x8448x8448_S2x128x4x8448_0_3_2_12_1_0 none (headsA v) (probA q k))
    transposes_S2x128x4x8448_S8448x2x4x128_3_0_2_1) shapeCasts_S8448x2x4x128_S8448x1024

/-- The rows of all heads, the heads in one axis. -/
def flatA (x : FVec Ideal S2x4x8448x1 .f32) : FVec Ideal S8x8448x1 .f32 :=
  shapeCast _ x Cert.FwdRefIdeal.Gen.shapeCasts_S2x4x8448x1_S8x8448x1

/-- A row's top score and the logarithm of its sum, added. -/
def topLogA (t : FVec Ideal S2x4x8448 .f32) (l : FVec Ideal S2x4x8448x1 .f32) : FVec Ideal S2x4x8448x1 .f32 :=
  addf (broadcastInDim S2x4x8448x1 ![0, 1, 2] bcast_S2x4x8448_S2x4x8448x1_0_1_2 t) (Host.log l)

/-- The logarithm of the sum of a row's exponentials. -/
def lseA (q : FVec Ideal S8448x1024 .f32) (k : FVec Ideal S8448x256 .f32) : FVec Ideal S8x8448x1 .f32 :=
  flatA (topLogA (maxA (scoresA q k)) (sumA (expA (scoresA q k) (maxA (scoresA q k)))))

/-- Each head's inner product of a row of the result and a row of its cotangent. -/
def deltaA (o d : FVec Ideal S8448x1024 .f32) : FVec Ideal S8x8448x1 .f32 :=
  broadcastInDim S8x8448x1 ![0, 1] bcast_S8x8448_S8x8448x1_0_1
    (transpose S8x8448 [1, 0]
      (Host.reduceAdd (shapeCast _ (mulf o d) shapeCasts_S8448x1024_S8448x8x128 : FVec Ideal S8448x8x128 .f32)
        (constant S_ .f32 0x00000000#32) reducesTo_S8448x8x128_S8448x8_d2 h_S_)
      transposes_S8448x8_S8x8448_1_0)

/-- The result's cotangent, its rows last. -/
def cotA (d : FVec Ideal S8448x1024 .f32) : FVec Ideal S2x128x4x8448 .f32 :=
  transpose S2x128x4x8448 [1, 3, 2, 0]
    (shapeCast _ d shapeCasts_S8448x1024_S8448x2x4x128 : FVec Ideal S8448x2x4x128 .f32)
    transposes_S8448x2x4x128_S2x128x4x8448_1_3_2_0

/-- The softmax's cotangent. -/
def dprobA (v : FVec Ideal S8448x256 .f32) (d : FVec Ideal S8448x1024 .f32) : FVec Ideal S2x4x8448x8448 .f32 :=
  Host.dotGeneral dot_S2x128x4x8448_S8448x2x128_S2x4x8448x8448_1_2_23_0_0_1 none (cotA d) (headsA v)

/-- The values' gradient. -/
def gradVA (q : FVec Ideal S8448x1024 .f32) (k : FVec Ideal S8448x256 .f32) (d : FVec Ideal S8448x1024 .f32) :
    FVec Ideal S8448x256 .f32 :=
  shapeCast _ (transpose S8448x2x128 [2, 0, 1]
    (Host.dotGeneral dot_S2x128x4x8448_S2x4x8448x8448_S2x128x8448_23_12_1_3_0_0 none (cotA d) (probA q k))
    transposes_S2x128x8448_S8448x2x128_2_0_1) shapeCasts_S8448x2x128_S8448x256

/-- The part of a weight's cotangent that comes through the row's sum. -/
def throughSumA (e p : FVec Ideal S2x4x8448x8448 .f32) : FVec Ideal S2x4x8448 .f32 :=
  Host.reduceAdd
    (Host.negf (shapeCast _ (Host.reduceAdd
      (mulf (mulf p (rowsA (Host.divf
        (broadcastInDim S2x4x8448x1 ![] bcast_S_S2x4x8448x1 (constant S_ .f32 0x3F800000#32))
        (mulf (sumA e) (sumA e))))) e)
      (constant S_ .f32 0x00000000#32) reducesTo_S2x4x8448x8448_S2x4x8448_d3 h_S_)
      shapeCasts_S2x4x8448_S2x4x8448x1 : FVec Ideal S2x4x8448x1 .f32))
    (constant S_ .f32 0x00000000#32) reducesTo_S2x4x8448x1_S2x4x8448_d3 h_S_

/-- The scores' cotangent, from the weights and the softmax's cotangent, the factor included, rows last but one. -/
def dscoreA (e p : FVec Ideal S2x4x8448x8448 .f32) : FVec Ideal S2x8448x8448x4 .f32 :=
  transpose S2x8448x8448x4 [0, 3, 2, 1]
    (mulf (select seen
      (mulf (addf (Host.divf p (rowsA (sumA e)))
        (broadcastInDim S2x4x8448x8448 ![0, 1, 2] bcast_S2x4x8448_S2x4x8448x8448_0_1_2 (throughSumA e p))) e)
      (broadcastInDim S2x4x8448x8448 ![] bcast_S_S2x4x8448x8448 (constant S_ .f32 0x00000000#32)))
      (broadcastInDim S2x4x8448x8448 ![] bcast_S_S2x4x8448x8448 (constant S_ .f32 0x3DB504F3#32)))
    transposes_S2x4x8448x8448_S2x8448x8448x4_0_3_2_1

/-- The queries' gradient. -/
def gradQA (q : FVec Ideal S8448x1024 .f32) (k v : FVec Ideal S8448x256 .f32) (d : FVec Ideal S8448x1024 .f32) :
    FVec Ideal S8448x1024 .f32 :=
  shapeCast _ (transpose S8448x2x4x128 [1, 0, 2, 3]
    (Host.dotGeneral dot_S2x8448x8448x4_S8448x2x128_S2x8448x4x128_1_0_23_2_0_1 none
      (dscoreA (weightsA q k) (dprobA v d)) (headsA k))
    transposes_S2x8448x4x128_S8448x2x4x128_1_0_2_3) shapeCasts_S8448x2x4x128_S8448x1024

/-- The keys' gradient. -/
def gradKA (q : FVec Ideal S8448x1024 .f32) (k v : FVec Ideal S8448x256 .f32) (d : FVec Ideal S8448x1024 .f32) :
    FVec Ideal S8448x256 .f32 :=
  shapeCast _ (transpose S8448x2x128 [1, 0, 2]
    (Host.dotGeneral dot_S2x8448x8448x4_S8448x2x4x128_S2x8448x128_23_02_1_3_0_1 none
      (dscoreA (weightsA q k) (dprobA v d))
      (shapeCast _ q shapeCasts_S8448x1024_S8448x2x4x128 : FVec Ideal S8448x2x4x128 .f32))
    transposes_S2x8448x128_S8448x2x128_1_0_2) shapeCasts_S8448x2x128_S8448x256

end Cert.Attn

end
-- ==== Proof.Host.lean ====
/-
  Each stage of the plain attention read at an index, over finite arrays.
-/
module

public import proofs.«01_k».proof.Proof.Stages
public import Idealize.ShloMosaic.Lib.WordCmp

@[expose] public section

set_option maxRecDepth 16384

noncomputable section

namespace Cert.Attn

open Cert.DqRefIdeal Cert.DqRefIdeal.Gen Idealize.ShloMosaic

/-! ## The stages at an index -/

theorem seen_apply (g : Fin 2) (h : Fin 4) (i j : Fin 8448) :
    seen (ix4 g h i j) = if vis i j then 1#1 else 0#1 := by
  pointwise [seen]
  have hi := i.isLt
  have hj := j.isLt
  simp (disch := omega) only [hlo_ix]
  rw [← WordCmp.ofBool_decide_eq_ite]
  simp only [vis, ge_iff_le, Bool.decide_or]

theorem maxA_apply (s : FVec Ideal S2x4x8448x8448 .f32) (g : Fin 2) (h : Fin 4) (i : Fin 8448) :
    maxA s (ix3 g h i) = Finset.univ.fold max ⊥ fun j => s (ix4 g h i j) := by
  pointwise [maxA]
  rw [show Ideal.ofBits FTy.f32 4286578688#32 = ⊥ by simp [Ideal.ofBits, Ideal.ieee]]

theorem expA_apply (s : FVec Ideal S2x4x8448x8448 .f32) (t : FVec Ideal S2x4x8448 .f32) (g : Fin 2) (h : Fin 4)
    (i j : Fin 8448) : expA s t (ix4 g h i j) = Ideal.exp (s (ix4 g h i j) - t (ix3 g h i)) := by
  pointwise [expA]

theorem sumA_apply (e : FVec Ideal S2x4x8448x8448 .f32) (g : Fin 2) (h : Fin 4) (i : Fin 8448) :
    sumA e (ix4 g h i 0) = ∑ j, e (ix4 g h i j) := by
  pointwise [sumA]

theorem rowsA_apply (l : FVec Ideal S2x4x8448x1 .f32) (g : Fin 2) (h : Fin 4) (i j : Fin 8448) :
    rowsA l (ix4 g h i j) = l (ix4 g h i 0) := by
  pointwise [rowsA]

theorem botMaxA_apply (t : FVec Ideal S2x4x8448 .f32) (g : Fin 2) (h : Fin 4) (i : Fin 8448) :
    botMaxA t (ix3 g h i) = t (ix3 g h i) := by
  pointwise [botMaxA]
  rw [show Ideal.ofBits FTy.f32 4286578688#32 = ⊥ by simp [Ideal.ofBits, Ideal.ieee]]
  exact max_eq_right bot_le

theorem topLogA_apply (t : FVec Ideal S2x4x8448 .f32) (l : FVec Ideal S2x4x8448x1 .f32) (g : Fin 2) (h : Fin 4)
    (i : Fin 8448) : topLogA t l (ix4 g h i 0) = t (ix3 g h i) + Ideal.log (l (ix4 g h i 0)) := by
  pointwise [topLogA]

theorem flatA_apply (x : FVec Ideal S2x4x8448x1 .f32) (n : Fin 8) (i : Fin 8448) :
    flatA x (ix3 n i 0) = x (ix4 ⟨n.val / 4, by omega⟩ ⟨n.val % 4, by omega⟩ i 0) := by
  pointwise [flatA]

section

variable (A : Data) {q d : FVec Ideal S8448x1024 .f32} {k v : FVec Ideal S8448x256 .f32}
  (hq : ∀ r c, q (ix2 r c) = (A.q r c : EReal)) (hk : ∀ r c, k (ix2 r c) = (A.k r c : EReal))
  (hv : ∀ r c, v (ix2 r c) = (A.v r c : EReal)) (hd : ∀ r c, d (ix2 r c) = (A.d r c : EReal))

include hq hk

theorem scoresA_apply (g : Fin 2) (h : Fin 4) (i j : Fin 8448) :
    scoresA q k (ix4 g h i j) = if vis i j then (A.score g h i j : EReal) else ⊥ := by
  pointwise [scoresA]
  rw [seen_apply, select_ite]
  refine if_congr Iff.rfl ?_ ?_
  · simp only [hq, hk, ofBits_scale, ← EReal.coe_mul, coe_sum]
    rfl
  · show Ideal.ofBits FTy.f32 4286578688#32 = ⊥
    simp [Ideal.ofBits, Ideal.ieee]

theorem maxA_scoresA (g : Fin 2) (h : Fin 4) (i : Fin 8448) :
    maxA (scoresA q k) (ix3 g h i) = (A.top g h i : EReal) := by
  rw [maxA_apply, ← A.fold_eq_top]
  simp only [scoresA_apply A hq hk]

theorem expA_scoresA (g : Fin 2) (h : Fin 4) (i j : Fin 8448) :
    expA (scoresA q k) (maxA (scoresA q k)) (ix4 g h i j) = (A.w g h i j : EReal) := by
  rw [expA_apply, maxA_scoresA A hq hk, scoresA_apply A hq hk, exp_masked]
  rfl

theorem weightsA_apply (g : Fin 2) (h : Fin 4) (i j : Fin 8448) :
    weightsA q k (ix4 g h i j) = (A.w g h i j : EReal) := by
  rw [← expA_scoresA A hq hk]
  unfold weightsA
  rw [expA_apply, expA_apply, botMaxA_apply]

theorem sumA_weightsA (g : Fin 2) (h : Fin 4) (i : Fin 8448) :
    sumA (weightsA q k) (ix4 g h i 0) = (A.tot g h i : EReal) := by
  rw [sumA_apply]
  simp only [weightsA_apply A hq hk, coe_sum]
  rfl

theorem probA_apply (g : Fin 2) (h : Fin 4) (i j : Fin 8448) :
    probA q k (ix4 g h i j) = (A.prob g h i j : EReal) := by
  pointwise [probA]
  rw [rowsA_apply, sumA_weightsA A hq hk, weightsA_apply A hq hk, div_pos_coe _ (A.tot_pos g h i)]
  rfl

theorem lseA_apply (n : Fin 8) (i : Fin 8448) :
    lseA q k (ix3 n i 0) = (A.lse (n / 4 : ℕ) (n % 4 : ℕ) i : EReal) := by
  unfold lseA
  rw [flatA_apply, topLogA_apply, maxA_scoresA A hq hk, sumA_apply]
  simp only [expA_scoresA A hq hk, coe_sum]
  rw [show (∑ j : Fin 8448, A.w (n / 4 : ℕ) (n % 4 : ℕ) i j) = A.tot (n / 4 : ℕ) (n % 4 : ℕ) i from rfl,
    log_pos_coe (A.tot_pos _ _ _), ← EReal.coe_add]
  rfl

include hv

theorem attnA_apply (i : Fin 8448) (c : Fin 1024) :
    attnA q k v (ix2 i c) = (A.out (c / 512 : ℕ) (c / 128 % 4 : ℕ) i (c % 128 : ℕ) : EReal) := by
  pointwise [attnA, headsA]
  simp only [probA_apply A hq hk, hv, ← EReal.coe_mul, coe_sum]
  rfl

include hd

theorem deltaA_apply (n : Fin 8) (i : Fin 8448) :
    deltaA (attnA q k v) d (ix3 n i 0) = (A.delta (n / 4 : ℕ) (n % 4 : ℕ) i : EReal) := by
  pointwise [deltaA]
  simp only [attnA_apply A hq hk hv, hd, ← EReal.coe_mul, coe_sum]
  rw [← A.delta_eq]
  refine congrArg _ (Finset.sum_congr rfl fun x _ => ?_)
  have hx := x.isLt
  have hn := n.isLt
  rw [show (n.val * 128 + x.val) / 512 = n / 4 by omega, show (n.val * 128 + x.val) / 128 % 4 = n % 4 by omega,
    show (n.val * 128 + x.val) % 128 = x by omega, show n.val / 4 * 512 + n % 4 * 128 + x = n * 128 + x by omega]

omit hq hk in
theorem dprobA_apply (g : Fin 2) (h : Fin 4) (i j : Fin 8448) :
    dprobA v d (ix4 g h i j) = (A.dprob g h i j : EReal) := by
  pointwise [dprobA, cotA, headsA]
  simp only [hv, hd, ← EReal.coe_mul, coe_sum]
  rfl

theorem dscoreA_apply (g : Fin 2) (h : Fin 4) (i j : Fin 8448) :
    dscoreA (weightsA q k) (dprobA v d) (ix4 g j i h) = ((A.dscore g h i j * scale : ℝ) : EReal) := by
  pointwise [dscoreA, throughSumA, rowsA]
  have hl := A.tot_pos g h i
  have hll := mul_pos hl hl
  rw [seen_apply, select_ite, sumA_weightsA A hq hk, ofBits_scale]
  simp only [weightsA_apply A hq hk, dprobA_apply A hv hd, Finset.univ_unique, Finset.sum_singleton]
  rw [div_pos_coe _ hl, ← EReal.coe_mul, ← EReal.coe_one, div_pos_coe _ hll]
  simp only [← EReal.coe_mul, coe_sum, ← EReal.coe_neg, ← EReal.coe_add, ← EReal.coe_zero]
  rw [← apply_ite (fun x : ℝ => (x : EReal)), EReal.coe_eq_coe_iff]
  by_cases hvis : vis i j
  · rw [if_pos hvis]
    have hs : (∑ x : Fin 8448, A.dprob g h i x * (1 / (A.tot g h i * A.tot g h i)) * A.w g h i x)
        = A.delta g h i / A.tot g h i := by
      unfold Data.delta Data.prob
      rw [Finset.sum_div]
      refine Finset.sum_congr rfl fun x _ => ?_
      field_simp
    rw [hs]
    unfold Data.dscore Data.prob
    ring
  · rw [if_neg hvis, A.dscore_of_not_vis g h i j hvis, zero_mul]

theorem gradQA_apply (i : Fin 8448) (c : Fin 1024) :
    gradQA q k v d (ix2 i c) = (A.gradQ (c / 512 : ℕ) (c / 128 % 4 : ℕ) i (c % 128 : ℕ) : EReal) := by
  pointwise [gradQA, headsA]
  simp only [dscoreA_apply A hq hk hv hd, hk, ← EReal.coe_mul, coe_sum]
  unfold Data.gradQ
  rw [Finset.sum_mul]
  exact congrArg _ (Finset.sum_congr rfl fun x _ => mul_right_comm _ _ _)

theorem gradKA_apply (j : Fin 8448) (c : Fin 256) :
    gradKA q k v d (ix2 j c) = (A.gradK (c / 128 : ℕ) j (c % 128 : ℕ) : EReal) := by
  pointwise [gradKA]
  simp only [dscoreA_apply A hq hk hv hd, hq, ← EReal.coe_mul, coe_sum]
  unfold Data.gradK
  rw [Finset.sum_mul, Finset.sum_comm]
  simp only [Finset.sum_mul]
  exact congrArg _ (Finset.sum_congr rfl fun x _ => Finset.sum_congr rfl fun y _ => mul_right_comm _ _ _)

omit hv in
theorem gradVA_apply (j : Fin 8448) (c : Fin 256) :
    gradVA q k d (ix2 j c) = (A.gradV (c / 128 : ℕ) j (c % 128 : ℕ) : EReal) := by
  pointwise [gradVA, cotA]
  simp only [probA_apply A hq hk, hd, ← EReal.coe_mul, coe_sum]
  unfold Data.gradV
  exact congrArg _ (Finset.sum_congr rfl fun x _ => Finset.sum_congr rfl fun y _ => mul_comm _ _)

end

end Cert.Attn

end
-- ==== Proof.Pre.lean ====
/-
  What the preconditions say: every element of every argument is a real.
-/
module

public import proofs.«01_k».proof.Pre_finite
public import proofs.«01_k».proof.Pre_finite_qkv
public import Idealize.ShloMosaic.PureOps.Ideal
public import Idealize.ShloMosaic.Lib.ReduceAll
public import Idealize.ShloMosaic.Lib.Pipeline.ValueKit

@[expose] public section

noncomputable section

namespace Cert.Attn

open Idealize.ShloMosaic

/-- A number below plus infinity in absolute value is a real. -/
theorem real_of_abs_lt {S : Shape} (x y : FVec Ideal S .f32) (i : S.Idx) (hy : y i = (⊤ : EReal))
    (h : cmpf .olt (Host.absf x) y i = 1#1) : x i ≠ (⊤ : EReal) ∧ x i ≠ (⊥ : EReal) := by
  change Ideal.cmp CmpFPredicate.olt (max (x i : EReal) (-(x i : EReal))) (y i : EReal) = 1#1 at h
  rw [hy] at h
  constructor <;> intro hx <;> rw [hx] at h <;> simp [Ideal.cmp] at h

/-- The printed precondition of an argument, read at every element. -/
theorem real_of_all {S T U : Shape} [Subsingleton T.Idx] {axes : List (Fin S.rank)} (x y : FVec Ideal S .f32)
    (hy : ∀ i, y i = (⊤ : EReal)) (init : U.Idx → BitVec 1) (h : S.ReducesTo axes T) (hu : 0 < U.numel) (j : T.Idx)
    (e : Host.reduce IntOp.andi (cmpf .olt (Host.absf x) y) init h hu j = 1#1) (i : S.Idx) :
    x i ≠ (⊤ : EReal) ∧ x i ≠ (⊥ : EReal) :=
  real_of_abs_lt x y i (hy i) (Host.reduce_andi_all _ _ h hu j e i)

/-- An array of reals. -/
abbrev Reals {S : Shape} (x : S.Idx → EReal) : Prop := ∀ i, x i ≠ ⊤ ∧ x i ≠ ⊥

instance : Subsingleton (Cert.Pre_finite.S_).Idx := ⟨fun _ _ => funext fun a => a.elim0⟩

theorem top_bits : (Ideal.ofBits .f32 0x7F800000#32 : EReal) = ⊤ := by
  simp [Ideal.ofBits, Ideal.ieee]

theorem pre_finite [Cert.Pre_finite.Facts] (q : FVec Ideal Cert.Pre_finite.S8448x1024 .f32)
    (k v : FVec Ideal Cert.Pre_finite.S8448x256 .f32) (d : FVec Ideal Cert.Pre_finite.S8448x1024 .f32)
    (h : Cert.Pre_finite.fn q k v d = fun _ => 1#1) : Reals q ∧ Reals k ∧ Reals v ∧ Reals d := by
  have h := congrFun h (Shape.Idx.first Cert.Pre_finite.Facts.h_S_)
  obtain ⟨h, hd⟩ := IntOp.andi_eq_one.1 h
  obtain ⟨h, hv⟩ := IntOp.andi_eq_one.1 h
  obtain ⟨hq, hk⟩ := IntOp.andi_eq_one.1 h
  exact ⟨real_of_all q _ (fun _ => top_bits) _ _ _ _ hq, real_of_all k _ (fun _ => top_bits) _ _ _ _ hk,
    real_of_all v _ (fun _ => top_bits) _ _ _ _ hv, real_of_all d _ (fun _ => top_bits) _ _ _ _ hd⟩

theorem pre_finite_qkv [Cert.Pre_finite_qkv.Facts] (q : FVec Ideal Cert.Pre_finite_qkv.S8448x1024 .f32)
    (k v : FVec Ideal Cert.Pre_finite_qkv.S8448x256 .f32)
    (h : Cert.Pre_finite_qkv.fn q k v = fun _ => 1#1) : Reals q ∧ Reals k ∧ Reals v := by
  have h := congrFun h (Shape.Idx.first Cert.Pre_finite_qkv.Facts.h_S_)
  obtain ⟨h, hv⟩ := IntOp.andi_eq_one.1 h
  obtain ⟨hq, hk⟩ := IntOp.andi_eq_one.1 h
  exact ⟨real_of_all q _ (fun _ => top_bits) _ _ _ _ hq, real_of_all k _ (fun _ => top_bits) _ _ _ _ hk,
    real_of_all v _ (fun _ => top_bits) _ _ _ _ hv⟩

end Cert.Attn

end
-- ==== Proof.DqTie.lean ====
/-
  The queries' gradient: the kernel's results are the plain attention's.
-/
module

public import proofs.«01_k».proof.Defs
public import proofs.«01_k».proof.Proof.DqValue
public import proofs.«01_k».proof.Proof.Host
public import proofs.«01_k».proof.Proof.Pre
public import proofs.«01_k».proof.Proof.Gen.DqIdeal.Value
public import proofs.«01_k».proof.Proof.Gen.DqRefIdeal.Run
public import proofs.«01_k».proof.Proof.Gen.Pre_finite
public import Idealize.ShloMosaic.Lib.StableHlo.RunRead

@[expose] public section

set_option maxRecDepth 16384

noncomputable section

namespace Cert.DqIdeal.Step

open Cert.Attn Cert.DqIdeal Cert.DqIdeal.Gen Idealize.ShloMosaic Idealize.ShloMosaic.TcCoe Idealize.SL.Sem

/-- The queries as the kernel takes them: scaled, and in units of the logarithm of two. -/
def scaledQ (q : FVec Ideal S8448x1024 .f32) : FVec Ideal S8448x1024 .bf16 :=
  truncf .bf16 (Host.divf (mulf q (broadcastInDim S8448x1024 ![] bcast_S_S8448x1024 (constant S_ .f32 0x3DB504F3#32)))
    (broadcastInDim S8448x1024 ![] bcast_S_S8448x1024 (id (Host.log (constant S_ .f32 0x40000000#32))))) bitsLt_bf16_f32

theorem two_bits : (Ideal.ofBits .f32 0x40000000#32 : EReal) = ((2 : ℝ) : EReal) := by
  simp [Ideal.ofBits, Ideal.ieee]
  rw [← EReal.coe_mul]
  norm_num

theorem scaledQ_apply (q : FVec Ideal S8448x1024 .f32) (r : Fin 8448) (x : Fin 1024) (a : ℝ) (h : q (ix2 r x) = (a : EReal)) :
    scaledQ q (ix2 r x) = ((a * scale * (Real.log 2)⁻¹ : ℝ) : EReal) := by
  pointwise [scaledQ]
  change Ideal.div _ (Ideal.log (Ideal.ofBits .f32 0x40000000#32)) = _
  rw [h, ofBits_scale, two_bits, log_pos_coe two_pos, ← EReal.coe_mul, div_pos_coe _ (Real.log_pos one_lt_two), div_eq_mul_inv]

variable (m : (ℓ : Loc nD τ sig) → Buf (Elt Ideal) ℓ) (c : Dev nD)

/-- The arguments. -/
abbrev argQ : FVec Ideal S8448x1024 .f32 := m ((c.tc : Thread nD τ).loc main_arg0)
abbrev argK : FVec Ideal S8448x256 .f32 := m ((c.tc : Thread nD τ).loc main_arg1)
abbrev argV : FVec Ideal S8448x256 .f32 := m ((c.tc : Thread nD τ).loc main_arg2)
abbrev argD : FVec Ideal S8448x1024 .f32 := m ((c.tc : Thread nD τ).loc main_arg3)

theorem V_v6 : V m c main_v6 = scaledQ (argQ m c) := by
  unfold_abbrev_sides
  after_reads_simp
  rfl

theorem V_v7 : V m c main_v7 = argK m c := by
  unfold_abbrev_sides
  after_reads_simp
  rfl

theorem V_v8 : V m c main_v8 = argV m c := by
  unfold_abbrev_sides
  after_reads_simp
  rfl

theorem V_v41 : V m c main_v41 = attnA (argQ m c) (argK m c) (argV m c) := by
  unfold_abbrev_sides
  after_reads_simp
  rfl

theorem V_v69 : V m c main_v69 = lseA (argQ m c) (argK m c) := by
  unfold_abbrev_sides
  after_reads_simp
  rfl

/-- The arguments as arrays of reals. -/
def data : Data := ⟨rd (argQ m c), rd (argK m c), rd (argV m c), rd (argD m c)⟩

variable {m c} (hq : Reals (argQ m c)) (hk : Reals (argK m c)) (hv : Reals (argV m c)) (hd : Reals (argD m c))
include hq hk hv hd

theorem entry : Entry m c (data m c) where
  q r x := by rw [V_v6]; exact scaledQ_apply _ r x _ (rd_apply _ hq r x)
  k r x := by rw [V_v7]; exact rd_apply _ hk r x
  v r x := by rw [V_v8]; exact rd_apply _ hv r x
  o r x := by
    rw [V_v41]
    exact attnA_apply (data m c) (rd_apply _ hq) (rd_apply _ hk) (rd_apply _ hv) r x
  d r x := by rw [V_main_arg3]; exact rd_apply _ hd r x
  l n r := by
    rw [V_v69]
    exact lseA_apply (data m c) (rd_apply _ hq) (rd_apply _ hk) n r

/-- The first result is the gradient of the queries. -/
theorem result_dq : (Value.G6 m c : FVec Ideal S8448x1024 .f32) = gradQA (argQ m c) (argK m c) (argV m c) (argD m c) := by
  funext y
  obtain ⟨r, x, rfl⟩ : ∃ r x, y = ix2 r x := ⟨_, _, eq_ix2 y⟩
  rw [gradQA_apply (data m c) (rd_apply _ hq) (rd_apply _ hk) (rd_apply _ hv) (rd_apply _ hd)]
  have hr := r.isLt
  have hx := x.isLt
  have hp : Value.pt6Of (ix2 r x) = 6 * (r / 256 + 33 * (x / 512)) + 5 := by
    show 6 * (1 * (r.val / 256 - 0) + 33 * (x.val / 512 - 0)) + 5 = _
    omega
  have hn : Value.pt6Of (ix2 r x) < cfg0.N := by
    rw [hp]; show _ < 396; omega
  unfold Value.G6
  rw [dif_pos hn, ← Value.outsAt0_sweep m c _ hn]
  have hl : Value.loc6Of (ix2 r x) = ix2 (⟨r % 256, by omega⟩ : Fin 256)
      (⟨(⟨x / 128 % 4, by omega⟩ : Fin 4) * 128 + (⟨x % 128, by omega⟩ : Fin 128), by simp; omega⟩ : Fin 512) := by
    funext a
    fin_cases a <;> apply Fin.ext <;> simp [ix2] <;> omega
  rw [hl]
  refine (out_eq (entry hq hk hv hd) ⟨_, hn⟩ (by simp only [hp]; omega) _ _ _).trans ?_
  congr 2 <;> simp only [hp, row] <;> omega

/-- The second is the rows' inner products of the attention's result and its cotangent. -/
theorem result_dl : (Value.G7 m c : FVec Ideal S8x8448x1 .f32)
    = deltaA (attnA (argQ m c) (argK m c) (argV m c)) (argD m c) := by
  funext y
  obtain ⟨n, r, z, rfl⟩ : ∃ n r z, y = ix3 n r z := ⟨_, _, _, eq_ix3 y⟩
  obtain rfl : z = 0 := Subsingleton.elim _ _
  rw [deltaA_apply (data m c) (rd_apply _ hq) (rd_apply _ hk) (rd_apply _ hv) (rd_apply _ hd)]
  have hr := r.isLt
  have hx := n.isLt
  have hp : Value.pt7Of (ix3 n r 0) = 6 * (33 * (n / 4) + r / 256) + 5 := by
    show 6 * (33 * (n.val / 4 - 0) + 1 * (r.val / 256 - 0) + 1 * (0 / 1 - 0)) + 5 = _
    omega
  have hn : Value.pt7Of (ix3 n r 0) < cfg0.N := by
    rw [hp]; show _ < 396; omega
  unfold Value.G7
  rw [dif_pos hn, ← Value.outsAt0_sweep m c _ hn]
  have hl : Value.loc7Of (ix3 n r 0) = ix3 (⟨n % 4, by omega⟩ : Fin 4) (⟨r % 256, by omega⟩ : Fin 256) 0 := by
    funext a
    fin_cases a <;> apply Fin.ext <;> simp [ix3]
  rw [hl]
  refine (sums_eq (entry hq hk hv hd) ⟨_, hn⟩ (by simp only [hp]; omega) _ _).trans ?_
  congr 2 <;> simp only [hp, row] <;> omega

end Cert.DqIdeal.Step

namespace Cert.Proof

open Cert.Attn Idealize.ShloMosaic Idealize.SL.Sem

section

variable (m : (ℓ : Loc Cert.DqRefIdeal.nD Cert.DqRefIdeal.τ Cert.DqRefIdeal.sig) → Buf (Elt Ideal) ℓ)
  (c : Dev Cert.DqRefIdeal.nD)

/-- What the plain program leaves. -/
theorem dq_ref : Cert.DqRefIdeal.Value.res_main_v77 m c
    = gradQA (m (c.tc.loc Cert.DqRefIdeal.main_arg0)) (m (c.tc.loc Cert.DqRefIdeal.main_arg1))
      (m (c.tc.loc Cert.DqRefIdeal.main_arg2)) (m (c.tc.loc Cert.DqRefIdeal.main_arg3)) := rfl

theorem dl_ref : Cert.DqRefIdeal.Value.res_main_v115 m c
    = deltaA (attnA (m (c.tc.loc Cert.DqRefIdeal.main_arg0)) (m (c.tc.loc Cert.DqRefIdeal.main_arg1))
      (m (c.tc.loc Cert.DqRefIdeal.main_arg2))) (m (c.tc.loc Cert.DqRefIdeal.main_arg3)) := rfl

end

/-- The kernel's two results are the plain attention's gradient of the queries and its rows' inner products. -/
theorem dq_algebraic : Cert.algebraic_DqIdeal_DqRefIdeal_pre_finite := by
  intro m ρ m' ρ' hpre hagree
  refine ⟨_, _, Cert.DqIdeal.Value.run (F := Ideal) m ρ, ?_⟩
  refine (θ_run Cert.DqRefIdeal.defs _ _).mono (fun r h c => ?_) (Cert.DqRefIdeal.Value.run (F := Ideal) m' ρ')
  obtain ⟨hdq, hdl, hkept⟩ := h c
  obtain ⟨hq, hk, hv, hd⟩ := pre_finite _ _ _ _ (hpre c)
  obtain ⟨e0, e1, e2, e3⟩ := hagree c
  refine ⟨?_, ?_, hkept⟩
  · rw [hdq, dq_ref, e0, e1, e2, e3]
    exact (Cert.DqIdeal.Step.result_dq hq hk hv hd).symm
  · rw [hdl, dl_ref, e0, e1, e2, e3]
    exact (Cert.DqIdeal.Step.result_dl hq hk hv hd).symm

end Cert.Proof

end
-- ==== Proof.DkvStep.lean ====
/-
  The keys' and values' gradients: what one grid point adds to the two accumulators, at an index.
-/
module

public import proofs.«01_k».proof.Proof.DqStep
public import proofs.«01_k».proof.Proof.Gen.DkvIdeal.Value

@[expose] public section

set_option maxRecDepth 16384

noncomputable section

namespace Cert.DkvIdeal.Step

open Cert.Attn Cert.DkvIdeal Cert.DkvIdeal.Gen Idealize.ShloMosaic Idealize.ShloMosaic.TcCoe Idealize.SL.Sem

theorem named_log2e : (Named.named κ "log2e" 1069066811#32 : Ideal .f32) = (((Real.log 2)⁻¹ : ℝ) : EReal) :=
  IdealRules.named_const.ideal_named_scalar _ _ _ _ rfl

theorem named_hidden : (Named.named κ "hidden" 4048155338#32 : Ideal .f32) = (⊥ : EReal) :=
  IdealRules.named_const.ideal_named_scalar _ _ _ _ rfl

/-- The natural logarithm of two, under its name. -/
theorem named_ln2 : (Named.named κ "ln2" 0x3F317218#32 : Ideal .f32) = ((Real.log 2 : ℝ) : EReal) :=
  IdealRules.named_const.ideal_named_scalar _ _ _ _ rfl

/-- The columns of head `h` in a block of four heads. -/
abbrev cols {e : EltTy} (X : Vec Ideal S256x512 e) (h : Fin 4) : Vec Ideal S256x128 e := DqIdeal.Step.cols X h

/-- The rows of head `h`, one number each. -/
abbrev rows (X : Vec Ideal S4x256x1 .f32) (h : Fin 4) : Vec Ideal S1x256x1 .f32 := DqIdeal.Step.rows X h

theorem ld_cols {e : EltTy} (X : Vec Ideal S256x512 e) :
    View.ld X (Rect.unit ![0, 0] ![256, 128] inb_S256x512_S256x128_0_0) = cols X 0
    ∧ View.ld X (Rect.unit ![0, 128] ![256, 128] inb_S256x512_S256x128_0_128) = cols X 1
    ∧ View.ld X (Rect.unit ![0, 256] ![256, 128] inb_S256x512_S256x128_0_256) = cols X 2
    ∧ View.ld X (Rect.unit ![0, 384] ![256, 128] inb_S256x512_S256x128_0_384) = cols X 3 :=
  DqIdeal.Step.ld_cols X

theorem ld_rows (X : Vec Ideal S4x256x1 .f32) :
    View.ld X (Rect.unit ![0, 0, 0] ![1, 256, 1] inb_S4x256x1_S1x256x1_0_0_0) = rows X 0
    ∧ View.ld X (Rect.unit ![1, 0, 0] ![1, 256, 1] inb_S4x256x1_S1x256x1_1_0_0) = rows X 1
    ∧ View.ld X (Rect.unit ![2, 0, 0] ![1, 256, 1] inb_S4x256x1_S1x256x1_2_0_0) = rows X 2
    ∧ View.ld X (Rect.unit ![3, 0, 0] ![1, 256, 1] inb_S4x256x1_S1x256x1_3_0_0) = rows X 3 :=
  DqIdeal.Step.ld_rows X

/-- A row's weight of key `j`, `l` the row's log-sum. Key `j` of the block is hidden where `hid j` holds. -/
def weight (hid : ℕ → Prop) [DecidablePred hid] (q : FVec Ideal S256x128 .bf16) (k : FVec Ideal S768x128 .bf16)
    (l : EReal) (i : Fin 256) (j : Fin 768) : EReal :=
  Ideal.exp2 ((if hid j then ⊥ else ∑ x : Fin 128, q (ix2 i x) * k (ix2 j x)) -
      l * (((Real.log 2)⁻¹ : ℝ) : EReal))

/-- A weight's gradient less the row's sum `g`. -/
def slope (v : FVec Ideal S768x128 .bf16) (d : FVec Ideal S256x128 .f32) (g : EReal) (i : Fin 256) (j : Fin 768) : EReal :=
  ∑ x : Fin 128, d (ix2 i x) * v (ix2 j x) - g

/-- Whether a key lies past the context, as the kernel compares it. -/
theorem key_hidden (b j : ℕ) (hb : b < 11) (hj : j < 768) :
    IntOp.cmpi CmpIPredicate.sge (IntOp.addi (Scalar.muli (BitVec.ofNat 32 b) 768#32) (BitVec.ofNat 32 j)) 256#32
      = if 256 ≤ b * 768 + j then 1#1 else 0#1 := by
  exact WordCmp.cmpi_sge_mul_add_ofNat b 768 j 256 (by omega) (by omega)

section

variable (q : Fin 4 → FVec Ideal S256x128 .bf16) (k v : FVec Ideal S768x128 .bf16) (d : Fin 4 → FVec Ideal S256x128 .f32)
  (l g : Fin 4 → FVec Ideal S1x256x1 .f32) (acc : FVec Ideal S768x128 .f32) (a : Fin 1) (j : Fin 768) (x : Fin 128)

/-- What a latent row's point stores into the values' accumulator. -/
theorem full_dv :
    k0_pay54 (d 0) (d 1) (d 2) (d 3) (k0_pay48 (k0_pay40 k (q 0)) (l 0)) (k0_pay49 (k0_pay41 k (q 1)) (l 1))
        (k0_pay50 (k0_pay42 k (q 2)) (l 2)) (k0_pay51 (k0_pay43 k (q 3)) (l 3)) acc (ix2 j x)
      = acc (ix2 j x) + ∑ h, ∑ i, weight (fun _ => False) (q h) k (l h (ix3 0 i 0)) i j * d h (ix2 i x) := by
  rw [Fin.sum_univ_four]
  pointwise [k0_pay54, k0_pay48, k0_pay49, k0_pay50, k0_pay51, k0_pay40, k0_pay41, k0_pay42, k0_pay43,
    k0_pay34, k0_pay36, k0_pay37, k0_pay38, k0_pay39]
  simp only [named_log2e, weight, if_false, ← add_assoc]
  rfl

/-- What a latent row's point stores into the keys' accumulator. -/
theorem full_dk :
    k0_pay5 (k0_pay55 (k0_pay36 (q 0)) (k0_pay37 (q 1)) (k0_pay38 (q 2)) (k0_pay39 (q 3))
        (k0_pay46 v (d 2)) (k0_pay47 v (d 3)) (k0_pay50 (k0_pay42 k (q 2)) (l 2)) (k0_pay51 (k0_pay43 k (q 3)) (l 3))
        (k0_pay52 (k0_pay40 k (q 0)) (k0_pay44 v (d 0)) (l 0) (g 0))
        (k0_pay53 (k0_pay41 k (q 1)) (k0_pay45 v (d 1)) (l 1) (g 1)) (g 2) (g 3) acc) (ix2 j x)
      = acc (ix2 j x) + ∑ h, ∑ i, weight (fun _ => False) (q h) k (l h (ix3 0 i 0)) i j
          * slope v (d h) (g h (ix3 0 i 0)) i j * q h (ix2 i x) := by
  rw [Fin.sum_univ_four]
  pointwise [k0_pay5, k0_pay55, k0_pay44, k0_pay45, k0_pay46, k0_pay47, k0_pay48, k0_pay49, k0_pay50, k0_pay51, k0_pay52,
    k0_pay53, k0_pay40, k0_pay41, k0_pay42, k0_pay43, k0_pay34, k0_pay35, k0_pay36, k0_pay37, k0_pay38, k0_pay39]
  simp only [named_log2e, weight, slope, if_false, ← add_assoc]
  rfl

/-- The same for a context row's point, where the keys past the context are hidden. -/
theorem masked_dv (b : ℕ) (hb : b < 11) :
    k0_pay3 (k0_pay28 (d 0) (k0_pay22 (k0_pay14 (BitVec.ofNat 32 b) k (q 0)) (l 0)))
        (k0_pay29 (d 1) (k0_pay23 (k0_pay15 (BitVec.ofNat 32 b) k (q 1)) (l 1)))
        (k0_pay30 (d 2) (k0_pay24 (k0_pay7 (BitVec.ofNat 32 b)) (k0_pay16 k (q 2)) (l 2)))
        (k0_pay31 (d 3) (k0_pay17 (k0_pay7 (BitVec.ofNat 32 b)) (k0_pay8 k) (k0_pay13 (q 3))) (l 3)) acc (ix2 j x)
      = acc (ix2 j x) + ∑ h, ∑ i, weight (fun j => 256 ≤ b * 768 + j) (q h) k (l h (ix3 0 i 0)) i j * d h (ix2 i x) := by
  rw [Fin.sum_univ_four]
  pointwise [k0_pay3, k0_pay28, k0_pay29, k0_pay30, k0_pay31, k0_pay22, k0_pay23, k0_pay24, k0_pay25, k0_pay14, k0_pay15,
    k0_pay16, k0_pay17, k0_pay7, k0_pay8, k0_pay10, k0_pay11, k0_pay12, k0_pay13]
  simp only [named_log2e, named_hidden, weight, ← add_assoc]
  rw [key_hidden b j hb j.isLt]
  simp only [select_ite]
  rfl

theorem masked_dk (b : ℕ) (hb : b < 11) :
    k0_pay4 (k0_pay11 (q 1)) (k0_pay12 (q 2)) (k0_pay13 (q 3))
        (k0_pay26 (k0_pay20 (k0_pay9 v) (d 2))
          (k0_pay24 (k0_pay7 (BitVec.ofNat 32 b)) (k0_pay16 k (q 2)) (l 2)) (g 2))
        (k0_pay27 (k0_pay17 (k0_pay7 (BitVec.ofNat 32 b)) (k0_pay8 k) (k0_pay13 (q 3))) (k0_pay21 (k0_pay9 v) (d 3))
          (l 3) (g 3))
        (k0_pay32 (k0_pay10 (q 0)) (k0_pay18 (k0_pay9 v) (d 0))
          (k0_pay22 (k0_pay14 (BitVec.ofNat 32 b) k (q 0)) (l 0)) (g 0))
        (k0_pay33 (k0_pay19 (k0_pay9 v) (d 1)) (k0_pay23 (k0_pay15 (BitVec.ofNat 32 b) k (q 1)) (l 1)) (g 1))
        acc (ix2 j x)
      = acc (ix2 j x) + ∑ h, ∑ i, weight (fun j => 256 ≤ b * 768 + j) (q h) k (l h (ix3 0 i 0)) i j
          * slope v (d h) (g h (ix3 0 i 0)) i j * q h (ix2 i x) := by
  rw [Fin.sum_univ_four]
  pointwise [k0_pay4, k0_pay26, k0_pay27, k0_pay32, k0_pay33, k0_pay18, k0_pay19, k0_pay20, k0_pay21, k0_pay22, k0_pay23,
    k0_pay24, k0_pay25, k0_pay14, k0_pay15, k0_pay16, k0_pay17, k0_pay7, k0_pay8, k0_pay9, k0_pay10, k0_pay11, k0_pay12,
    k0_pay13]
  simp only [named_log2e, named_hidden, weight, slope, ← add_assoc]
  rw [key_hidden b j hb j.isLt]
  simp only [select_ite]
  rfl

/-- What the last row block's point stores into the keys' gradient: the accumulator times the logarithm of two. -/
theorem scaled : k0_pay6 acc (ix2 j x) = acc (ix2 j x) * ((Real.log 2 : ℝ) : EReal) := by
  pointwise [k0_pay6]
  simp only [named_ln2]

theorem cleared (y : S768x128.Idx) : k0_pay1 (F := Ideal) y = (0 : EReal) ∧ k0_pay2 (F := Ideal) y = (0 : EReal) := by
  constructor
  · pointwise [k0_pay1]
  · pointwise [k0_pay2]

end

end Cert.DkvIdeal.Step

end
-- ==== Proof.DkvCase.lean ====
/-
  The keys' and values' gradients: the two accumulators and the outputs after one grid point, in each of its cases.
-/
module

public import proofs.«01_k».proof.Proof.DkvStep

@[expose] public section

set_option maxRecDepth 16384

noncomputable section

namespace Cert.DkvIdeal.Step

open Cert.Attn Cert.DkvIdeal Cert.DkvIdeal.Gen Idealize.ShloMosaic Idealize.ShloMosaic.TcCoe Idealize.SL.Sem

variable (m : (ℓ : Loc nD τ sig) → Buf (Elt Ideal) ℓ) (c : Dev nD)

/-- What one grid point adds to the values' accumulator. -/
def addV (hid : ℕ → Prop) [DecidablePred hid] (t : Fin cfg0.N) (j : Fin 768) (x : Fin 128) : EReal :=
  ∑ h : Fin 4, ∑ i : Fin 256, weight hid (cols (iblk m c 0 t) h) (iblk m c 1 t) (rows (iblk m c 4 t) h (ix3 0 i 0)) i j
    * cols (iblk m c 3 t) h (ix2 i x)

/-- What one grid point adds to the keys' accumulator. -/
def addK (hid : ℕ → Prop) [DecidablePred hid] (t : Fin cfg0.N) (j : Fin 768) (x : Fin 128) : EReal :=
  ∑ h : Fin 4, ∑ i : Fin 256, weight hid (cols (iblk m c 0 t) h) (iblk m c 1 t) (rows (iblk m c 4 t) h (ix3 0 i 0)) i j
    * slope (iblk m c 2 t) (cols (iblk m c 3 t) h) (rows (iblk m c 5 t) h (ix3 0 i 0)) i j
    * cols (iblk m c 0 t) h (ix2 i x)

theorem coords_eq (t : Fin cfg0.N) : (grid0.coords t 1).val = t.val / 33 % 11 := by
  revert t
  decide +kernel

theorem mod_lt (t : Fin cfg0.N) : t.val / 33 % 11 < 11 := by omega

section

variable (t : Fin cfg0.N) (j : Fin 768) (x : Fin 128)

theorem case_A (h0 : t.val % 33 = 0) (h1 : t.val % 363 = 0) (h2 : ¬1 ≤ t.val % 33) (h3 : ¬t.val % 33 = 32) :
    (outsAt0 m c t.val t.isLt).2.2.1 (ix2 j x) = (0 : EReal) + addK m c (fun j => 256 ≤ t.val / 33 % 11 * 768 + j) t j x
    ∧ (outsAt0 m c t.val t.isLt).2.2.2 (ix2 j x)
      = (0 : EReal) + addV m c (fun j => 256 ≤ t.val / 33 % 11 * 768 + j) t j x := by
  rw [outsAt0_A m c t h0 h1 h2 h3]
  dsimp only
  constructor
  · frame_out
    simp only [ld_cols, ld_rows, coords_eq]
    exact (masked_dk _ _ _ _ _ _ _ _ _ _ (mod_lt t)).trans (congrArg (· + _) (cleared _).1)
  · frame_out
    simp only [ld_cols, ld_rows, coords_eq]
    exact (masked_dv _ _ _ _ _ _ _ _ (mod_lt t)).trans (congrArg (· + _) (cleared _).2)

theorem case_B (h0 : ¬t.val % 33 = 0) (h1 : ¬t.val % 363 = 0) (h2 : 1 ≤ t.val % 33) (h3 : ¬t.val % 33 = 32) :
    (outsAt0 m c t.val t.isLt).2.2.1 (ix2 j x)
      = (outsAt0 m c (t.val - 1) (by omega)).2.2.1 (ix2 j x) + addK m c (fun _ => False) t j x
    ∧ (outsAt0 m c t.val t.isLt).2.2.2 (ix2 j x)
      = (outsAt0 m c (t.val - 1) (by omega)).2.2.2 (ix2 j x) + addV m c (fun _ => False) t j x := by
  rw [outsAt0_B m c t h0 h1 h2 h3]
  dsimp only
  constructor
  · frame_out
    simp only [read_unread_whole, ld_cols, ld_rows]
    exact full_dk _ _ _ _ _ _ _ _ _
  · frame_out
    simp only [read_unread_whole, ld_cols, ld_rows]
    exact full_dv _ _ _ _ _ _ _

theorem case_C (h0 : ¬t.val % 33 = 0) (h1 : ¬t.val % 363 = 0) (h2 : 1 ≤ t.val % 33) (h3 : t.val % 33 = 32) :
    (outsAt0 m c t.val t.isLt).2.2.1 (ix2 j x)
      = (outsAt0 m c (t.val - 1) (by omega)).2.2.1 (ix2 j x) + addK m c (fun _ => False) t j x
    ∧ (outsAt0 m c t.val t.isLt).2.2.2 (ix2 j x)
      = (outsAt0 m c (t.val - 1) (by omega)).2.2.2 (ix2 j x) + addV m c (fun _ => False) t j x := by
  rw [outsAt0_C m c t h0 h1 h2 h3]
  dsimp only
  constructor
  · frame_out
    simp only [read_unread_whole, ld_cols, ld_rows]
    exact full_dk _ _ _ _ _ _ _ _ _
  · frame_out
    simp only [read_unread_whole, ld_cols, ld_rows]
    exact full_dv _ _ _ _ _ _ _

theorem out_C (h0 : ¬t.val % 33 = 0) (h1 : ¬t.val % 363 = 0) (h2 : 1 ≤ t.val % 33) (h3 : t.val % 33 = 32) :
    (outsAt0 m c t.val t.isLt).1 (ix2 j x)
      = (outsAt0 m c t.val t.isLt).2.2.1 (ix2 j x) * ((Real.log 2 : ℝ) : EReal)
    ∧ (outsAt0 m c t.val t.isLt).2.1 (ix2 j x) = (outsAt0 m c t.val t.isLt).2.2.2 (ix2 j x) := by
  rw [outsAt0_C m c t h0 h1 h2 h3]
  dsimp only
  constructor
  · frame_out
    exact scaled _ _ _
  · frame_out

theorem case_D (h0 : t.val % 33 = 0) (h1 : ¬t.val % 363 = 0) (h2 : ¬1 ≤ t.val % 33) (h3 : ¬t.val % 33 = 32) :
    (outsAt0 m c t.val t.isLt).2.2.1 (ix2 j x) = (0 : EReal)
    ∧ (outsAt0 m c t.val t.isLt).2.2.2 (ix2 j x) = (0 : EReal) := by
  rw [outsAt0_D m c t h0 h1 h2 h3]
  dsimp only
  constructor
  · frame_out
    exact (cleared _).1
  · frame_out
    exact (cleared _).2

end

end Cert.DkvIdeal.Step

end
-- ==== Proof.DkvValue.lean ====
/-
  The keys' and values' gradients: what the kernel's blocks hold of the arrays, and its outputs on the reals.
-/
module

public import proofs.«01_k».proof.Proof.DkvCase
public import proofs.«01_k».proof.Proof.Softmax

@[expose] public section

set_option maxRecDepth 16384

noncomputable section

namespace Cert.DkvIdeal.Step

open Cert.Attn Cert.DkvIdeal Cert.DkvIdeal.Gen Idealize.ShloMosaic Idealize.ShloMosaic.TcCoe Idealize.SL.Sem

variable (m : (ℓ : Loc nD τ sig) → Buf (Elt Ideal) ℓ) (c : Dev nD)

/-- The blocks that one grid point reads: the row blocks go with the third coordinate, the key blocks with the second. -/
theorem idx_rows : ∀ t : Fin cfg0.N,
    (win0_0.index t (0 : Fin 2) = t.val % 33 ∧ win0_0.index t (1 : Fin 2) = t.val / 363)
    ∧ (win0_3.index t (0 : Fin 2) = t.val % 33 ∧ win0_3.index t (1 : Fin 2) = t.val / 363)
    ∧ (win0_4.index t (0 : Fin 3) = t.val / 363 ∧ win0_4.index t (1 : Fin 3) = t.val % 33
      ∧ win0_4.index t (2 : Fin 3) = 0)
    ∧ (win0_5.index t (0 : Fin 3) = t.val / 363 ∧ win0_5.index t (1 : Fin 3) = t.val % 33
      ∧ win0_5.index t (2 : Fin 3) = 0) :=
  (by decide +kernel : ∀ t : Fin grid0.N, _)

theorem idx_keys : ∀ t : Fin cfg0.N,
    (win0_1.index t (0 : Fin 2) = t.val / 33 % 11 ∧ win0_1.index t (1 : Fin 2) = t.val / 363)
    ∧ (win0_2.index t (0 : Fin 2) = t.val / 33 % 11 ∧ win0_2.index t (1 : Fin 2) = t.val / 363) :=
  (by decide +kernel : ∀ t : Fin grid0.N, _)

theorem lt_points (t : Fin cfg0.N) : t.val < 726 := t.isLt

/-- A row of the blocks in the whole array. -/
abbrev row (t : Fin cfg0.N) (i : Fin 256) : Fin 8448 := ⟨t.val % 33 * 256 + i, by omega⟩

/-- A key of the blocks in the whole array. -/
abbrev key (t : Fin cfg0.N) (j : Fin 768) : Fin 8448 := ⟨t.val / 33 % 11 * 768 + j, by omega⟩

theorem block_0 (X : Vec Ideal S8448x1024 .bf16) (t : Fin cfg0.N) (i : Fin 256) (x : Fin 512) :
    (((cfg0.win 0).blk t).view.read (Elt Ideal) X : Vec Ideal S256x512 .bf16) (ix2 i x)
      = X (ix2 (row t i) ⟨t.val / 363 * 512 + x, by have := lt_points t; omega⟩) := by
  blk_simp [idx_rows t]
  blk_ext [idx_rows t]

theorem block_3 (X : Vec Ideal S8448x1024 .f32) (t : Fin cfg0.N) (i : Fin 256) (x : Fin 512) :
    (((cfg0.win 3).blk t).view.read (Elt Ideal) X : Vec Ideal S256x512 .f32) (ix2 i x)
      = X (ix2 (row t i) ⟨t.val / 363 * 512 + x, by have := lt_points t; omega⟩) := by
  blk_simp [idx_rows t]
  blk_ext [idx_rows t]

theorem block_1 (X : Vec Ideal S8448x256 .bf16) (t : Fin cfg0.N) (j : Fin 768) (x : Fin 128) :
    (((cfg0.win 1).blk t).view.read (Elt Ideal) X : Vec Ideal S768x128 .bf16) (ix2 j x)
      = X (ix2 (key t j) ⟨t.val / 363 * 128 + x, by have := lt_points t; omega⟩) := by
  blk_simp [idx_keys t]
  blk_ext [idx_keys t]

theorem block_2 (X : Vec Ideal S8448x256 .bf16) (t : Fin cfg0.N) (j : Fin 768) (x : Fin 128) :
    (((cfg0.win 2).blk t).view.read (Elt Ideal) X : Vec Ideal S768x128 .bf16) (ix2 j x)
      = X (ix2 (key t j) ⟨t.val / 363 * 128 + x, by have := lt_points t; omega⟩) := by
  blk_simp [idx_keys t]
  blk_ext [idx_keys t]

theorem block_4 (X : Vec Ideal S8x8448x1 .f32) (t : Fin cfg0.N) (h : Fin 4) (i : Fin 256) :
    (((cfg0.win 4).blk t).view.read (Elt Ideal) X : Vec Ideal S4x256x1 .f32) (ix3 h i 0)
      = X (ix3 ⟨t.val / 363 * 4 + h, by have := lt_points t; omega⟩ (row t i) 0) := by
  blk_simp [idx_rows t]
  blk_ext [idx_rows t]

theorem block_5 (X : Vec Ideal S8x8448x1 .f32) (t : Fin cfg0.N) (h : Fin 4) (i : Fin 256) :
    (((cfg0.win 5).blk t).view.read (Elt Ideal) X : Vec Ideal S4x256x1 .f32) (ix3 h i 0)
      = X (ix3 ⟨t.val / 363 * 4 + h, by have := lt_points t; omega⟩ (row t i) 0) := by
  blk_simp [idx_rows t]
  blk_ext [idx_rows t]

/-- What the kernel is given: the scaled queries, the keys, the values, the result's cotangent, the logarithms of the
    rows' sums and the rows' means of the softmax's cotangent, all real. -/
structure Entry (A : Data) : Prop where
  q : ∀ (r : Fin 8448) (x : Fin 1024), (V m c main_v6 : FVec Ideal S8448x1024 .bf16) (ix2 r x)
    = ((A.q r x * scale * (Real.log 2)⁻¹ : ℝ) : EReal)
  k : ∀ (r : Fin 8448) (x : Fin 256), (V m c main_v7 : FVec Ideal S8448x256 .bf16) (ix2 r x) = (A.k r x : EReal)
  v : ∀ (r : Fin 8448) (x : Fin 256), (V m c main_v8 : FVec Ideal S8448x256 .bf16) (ix2 r x) = (A.v r x : EReal)
  d : ∀ (r : Fin 8448) (x : Fin 1024), (V m c main_arg3 : FVec Ideal S8448x1024 .f32) (ix2 r x) = (A.d r x : EReal)
  l : ∀ (n : Fin 8) (r : Fin 8448), (V m c main_v36 : FVec Ideal S8x8448x1 .f32) (ix3 n r 0)
    = (A.lse (n / 4) (n % 4) r : EReal)
  e : ∀ (n : Fin 8) (r : Fin 8448), (V m c main_v74 : FVec Ideal S8x8448x1 .f32) (ix3 n r 0)
    = (A.delta (n / 4) (n % 4) r : EReal)

variable {m c} {A : Data} (E : Entry m c A) (t : Fin cfg0.N) (h : Fin 4) (i : Fin 256)
include E

theorem q_at (x : Fin 128) : cols (iblk m c 0 t) h (ix2 i x)
    = ((A.q (row t i) (t.val / 363 * 512 + h * 128 + x) * scale * (Real.log 2)⁻¹ : ℝ) : EReal) := by
  refine ((block_0 (V m c main_v6) t i _).trans (E.q _ _)).trans ?_
  simp [ix2, Nat.add_assoc]

theorem d_at (x : Fin 128) : cols (iblk m c 3 t) h (ix2 i x)
    = (A.d (row t i) (t.val / 363 * 512 + h * 128 + x) : EReal) := by
  refine ((block_3 (V m c main_arg3) t i _).trans (E.d _ _)).trans ?_
  simp [ix2, Nat.add_assoc]

theorem k_at (j : Fin 768) (x : Fin 128) : (iblk m c 1 t : Vec Ideal S768x128 .bf16) (ix2 j x)
    = (A.k (key t j) (t.val / 363 * 128 + x) : EReal) :=
  (block_1 (V m c main_v7) t j x).trans (E.k _ _)

theorem v_at (j : Fin 768) (x : Fin 128) : (iblk m c 2 t : Vec Ideal S768x128 .bf16) (ix2 j x)
    = (A.v (key t j) (t.val / 363 * 128 + x) : EReal) :=
  (block_2 (V m c main_v8) t j x).trans (E.v _ _)

theorem l_at : rows (iblk m c 4 t) h (ix3 0 i 0) = (A.lse (t.val / 363) h (row t i) : EReal) := by
  refine ((block_4 (V m c main_v36) t h i).trans (E.l _ _)).trans ?_
  congr 2 <;> simp <;> omega

theorem e_at : rows (iblk m c 5 t) h (ix3 0 i 0) = (A.delta (t.val / 363) h (row t i) : EReal) := by
  refine ((block_5 (V m c main_v74) t h i).trans (E.e _ _)).trans ?_
  congr 2 <;> simp <;> omega

omit E in
/-- A weight on real scores: the softmax of a key that the row sees, zero of another. -/
theorem weight_real (hid : ℕ → Prop) [DecidablePred hid] (q : FVec Ideal S256x128 .bf16) (k : FVec Ideal S768x128 .bf16)
    (i : Fin 256) (j : Fin 768) (s M L : ℝ) (sees : Prop) [Decidable sees]
    (hs : ∑ x : Fin 128, q (ix2 i x) * k (ix2 j x) = ((s * (Real.log 2)⁻¹ : ℝ) : EReal)) (hL : 0 < L)
    (hh : hid j ↔ ¬ sees) :
    weight hid q k ((M + Real.log L : ℝ) : EReal) i j = ((wt sees s M / L : ℝ) : EReal) := by
  have hv : (if hid j then (⊥ : EReal) else ((s * (Real.log 2)⁻¹ : ℝ) : EReal))
      = if sees then ((s * (Real.log 2)⁻¹ : ℝ) : EReal) else ⊥ := by
    by_cases hk : hid j
    · rw [if_pos hk, if_neg (hh.1 hk)]
    · rw [if_neg hk, if_pos (not_not.1 fun h => hk (hh.2 h))]
  unfold weight
  rw [hs, hv, ← EReal.coe_mul, exp2_masked _ _ _ hL]

/-- The kernel's weight is the softmax. -/
theorem weight_eq (hid : ℕ → Prop) [DecidablePred hid] (j : Fin 768) (hh : hid j ↔ ¬ vis (row t i) (key t j)) :
    weight hid (cols (iblk m c 0 t) h) (iblk m c 1 t) (rows (iblk m c 4 t) h (ix3 0 i 0)) i j
      = (A.prob (t.val / 363) h (row t i) (key t j) : EReal) := by
  rw [l_at E]
  refine weight_real hid _ _ i j (A.score (t.val / 363) h (row t i) (key t j)) _ _ (vis (row t i) (key t j)) ?_
    (A.tot_pos _ _ _) hh
  simp only [q_at E, k_at E, ← EReal.coe_mul, coe_sum]
  unfold Data.score
  rw [Finset.sum_mul, Finset.sum_mul]
  exact congrArg _ (Finset.sum_congr rfl fun x _ => by ring)

theorem slope_eq (j : Fin 768) :
    slope (iblk m c 2 t) (cols (iblk m c 3 t) h) (rows (iblk m c 5 t) h (ix3 0 i 0)) i j
      = ((A.dprob (t.val / 363) h (row t i) (key t j) - A.delta (t.val / 363) h (row t i) : ℝ) : EReal) := by
  unfold slope
  rw [e_at E, EReal.coe_sub]
  refine congrArg (· - _) ?_
  simp only [d_at E, v_at E, ← EReal.coe_mul, coe_sum]
  rfl

omit E in
variable (A) in
/-- What one row of queries gives the gradient of a value. -/
def giveV (g r j x : ℕ) : ℝ := ∑ h : Fin 4, A.prob g h r j * A.d r (g * 512 + h * 128 + x)

omit E in
variable (A) in
/-- What one row of queries gives the gradient of a key, in units of the logarithm of two. -/
def giveK (g r j x : ℕ) : ℝ :=
  ∑ h : Fin 4, A.dscore g h r j * (A.q r (g * 512 + h * 128 + x) * scale * (Real.log 2)⁻¹)

/-- The products that one point adds to the values' accumulator. -/
theorem addV_eq (hid : ℕ → Prop) [DecidablePred hid] (j : Fin 768) (x : Fin 128)
    (hh : ∀ i : Fin 256, hid j ↔ ¬ vis (row t i) (key t j)) :
    addV m c hid t j x = ((∑ i : Fin 256, giveV A (t.val / 363) (t.val % 33 * 256 + i) (key t j) x : ℝ) : EReal) := by
  unfold addV giveV
  rw [Finset.sum_comm]
  simp only [← coe_sum]
  exact Finset.sum_congr rfl fun i _ => Finset.sum_congr rfl fun h _ => by
    rw [weight_eq E t h i hid j (hh i), d_at E, ← EReal.coe_mul]

/-- The products that one point adds to the keys' accumulator. -/
theorem addK_eq (hid : ℕ → Prop) [DecidablePred hid] (j : Fin 768) (x : Fin 128)
    (hh : ∀ i : Fin 256, hid j ↔ ¬ vis (row t i) (key t j)) :
    addK m c hid t j x = ((∑ i : Fin 256, giveK A (t.val / 363) (t.val % 33 * 256 + i) (key t j) x : ℝ) : EReal) := by
  unfold addK giveK
  rw [Finset.sum_comm]
  simp only [← coe_sum]
  exact Finset.sum_congr rfl fun i _ => Finset.sum_congr rfl fun h _ => by
    rw [weight_eq E t h i hid j (hh i), slope_eq E, q_at E, ← EReal.coe_mul, ← EReal.coe_mul]; rfl

omit E in
/-- A sum over whole blocks of rows, with one block more. -/
theorem sum_block (f : ℕ → ℝ) (b : ℕ) :
    ∑ r ∈ Finset.range ((b + 1) * 256), f r = (∑ r ∈ Finset.range (b * 256), f r) + ∑ i : Fin 256, f (b * 256 + i) := by
  rw [Nat.succ_mul, Finset.sum_range_add, Finset.sum_range (fun x => f (b * 256 + x))]

omit E in
/-- A row gives nothing to a key that it does not see. -/
theorem give_zero (g r j x : ℕ) (hv : ¬ vis r j) : giveK A g r j x = 0 ∧ giveV A g r j x = 0 := by
  constructor <;> refine Finset.sum_eq_zero fun h _ => mul_eq_zero_of_left ?_ _
  · exact A.dscore_of_not_vis _ _ _ _ hv
  · exact A.prob_of_not_vis _ _ _ _ hv

/-- After every point, the accumulators hold the sums over the rows so far: the context rows give nothing to the blocks
    of keys past the context. -/
theorem inv (n : ℕ) (hn : n < cfg0.N) (j : Fin 768) (x : Fin 128) :
    (outsAt0 m c n hn).2.2.1 (ix2 j x)
      = ((∑ r ∈ Finset.range ((n % 33 + 1) * 256), giveK A (n / 363) r (key ⟨n, hn⟩ j) x : ℝ) : EReal)
    ∧ (outsAt0 m c n hn).2.2.2 (ix2 j x)
      = ((∑ r ∈ Finset.range ((n % 33 + 1) * 256), giveV A (n / 363) r (key ⟨n, hn⟩ j) x : ℝ) : EReal) := by
  by_cases h0 : n % 33 = 0
  · by_cases h1 : n % 363 = 0
    · have k1 : n / 33 % 11 = 0 := by omega
      have hh : ∀ i : Fin 256, 256 ≤ n / 33 % 11 * 768 + (j : ℕ) ↔ ¬ vis (row ⟨n, hn⟩ i) (key ⟨n, hn⟩ j) := by
        intro i
        show 256 ≤ n / 33 % 11 * 768 + (j : ℕ) ↔ ¬(256 ≤ n % 33 * 256 + (i : ℕ) ∨ n / 33 % 11 * 768 + (j : ℕ) < 256)
        rw [k1, h0]; omega
      have H := case_A m c ⟨n, hn⟩ j x h0 h1 (by show ¬ 1 ≤ n % 33; omega) (by show ¬ n % 33 = 32; omega)
      rw [addK_eq E ⟨n, hn⟩ _ j x hh, addV_eq E ⟨n, hn⟩ _ j x hh, zero_add, zero_add] at H
      rw [H.1, H.2, sum_block, sum_block, h0]
      simp [h0]
    · have H := case_D m c ⟨n, hn⟩ j x h0 h1 (by show ¬ 1 ≤ n % 33; omega) (by show ¬ n % 33 = 32; omega)
      have k1 : 1 ≤ n / 33 % 11 := by omega
      have hz : ∀ i ∈ (Finset.univ : Finset (Fin 256)), ¬ vis (0 * 256 + (i : ℕ)) (key ⟨n, hn⟩ j) := by
        intro i _
        show ¬(256 ≤ 0 * 256 + (i : ℕ) ∨ n / 33 % 11 * 768 + (j : ℕ) < 256)
        omega
      rw [H.1, H.2, sum_block, sum_block, h0, Finset.sum_eq_zero fun i hi => (give_zero _ _ _ _ (hz i hi)).1,
        Finset.sum_eq_zero fun i hi => (give_zero _ _ _ _ (hz i hi)).2]
      simp
  · match n, hn with
    | 0, _ => exact absurd rfl h0
    | n + 1, hn =>
      have hN : n + 1 < 726 := hn
      have ih := inv n (Nat.lt_of_succ_lt hn) j x
      have hg : n / 363 = (n + 1) / 363 := by omega
      have hr : key ⟨n, Nat.lt_of_succ_lt hn⟩ j = key ⟨n + 1, hn⟩ j := by
        apply Fin.ext
        show n / 33 % 11 * 768 + (j : ℕ) = (n + 1) / 33 % 11 * 768 + (j : ℕ)
        omega
      have hb : n % 33 + 1 = (n + 1) % 33 := by omega
      rw [hg, hr, hb] at ih
      have h1 : ¬ (n + 1) % 363 = 0 := by omega
      have h2 : 1 ≤ (n + 1) % 33 := by omega
      have hh : ∀ i : Fin 256, False ↔ ¬ vis (row ⟨n + 1, hn⟩ i) (key ⟨n + 1, hn⟩ j) := by
        intro i
        show False ↔ ¬(256 ≤ (n + 1) % 33 * 256 + (i : ℕ) ∨ (n + 1) / 33 % 11 * 768 + (j : ℕ) < 256)
        rw [false_iff, not_not]; left; omega
      have H : (outsAt0 m c (n + 1) hn).2.2.1 (ix2 j x)
            = (outsAt0 m c n (Nat.lt_of_succ_lt hn)).2.2.1 (ix2 j x) + addK m c (fun _ => False) ⟨n + 1, hn⟩ j x
          ∧ (outsAt0 m c (n + 1) hn).2.2.2 (ix2 j x)
            = (outsAt0 m c n (Nat.lt_of_succ_lt hn)).2.2.2 (ix2 j x) + addV m c (fun _ => False) ⟨n + 1, hn⟩ j x := by
        by_cases h3 : (n + 1) % 33 = 32
        · exact case_C m c ⟨n + 1, hn⟩ j x h0 h1 h2 h3
        · exact case_B m c ⟨n + 1, hn⟩ j x h0 h1 h2 h3
      rw [addK_eq E ⟨n + 1, hn⟩ _ j x hh, addV_eq E ⟨n + 1, hn⟩ _ j x hh] at H
      rw [H.1, H.2, ih.1, ih.2, sum_block, sum_block, EReal.coe_add, EReal.coe_add]
      exact ⟨rfl, rfl⟩

/-- A key block's last point leaves the gradients of its keys and its values. -/
theorem out_eq (t : Fin cfg0.N) (h5 : t.val % 33 = 32) (j : Fin 768) (x : Fin 128) :
    (outsAt0 m c t.val t.isLt).1 (ix2 j x) = (A.gradK (t.val / 363) (key t j) x : EReal)
    ∧ (outsAt0 m c t.val t.isLt).2.1 (ix2 j x) = (A.gradV (t.val / 363) (key t j) x : EReal) := by
  have H := out_C m c t j x (by omega) (by omega) (by omega) h5
  have I := inv E t.val t.isLt j x
  rw [H.1, H.2, I.1, I.2, h5, ← EReal.coe_mul]
  have hlog : Real.log 2 ≠ 0 := (Real.log_pos one_lt_two).ne'
  constructor
  · unfold Data.gradK giveK
    rw [Finset.sum_comm, Finset.sum_mul, Finset.sum_mul]
    refine congrArg _ (Finset.sum_congr rfl fun h _ => ?_)
    rw [Finset.sum_range, Finset.sum_mul, Finset.sum_mul]
    refine Finset.sum_congr rfl fun r _ => ?_
    field_simp
  · unfold Data.gradV giveV
    rw [Finset.sum_comm]
    exact congrArg _ (Finset.sum_congr rfl fun h _ => Finset.sum_range _)

end Cert.DkvIdeal.Step

end
-- ==== Proof.DkvTie.lean ====
/-
  The keys' and values' gradients: the kernel's results are the plain attention's.
-/
module

public import proofs.«01_k».proof.Defs
public import proofs.«01_k».proof.Proof.DkvValue
public import proofs.«01_k».proof.Proof.DqTie
public import proofs.«01_k».proof.Proof.Gen.DkvRefIdeal.Run

@[expose] public section

set_option maxRecDepth 16384

noncomputable section

namespace Cert.DkvIdeal.Step

open Cert.Attn Cert.DkvIdeal Cert.DkvIdeal.Gen Idealize.ShloMosaic Idealize.ShloMosaic.TcCoe Idealize.SL.Sem
open Cert.DqIdeal.Step (scaledQ scaledQ_apply)

variable (m : (ℓ : Loc nD τ sig) → Buf (Elt Ideal) ℓ) (c : Dev nD)

/-- The arguments. -/
abbrev argQ : FVec Ideal S8448x1024 .f32 := m ((c.tc : Thread nD τ).loc main_arg0)
abbrev argK : FVec Ideal S8448x256 .f32 := m ((c.tc : Thread nD τ).loc main_arg1)
abbrev argV : FVec Ideal S8448x256 .f32 := m ((c.tc : Thread nD τ).loc main_arg2)
abbrev argD : FVec Ideal S8448x1024 .f32 := m ((c.tc : Thread nD τ).loc main_arg3)

theorem V_v6 : V m c main_v6 = scaledQ (argQ m c) := by
  unfold_abbrev_sides
  after_reads_simp
  rfl

theorem V_v7 : V m c main_v7 = argK m c := by
  unfold_abbrev_sides
  after_reads_simp
  rfl

theorem V_v8 : V m c main_v8 = argV m c := by
  unfold_abbrev_sides
  after_reads_simp
  rfl

theorem V_v36 : V m c main_v36 = lseA (argQ m c) (argK m c) := by
  unfold_abbrev_sides
  after_reads_simp
  rfl

theorem V_v74 : V m c main_v74 = deltaA (attnA (argQ m c) (argK m c) (argV m c)) (argD m c) := by
  unfold_abbrev_sides
  after_reads_simp
  rfl

/-- The arguments as arrays of reals. -/
def data : Data := ⟨rd (argQ m c), rd (argK m c), rd (argV m c), rd (argD m c)⟩

variable {m c} (hq : Reals (argQ m c)) (hk : Reals (argK m c)) (hv : Reals (argV m c)) (hd : Reals (argD m c))
include hq hk hv hd

theorem entry : Entry m c (data m c) where
  q r x := by rw [V_v6]; exact scaledQ_apply _ r x _ (rd_apply _ hq r x)
  k r x := by rw [V_v7]; exact rd_apply _ hk r x
  v r x := by rw [V_v8]; exact rd_apply _ hv r x
  d r x := by rw [V_main_arg3]; exact rd_apply _ hd r x
  l n r := by
    rw [V_v36]
    exact lseA_apply (data m c) (rd_apply _ hq) (rd_apply _ hk) n r
  e n r := by
    rw [V_v74]
    exact deltaA_apply (data m c) (rd_apply _ hq) (rd_apply _ hk) (rd_apply _ hv) (rd_apply _ hd) n r

/-- The first result is the gradient of the keys. -/
theorem result_dk : (Value.G6 m c : FVec Ideal S8448x256 .f32) = gradKA (argQ m c) (argK m c) (argV m c) (argD m c) := by
  funext y
  obtain ⟨r, x, rfl⟩ : ∃ r x, y = ix2 r x := ⟨_, _, eq_ix2 y⟩
  rw [gradKA_apply (data m c) (rd_apply _ hq) (rd_apply _ hk) (rd_apply _ hv) (rd_apply _ hd)]
  have hr := r.isLt
  have hx := x.isLt
  have hp : Value.pt6Of (ix2 r x) = 33 * (r / 768 + 11 * (x / 128)) + 32 := by
    show 33 * (1 * (r.val / 768 - 0) + 11 * (x.val / 128 - 0)) + 32 = _
    omega
  have hn : Value.pt6Of (ix2 r x) < cfg0.N := by
    rw [hp]; show _ < 726; omega
  unfold Value.G6
  rw [dif_pos hn, ← Value.outsAt0_sweep m c _ hn]
  have hl : Value.loc6Of (ix2 r x) = ix2 (⟨r % 768, by omega⟩ : Fin 768) (⟨x % 128, by omega⟩ : Fin 128) := by
    funext a
    fin_cases a <;> apply Fin.ext <;> simp [ix2]
  rw [hl]
  refine (out_eq (entry hq hk hv hd) ⟨_, hn⟩ (by simp only [hp]; omega) _ _).1.trans ?_
  congr 2 <;> simp only [hp, key] <;> omega

/-- The second is the gradient of the values. -/
theorem result_dv : (Value.G7 m c : FVec Ideal S8448x256 .f32) = gradVA (argQ m c) (argK m c) (argD m c) := by
  funext y
  obtain ⟨r, x, rfl⟩ : ∃ r x, y = ix2 r x := ⟨_, _, eq_ix2 y⟩
  rw [gradVA_apply (data m c) (rd_apply _ hq) (rd_apply _ hk) (rd_apply _ hd)]
  have hr := r.isLt
  have hx := x.isLt
  have hp : Value.pt7Of (ix2 r x) = 33 * (r / 768 + 11 * (x / 128)) + 32 := by
    show 33 * (1 * (r.val / 768 - 0) + 11 * (x.val / 128 - 0)) + 32 = _
    omega
  have hn : Value.pt7Of (ix2 r x) < cfg0.N := by
    rw [hp]; show _ < 726; omega
  unfold Value.G7
  rw [dif_pos hn, ← Value.outsAt0_sweep m c _ hn]
  have hl : Value.loc7Of (ix2 r x) = ix2 (⟨r % 768, by omega⟩ : Fin 768) (⟨x % 128, by omega⟩ : Fin 128) := by
    funext a
    fin_cases a <;> apply Fin.ext <;> simp [ix2]
  rw [hl]
  refine (out_eq (entry hq hk hv hd) ⟨_, hn⟩ (by simp only [hp]; omega) _ _).2.trans ?_
  congr 2 <;> simp only [hp, key] <;> omega

end Cert.DkvIdeal.Step

namespace Cert.Proof

open Cert.Attn Idealize.ShloMosaic Idealize.SL.Sem

section

variable (m : (ℓ : Loc Cert.DkvRefIdeal.nD Cert.DkvRefIdeal.τ Cert.DkvRefIdeal.sig) → Buf (Elt Ideal) ℓ)
  (c : Dev Cert.DkvRefIdeal.nD)

/-- What the plain program leaves. -/
theorem dk_ref : Cert.DkvRefIdeal.Value.res_main_v76 m c
    = gradKA (m (c.tc.loc Cert.DkvRefIdeal.main_arg0)) (m (c.tc.loc Cert.DkvRefIdeal.main_arg1))
      (m (c.tc.loc Cert.DkvRefIdeal.main_arg2)) (m (c.tc.loc Cert.DkvRefIdeal.main_arg3)) := rfl

theorem dv_ref : Cert.DkvRefIdeal.Value.res_main_v55 m c
    = gradVA (m (c.tc.loc Cert.DkvRefIdeal.main_arg0)) (m (c.tc.loc Cert.DkvRefIdeal.main_arg1))
      (m (c.tc.loc Cert.DkvRefIdeal.main_arg3)) := rfl

end

/-- The kernel's two results are the plain attention's gradients of the keys and of the values. -/
theorem dkv_algebraic : Cert.algebraic_DkvIdeal_DkvRefIdeal_pre_finite := by
  intro m ρ m' ρ' hpre hagree
  refine ⟨_, _, Cert.DkvIdeal.Value.run (F := Ideal) m ρ, ?_⟩
  refine (θ_run Cert.DkvRefIdeal.defs _ _).mono (fun r h c => ?_) (Cert.DkvRefIdeal.Value.run (F := Ideal) m' ρ')
  obtain ⟨hdk, hdv, hkept⟩ := h c
  obtain ⟨hq, hk, hv, hd⟩ := pre_finite _ _ _ _ (hpre c)
  obtain ⟨e0, e1, e2, e3⟩ := hagree c
  refine ⟨?_, ?_, hkept⟩
  · rw [hdk, dk_ref, e0, e1, e2, e3]
    exact (Cert.DkvIdeal.Step.result_dk hq hk hv hd).symm
  · rw [hdv, dv_ref, e0, e1, e3]
    exact (Cert.DkvIdeal.Step.result_dv hq hk hv hd).symm

end Cert.Proof

end
-- ==== Proof.FwdStep.lean ====
/-
  The attention's forward pass: what one grid point leaves in the running maxima and accumulators, at an index.
-/
module

public import proofs.«01_k».proof.Proof.DqStep
public import proofs.«01_k».proof.Proof.Gen.FwdIdeal.Value

@[expose] public section

set_option maxRecDepth 16384

noncomputable section

namespace Cert.FwdIdeal.Step

open Cert.Attn Cert.FwdIdeal Cert.FwdIdeal.Gen Idealize.ShloMosaic Idealize.ShloMosaic.TcCoe Idealize.SL.Sem

theorem named_hidden : (Named.named κ "hidden" 4048155338#32 : Ideal .f32) = (⊥ : EReal) :=
  IdealRules.named_const.ideal_named_scalar _ _ _ _ rfl

theorem named_ln2 : (Named.named κ "ln2" 0x3F317218#32 : Ideal .f32) = ((Real.log 2 : ℝ) : EReal) :=
  IdealRules.named_const.ideal_named_scalar _ _ _ _ rfl

theorem bot_bits : (Ideal.ofBits .f32 0xFF800000#32 : EReal) = ⊥ := by simp [Ideal.ofBits, Ideal.ieee]

theorem one_bits : (Ideal.ofBits .bf16 0x3F80#16 : EReal) = 1 := by
  simp [Ideal.ofBits, Ideal.ieee]
  rw [← EReal.coe_mul]
  norm_num

/-- The columns of head `h` in a block of four heads. -/
abbrev cols {e : EltTy} (X : Vec Ideal S256x512 e) (h : Fin 4) : Vec Ideal S256x128 e := DqIdeal.Step.cols X h

/-- The rows of head `h`, one number each. -/
abbrev rows (X : Vec Ideal S4x256x1 .f32) (h : Fin 4) : Vec Ideal S1x256x1 .f32 := DqIdeal.Step.rows X h

/-- The rows of head `h`. -/
def slab (X : Vec Ideal S4x256x256 .f32) (h : Fin 4) : Vec Ideal S1x256x256 .f32 := fun y => X (ix3 h (y 1) (y 2))

theorem ld_cols {e : EltTy} (X : Vec Ideal S256x512 e) :
    View.ld X (Rect.unit ![0, 0] ![256, 128] inb_S256x512_S256x128_0_0) = cols X 0
    ∧ View.ld X (Rect.unit ![0, 128] ![256, 128] inb_S256x512_S256x128_0_128) = cols X 1
    ∧ View.ld X (Rect.unit ![0, 256] ![256, 128] inb_S256x512_S256x128_0_256) = cols X 2
    ∧ View.ld X (Rect.unit ![0, 384] ![256, 128] inb_S256x512_S256x128_0_384) = cols X 3 :=
  DqIdeal.Step.ld_cols X

theorem ld_rows (X : Vec Ideal S4x256x1 .f32) :
    View.ld X (Rect.unit ![0, 0, 0] ![1, 256, 1] inb_S4x256x1_S1x256x1_0_0_0) = rows X 0
    ∧ View.ld X (Rect.unit ![1, 0, 0] ![1, 256, 1] inb_S4x256x1_S1x256x1_1_0_0) = rows X 1
    ∧ View.ld X (Rect.unit ![2, 0, 0] ![1, 256, 1] inb_S4x256x1_S1x256x1_2_0_0) = rows X 2
    ∧ View.ld X (Rect.unit ![3, 0, 0] ![1, 256, 1] inb_S4x256x1_S1x256x1_3_0_0) = rows X 3 :=
  DqIdeal.Step.ld_rows X

theorem ld_slab (X : Vec Ideal S4x256x256 .f32) :
    View.ld X (Rect.unit ![0, 0, 0] ![1, 256, 256] inb_S4x256x256_S1x256x256_0_0_0) = slab X 0
    ∧ View.ld X (Rect.unit ![1, 0, 0] ![1, 256, 256] inb_S4x256x256_S1x256x256_1_0_0) = slab X 1
    ∧ View.ld X (Rect.unit ![2, 0, 0] ![1, 256, 256] inb_S4x256x256_S1x256x256_2_0_0) = slab X 2
    ∧ View.ld X (Rect.unit ![3, 0, 0] ![1, 256, 256] inb_S4x256x256_S1x256x256_3_0_0) = slab X 3 := by
  refine ⟨?_, ?_, ?_, ?_⟩ <;>
    exact funext fun y => View.ld_unit_apply_of _ _ _ _ _ _ fun a => by
      fin_cases a <;> simp [ix3] <;> have := (y 0).isLt <;> simp at this <;> omega

/-- A score of the block. Key `j` is hidden where `hid j` holds. -/
def score (hid : ℕ → Prop) [DecidablePred hid] (q : FVec Ideal S256x128 .bf16) (k : FVec Ideal S2816x128 .bf16)
    (i : Fin 256) (j : Fin 2816) : EReal :=
  if hid j then ⊥ else ∑ x : Fin 128, q (ix2 i x) * k (ix2 j x)

/-- A row's running maximum after the scores `s`. -/
def newMax (s : Fin 2816 → EReal) (m : EReal) : EReal := max m (Finset.univ.fold max ⊥ s)

/-- A row's accumulator after the scores `s` and the values `v`. -/
def newAcc (s v : Fin 2816 → EReal) (m a : EReal) : EReal :=
  Ideal.exp2 (m - newMax s m) * a + ∑ j, Ideal.exp2 (s j - newMax s m) * v j

/-- Whether a key lies past the context, as the kernel compares it. -/
theorem key_hidden (b j : ℕ) (hb : b < 3) (hj : j < 2816) :
    IntOp.cmpi CmpIPredicate.sge (IntOp.addi (Scalar.muli (BitVec.ofNat 32 b) 2816#32) (BitVec.ofNat 32 j)) 256#32
      = if 256 ≤ b * 2816 + j then 1#1 else 0#1 := by
  exact WordCmp.cmpi_sge_mul_add_ofNat b 2816 j 256 (by omega) (by omega)

/-- A value beside ones. -/
def ext (v : FVec Ideal S2816x128 .bf16) (x : Fin 256) (j : Fin 2816) : EReal :=
  if h : x.val < 128 then v (ix2 j ⟨x, h⟩) else 1

/-- A hidden key's score. -/
theorem selected (b : ℕ) (hb : b < 3) (q : FVec Ideal S256x128 .bf16) (k : FVec Ideal S2816x128 .bf16) (i : Fin 256)
    (j : Fin 2816) :
    Scalar.select (IntOp.cmpi CmpIPredicate.sge (IntOp.addi (Scalar.muli (BitVec.ofNat 32 b) 2816#32) (BitVec.ofNat 32 j)) 256#32)
        (⊥ : EReal) (∑ x : Fin 128, q (ix2 i x) * k (ix2 j x))
      = score (fun j => 256 ≤ b * 2816 + j) q k i j := by
  rw [key_hidden b j hb j.isLt, select_ite]
  rfl

section

variable (q : FVec Ideal S256x128 .bf16) (k v : FVec Ideal S2816x128 .bf16) (w : FVec Ideal S2816x256 .bf16)
  (m : FVec Ideal S1x256x1 .f32) (acc : FVec Ideal S1x256x256 .f32) (a : Fin 1) (i : Fin 256) (x : Fin 256)

theorem ext_full (j : Fin 2816) : k0_pay42 (F := Ideal) v (ix2 j x) = ext v x j := by
  pointwise [k0_pay42, ext]

theorem ext_masked (j : Fin 2816) : k0_pay11 (F := Ideal) v (ix2 j x) = ext v x j := by
  pointwise [k0_pay11, ext]

theorem full_max (z : Fin 1) :
    k0_pay72 (F := Ideal) (k0_pay59 (k0_pay41 k) (k0_pay43 q) (k0_pay47 m)) (ix3 a i z)
      = newMax (score (fun _ => False) q k i) (m (ix3 0 i 0))
    ∧ k0_pay74 (F := Ideal) (k0_pay60 (k0_pay41 k) (k0_pay44 q) (k0_pay48 m)) (ix3 a i z)
      = newMax (score (fun _ => False) q k i) (m (ix3 0 i 0))
    ∧ k0_pay76 (F := Ideal) (k0_pay61 (k0_pay41 k) (k0_pay45 q) (k0_pay49 m)) (ix3 a i z)
      = newMax (score (fun _ => False) q k i) (m (ix3 0 i 0))
    ∧ k0_pay78 (F := Ideal) (k0_pay62 (k0_pay41 k) (k0_pay46 q) (k0_pay50 m)) (ix3 a i z)
      = newMax (score (fun _ => False) q k i) (m (ix3 0 i 0)) := by
  refine ⟨?_, ?_, ?_, ?_⟩ <;>
  · pointwise [k0_pay72, k0_pay74, k0_pay76, k0_pay78, k0_pay59, k0_pay60, k0_pay61, k0_pay62, k0_pay41, k0_pay43, k0_pay44,
      k0_pay45, k0_pay46, k0_pay47, k0_pay48, k0_pay49, k0_pay50, k0_pay55, k0_pay56, k0_pay57, k0_pay58]
    simp only [newMax, score, if_false, bot_bits]
    rfl

theorem full_acc :
    k0_pay73 (F := Ideal) (k0_pay51 acc) (k0_pay63 (k0_pay41 k) (k0_pay43 q) (k0_pay47 m))
        (k0_pay68 (k0_pay41 k) w (k0_pay43 q) (k0_pay47 m)) (ix3 a i x)
      = newAcc (score (fun _ => False) q k i) (fun j => w (ix2 j x)) (m (ix3 0 i 0)) (acc (ix3 0 i x))
    ∧ k0_pay75 (F := Ideal) (k0_pay52 acc) (k0_pay64 (k0_pay41 k) (k0_pay44 q) (k0_pay48 m))
        (k0_pay69 (k0_pay41 k) w (k0_pay44 q) (k0_pay48 m)) (ix3 a i x)
      = newAcc (score (fun _ => False) q k i) (fun j => w (ix2 j x)) (m (ix3 0 i 0)) (acc (ix3 0 i x))
    ∧ k0_pay77 (F := Ideal) (k0_pay53 acc) (k0_pay65 (k0_pay41 k) (k0_pay45 q) (k0_pay49 m))
        (k0_pay70 (k0_pay41 k) w (k0_pay45 q) (k0_pay49 m)) (ix3 a i x)
      = newAcc (score (fun _ => False) q k i) (fun j => w (ix2 j x)) (m (ix3 0 i 0)) (acc (ix3 0 i x))
    ∧ k0_pay8 (F := Ideal) (k0_pay54 acc) (k0_pay66 (k0_pay41 k) (k0_pay46 q) (k0_pay50 m))
        (k0_pay71 w (k0_pay67 (k0_pay41 k) (k0_pay46 q) (k0_pay50 m))) (ix3 a i x)
      = newAcc (score (fun _ => False) q k i) (fun j => w (ix2 j x)) (m (ix3 0 i 0)) (acc (ix3 0 i x)) := by
  refine ⟨?_, ?_, ?_, ?_⟩ <;>
  · pointwise [k0_pay8, k0_pay73, k0_pay75, k0_pay77, k0_pay51, k0_pay52, k0_pay53, k0_pay54, k0_pay63, k0_pay64, k0_pay65,
      k0_pay66, k0_pay67, k0_pay68, k0_pay69, k0_pay70, k0_pay71, k0_pay59, k0_pay60, k0_pay61, k0_pay62, k0_pay41, k0_pay43,
      k0_pay44, k0_pay45, k0_pay46, k0_pay47, k0_pay48, k0_pay49, k0_pay50, k0_pay55, k0_pay56, k0_pay57, k0_pay58]
    simp only [newAcc, newMax, score, if_false, bot_bits]
    rfl

theorem masked_max (b : ℕ) (hb : b < 3) (z : Fin 1) :
    k0_pay37 (F := Ideal) (k0_pay28 (k0_pay9 (BitVec.ofNat 32 b)) (k0_pay10 k) (k0_pay12 q) (k0_pay16 m)) (ix3 a i z)
      = newMax (score (fun j => 256 ≤ b * 2816 + j) q k i) (m (ix3 0 i 0))
    ∧ k0_pay39 (F := Ideal) (k0_pay29 (k0_pay9 (BitVec.ofNat 32 b)) (k0_pay10 k) (k0_pay13 q) (k0_pay17 m)) (ix3 a i z)
      = newMax (score (fun j => 256 ≤ b * 2816 + j) q k i) (m (ix3 0 i 0))
    ∧ k0_pay4 (F := Ideal) (k0_pay30 (k0_pay9 (BitVec.ofNat 32 b)) (k0_pay10 k) (k0_pay14 q) (k0_pay18 m)) (ix3 a i z)
      = newMax (score (fun j => 256 ≤ b * 2816 + j) q k i) (m (ix3 0 i 0))
    ∧ k0_pay6 (F := Ideal) (k0_pay31 (k0_pay9 (BitVec.ofNat 32 b)) (k0_pay10 k) (k0_pay15 q) (k0_pay19 m)) (ix3 a i z)
      = newMax (score (fun j => 256 ≤ b * 2816 + j) q k i) (m (ix3 0 i 0)) := by
  refine ⟨?_, ?_, ?_, ?_⟩ <;>
  · pointwise [k0_pay37, k0_pay39, k0_pay4, k0_pay6, k0_pay28, k0_pay29, k0_pay30, k0_pay31, k0_pay9, k0_pay10, k0_pay12, k0_pay13,
      k0_pay14, k0_pay15, k0_pay16, k0_pay17, k0_pay18, k0_pay19, k0_pay24, k0_pay25, k0_pay26, k0_pay27]
    simp only [newMax, bot_bits, named_hidden, selected b hb]

theorem masked_acc (b : ℕ) (hb : b < 3) :
    k0_pay38 (F := Ideal) w (k0_pay20 acc)
        (k0_pay24 (k0_pay9 (BitVec.ofNat 32 b)) (k0_pay10 k) (k0_pay12 q))
        (k0_pay28 (k0_pay9 (BitVec.ofNat 32 b)) (k0_pay10 k) (k0_pay12 q) (k0_pay16 m))
        (k0_pay32 (k0_pay9 (BitVec.ofNat 32 b)) (k0_pay10 k) (k0_pay12 q) (k0_pay16 m)) (ix3 a i x)
      = newAcc (score (fun j => 256 ≤ b * 2816 + j) q k i) (fun j => w (ix2 j x)) (m (ix3 0 i 0)) (acc (ix3 0 i x))
    ∧ k0_pay3 (F := Ideal) (k0_pay40 w (k0_pay17 m) (k0_pay21 acc)
        (k0_pay25 (k0_pay9 (BitVec.ofNat 32 b)) (k0_pay10 k) (k0_pay13 q))
        (k0_pay29 (k0_pay9 (BitVec.ofNat 32 b)) (k0_pay10 k) (k0_pay13 q) (k0_pay17 m))) (ix3 a i x)
      = newAcc (score (fun j => 256 ≤ b * 2816 + j) q k i) (fun j => w (ix2 j x)) (m (ix3 0 i 0)) (acc (ix3 0 i x))
    ∧ k0_pay5 (F := Ideal) (k0_pay22 acc)
        (k0_pay33 (k0_pay18 m) (k0_pay30 (k0_pay9 (BitVec.ofNat 32 b)) (k0_pay10 k) (k0_pay14 q) (k0_pay18 m)))
        (k0_pay35 w (k0_pay26 (k0_pay9 (BitVec.ofNat 32 b)) (k0_pay10 k) (k0_pay14 q))
          (k0_pay30 (k0_pay9 (BitVec.ofNat 32 b)) (k0_pay10 k) (k0_pay14 q) (k0_pay18 m))) (ix3 a i x)
      = newAcc (score (fun j => 256 ≤ b * 2816 + j) q k i) (fun j => w (ix2 j x)) (m (ix3 0 i 0)) (acc (ix3 0 i x))
    ∧ k0_pay7 (F := Ideal) (k0_pay23 acc)
        (k0_pay34 (k0_pay19 m) (k0_pay31 (k0_pay9 (BitVec.ofNat 32 b)) (k0_pay10 k) (k0_pay15 q) (k0_pay19 m)))
        (k0_pay36 w (k0_pay27 (k0_pay9 (BitVec.ofNat 32 b)) (k0_pay10 k) (k0_pay15 q))
          (k0_pay31 (k0_pay9 (BitVec.ofNat 32 b)) (k0_pay10 k) (k0_pay15 q) (k0_pay19 m))) (ix3 a i x)
      = newAcc (score (fun j => 256 ≤ b * 2816 + j) q k i) (fun j => w (ix2 j x)) (m (ix3 0 i 0)) (acc (ix3 0 i x)) := by
  refine ⟨?_, ?_, ?_, ?_⟩ <;>
  · pointwise [k0_pay38, k0_pay3, k0_pay40, k0_pay5, k0_pay33, k0_pay35, k0_pay7, k0_pay34, k0_pay36, k0_pay20, k0_pay21, k0_pay22,
      k0_pay23, k0_pay28, k0_pay29, k0_pay30, k0_pay31, k0_pay32, k0_pay9, k0_pay10, k0_pay12, k0_pay13, k0_pay14, k0_pay15,
      k0_pay16, k0_pay17, k0_pay18, k0_pay19, k0_pay24, k0_pay25, k0_pay26, k0_pay27]
    simp only [newAcc, newMax, bot_bits, named_hidden, selected b hb]
    rfl

theorem out_value (x : Fin 128) :
    k0_pay80 (F := Ideal) acc (ix2 i x) = Ideal.div (acc (ix3 0 i ⟨x, by omega⟩)) (acc (ix3 0 i ⟨128 + x, by omega⟩))
    ∧ k0_pay83 (F := Ideal) acc (ix2 i x) = Ideal.div (acc (ix3 0 i ⟨x, by omega⟩)) (acc (ix3 0 i ⟨128 + x, by omega⟩))
    ∧ k0_pay86 (F := Ideal) acc (ix2 i x) = Ideal.div (acc (ix3 0 i ⟨x, by omega⟩)) (acc (ix3 0 i ⟨128 + x, by omega⟩))
    ∧ k0_pay89 (F := Ideal) acc (ix2 i x) = Ideal.div (acc (ix3 0 i ⟨x, by omega⟩)) (acc (ix3 0 i ⟨128 + x, by omega⟩)) := by
  refine ⟨?_, ?_, ?_, ?_⟩ <;>
  · pointwise [k0_pay80, k0_pay83, k0_pay86, k0_pay89, k0_pay79, k0_pay82, k0_pay85, k0_pay88]

theorem out_lse (z : Fin 1) :
    k0_pay81 (F := Ideal) acc m (ix3 a i z) = m (ix3 0 i 0) * ((Real.log 2 : ℝ) : EReal) + Ideal.log (acc (ix3 0 i 128))
    ∧ k0_pay84 (F := Ideal) acc m (ix3 a i z) = m (ix3 0 i 0) * ((Real.log 2 : ℝ) : EReal) + Ideal.log (acc (ix3 0 i 128))
    ∧ k0_pay87 (F := Ideal) acc m (ix3 a i z) = m (ix3 0 i 0) * ((Real.log 2 : ℝ) : EReal) + Ideal.log (acc (ix3 0 i 128))
    ∧ k0_pay90 (F := Ideal) acc m (ix3 a i z) = m (ix3 0 i 0) * ((Real.log 2 : ℝ) : EReal) + Ideal.log (acc (ix3 0 i 128)) := by
  refine ⟨?_, ?_, ?_, ?_⟩ <;>
  · pointwise [k0_pay81, k0_pay84, k0_pay87, k0_pay90, k0_pay79, k0_pay82, k0_pay85, k0_pay88]
    simp only [named_ln2]

end

end Cert.FwdIdeal.Step

end
-- ==== Proof.FwdCase.lean ====
/-
  The attention's forward pass: the running maxima, the accumulators and the outputs after one grid point, in each of its
  cases.
-/
module

public import proofs.«01_k».proof.Proof.DqCase
public import proofs.«01_k».proof.Proof.FwdStep

@[expose] public section

set_option maxRecDepth 16384

noncomputable section

namespace Cert.FwdIdeal.Step

open Cert.DqIdeal.Step (canon_append)
open Cert.Attn Cert.FwdIdeal Cert.FwdIdeal.Gen Idealize.ShloMosaic Idealize.ShloMosaic.TcCoe Idealize.SL.Sem

variable (m : (ℓ : Loc nD τ sig) → Buf (Elt Ideal) ℓ) (c : Dev nD)

/-- The scores of one row at one grid point. -/
def pscore (hid : ℕ → Prop) [DecidablePred hid] (t : Fin cfg0.N) (h : Fin 4) (i : Fin 256) : Fin 2816 → EReal :=
  score hid (cols (iblk m c 0 t) h) (iblk m c 1 t) i

/-- The values, beside ones, of one column at one grid point. -/
def pval (t : Fin cfg0.N) (x : Fin 256) : Fin 2816 → EReal := ext (iblk m c 2 t) x

theorem coords_eq (t : Fin cfg0.N) : (grid0.coords t 2).val = t.val % 3 := by
  revert t
  decide +kernel

theorem mod_lt (t : Fin cfg0.N) : t.val % 3 < 3 := by omega

theorem cleared_rows (h : Fin 4) (y : S1x256x1.Idx) : rows (k0_pay1 (F := Ideal)) h y = (⊥ : EReal) := by
  show k0_pay1 (F := Ideal) _ = _
  pointwise [k0_pay1]
  exact named_hidden

theorem cleared_slab (h : Fin 4) (y : S1x256x256.Idx) : slab (k0_pay2 (F := Ideal)) h y = (0 : EReal) := by
  show k0_pay2 (F := Ideal) _ = _
  pointwise [k0_pay2]

set_option maxHeartbeats 1000000 in
theorem max_A (t : Fin cfg0.N) (h0 : t.val % 3 = 0) (h1 : t.val % 99 = 0) (h2 : ¬1 ≤ t.val / 3 % 33)
    (h3 : ¬t.val % 3 = 2) (h : Fin 4) (i : Fin 256) :
    (outsAt0 m c t.val t.isLt).2.2.1 (ix3 h i 0) = newMax (pscore m c (fun j => 256 ≤ t.val % 3 * 2816 + j) t h i) ⊥ := by
  rw [outsAt0_A m c t h0 h1 h2 h3]
  dsimp only
  frame_out
  simp (disch := decide) only [↓ View.readCov_skip, ↓ View.readCov_cons_toLoadRect, ↓ View.readCov_fill]
  simp only [ld_cols, ld_rows, ld_slab]
  refine (canon_append [_] [_, _, _, _] _ (View.cover_of_tiled_head _ _ _ (by rfl) _)).trans ?_
  canon_tiles x hx
  all_goals
    obtain ⟨a, b, e, rfl⟩ : ∃ a b e, x = ix3 a b e := ⟨_, _, _, eq_ix3 x⟩
    have hi : i = b := Fin.ext hx1
    subst hi
    simp only [coords_eq, masked_max _ _ _ _ _ _ (mod_lt t), cleared_rows]
    first
      | (have hh : h = 3 := by apply Fin.ext; simpa [ix3] using hx0
         subst hh)
      | (have hh : h = 2 := by apply Fin.ext; simpa [ix3] using hx0
         subst hh)
      | (have hh : h = 1 := by apply Fin.ext; simpa [ix3] using hx0
         subst hh)
      | (have hh : h = 0 := by apply Fin.ext; simpa [ix3] using hx0
         subst hh)
    rfl

set_option maxHeartbeats 1000000 in
theorem acc_A (t : Fin cfg0.N) (h0 : t.val % 3 = 0) (h1 : t.val % 99 = 0) (h2 : ¬1 ≤ t.val / 3 % 33)
    (h3 : ¬t.val % 3 = 2) (h : Fin 4) (i : Fin 256) (x : Fin 256) :
    (outsAt0 m c t.val t.isLt).2.2.2 (ix3 h i x)
      = newAcc (pscore m c (fun j => 256 ≤ t.val % 3 * 2816 + j) t h i) (pval m c t x) ⊥
        0 := by
  rw [outsAt0_A m c t h0 h1 h2 h3]
  dsimp only
  frame_out
  simp (disch := decide) only [↓ View.readCov_skip, ↓ View.readCov_cons_toLoadRect, ↓ View.readCov_fill]
  simp only [ld_cols, ld_rows, ld_slab]
  refine (canon_append [_] [_, _, _, _] _ (View.cover_of_tiled_head _ _ _ (by rfl) _)).trans ?_
  canon_tiles y hx
  all_goals
    obtain ⟨a, b, e, rfl⟩ : ∃ a b e, y = ix3 a b e := ⟨_, _, _, eq_ix3 y⟩
    have hi : i = b := Fin.ext hx1
    have hd : x = e := Fin.ext hx2
    subst hi hd
    simp only [coords_eq, masked_acc _ _ _ _ _ _ _ _ _ (mod_lt t), ext_masked, cleared_rows, cleared_slab]
    first
      | (have hh : h = 3 := by apply Fin.ext; simpa [ix3] using hx0
         subst hh)
      | (have hh : h = 2 := by apply Fin.ext; simpa [ix3] using hx0
         subst hh)
      | (have hh : h = 1 := by apply Fin.ext; simpa [ix3] using hx0
         subst hh)
      | (have hh : h = 0 := by apply Fin.ext; simpa [ix3] using hx0
         subst hh)
    rfl

set_option maxHeartbeats 1000000 in
theorem max_D (t : Fin cfg0.N) (h0 : t.val % 3 = 0) (h1 : ¬t.val % 99 = 0) (h2 : 1 ≤ t.val / 3 % 33)
    (h3 : ¬t.val % 3 = 2) (h : Fin 4) (i : Fin 256) :
    (outsAt0 m c t.val t.isLt).2.2.1 (ix3 h i 0) = newMax (pscore m c (fun _ => False) t h i) ⊥ := by
  rw [outsAt0_D m c t h0 h1 h2 h3]
  dsimp only
  frame_out
  simp (disch := decide) only [↓ View.readCov_skip, ↓ View.readCov_cons_toLoadRect, ↓ View.readCov_fill]
  simp only [ld_cols, ld_rows, ld_slab]
  refine (canon_append [_] [_, _, _, _] _ (View.cover_of_tiled_head _ _ _ (by rfl) _)).trans ?_
  canon_tiles x hx
  all_goals
    obtain ⟨a, b, e, rfl⟩ : ∃ a b e, x = ix3 a b e := ⟨_, _, _, eq_ix3 x⟩
    have hi : i = b := Fin.ext hx1
    subst hi
    simp only [full_max, cleared_rows]
    first
      | (have hh : h = 3 := by apply Fin.ext; simpa [ix3] using hx0
         subst hh)
      | (have hh : h = 2 := by apply Fin.ext; simpa [ix3] using hx0
         subst hh)
      | (have hh : h = 1 := by apply Fin.ext; simpa [ix3] using hx0
         subst hh)
      | (have hh : h = 0 := by apply Fin.ext; simpa [ix3] using hx0
         subst hh)
    rfl

set_option maxHeartbeats 1000000 in
theorem acc_D (t : Fin cfg0.N) (h0 : t.val % 3 = 0) (h1 : ¬t.val % 99 = 0) (h2 : 1 ≤ t.val / 3 % 33)
    (h3 : ¬t.val % 3 = 2) (h : Fin 4) (i : Fin 256) (x : Fin 256) :
    (outsAt0 m c t.val t.isLt).2.2.2 (ix3 h i x)
      = newAcc (pscore m c (fun _ => False) t h i) (pval m c t x) ⊥
        0 := by
  rw [outsAt0_D m c t h0 h1 h2 h3]
  dsimp only
  frame_out
  simp (disch := decide) only [↓ View.readCov_skip, ↓ View.readCov_cons_toLoadRect, ↓ View.readCov_fill]
  simp only [ld_cols, ld_rows, ld_slab]
  refine (canon_append [_] [_, _, _, _] _ (View.cover_of_tiled_head _ _ _ (by rfl) _)).trans ?_
  canon_tiles y hx
  all_goals
    obtain ⟨a, b, e, rfl⟩ : ∃ a b e, y = ix3 a b e := ⟨_, _, _, eq_ix3 y⟩
    have hi : i = b := Fin.ext hx1
    have hd : x = e := Fin.ext hx2
    subst hi hd
    simp only [full_acc, ext_full, cleared_rows, cleared_slab]
    first
      | (have hh : h = 3 := by apply Fin.ext; simpa [ix3] using hx0
         subst hh)
      | (have hh : h = 2 := by apply Fin.ext; simpa [ix3] using hx0
         subst hh)
      | (have hh : h = 1 := by apply Fin.ext; simpa [ix3] using hx0
         subst hh)
      | (have hh : h = 0 := by apply Fin.ext; simpa [ix3] using hx0
         subst hh)
    rfl

set_option maxHeartbeats 1000000 in
theorem max_E (t : Fin cfg0.N) (h0 : ¬t.val % 3 = 0) (h1 : ¬t.val % 99 = 0) (h2 : 1 ≤ t.val / 3 % 33)
    (h3 : ¬t.val % 3 = 2) (h : Fin 4) (i : Fin 256) :
    (outsAt0 m c t.val t.isLt).2.2.1 (ix3 h i 0) = newMax (pscore m c (fun _ => False) t h i) ((outsAt0 m c (t.val - 1) (by omega)).2.2.1 (ix3 h i 0)) := by
  rw [outsAt0_E m c t h0 h1 h2 h3]
  dsimp only
  frame_out
  simp only [read_unread_whole, ld_cols, ld_rows, ld_slab]
  canon_tiles x hx
  all_goals
    obtain ⟨a, b, e, rfl⟩ : ∃ a b e, x = ix3 a b e := ⟨_, _, _, eq_ix3 x⟩
    have hi : i = b := Fin.ext hx1
    subst hi
    simp only [full_max]
    first
      | (have hh : h = 3 := by apply Fin.ext; simpa [ix3] using hx0
         subst hh)
      | (have hh : h = 2 := by apply Fin.ext; simpa [ix3] using hx0
         subst hh)
      | (have hh : h = 1 := by apply Fin.ext; simpa [ix3] using hx0
         subst hh)
      | (have hh : h = 0 := by apply Fin.ext; simpa [ix3] using hx0
         subst hh)
    rfl

set_option maxHeartbeats 1000000 in
theorem acc_E (t : Fin cfg0.N) (h0 : ¬t.val % 3 = 0) (h1 : ¬t.val % 99 = 0) (h2 : 1 ≤ t.val / 3 % 33)
    (h3 : ¬t.val % 3 = 2) (h : Fin 4) (i : Fin 256) (x : Fin 256) :
    (outsAt0 m c t.val t.isLt).2.2.2 (ix3 h i x)
      = newAcc (pscore m c (fun _ => False) t h i) (pval m c t x)
        ((outsAt0 m c (t.val - 1) (by omega)).2.2.1 (ix3 h i 0))
        ((outsAt0 m c (t.val - 1) (by omega)).2.2.2 (ix3 h i x)) := by
  rw [outsAt0_E m c t h0 h1 h2 h3]
  dsimp only
  frame_out
  simp only [read_unread_whole, ld_cols, ld_rows, ld_slab]
  canon_tiles y hx
  all_goals
    obtain ⟨a, b, e, rfl⟩ : ∃ a b e, y = ix3 a b e := ⟨_, _, _, eq_ix3 y⟩
    have hi : i = b := Fin.ext hx1
    have hd : x = e := Fin.ext hx2
    subst hi hd
    simp only [full_acc, ext_full]
    first
      | (have hh : h = 3 := by apply Fin.ext; simpa [ix3] using hx0
         subst hh)
      | (have hh : h = 2 := by apply Fin.ext; simpa [ix3] using hx0
         subst hh)
      | (have hh : h = 1 := by apply Fin.ext; simpa [ix3] using hx0
         subst hh)
      | (have hh : h = 0 := by apply Fin.ext; simpa [ix3] using hx0
         subst hh)
    rfl

set_option maxHeartbeats 1000000 in
theorem max_F (t : Fin cfg0.N) (h0 : ¬t.val % 3 = 0) (h1 : ¬t.val % 99 = 0) (h2 : 1 ≤ t.val / 3 % 33)
    (h3 : t.val % 3 = 2) (h : Fin 4) (i : Fin 256) :
    (outsAt0 m c t.val t.isLt).2.2.1 (ix3 h i 0) = newMax (pscore m c (fun _ => False) t h i) ((outsAt0 m c (t.val - 1) (by omega)).2.2.1 (ix3 h i 0)) := by
  rw [outsAt0_F m c t h0 h1 h2 h3]
  dsimp only
  frame_out
  simp only [read_unread_whole, ld_cols, ld_rows, ld_slab]
  canon_tiles x hx
  all_goals
    obtain ⟨a, b, e, rfl⟩ : ∃ a b e, x = ix3 a b e := ⟨_, _, _, eq_ix3 x⟩
    have hi : i = b := Fin.ext hx1
    subst hi
    simp only [full_max]
    first
      | (have hh : h = 3 := by apply Fin.ext; simpa [ix3] using hx0
         subst hh)
      | (have hh : h = 2 := by apply Fin.ext; simpa [ix3] using hx0
         subst hh)
      | (have hh : h = 1 := by apply Fin.ext; simpa [ix3] using hx0
         subst hh)
      | (have hh : h = 0 := by apply Fin.ext; simpa [ix3] using hx0
         subst hh)
    rfl

set_option maxHeartbeats 1000000 in
theorem acc_F (t : Fin cfg0.N) (h0 : ¬t.val % 3 = 0) (h1 : ¬t.val % 99 = 0) (h2 : 1 ≤ t.val / 3 % 33)
    (h3 : t.val % 3 = 2) (h : Fin 4) (i : Fin 256) (x : Fin 256) :
    (outsAt0 m c t.val t.isLt).2.2.2 (ix3 h i x)
      = newAcc (pscore m c (fun _ => False) t h i) (pval m c t x)
        ((outsAt0 m c (t.val - 1) (by omega)).2.2.1 (ix3 h i 0))
        ((outsAt0 m c (t.val - 1) (by omega)).2.2.2 (ix3 h i x)) := by
  rw [outsAt0_F m c t h0 h1 h2 h3]
  dsimp only
  frame_out
  simp only [read_unread_whole, ld_cols, ld_rows, ld_slab]
  canon_tiles y hx
  all_goals
    obtain ⟨a, b, e, rfl⟩ : ∃ a b e, y = ix3 a b e := ⟨_, _, _, eq_ix3 y⟩
    have hi : i = b := Fin.ext hx1
    have hd : x = e := Fin.ext hx2
    subst hi hd
    simp only [full_acc, ext_full]
    first
      | (have hh : h = 3 := by apply Fin.ext; simpa [ix3] using hx0
         subst hh)
      | (have hh : h = 2 := by apply Fin.ext; simpa [ix3] using hx0
         subst hh)
      | (have hh : h = 1 := by apply Fin.ext; simpa [ix3] using hx0
         subst hh)
      | (have hh : h = 0 := by apply Fin.ext; simpa [ix3] using hx0
         subst hh)
    rfl

theorem keep_B (t : Fin cfg0.N) (h0 : ¬t.val % 3 = 0) (h1 : ¬t.val % 99 = 0) (h2 : ¬1 ≤ t.val / 3 % 33)
    (h3 : ¬t.val % 3 = 2) :
    (outsAt0 m c t.val t.isLt).2.2 = (outsAt0 m c (t.val - 1) (by omega)).2.2 := by
  rw [outsAt0_B m c t h0 h1 h2 h3]
  exact rfl

theorem keep_C (t : Fin cfg0.N) (h0 : ¬t.val % 3 = 0) (h1 : ¬t.val % 99 = 0) (h2 : ¬1 ≤ t.val / 3 % 33)
    (h3 : t.val % 3 = 2) :
    (outsAt0 m c t.val t.isLt).2.2 = (outsAt0 m c (t.val - 1) (by omega)).2.2 := by
  rw [outsAt0_C m c t h0 h1 h2 h3]
  exact rfl

set_option maxHeartbeats 1000000 in
theorem out_C (t : Fin cfg0.N) (h0 : ¬t.val % 3 = 0) (h1 : ¬t.val % 99 = 0) (h2 : ¬1 ≤ t.val / 3 % 33)
    (h3 : t.val % 3 = 2) (h : Fin 4) (i : Fin 256) (d : Fin 128) :
    (outsAt0 m c t.val t.isLt).1 (ix2 i ⟨h * 128 + d, by omega⟩)
      = Ideal.div ((outsAt0 m c t.val t.isLt).2.2.2 (ix3 h i ⟨d, by omega⟩))
        ((outsAt0 m c t.val t.isLt).2.2.2 (ix3 h i ⟨128 + d, by omega⟩)) := by
  rw [keep_C m c t h0 h1 h2 h3, outsAt0_C m c t h0 h1 h2 h3]
  dsimp only
  frame_out
  simp only [read_unread_whole, ld_cols, ld_rows, ld_slab]
  canon_tiles x hx
  all_goals
    obtain ⟨b, e, rfl⟩ : ∃ b e, x = ix2 b e := ⟨_, _, eq_ix2 x⟩
    have hi : i = b := Fin.ext hx0
    subst hi
    have he := e.isLt
    have hd := d.isLt
    simp only [out_value]
    first
      | (have hh : h.val * 128 + d.val = 384 + e.val := hx1
         have hn : h = 3 := by apply Fin.ext; show h.val = 3; omega
         have hd : d = e := by apply Fin.ext; subst hn; exact Nat.add_left_cancel (n := 384) (by simpa using hh)
         subst hn hd)
      | (have hh : h.val * 128 + d.val = 256 + e.val := hx1
         have hn : h = 2 := by apply Fin.ext; show h.val = 2; omega
         have hd : d = e := by apply Fin.ext; subst hn; exact Nat.add_left_cancel (n := 256) (by simpa using hh)
         subst hn hd)
      | (have hh : h.val * 128 + d.val = 128 + e.val := hx1
         have hn : h = 1 := by apply Fin.ext; show h.val = 1; omega
         have hd : d = e := by apply Fin.ext; subst hn; exact Nat.add_left_cancel (n := 128) (by simpa using hh)
         subst hn hd)
      | (have hh : h.val * 128 + d.val = e.val := hx1
         have hn : h = 0 := by apply Fin.ext; show h.val = 0; omega
         have hd : d = e := by apply Fin.ext; subst hn; exact Nat.add_left_cancel (n := 0) (by simpa using hh)
         subst hn hd)
    rfl

set_option maxHeartbeats 1000000 in
theorem lse_C (t : Fin cfg0.N) (h0 : ¬t.val % 3 = 0) (h1 : ¬t.val % 99 = 0) (h2 : ¬1 ≤ t.val / 3 % 33)
    (h3 : t.val % 3 = 2) (h : Fin 4) (i : Fin 256) :
    (outsAt0 m c t.val t.isLt).2.1 (ix3 h i 0)
      = (outsAt0 m c t.val t.isLt).2.2.1 (ix3 h i 0) * ((Real.log 2 : ℝ) : EReal)
        + Ideal.log ((outsAt0 m c t.val t.isLt).2.2.2 (ix3 h i 128)) := by
  rw [keep_C m c t h0 h1 h2 h3, outsAt0_C m c t h0 h1 h2 h3]
  dsimp only
  frame_out
  simp only [read_unread_whole, ld_cols, ld_rows, ld_slab]
  canon_tiles x hx
  all_goals
    obtain ⟨a, b, e, rfl⟩ : ∃ a b e, x = ix3 a b e := ⟨_, _, _, eq_ix3 x⟩
    have hi : i = b := Fin.ext hx1
    subst hi
    simp only [out_lse]
    first
      | (have hh : h = 3 := by apply Fin.ext; simpa [ix3] using hx0
         subst hh)
      | (have hh : h = 2 := by apply Fin.ext; simpa [ix3] using hx0
         subst hh)
      | (have hh : h = 1 := by apply Fin.ext; simpa [ix3] using hx0
         subst hh)
      | (have hh : h = 0 := by apply Fin.ext; simpa [ix3] using hx0
         subst hh)
    rfl

set_option maxHeartbeats 1000000 in
theorem out_F (t : Fin cfg0.N) (h0 : ¬t.val % 3 = 0) (h1 : ¬t.val % 99 = 0) (h2 : 1 ≤ t.val / 3 % 33)
    (h3 : t.val % 3 = 2) (h : Fin 4) (i : Fin 256) (d : Fin 128) :
    (outsAt0 m c t.val t.isLt).1 (ix2 i ⟨h * 128 + d, by omega⟩)
      = Ideal.div ((outsAt0 m c t.val t.isLt).2.2.2 (ix3 h i ⟨d, by omega⟩))
        ((outsAt0 m c t.val t.isLt).2.2.2 (ix3 h i ⟨128 + d, by omega⟩)) := by
  rw [acc_F m c t h0 h1 h2 h3, acc_F m c t h0 h1 h2 h3, outsAt0_F m c t h0 h1 h2 h3]
  dsimp only
  frame_out
  simp (disch := decide) only [↓ View.readCov_skip, ↓ View.readCov_cons_toLoadRect, ↓ View.readCov_fill]
  simp only [read_unread_whole, ld_cols, ld_rows, ld_slab]
  canon_tiles x hx
  all_goals
    obtain ⟨b, e, rfl⟩ : ∃ b e, x = ix2 b e := ⟨_, _, eq_ix2 x⟩
    have hi : i = b := Fin.ext hx0
    subst hi
    have he := e.isLt
    have hd := d.isLt
    simp only [out_value, full_acc, ext_full]
    first
      | (have hh : h.val * 128 + d.val = 384 + e.val := hx1
         have hn : h = 3 := by apply Fin.ext; show h.val = 3; omega
         have hd : d = e := by apply Fin.ext; subst hn; exact Nat.add_left_cancel (n := 384) (by simpa using hh)
         subst hn hd)
      | (have hh : h.val * 128 + d.val = 256 + e.val := hx1
         have hn : h = 2 := by apply Fin.ext; show h.val = 2; omega
         have hd : d = e := by apply Fin.ext; subst hn; exact Nat.add_left_cancel (n := 256) (by simpa using hh)
         subst hn hd)
      | (have hh : h.val * 128 + d.val = 128 + e.val := hx1
         have hn : h = 1 := by apply Fin.ext; show h.val = 1; omega
         have hd : d = e := by apply Fin.ext; subst hn; exact Nat.add_left_cancel (n := 128) (by simpa using hh)
         subst hn hd)
      | (have hh : h.val * 128 + d.val = e.val := hx1
         have hn : h = 0 := by apply Fin.ext; show h.val = 0; omega
         have hd : d = e := by apply Fin.ext; subst hn; exact Nat.add_left_cancel (n := 0) (by simpa using hh)
         subst hn hd)
    rfl

set_option maxHeartbeats 1000000 in
theorem lse_F (t : Fin cfg0.N) (h0 : ¬t.val % 3 = 0) (h1 : ¬t.val % 99 = 0) (h2 : 1 ≤ t.val / 3 % 33)
    (h3 : t.val % 3 = 2) (h : Fin 4) (i : Fin 256) :
    (outsAt0 m c t.val t.isLt).2.1 (ix3 h i 0)
      = (outsAt0 m c t.val t.isLt).2.2.1 (ix3 h i 0) * ((Real.log 2 : ℝ) : EReal)
        + Ideal.log ((outsAt0 m c t.val t.isLt).2.2.2 (ix3 h i 128)) := by
  rw [acc_F m c t h0 h1 h2 h3, max_F m c t h0 h1 h2 h3, outsAt0_F m c t h0 h1 h2 h3]
  dsimp only
  frame_out
  simp (disch := decide) only [↓ View.readCov_skip, ↓ View.readCov_cons_toLoadRect, ↓ View.readCov_fill]
  simp only [read_unread_whole, ld_cols, ld_rows, ld_slab]
  canon_tiles x hx
  all_goals
    obtain ⟨a, b, e, rfl⟩ : ∃ a b e, x = ix3 a b e := ⟨_, _, _, eq_ix3 x⟩
    have hi : i = b := Fin.ext hx1
    subst hi
    simp only [out_lse, full_acc, full_max, ext_full]
    first
      | (have hh : h = 3 := by apply Fin.ext; simpa [ix3] using hx0
         subst hh)
      | (have hh : h = 2 := by apply Fin.ext; simpa [ix3] using hx0
         subst hh)
      | (have hh : h = 1 := by apply Fin.ext; simpa [ix3] using hx0
         subst hh)
      | (have hh : h = 0 := by apply Fin.ext; simpa [ix3] using hx0
         subst hh)
    rfl

end Cert.FwdIdeal.Step

end
-- ==== Proof.FwdValue.lean ====
/-
  The attention's forward pass: what the kernel's blocks hold of the arrays, and its outputs on the reals.
-/
module

public import proofs.«01_k».proof.Proof.FwdCase
public import proofs.«01_k».proof.Proof.Softmax

@[expose] public section

set_option maxRecDepth 16384

noncomputable section

namespace Cert.FwdIdeal.Step

open Cert.Attn Cert.FwdIdeal Cert.FwdIdeal.Gen Idealize.ShloMosaic Idealize.ShloMosaic.TcCoe Idealize.SL.Sem

/-- A weight measured from one number, measured from another. -/
theorem wt_shift (p : Prop) [Decidable p] (s M N : ℝ) : wt p s N = wt True M N * wt p s M := by
  unfold wt
  split
  · rw [if_pos trivial, ← Real.exp_add]; congr 1; ring
  · rw [mul_zero]

/-- The base-two exponential of a masked score less a row's running maximum. -/
theorem exp2_wt (p : Prop) [Decidable p] (s M : ℝ) :
    Ideal.exp2 ((if p then ((s * (Real.log 2)⁻¹ : ℝ) : EReal) else ⊥) - ((M * (Real.log 2)⁻¹ : ℝ) : EReal))
      = (wt p s M : EReal) := by
  have h := exp2_masked p s M one_pos
  rwa [Real.log_one, add_zero, div_one] at h

section

variable (sees : Fin 2816 → Prop) [DecidablePred sees] (r : Fin 2816 → ℝ)

/-- A row of scores: real at the keys it sees, in units of the logarithm of two. -/
def line (j : Fin 2816) : EReal := if sees j then ((r j * (Real.log 2)⁻¹ : ℝ) : EReal) else ⊥

theorem real_units (X : ℝ) : ∃ M : ℝ, (X : EReal) = ((M * (Real.log 2)⁻¹ : ℝ) : EReal) :=
  ⟨X * Real.log 2, by rw [mul_assoc, mul_inv_cancel₀ (Real.log_pos one_lt_two).ne', mul_one]⟩

theorem sum_line (u : Fin 2816 → ℝ) (M : ℝ) :
    ∑ j, Ideal.exp2 (line sees r j - ((M * (Real.log 2)⁻¹ : ℝ) : EReal)) * (u j : EReal)
      = ((∑ j, wt (sees j) (r j) M * u j : ℝ) : EReal) := by
  rw [← coe_sum]
  exact Finset.sum_congr rfl fun j _ => by rw [line, exp2_wt, ← EReal.coe_mul]

/-- A row's first block of keys. -/
theorem first_block (j₀ : Fin 2816) (h₀ : sees j₀) :
    ∃ M : ℝ, newMax (line sees r) ⊥ = ((M * (Real.log 2)⁻¹ : ℝ) : EReal)
      ∧ ∀ u : Fin 2816 → ℝ, newAcc (line sees r) (fun j => (u j : EReal)) ⊥ 0
        = ((∑ j, wt (sees j) (r j) M * u j : ℝ) : EReal) := by
  obtain ⟨X, hX⟩ := fold_max_real sees (fun j => r j * (Real.log 2)⁻¹) h₀
  obtain ⟨M, hM⟩ := real_units X
  have hm : newMax (line sees r) ⊥ = ((M * (Real.log 2)⁻¹ : ℝ) : EReal) := by
    rw [newMax, max_eq_right bot_le, ← hM, ← hX]
    rfl
  refine ⟨M, hm, fun u => ?_⟩
  rw [newAcc, hm, mul_zero, zero_add, sum_line]

/-- A further block of keys. -/
theorem next_block (j₀ : Fin 2816) (h₀ : sees j₀) (N : ℝ) :
    ∃ M : ℝ, newMax (line sees r) ((N * (Real.log 2)⁻¹ : ℝ) : EReal) = ((M * (Real.log 2)⁻¹ : ℝ) : EReal)
      ∧ ∀ (u : Fin 2816 → ℝ) (a : ℝ),
        newAcc (line sees r) (fun j => (u j : EReal)) ((N * (Real.log 2)⁻¹ : ℝ) : EReal) (a : EReal)
          = ((wt True N M * a + ∑ j, wt (sees j) (r j) M * u j : ℝ) : EReal) := by
  obtain ⟨X, hX⟩ := fold_max_real sees (fun j => r j * (Real.log 2)⁻¹) h₀
  obtain ⟨M, hM⟩ := real_units (max (N * (Real.log 2)⁻¹) X)
  have hm : newMax (line sees r) ((N * (Real.log 2)⁻¹ : ℝ) : EReal) = ((M * (Real.log 2)⁻¹ : ℝ) : EReal) := by
    rw [newMax, ← hM, EReal.coe_strictMono.monotone.map_max, ← hX]
    rfl
  refine ⟨M, hm, fun u a => ?_⟩
  have ha := exp2_wt True N M
  rw [if_pos trivial] at ha
  rw [newAcc, hm, ha, sum_line, ← EReal.coe_mul, ← EReal.coe_add]

end

/-- The value of a key in one column, beside ones. -/
def vext (A : Data) (g j x : ℕ) : ℝ := if x < 128 then A.v j (g * 128 + x) else 1

section

variable (A : Data) (g h i : ℕ)

/-- A row's sum of weights, measured from any number. -/
theorem sum_tot (M : ℝ) : ∑ j : Fin 8448, wt (vis i j) (A.score g h i j) M = wt True (A.top g h i) M * A.tot g h i := by
  rw [Data.tot, Finset.mul_sum]
  exact Finset.sum_congr rfl fun j _ => wt_shift _ _ _ _

theorem wt_true_pos (s M : ℝ) : 0 < wt True s M := by
  unfold wt
  rw [if_pos trivial]
  exact Real.exp_pos _

/-- The weighted mean of the values is the attention's result, from whatever number the weights are measured. -/
theorem mean_out (M : ℝ) (d : ℕ) :
    (∑ j : Fin 8448, wt (vis i j) (A.score g h i j) M * A.v j (g * 128 + d))
        / ∑ j : Fin 8448, wt (vis i j) (A.score g h i j) M = A.out g h i d := by
  have hs : ∑ j : Fin 8448, wt (vis i j) (A.score g h i j) M * A.v j (g * 128 + d)
      = wt True (A.top g h i) M * ∑ j : Fin 8448, A.w g h i j * A.v j (g * 128 + d) := by
    rw [Finset.mul_sum]
    refine Finset.sum_congr rfl fun j _ => ?_
    rw [wt_shift _ _ (A.top g h i), mul_assoc]
    rfl
  rw [hs, sum_tot, mul_div_mul_left _ _ (wt_true_pos _ _).ne', Data.out, Finset.sum_div]
  exact Finset.sum_congr rfl fun j _ => by rw [Data.prob]; ring

/-- So is the logarithm of the row's sum of exponentials. -/
theorem log_sum (M : ℝ) :
    M + Real.log (∑ j : Fin 8448, wt (vis i j) (A.score g h i j) M) = A.lse g h i := by
  rw [sum_tot, Real.log_mul (wt_true_pos _ _).ne' (A.tot_pos g h i).ne', wt, if_pos trivial, Real.log_exp, Data.lse]
  ring

theorem sum_pos (M : ℝ) : 0 < ∑ j : Fin 8448, wt (vis i j) (A.score g h i j) M := by
  rw [sum_tot]
  exact mul_pos (wt_true_pos _ _) (A.tot_pos g h i)

end

variable (m : (ℓ : Loc nD τ sig) → Buf (Elt Ideal) ℓ) (c : Dev nD)

/-- The blocks that one grid point reads: the row blocks go with the second coordinate, the key blocks with the third. -/
theorem idx_blocks : ∀ t : Fin cfg0.N,
    (win0_0.index t (0 : Fin 2) = t.val / 3 % 33 ∧ win0_0.index t (1 : Fin 2) = t.val / 99)
    ∧ (win0_1.index t (0 : Fin 2) = t.val % 3 ∧ win0_1.index t (1 : Fin 2) = t.val / 99)
    ∧ (win0_2.index t (0 : Fin 2) = t.val % 3 ∧ win0_2.index t (1 : Fin 2) = t.val / 99) :=
  (by decide +kernel : ∀ t : Fin grid0.N, _)

theorem lt_points (t : Fin cfg0.N) : t.val < 198 := t.isLt

/-- A row of the blocks in the whole array. -/
abbrev row (t : Fin cfg0.N) (i : Fin 256) : Fin 8448 := ⟨t.val / 3 % 33 * 256 + i, by omega⟩

/-- A key of the blocks in the whole array. -/
abbrev key (t : Fin cfg0.N) (j : Fin 2816) : Fin 8448 := ⟨t.val % 3 * 2816 + j, by omega⟩

theorem block_0 (X : Vec Ideal S8448x1024 .bf16) (t : Fin cfg0.N) (i : Fin 256) (x : Fin 512) :
    (((cfg0.win 0).blk t).view.read (Elt Ideal) X : Vec Ideal S256x512 .bf16) (ix2 i x)
      = X (ix2 (row t i) ⟨t.val / 99 * 512 + x, by have := lt_points t; omega⟩) := by
  blk_simp [idx_blocks t]
  blk_ext [idx_blocks t]

theorem block_1 (X : Vec Ideal S8448x256 .bf16) (t : Fin cfg0.N) (j : Fin 2816) (d : Fin 128) :
    (((cfg0.win 1).blk t).view.read (Elt Ideal) X : Vec Ideal S2816x128 .bf16) (ix2 j d)
      = X (ix2 (key t j) ⟨t.val / 99 * 128 + d, by have := lt_points t; omega⟩) := by
  blk_simp [idx_blocks t]
  blk_ext [idx_blocks t]

theorem block_2 (X : Vec Ideal S8448x256 .bf16) (t : Fin cfg0.N) (j : Fin 2816) (d : Fin 128) :
    (((cfg0.win 2).blk t).view.read (Elt Ideal) X : Vec Ideal S2816x128 .bf16) (ix2 j d)
      = X (ix2 (key t j) ⟨t.val / 99 * 128 + d, by have := lt_points t; omega⟩) := by
  blk_simp [idx_blocks t]
  blk_ext [idx_blocks t]

/-- What the kernel is given: the scaled queries, the keys and the values, all real. -/
structure Entry (A : Data) : Prop where
  q : ∀ (r : Fin 8448) (x : Fin 1024), (V m c main_v6 : FVec Ideal S8448x1024 .bf16) (ix2 r x)
    = ((A.q r x * scale * (Real.log 2)⁻¹ : ℝ) : EReal)
  k : ∀ (r : Fin 8448) (x : Fin 256), (V m c main_v7 : FVec Ideal S8448x256 .bf16) (ix2 r x) = (A.k r x : EReal)
  v : ∀ (r : Fin 8448) (x : Fin 256), (V m c main_v8 : FVec Ideal S8448x256 .bf16) (ix2 r x) = (A.v r x : EReal)

variable {m c} {A : Data} (E : Entry m c A) (t : Fin cfg0.N) (h : Fin 4) (i : Fin 256)
include E

theorem q_at (x : Fin 128) : cols (iblk m c 0 t) h (ix2 i x)
    = ((A.q (row t i) (t.val / 99 * 512 + h * 128 + x) * scale * (Real.log 2)⁻¹ : ℝ) : EReal) := by
  refine ((block_0 (V m c main_v6) t i _).trans (E.q _ _)).trans ?_
  simp [ix2, Nat.add_assoc]

theorem k_at (j : Fin 2816) (x : Fin 128) : (iblk m c 1 t : Vec Ideal S2816x128 .bf16) (ix2 j x)
    = (A.k (key t j) (t.val / 99 * 128 + x) : EReal) :=
  (block_1 (V m c main_v7) t j x).trans (E.k _ _)

theorem v_at (j : Fin 2816) (x : Fin 128) : (iblk m c 2 t : Vec Ideal S2816x128 .bf16) (ix2 j x)
    = (A.v (key t j) (t.val / 99 * 128 + x) : EReal) :=
  (block_2 (V m c main_v8) t j x).trans (E.v _ _)

theorem pval_eq (x : Fin 256) : pval m c t x = fun j => (vext A (t.val / 99) (key t j) x : EReal) := by
  funext j
  unfold pval ext vext
  by_cases hx : x.val < 128
  · rw [dif_pos hx, if_pos hx, v_at E]
  · rw [dif_neg hx, if_neg hx]; rfl

omit E in
/-- A score on the reals. -/
theorem score_real (hid : ℕ → Prop) [DecidablePred hid] (q : FVec Ideal S256x128 .bf16) (k : FVec Ideal S2816x128 .bf16)
    (i : Fin 256) (j : Fin 2816) (a b : Fin 128 → ℝ) (hq : ∀ x, q (ix2 i x) = (a x : EReal))
    (hk : ∀ x, k (ix2 j x) = (b x : EReal)) :
    score hid q k i j = if hid j then ⊥ else ((∑ x, a x * b x : ℝ) : EReal) := by
  simp only [score, hq, hk, ← EReal.coe_mul, coe_sum]

theorem pscore_eq (hid : ℕ → Prop) [DecidablePred hid] (hh : ∀ j : Fin 2816, hid j ↔ ¬ vis (row t i) (key t j)) :
    pscore m c hid t h i
      = line (fun j => vis (row t i) (key t j)) (fun j => A.score (t.val / 99) h (row t i) (key t j)) := by
  funext j
  have hs : (∑ x : Fin 128, A.q (row t i) (t.val / 99 * 512 + h * 128 + x) * scale * (Real.log 2)⁻¹
      * A.k (key t j) (t.val / 99 * 128 + x)) = A.score (t.val / 99) h (row t i) (key t j) * (Real.log 2)⁻¹ := by
    unfold Data.score
    rw [Finset.sum_mul, Finset.sum_mul]
    exact Finset.sum_congr rfl fun x _ => by ring
  refine (score_real hid _ _ i j _ _ (q_at E t h i) (k_at E t j)).trans ?_
  rw [hs, line]
  by_cases hk : hid j
  · rw [if_pos hk, if_neg ((hh j).1 hk)]
  · rw [if_neg hk, if_pos (not_not.1 fun h => hk ((hh j).2 h))]

omit E in
/-- A sum over whole blocks of keys, with one block more. -/
theorem sum_block (f : ℕ → ℝ) (b : ℕ) :
    ∑ j ∈ Finset.range ((b + 1) * 2816), f j
      = (∑ j ∈ Finset.range (b * 2816), f j) + ∑ j : Fin 2816, f (b * 2816 + j) := by
  rw [Nat.succ_mul, Finset.sum_range_add, Finset.sum_range (fun x => f (b * 2816 + x))]

omit E in
/-- A row's maximum and accumulator after the first `b` blocks of keys: the maximum is some real, and the accumulator is
    the sum of the keys' weights, measured from it, times their values. -/
def Running (A : Data) (g h r b : ℕ) (mx : EReal) (ac : Fin 256 → EReal) : Prop :=
  ∃ M : ℝ, mx = ((M * (Real.log 2)⁻¹ : ℝ) : EReal)
    ∧ ∀ x : Fin 256, ac x
      = ((∑ j ∈ Finset.range (b * 2816), wt (vis r j) (A.score g h r j) M * vext A g j x : ℝ) : EReal)

/-- The first block of keys. -/
theorem running_first (hid : ℕ → Prop) [DecidablePred hid] (h0 : t.val % 3 = 0)
    (hh : ∀ j : Fin 2816, hid j ↔ ¬ vis (row t i) (key t j)) :
    Running A (t.val / 99) h (row t i) (t.val % 3 + 1) (newMax (pscore m c hid t h i) ⊥)
      fun x => newAcc (pscore m c hid t h i) (pval m c t x) ⊥ 0 := by
  rw [pscore_eq E t h i hid hh]
  obtain ⟨M, h1, h2⟩ := first_block (fun j => vis (row t i) (key t j))
    (fun j => A.score (t.val / 99) h (row t i) (key t j)) 0 (.inr (by show t.val % 3 * 2816 + 0 < 256; omega))
  refine ⟨M, h1, fun x => ?_⟩
  beta_reduce
  rw [pval_eq E, h2, sum_block]
  simp [h0]

/-- A further block of keys, of which the row sees one. -/
theorem running_next (hid : ℕ → Prop) [DecidablePred hid] (hh : ∀ j : Fin 2816, hid j ↔ ¬ vis (row t i) (key t j))
    (h0 : vis (row t i) (key t 0)) (mx : EReal) (ac : Fin 256 → EReal)
    (R : Running A (t.val / 99) h (row t i) (t.val % 3) mx ac) :
    Running A (t.val / 99) h (row t i) (t.val % 3 + 1) (newMax (pscore m c hid t h i) mx)
      fun x => newAcc (pscore m c hid t h i) (pval m c t x) mx (ac x) := by
  obtain ⟨N, rfl, ha⟩ := R
  rw [pscore_eq E t h i hid hh]
  obtain ⟨M, h1, h2⟩ := next_block (fun j => vis (row t i) (key t j))
    (fun j => A.score (t.val / 99) h (row t i) (key t j)) 0 h0 N
  refine ⟨M, h1, fun x => ?_⟩
  beta_reduce
  rw [pval_eq E, ha, h2, sum_block, Finset.mul_sum]
  congr 2
  refine Finset.sum_congr rfl fun j _ => ?_
  rw [← mul_assoc, ← wt_shift]

omit E in
/-- A block of keys that the row does not see changes nothing. -/
theorem running_skip (g h r b : ℕ) (hr : r < 256) (hb : 1 ≤ b) (mx : EReal) (ac : Fin 256 → EReal)
    (R : Running A g h r b mx ac) : Running A g h r (b + 1) mx ac := by
  obtain ⟨M, h1, ha⟩ := R
  refine ⟨M, h1, fun x => ?_⟩
  rw [ha, sum_block, Finset.sum_eq_zero (s := Finset.univ), add_zero]
  intro j _
  have hv : ¬vis r (b * 2816 + (j : ℕ)) := by
    rintro (h | h) <;> omega
  rw [wt, if_neg hv, zero_mul]

/-- After every point, the running maximum and the accumulator are those of the keys so far. -/
theorem inv (n : ℕ) (hn : n < cfg0.N) (h : Fin 4) (i : Fin 256) :
    Running A (n / 99) h (row ⟨n, hn⟩ i) (n % 3 + 1) ((outsAt0 m c n hn).2.2.1 (ix3 h i 0))
      fun x => (outsAt0 m c n hn).2.2.2 (ix3 h i x) := by
  induction n with
  | zero =>
    rw [max_A m c ⟨0, hn⟩ rfl rfl (by simp) (by simp) h i]
    simp only [acc_A m c ⟨0, hn⟩ rfl rfl (by simp) (by simp) h i]
    refine running_first E ⟨0, hn⟩ h i _ rfl fun j => ?_
    show 256 ≤ 0 % 3 * 2816 + (j : ℕ) ↔ ¬(256 ≤ 0 / 3 % 33 * 256 + (i : ℕ) ∨ 0 % 3 * 2816 + (j : ℕ) < 256)
    omega
  | succ n ih =>
    have hN : n + 1 < 198 := hn
    have k1 : (n + 1) % 99 = 0 → (n + 1) / 3 % 33 = 0 := by omega
    have k2 : (n + 1) % 3 = 0 → ¬(n + 1) % 99 = 0 → 1 ≤ (n + 1) / 3 % 33 := by omega
    by_cases h0 : (n + 1) % 3 = 0
    · by_cases h1 : (n + 1) % 99 = 0
      · have k1 := k1 h1
        have H2 : ¬1 ≤ (n + 1) / 3 % 33 := by rw [k1]; decide
        rw [max_A m c ⟨n + 1, hn⟩ h0 h1 H2 (by rw [h0]; decide) h i]
        simp only [acc_A m c ⟨n + 1, hn⟩ h0 h1 H2 (by rw [h0]; decide) h i]
        refine running_first E ⟨n + 1, hn⟩ h i _ h0 fun j => ?_
        show 256 ≤ (n + 1) % 3 * 2816 + (j : ℕ)
          ↔ ¬(256 ≤ (n + 1) / 3 % 33 * 256 + (i : ℕ) ∨ (n + 1) % 3 * 2816 + (j : ℕ) < 256)
        rw [k1]; omega
      · have H2 := k2 h0 h1
        rw [max_D m c ⟨n + 1, hn⟩ h0 h1 H2 (by rw [h0]; decide) h i]
        simp only [acc_D m c ⟨n + 1, hn⟩ h0 h1 H2 (by rw [h0]; decide) h i]
        refine running_first E ⟨n + 1, hn⟩ h i _ h0 fun j => ?_
        show False ↔ ¬(256 ≤ (n + 1) / 3 % 33 * 256 + (i : ℕ) ∨ (n + 1) % 3 * 2816 + (j : ℕ) < 256)
        rw [false_iff, not_not]; left; omega
    · have hg : n / 99 = (n + 1) / 99 := by omega
      have hr : row ⟨n, Nat.lt_of_succ_lt hn⟩ i = row ⟨n + 1, hn⟩ i := by
        apply Fin.ext; simp only [row]; omega
      have hb : n % 3 + 1 = (n + 1) % 3 := by omega
      have ih := ih (Nat.lt_of_succ_lt hn)
      rw [hg, hr, hb] at ih
      have h1 : ¬ (n + 1) % 99 = 0 := by omega
      by_cases h2 : 1 ≤ (n + 1) / 3 % 33
      · have hv : ∀ j : Fin 2816, vis (row ⟨n + 1, hn⟩ i) (key ⟨n + 1, hn⟩ j) := fun j => by
          show 256 ≤ (n + 1) / 3 % 33 * 256 + (i : ℕ) ∨ (n + 1) % 3 * 2816 + (j : ℕ) < 256
          left; omega
        have R := running_next E ⟨n + 1, hn⟩ h i (fun _ => False) (fun j => by simp [hv j]) (hv 0) _ _ ih
        by_cases h3 : (n + 1) % 3 = 2
        · rw [max_F m c ⟨n + 1, hn⟩ h0 h1 h2 h3 h i]
          simp only [acc_F m c ⟨n + 1, hn⟩ h0 h1 h2 h3 h i]
          exact R
        · rw [max_E m c ⟨n + 1, hn⟩ h0 h1 h2 h3 h i]
          simp only [acc_E m c ⟨n + 1, hn⟩ h0 h1 h2 h3 h i]
          exact R
      · have hs : (outsAt0 m c (n + 1) hn).2.2 = (outsAt0 m c n (Nat.lt_of_succ_lt hn)).2.2 := by
          by_cases h3 : (n + 1) % 3 = 2
          · exact keep_C m c ⟨n + 1, hn⟩ h0 h1 h2 h3
          · exact keep_B m c ⟨n + 1, hn⟩ h0 h1 h2 h3
        rw [hs]
        refine running_skip _ _ _ _ ?_ (by omega) _ _ ih
        show (n + 1) / 3 % 33 * 256 + (i : ℕ) < 256
        omega

/-- A row block's last point leaves its attention. -/
theorem out_eq (t : Fin cfg0.N) (h5 : t.val % 3 = 2) (h : Fin 4) (i : Fin 256) (d : Fin 128) :
    (outsAt0 m c t.val t.isLt).1 (ix2 i ⟨h * 128 + d, by omega⟩) = (A.out (t.val / 99) h (row t i) d : EReal) := by
  have hs : (outsAt0 m c t.val t.isLt).1 (ix2 i ⟨h * 128 + d, by omega⟩)
      = Ideal.div ((outsAt0 m c t.val t.isLt).2.2.2 (ix3 h i ⟨d, by omega⟩))
        ((outsAt0 m c t.val t.isLt).2.2.2 (ix3 h i ⟨128 + d, by omega⟩)) := by
    by_cases h2 : 1 ≤ t.val / 3 % 33
    · exact out_F m c t (by omega) (by omega) h2 h5 h i d
    · exact out_C m c t (by omega) (by omega) h2 h5 h i d
  obtain ⟨M, -, ha⟩ := inv E t.val t.isLt h i
  simp only [h5, Finset.sum_range, vext] at ha
  rw [hs, ha, ha]
  simp only [d.isLt, if_true, mul_one, Nat.not_lt.mpr (Nat.le_add_right 128 d.val), if_false]
  rw [div_pos_coe _ (sum_pos A _ _ _ M)]
  exact congrArg _ (mean_out A _ _ _ M d)

/-- It leaves the logarithms of the rows' sums too. -/
theorem lse_eq (t : Fin cfg0.N) (h5 : t.val % 3 = 2) (h : Fin 4) (i : Fin 256) :
    (outsAt0 m c t.val t.isLt).2.1 (ix3 h i 0) = (A.lse (t.val / 99) h (row t i) : EReal) := by
  have hs : (outsAt0 m c t.val t.isLt).2.1 (ix3 h i 0)
      = (outsAt0 m c t.val t.isLt).2.2.1 (ix3 h i 0) * ((Real.log 2 : ℝ) : EReal)
        + Ideal.log ((outsAt0 m c t.val t.isLt).2.2.2 (ix3 h i 128)) := by
    by_cases h2 : 1 ≤ t.val / 3 % 33
    · exact lse_F m c t (by omega) (by omega) h2 h5 h i
    · exact lse_C m c t (by omega) (by omega) h2 h5 h i
  obtain ⟨M, hm, ha⟩ := inv E t.val t.isLt h i
  simp only [h5, Finset.sum_range, vext] at ha
  rw [hs, hm, ha]
  simp only [show ¬((128 : Fin 256).val < 128) by decide, if_false, mul_one]
  rw [log_pos_coe (sum_pos A _ _ _ M), ← EReal.coe_mul, mul_assoc, inv_mul_cancel₀ (Real.log_pos one_lt_two).ne', mul_one,
    ← EReal.coe_add]
  exact congrArg _ (log_sum A _ _ _ M)

end Cert.FwdIdeal.Step

end
-- ==== Proof.FwdTie.lean ====
/-
  The attention's forward pass: the kernel's results are the plain attention's.
-/
module

public import proofs.«01_k».proof.Defs
public import proofs.«01_k».proof.Proof.FwdValue
public import proofs.«01_k».proof.Proof.DqTie
public import proofs.«01_k».proof.Proof.Host
public import proofs.«01_k».proof.Proof.Pre
public import proofs.«01_k».proof.Proof.Gen.FwdIdeal.Value
public import proofs.«01_k».proof.Proof.Gen.FwdRefIdeal.Run
public import proofs.«01_k».proof.Proof.Gen.Pre_finite_qkv
public import Idealize.ShloMosaic.Lib.StableHlo.RunRead

@[expose] public section

set_option maxRecDepth 16384

noncomputable section

namespace Cert.FwdIdeal.Step

open Cert.DqIdeal.Step (scaledQ scaledQ_apply)
open Cert.Attn Cert.FwdIdeal Cert.FwdIdeal.Gen Idealize.ShloMosaic Idealize.ShloMosaic.TcCoe Idealize.SL.Sem

variable (m : (ℓ : Loc nD τ sig) → Buf (Elt Ideal) ℓ) (c : Dev nD)

/-- The arguments. -/
abbrev argQ : FVec Ideal S8448x1024 .f32 := m ((c.tc : Thread nD τ).loc main_arg0)
abbrev argK : FVec Ideal S8448x256 .f32 := m ((c.tc : Thread nD τ).loc main_arg1)
abbrev argV : FVec Ideal S8448x256 .f32 := m ((c.tc : Thread nD τ).loc main_arg2)

theorem V_v6 : V m c main_v6 = scaledQ (argQ m c) := by
  unfold_abbrev_sides
  after_reads_simp
  rfl

theorem V_v7 : V m c main_v7 = argK m c := by
  unfold_abbrev_sides
  after_reads_simp
  rfl

theorem V_v8 : V m c main_v8 = argV m c := by
  unfold_abbrev_sides
  after_reads_simp
  rfl

/-- The arguments as arrays of reals. The result has no cotangent here. -/
def data : Data := ⟨rd (argQ m c), rd (argK m c), rd (argV m c), fun _ _ => 0⟩

variable {m c} (hq : Reals (argQ m c)) (hk : Reals (argK m c)) (hv : Reals (argV m c))
include hq hk hv

theorem entry : Entry m c (data m c) where
  q r x := by rw [V_v6]; exact scaledQ_apply _ r x _ (rd_apply _ hq r x)
  k r x := by rw [V_v7]; exact rd_apply _ hk r x
  v r x := by rw [V_v8]; exact rd_apply _ hv r x

/-- The first result is the attention. -/
theorem result_o : (Value.G3 m c : FVec Ideal S8448x1024 .f32) = attnA (argQ m c) (argK m c) (argV m c) := by
  funext y
  obtain ⟨r, x, rfl⟩ : ∃ r x, y = ix2 r x := ⟨_, _, eq_ix2 y⟩
  rw [attnA_apply (data m c) (rd_apply _ hq) (rd_apply _ hk) (rd_apply _ hv)]
  have hr := r.isLt
  have hx := x.isLt
  have hp : Value.pt3Of (ix2 r x) = 3 * (r / 256 + 33 * (x / 512)) + 2 := by
    show 3 * (1 * (r.val / 256 - 0) + 33 * (x.val / 512 - 0)) + 2 = _
    omega
  have hn : Value.pt3Of (ix2 r x) < cfg0.N := by
    rw [hp]; show _ < 198; omega
  unfold Value.G3
  rw [dif_pos hn, ← Value.outsAt0_sweep m c _ hn]
  have hl : Value.loc3Of (ix2 r x) = ix2 (⟨r % 256, by omega⟩ : Fin 256)
      (⟨(⟨x / 128 % 4, by omega⟩ : Fin 4) * 128 + (⟨x % 128, by omega⟩ : Fin 128), by simp; omega⟩ : Fin 512) := by
    funext a
    fin_cases a <;> apply Fin.ext <;> simp [ix2] <;> omega
  rw [hl]
  refine (out_eq (entry hq hk hv) ⟨_, hn⟩ (by simp only [hp]; omega) _ _ _).trans ?_
  congr 2 <;> simp only [hp, row] <;> omega

/-- The second is the logarithm of the rows' sums of exponentials. -/
theorem result_lse : (Value.G4 m c : FVec Ideal S8x8448x1 .f32) = lseA (argQ m c) (argK m c) := by
  funext y
  obtain ⟨n, r, z, rfl⟩ : ∃ n r z, y = ix3 n r z := ⟨_, _, _, eq_ix3 y⟩
  obtain rfl : z = 0 := Subsingleton.elim _ _
  rw [lseA_apply (data m c) (rd_apply _ hq) (rd_apply _ hk)]
  have hr := r.isLt
  have hx := n.isLt
  have hp : Value.pt4Of (ix3 n r 0) = 3 * (33 * (n / 4) + r / 256) + 2 := by
    show 3 * (33 * (n.val / 4 - 0) + 1 * (r.val / 256 - 0) + 1 * (0 / 1 - 0)) + 2 = _
    omega
  have hn : Value.pt4Of (ix3 n r 0) < cfg0.N := by
    rw [hp]; show _ < 198; omega
  unfold Value.G4
  rw [dif_pos hn, ← Value.outsAt0_sweep m c _ hn]
  have hl : Value.loc4Of (ix3 n r 0) = ix3 (⟨n % 4, by omega⟩ : Fin 4) (⟨r % 256, by omega⟩ : Fin 256) 0 := by
    funext a
    fin_cases a <;> apply Fin.ext <;> simp [ix3]
  rw [hl]
  refine (lse_eq (entry hq hk hv) ⟨_, hn⟩ (by simp only [hp]; omega) _ _).trans ?_
  congr 2 <;> simp only [hp, row] <;> omega

end Cert.FwdIdeal.Step

namespace Cert.Proof

open Cert.Attn Idealize.ShloMosaic Idealize.SL.Sem

section

variable (m : (ℓ : Loc Cert.FwdRefIdeal.nD Cert.FwdRefIdeal.τ Cert.FwdRefIdeal.sig) → Buf (Elt Ideal) ℓ)
  (c : Dev Cert.FwdRefIdeal.nD)

/-- What the plain program leaves. -/
theorem o_ref : Cert.FwdRefIdeal.Value.res_main_v32 m c
    = attnA (m (c.tc.loc Cert.FwdRefIdeal.main_arg0)) (m (c.tc.loc Cert.FwdRefIdeal.main_arg1))
      (m (c.tc.loc Cert.FwdRefIdeal.main_arg2)) := rfl

end

/-- The kernel's two results are the plain attention and the logarithm of its rows' sums of exponentials. -/
theorem fwd_algebraic : Cert.algebraic_FwdIdeal_FwdRefIdeal_pre_finite_qkv := by
  intro m ρ m' ρ' hpre hagree
  refine ⟨_, _, Cert.FwdIdeal.Value.run (F := Ideal) m ρ, ?_⟩
  refine (θ_run Cert.FwdRefIdeal.defs _ _).mono (fun r h c => ?_) (Cert.FwdRefIdeal.Value.run (F := Ideal) m' ρ')
  obtain ⟨ho, hl, hkept⟩ := h c
  obtain ⟨hq, hk, hv⟩ := pre_finite_qkv _ _ _ (hpre c)
  obtain ⟨e0, e1, e2⟩ := hagree c
  refine ⟨?_, ?_, hkept⟩
  · rw [ho, o_ref, e0, e1, e2]
    exact (Cert.FwdIdeal.Step.result_o hq hk hv).symm
  · refine hl.trans (Eq.trans (b := lseA (m' (c.tc.loc Cert.FwdRefIdeal.main_arg0)) (m' (c.tc.loc Cert.FwdRefIdeal.main_arg1)))
      rfl ?_)
    rw [e0, e1]
    exact (Cert.FwdIdeal.Step.result_lse hq hk hv).symm

end Cert.Proof

end
-- ==== Proof.FfnRuns.lean ====
/-
  The feed-forward's products: each program's run ends with its arguments unchanged; no kernel has a replaced
  operation.
-/
module

public import proofs.«01_k».proof.Defs
public import proofs.«01_k».proof.Proof.Gen.InDx.Frame
public import proofs.«01_k».proof.Proof.Gen.InDxIdeal.Frame
public import proofs.«01_k».proof.Proof.Gen.InDxRefIdeal.Run
public import proofs.«01_k».proof.Proof.Gen.InDw.Frame
public import proofs.«01_k».proof.Proof.Gen.InDwIdeal.Frame
public import proofs.«01_k».proof.Proof.Gen.InDwRefIdeal.Run
public import proofs.«01_k».proof.Proof.Gen.InFwd.Frame
public import proofs.«01_k».proof.Proof.Gen.InFwdIdeal.Frame
public import proofs.«01_k».proof.Proof.Gen.InFwdRefIdeal.Run
public import proofs.«01_k».proof.Proof.Gen.OutDx.Frame
public import proofs.«01_k».proof.Proof.Gen.OutDxIdeal.Frame
public import proofs.«01_k».proof.Proof.Gen.OutDxRefIdeal.Run
public import proofs.«01_k».proof.Proof.Gen.OutDw.Frame
public import proofs.«01_k».proof.Proof.Gen.OutDwIdeal.Frame
public import proofs.«01_k».proof.Proof.Gen.OutDwRefIdeal.Run
public import proofs.«01_k».proof.Proof.Gen.OutFwd.Frame
public import proofs.«01_k».proof.Proof.Gen.OutFwdIdeal.Frame
public import proofs.«01_k».proof.Proof.Gen.OutFwdRefIdeal.Run

@[expose] public section

set_option maxRecDepth 16384

noncomputable section

namespace Cert.Proof

open Idealize.ShloMosaic Idealize.SL.Sem

theorem in_dx_frame : Cert.quiescent_InDx := fun m ρ _ => Cert.InDx.Gen.frame m ρ

theorem in_dx_ideal_frame : Cert.quiescent_InDxIdeal := fun m ρ _ => Cert.InDxIdeal.Gen.frame m ρ

theorem in_dx_ref_frame : Cert.quiescent_InDxRefIdeal := fun m ρ _ =>
  (θ_run Cert.InDxRefIdeal.defs _ _).mono (fun r h => ⟨fun c => (h c).2, sem_eq_zero_of_no_sems (by decide) r.2⟩)
    (Cert.InDxRefIdeal.Value.run (F := Ideal) m ρ)

theorem in_dx_preserves : Cert.preserves_InDx_InDxIdeal := trivial

theorem in_dw_frame : Cert.quiescent_InDw := fun m ρ _ => Cert.InDw.Gen.frame m ρ

theorem in_dw_ideal_frame : Cert.quiescent_InDwIdeal := fun m ρ _ => Cert.InDwIdeal.Gen.frame m ρ

theorem in_dw_ref_frame : Cert.quiescent_InDwRefIdeal := fun m ρ _ =>
  (θ_run Cert.InDwRefIdeal.defs _ _).mono (fun r h => ⟨fun c => (h c).2, sem_eq_zero_of_no_sems (by decide) r.2⟩)
    (Cert.InDwRefIdeal.Value.run (F := Ideal) m ρ)

theorem in_dw_preserves : Cert.preserves_InDw_InDwIdeal := trivial

theorem in_frame : Cert.quiescent_InFwd := fun m ρ _ => Cert.InFwd.Gen.frame m ρ

theorem in_ideal_frame : Cert.quiescent_InFwdIdeal := fun m ρ _ => Cert.InFwdIdeal.Gen.frame m ρ

theorem in_ref_frame : Cert.quiescent_InFwdRefIdeal := fun m ρ _ =>
  (θ_run Cert.InFwdRefIdeal.defs _ _).mono (fun r h => ⟨fun c => (h c).2, sem_eq_zero_of_no_sems (by decide) r.2⟩)
    (Cert.InFwdRefIdeal.Value.run (F := Ideal) m ρ)

theorem in_preserves : Cert.preserves_InFwd_InFwdIdeal := trivial

theorem out_dx_frame : Cert.quiescent_OutDx := fun m ρ _ => Cert.OutDx.Gen.frame m ρ

theorem out_dx_ideal_frame : Cert.quiescent_OutDxIdeal := fun m ρ _ => Cert.OutDxIdeal.Gen.frame m ρ

theorem out_dx_ref_frame : Cert.quiescent_OutDxRefIdeal := fun m ρ _ =>
  (θ_run Cert.OutDxRefIdeal.defs _ _).mono (fun r h => ⟨fun c => (h c).2, sem_eq_zero_of_no_sems (by decide) r.2⟩)
    (Cert.OutDxRefIdeal.Value.run (F := Ideal) m ρ)

theorem out_dx_preserves : Cert.preserves_OutDx_OutDxIdeal := trivial

theorem out_dw_frame : Cert.quiescent_OutDw := fun m ρ _ => Cert.OutDw.Gen.frame m ρ

theorem out_dw_ideal_frame : Cert.quiescent_OutDwIdeal := fun m ρ _ => Cert.OutDwIdeal.Gen.frame m ρ

theorem out_dw_ref_frame : Cert.quiescent_OutDwRefIdeal := fun m ρ _ =>
  (θ_run Cert.OutDwRefIdeal.defs _ _).mono (fun r h => ⟨fun c => (h c).2, sem_eq_zero_of_no_sems (by decide) r.2⟩)
    (Cert.OutDwRefIdeal.Value.run (F := Ideal) m ρ)

theorem out_dw_preserves : Cert.preserves_OutDw_OutDwIdeal := trivial

theorem out_frame : Cert.quiescent_OutFwd := fun m ρ _ => Cert.OutFwd.Gen.frame m ρ

theorem out_ideal_frame : Cert.quiescent_OutFwdIdeal := fun m ρ _ => Cert.OutFwdIdeal.Gen.frame m ρ

theorem out_ref_frame : Cert.quiescent_OutFwdRefIdeal := fun m ρ _ =>
  (θ_run Cert.OutFwdRefIdeal.defs _ _).mono (fun r h => ⟨fun c => (h c).2, sem_eq_zero_of_no_sems (by decide) r.2⟩)
    (Cert.OutFwdRefIdeal.Value.run (F := Ideal) m ρ)

theorem out_preserves : Cert.preserves_OutFwd_OutFwdIdeal := trivial

end Cert.Proof

end
-- ==== Proof.Product.lean ====
/-
  Products of matrices, an entry's sum taken block by block, on the extended reals.
-/
module

public import Idealize.ShloMosaic.Lib.Pointwise

@[expose] public section

noncomputable section

namespace Cert.Product

/-- A product's entry: the sum over the shared axis of a row's and a column's numbers. -/
def entry {K : ℕ} (f g : Fin K → EReal) : EReal := ∑ k, f k * g k

/-- The terms of a sum by number, and zero past its end. -/
def term {K : ℕ} (f : Fin K → EReal) (k : ℕ) : EReal := if h : k < K then f ⟨k, h⟩ else 0

/-- The part of an entry that block `q` of the shared axis adds, where a block is `w` wide. -/
def part {K : ℕ} (f g : Fin K → EReal) (w q : ℕ) : EReal := ∑ x : Fin w, term (fun k => f k * g k) (q * w + x)

/-- A block's product is its part of the entry. -/
theorem entry_block {K w : ℕ} (f g : Fin K → EReal) (a b : Fin w → EReal) (q : ℕ) (h : q * w + w ≤ K)
    (ha : ∀ x : Fin w, a x = f ⟨q * w + x, by omega⟩) (hb : ∀ x : Fin w, b x = g ⟨q * w + x, by omega⟩) :
    entry a b = part f g w q :=
  Finset.sum_congr rfl fun x _ => by rw [term, dif_pos (show q * w + x < K by omega), ha, hb]

/-- The parts add up to the entry. -/
theorem parts {K : ℕ} (f g : Fin K → EReal) (n w : ℕ) (h : n * w = K) :
    ∑ q ∈ Finset.range n, part f g w q = entry f g := by
  have hs : ∀ n : ℕ, ∑ q ∈ Finset.range n, part f g w q = ∑ k ∈ Finset.range (n * w), term (fun k => f k * g k) k := by
    intro n
    induction n with
    | zero => simp
    | succ n ih =>
      rw [Finset.sum_range_succ, ih, Nat.succ_mul, Finset.sum_range_add, part,
        Finset.sum_range (fun x => term (fun k => f k * g k) (n * w + x))]
  rw [hs, h, Finset.sum_range]
  exact Finset.sum_congr rfl fun k _ => by rw [term, dif_pos k.isLt]

/-- An entry of two, three or four parts, added up from the first. -/
theorem two {K : ℕ} (f g : Fin K → EReal) (w : ℕ) (h : 2 * w = K) : part f g w 0 + part f g w 1 = entry f g := by
  rw [← parts f g 2 w h]
  simp only [Finset.sum_range_succ, Finset.sum_range_zero, zero_add]

theorem three {K : ℕ} (f g : Fin K → EReal) (w : ℕ) (h : 3 * w = K) :
    part f g w 0 + part f g w 1 + part f g w 2 = entry f g := by
  rw [← parts f g 3 w h]
  simp only [Finset.sum_range_succ, Finset.sum_range_zero, zero_add]

theorem four {K : ℕ} (f g : Fin K → EReal) (w : ℕ) (h : 4 * w = K) :
    part f g w 0 + part f g w 1 + part f g w 2 + part f g w 3 = entry f g := by
  rw [← parts f g 4 w h]
  simp only [Finset.sum_range_succ, Finset.sum_range_zero, zero_add]

end Cert.Product

end
-- ==== Proof.InDxValue.lean ====
/-
  The feed-forward's first product, the gradient of its left operand: the kernel's result at an index.
-/
module

public import proofs.«01_k».proof.Proof.Product
public import proofs.«01_k».proof.Proof.Gen.InDxIdeal.Value
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.InDxIdeal.Step

open Cert.Product Cert.InDxIdeal Cert.InDxIdeal.Gen Idealize.ShloMosaic Idealize.ShloMosaic.TcCoe Idealize.SL.Sem

/-- The product of two blocks. -/
def mul (a : FVec Ideal S768x2816 .bf16) (b : FVec Ideal S1024x2816 .bf16) (i : Fin 768) (j : Fin 1024) : EReal :=
  entry (fun x : Fin 2816 => a (ix2 i x)) (fun x : Fin 2816 => b (ix2 j x))

/-- What a point stores: the blocks' product, alone or added to what the accumulator held. -/
theorem stored (a : FVec Ideal S768x2816 .bf16) (b : FVec Ideal S1024x2816 .bf16) (s : FVec Ideal S768x1024 .f32)
    (i : Fin 768) (j : Fin 1024) :
    k0_pay2 (F := Ideal) a b (ix2 i j) = mul a b i j
    ∧ k0_pay3 (F := Ideal) a b s (ix2 i j) = s (ix2 i j) + mul a b i j
    ∧ k0_pay4 (F := Ideal) a b s (ix2 i j) = s (ix2 i j) + mul a b i j := by
  refine ⟨?_, ?_, ?_⟩ <;> pointwise [mul, entry, k0_pay1, k0_pay2, k0_pay3, k0_pay4]

variable (m : (ℓ : Loc nD τ sig) → Buf (Elt Ideal) ℓ) (c : Dev nD)

/-- The product of one grid point's blocks. -/
def dot (t : Fin cfg0.N) (i : Fin 768) (j : Fin 1024) : EReal := mul (iblk m c 0 t) (iblk m c 1 t) i j

/-- The accumulator after a first point. -/
theorem acc_first (t : Fin cfg0.N) (h : t.val % 4 = 0) (i : Fin 768) (j : Fin 1024) :
    (outsAt0 m c t.val t.isLt).2 (ix2 i j) = dot m c t i j := by
  rw [outsAt0_A m c t h (by omega) (by omega)]
  dsimp only
  frame_out
  exact (stored _ _ 0 i j).1

/-- The accumulator after a later point. -/
theorem acc_next (n : ℕ) (hn : n + 1 < cfg0.N) (h : 1 ≤ (n + 1) % 4 ∧ (n + 1) % 4 ≤ 2) (i : Fin 768) (j : Fin 1024) :
    (outsAt0 m c (n + 1) hn).2 (ix2 i j) = (outsAt0 m c n (Nat.lt_of_succ_lt hn)).2 (ix2 i j) + dot m c ⟨n + 1, hn⟩ i j := by
  rw [outsAt0_B m c ⟨n + 1, hn⟩ (by dsimp only; omega) h (by dsimp only; omega)]
  dsimp only
  frame_out
  simp only [read_unread_whole]
  exact (stored _ _ _ i j).2.1

/-- The result's block at a last point. -/
theorem out_last (n : ℕ) (hn : n + 1 < cfg0.N) (h : (n + 1) % 4 = 3) (i : Fin 768) (j : Fin 1024) :
    (outsAt0 m c (n + 1) hn).1 (ix2 i j) = (outsAt0 m c n (Nat.lt_of_succ_lt hn)).2 (ix2 i j) + dot m c ⟨n + 1, hn⟩ i j := by
  rw [outsAt0_C m c ⟨n + 1, hn⟩ (by dsimp only; omega) (by dsimp only; omega) h]
  dsimp only
  frame_out
  simp only [read_unread_whole]
  exact (stored _ _ _ i j).2.2

/-- The blocks that one grid point reads. -/
theorem idx : ∀ t : Fin cfg0.N,
    (win0_0.index t (0 : Fin 2) = t.val / 8 ∧ win0_0.index t (1 : Fin 2) = t.val % 4)
    ∧ (win0_1.index t (0 : Fin 2) = t.val / 4 % 2 ∧ win0_1.index t (1 : Fin 2) = t.val % 4) :=
  (by decide +kernel : ∀ t : Fin grid0.N, _)

theorem lt_points (t : Fin cfg0.N) : t.val < 88 := t.isLt

theorem block_0 (X : Vec Ideal S8448x11264 .bf16) (t : Fin cfg0.N) (i : Fin 768) (x : Fin 2816) :
    (((cfg0.win 0).blk t).view.read (Elt Ideal) X : Vec Ideal S768x2816 .bf16) (ix2 i x)
      = X (ix2 ⟨t.val / 8 * 768 + i, by have := lt_points t; omega⟩ ⟨t.val % 4 * 2816 + x, by omega⟩) := by
  blk_simp [idx t]
  blk_ext [idx t]

theorem block_1 (X : Vec Ideal S2048x11264 .bf16) (t : Fin cfg0.N) (i : Fin 1024) (x : Fin 2816) :
    (((cfg0.win 1).blk t).view.read (Elt Ideal) X : Vec Ideal S1024x2816 .bf16) (ix2 i x)
      = X (ix2 ⟨t.val / 4 % 2 * 1024 + i, by omega⟩ ⟨t.val % 4 * 2816 + x, by omega⟩) := by
  blk_simp [idx t]
  blk_ext [idx t]

/-- The operands: the arguments, whose casts change no value. -/
abbrev argA : FVec Ideal S8448x11264 .f32 := m ((c.tc : Thread nD τ).loc main_arg2)
abbrev argB : FVec Ideal S2048x11264 .f32 := m ((c.tc : Thread nD τ).loc main_arg1)

theorem V_a : V m c main_v0 = argA m c := by
  unfold_abbrev_sides
  after_reads_simp
  rfl

theorem V_b : V m c main_v1 = argB m c := by
  unfold_abbrev_sides
  after_reads_simp
  rfl

/-- A row of the left operand and a row of the right one. -/
abbrev left (r : Fin 8448) (k : Fin 11264) : EReal := argA m c (ix2 r k)
abbrev right (s : Fin 2048) (k : Fin 11264) : EReal := argB m c (ix2 s k)

/-- The product of the blocks is its part of the entry. -/
theorem dot_eq (t : Fin cfg0.N) (b q : ℕ) (ht : t.val = 4 * b + q) (hq : q < 4) (r : Fin 8448) (s : Fin 2048)
    (hb : b = r / 768 * 2 + s / 1024) :
    dot m c t ⟨r % 768, by omega⟩ ⟨s % 1024, by omega⟩ = part (left m c r) (right m c s) 2816 q := by
  refine entry_block _ _ _ _ q (by omega) (fun x => (block_0 (V m c main_v0) _ _ _).trans ?_)
    (fun x => (block_1 (V m c main_v1) _ _ _).trans ?_)
  · rw [V_a]
    congr 2 <;> apply Fin.ext <;> dsimp only <;> omega
  · rw [V_b]
    congr 2 <;> apply Fin.ext <;> dsimp only <;> omega

/-- The kernel's result is the plain product. -/
theorem result (r : Fin 8448) (s : Fin 2048) :
    (Value.G2 m c : FVec Ideal S8448x2048 .f32) (ix2 r s) = entry (left m c r) (right m c s) := by
  have hr := r.isLt
  have hs := s.isLt
  obtain ⟨b, hb⟩ : ∃ b : ℕ, b = r / 768 * 2 + s / 1024 := ⟨_, rfl⟩
  have hn : 4 * b + 3 < cfg0.N := by show _ < 88; omega
  have h0 : 4 * b < cfg0.N := by omega
  have hp : Value.pt2Of (ix2 r s) = 4 * b + 3 := by
    show 4 * (2 * (r.val / 768 - 0) + 1 * (s.val / 1024 - 0)) + 3 = _
    omega
  have hl : Value.loc2Of (ix2 r s) = ix2 (⟨r % 768, by omega⟩ : Fin 768) (⟨s % 1024, by omega⟩ : Fin 1024) := by
    funext a
    fin_cases a <;> rfl
  unfold Value.G2
  rw [dif_pos (by rw [hp]; exact hn), ← Value.outsAt0_sweep m c _ (by rw [hp]; exact hn), hl]
  simp only [hp]
  rw [out_last m c (4 * b + 2) hn (by omega), acc_next m c (4 * b + 1) _ (by omega), acc_next m c (4 * b) _ (by omega),
    acc_first m c ⟨4 * b, h0⟩ (by dsimp only; omega), dot_eq m c ⟨4 * b + 3, hn⟩ b 3 rfl (by omega) r s hb,
    dot_eq m c ⟨4 * b + 2, _⟩ b 2 rfl (by omega) r s hb, dot_eq m c ⟨4 * b + 1, _⟩ b 1 rfl (by omega) r s hb,
    dot_eq m c ⟨4 * b, h0⟩ b 0 rfl (by omega) r s hb]
  exact four _ _ _ rfl

end Cert.InDxIdeal.Step

end
-- ==== Proof.InDwValue.lean ====
/-
  The feed-forward's first product, the gradient of its weights: the kernel's result at an index.
-/
module

public import proofs.«01_k».proof.Proof.Product
public import proofs.«01_k».proof.Proof.Gen.InDwIdeal.Value
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.InDwIdeal.Step

open Cert.Product Cert.InDwIdeal Cert.InDwIdeal.Gen Idealize.ShloMosaic Idealize.ShloMosaic.TcCoe Idealize.SL.Sem

/-- The product of two blocks, which share their rows. -/
def mul (a : FVec Ideal S4224x512 .bf16) (b : FVec Ideal S4224x1024 .bf16) (i : Fin 512) (j : Fin 1024) : EReal :=
  entry (fun x : Fin 4224 => a (ix2 x i)) (fun x : Fin 4224 => b (ix2 x j))

/-- What a point stores: the blocks' product, alone or added to what the accumulator held. -/
theorem stored (a : FVec Ideal S4224x512 .bf16) (b : FVec Ideal S4224x1024 .bf16) (s : FVec Ideal S512x1024 .f32)
    (i : Fin 512) (j : Fin 1024) :
    k0_pay2 (F := Ideal) a b (ix2 i j) = mul a b i j
    ∧ k0_pay4 (F := Ideal) a b s (ix2 i j) = s (ix2 i j) + mul a b i j := by
  refine ⟨?_, ?_⟩ <;> pointwise [mul, entry, k0_pay1, k0_pay2, k0_pay4]

variable (m : (ℓ : Loc nD τ sig) → Buf (Elt Ideal) ℓ) (c : Dev nD)

/-- The product of one grid point's blocks. -/
def dot (t : Fin cfg0.N) (i : Fin 512) (j : Fin 1024) : EReal := mul (iblk m c 0 t) (iblk m c 1 t) i j

/-- The accumulator after a first point. -/
theorem acc_first (t : Fin cfg0.N) (h : t.val % 2 = 0) (i : Fin 512) (j : Fin 1024) :
    (outsAt0 m c t.val t.isLt).2 (ix2 i j) = dot m c t i j := by
  rw [outsAt0_A m c t h (by omega)]
  dsimp only
  frame_out
  exact (stored _ _ 0 i j).1

/-- The result's block at a last point. -/
theorem out_last (n : ℕ) (hn : n + 1 < cfg0.N) (h : (n + 1) % 2 = 1) (i : Fin 512) (j : Fin 1024) :
    (outsAt0 m c (n + 1) hn).1 (ix2 i j) = (outsAt0 m c n (Nat.lt_of_succ_lt hn)).2 (ix2 i j) + dot m c ⟨n + 1, hn⟩ i j := by
  rw [outsAt0_B m c ⟨n + 1, hn⟩ (by dsimp only; omega) h]
  dsimp only
  frame_out
  simp only [read_unread_whole]
  exact (stored _ _ _ i j).2

/-- The blocks that one grid point reads. -/
theorem idx : ∀ t : Fin cfg0.N,
    (win0_0.index t (0 : Fin 2) = t.val % 2 ∧ win0_0.index t (1 : Fin 2) = t.val / 22)
    ∧ (win0_1.index t (0 : Fin 2) = t.val % 2 ∧ win0_1.index t (1 : Fin 2) = t.val / 2 % 11) :=
  (by decide +kernel : ∀ t : Fin grid0.N, _)

theorem lt_points (t : Fin cfg0.N) : t.val < 88 := t.isLt

theorem block_0 (X : Vec Ideal S8448x2048 .bf16) (t : Fin cfg0.N) (x : Fin 4224) (i : Fin 512) :
    (((cfg0.win 0).blk t).view.read (Elt Ideal) X : Vec Ideal S4224x512 .bf16) (ix2 x i)
      = X (ix2 ⟨t.val % 2 * 4224 + x, by omega⟩ ⟨t.val / 22 * 512 + i, by have := lt_points t; omega⟩) := by
  blk_simp [idx t]
  blk_ext [idx t]

theorem block_1 (X : Vec Ideal S8448x11264 .bf16) (t : Fin cfg0.N) (x : Fin 4224) (i : Fin 1024) :
    (((cfg0.win 1).blk t).view.read (Elt Ideal) X : Vec Ideal S4224x1024 .bf16) (ix2 x i)
      = X (ix2 ⟨t.val % 2 * 4224 + x, by omega⟩ ⟨t.val / 2 % 11 * 1024 + i, by omega⟩) := by
  blk_simp [idx t]
  blk_ext [idx t]

/-- The operands: the arguments, whose casts change no value. -/
abbrev argA : FVec Ideal S8448x2048 .f32 := m ((c.tc : Thread nD τ).loc main_arg0)
abbrev argB : FVec Ideal S8448x11264 .f32 := m ((c.tc : Thread nD τ).loc main_arg2)

theorem V_a : V m c main_v0 = argA m c := by
  unfold_abbrev_sides
  after_reads_simp
  rfl

theorem V_b : V m c main_v1 = argB m c := by
  unfold_abbrev_sides
  after_reads_simp
  rfl

/-- A column of each operand. -/
abbrev left (r : Fin 2048) (k : Fin 8448) : EReal := argA m c (ix2 k r)
abbrev right (s : Fin 11264) (k : Fin 8448) : EReal := argB m c (ix2 k s)

/-- The product of the blocks is its part of the entry. -/
theorem dot_eq (t : Fin cfg0.N) (b q : ℕ) (ht : t.val = 2 * b + q) (hq : q < 2) (r : Fin 2048) (s : Fin 11264)
    (hb : b = r / 512 * 11 + s / 1024) :
    dot m c t ⟨r % 512, by omega⟩ ⟨s % 1024, by omega⟩ = part (left m c r) (right m c s) 4224 q := by
  refine entry_block _ _ _ _ q (by omega) (fun x => (block_0 (V m c main_v0) _ _ _).trans ?_)
    (fun x => (block_1 (V m c main_v1) _ _ _).trans ?_)
  · rw [V_a]
    congr 2 <;> apply Fin.ext <;> dsimp only <;> omega
  · rw [V_b]
    congr 2 <;> apply Fin.ext <;> dsimp only <;> omega

/-- The kernel's result is the plain product. -/
theorem result (r : Fin 2048) (s : Fin 11264) :
    (Value.G2 m c : FVec Ideal S2048x11264 .f32) (ix2 r s) = entry (left m c r) (right m c s) := by
  have hr := r.isLt
  have hs := s.isLt
  obtain ⟨b, hb⟩ : ∃ b : ℕ, b = r / 512 * 11 + s / 1024 := ⟨_, rfl⟩
  have hn : 2 * b + 1 < cfg0.N := by show _ < 88; omega
  have h0 : 2 * b < cfg0.N := by omega
  have hp : Value.pt2Of (ix2 r s) = 2 * b + 1 := by
    show 2 * (11 * (r.val / 512 - 0) + 1 * (s.val / 1024 - 0)) + 1 = _
    omega
  have hl : Value.loc2Of (ix2 r s) = ix2 (⟨r % 512, by omega⟩ : Fin 512) (⟨s % 1024, by omega⟩ : Fin 1024) := by
    funext a
    fin_cases a <;> rfl
  unfold Value.G2
  rw [dif_pos (by rw [hp]; exact hn), ← Value.outsAt0_sweep m c _ (by rw [hp]; exact hn), hl]
  simp only [hp]
  rw [out_last m c (2 * b) hn (by omega), acc_first m c ⟨2 * b, h0⟩ (by dsimp only; omega),
    dot_eq m c ⟨2 * b + 1, hn⟩ b 1 rfl (by omega) r s hb, dot_eq m c ⟨2 * b, h0⟩ b 0 rfl (by omega) r s hb]
  exact two _ _ _ rfl

end Cert.InDwIdeal.Step

end
-- ==== Proof.InFwdValue.lean ====
/-
  The feed-forward's first product: the kernel's result at an index.
-/
module

public import proofs.«01_k».proof.Proof.Product
public import proofs.«01_k».proof.Proof.Gen.InFwdIdeal.Value
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.InFwdIdeal.Step

open Cert.Product Cert.InFwdIdeal Cert.InFwdIdeal.Gen Idealize.ShloMosaic Idealize.ShloMosaic.TcCoe Idealize.SL.Sem

/-- What a point stores: the product of its blocks, which hold whole rows and whole columns of the operands. -/
theorem stored (a : FVec Ideal S768x2048 .bf16) (b : FVec Ideal S2048x1024 .bf16) (i : Fin 768) (j : Fin 1024) :
    k0_pay1 (F := Ideal) a b (ix2 i j)
      = entry (fun x : Fin 2048 => a (ix2 i x)) (fun x : Fin 2048 => b (ix2 x j)) := by
  pointwise [entry, k0_pay1]

variable (m : (ℓ : Loc nD τ sig) → Buf (Elt Ideal) ℓ) (c : Dev nD)

/-- The blocks of one grid point. -/
theorem idx : ∀ t : Fin cfg0.N,
    (win0_0.index t (0 : Fin 2) = t.val / 11 ∧ win0_0.index t (1 : Fin 2) = 0)
    ∧ (win0_1.index t (0 : Fin 2) = 0 ∧ win0_1.index t (1 : Fin 2) = t.val % 11)
    ∧ (win0_2.index t (0 : Fin 2) = t.val / 11 ∧ win0_2.index t (1 : Fin 2) = t.val % 11) :=
  (by decide +kernel : ∀ t : Fin grid0.N, _)

/-- Every point writes its block back. -/
theorem flush : ∀ t : Fin cfg0.N, (cfg0.win 2).flush t = true := (by decide +kernel : ∀ t : Fin grid0.N, win0_2.flush t = true)

theorem lt_points (t : Fin cfg0.N) : t.val < 121 := t.isLt

theorem block_0 (X : Vec Ideal S8448x2048 .bf16) (t : Fin cfg0.N) (i : Fin 768) (x : Fin 2048) :
    (((cfg0.win 0).blk t).view.read (Elt Ideal) X : Vec Ideal S768x2048 .bf16) (ix2 i x)
      = X (ix2 ⟨t.val / 11 * 768 + i, by have := lt_points t; omega⟩ x) := by
  blk_simp [idx t]
  blk_ext [idx t]

theorem block_1 (X : Vec Ideal S2048x11264 .bf16) (t : Fin cfg0.N) (x : Fin 2048) (i : Fin 1024) :
    (((cfg0.win 1).blk t).view.read (Elt Ideal) X : Vec Ideal S2048x1024 .bf16) (ix2 x i)
      = X (ix2 x ⟨t.val % 11 * 1024 + i, by omega⟩) := by
  blk_simp [idx t]
  blk_ext [idx t]

theorem block_2 (X : Vec Ideal S8448x11264 .bf16) (t : Fin cfg0.N) (i : Fin 768) (j : Fin 1024) :
    (((cfg0.win 2).blk t).view.read (Elt Ideal) X : Vec Ideal S768x1024 .bf16) (ix2 i j)
      = X (ix2 ⟨t.val / 11 * 768 + i, by have := lt_points t; omega⟩ ⟨t.val % 11 * 1024 + j, by omega⟩) := by
  blk_simp [idx t]
  blk_ext [idx t]

/-- The point whose block holds an entry of the result. -/
theorem place (X : Vec Ideal S8448x11264 .bf16) (t : Fin cfg0.N) (r : Fin 8448) (s : Fin 11264) (ht : t.val = r / 768 * 11 + s / 1024) :
    (((cfg0.win 2).blk t).view.read (Elt Ideal) X : Vec Ideal S768x1024 .bf16) (ix2 ⟨r % 768, by omega⟩ ⟨s % 1024, by omega⟩)
      = X (ix2 r s) := by
  rw [block_2]
  congr 2 <;> apply Fin.ext <;> dsimp only <;> omega

/-- The operands: the arguments, whose casts change no value. -/
abbrev argA : FVec Ideal S8448x2048 .f32 := m ((c.tc : Thread nD τ).loc main_arg0)
abbrev argB : FVec Ideal S2048x11264 .f32 := m ((c.tc : Thread nD τ).loc main_arg1)

theorem V_a : V m c main_v0 = argA m c := by
  unfold_abbrev_sides
  after_reads_simp
  rfl

theorem V_b : V m c main_v1 = argB m c := by
  unfold_abbrev_sides
  after_reads_simp
  rfl

/-- A row of the left operand and a column of the right one. -/
abbrev left (r : Fin 8448) (k : Fin 2048) : EReal := argA m c (ix2 r k)
abbrev right (s : Fin 11264) (k : Fin 2048) : EReal := argB m c (ix2 k s)

/-- A row of the left block is a row of its operand, a column of the right block a column. -/
theorem row_0 (t : Fin cfg0.N) (i : Fin 768) (r : Fin 8448) (h : r.val = t.val / 11 * 768 + i) (x : Fin 2048) :
    (iblk m c 0 t : FVec Ideal S768x2048 .bf16) (ix2 i x) = left m c r x := by
  refine (block_0 (V m c main_v0) t i x).trans ?_
  rw [V_a]
  exact congrArg (fun r => left m c r x) (Fin.ext h.symm)

theorem col_1 (t : Fin cfg0.N) (j : Fin 1024) (s : Fin 11264) (h : s.val = t.val % 11 * 1024 + j) (x : Fin 2048) :
    (iblk m c 1 t : FVec Ideal S2048x1024 .bf16) (ix2 x j) = right m c s x := by
  refine (block_1 (V m c main_v1) t x j).trans ?_
  rw [V_b]
  exact congrArg (fun s => right m c s x) (Fin.ext h.symm)

/-- What a point leaves in the result's block. -/
theorem out (t : Fin cfg0.N) (i : Fin 768) (j : Fin 1024) :
    out0_2 (iblk m c 0 t) (iblk m c 1 t) (ix2 i j)
      = entry (fun x : Fin 2048 => (iblk m c 0 t : FVec Ideal S768x2048 .bf16) (ix2 i x))
        (fun x : Fin 2048 => (iblk m c 1 t : FVec Ideal S2048x1024 .bf16) (ix2 x j)) := by
  unfold out0_2
  frame_out
  exact stored _ _ _ _

/-- The kernel's result is the plain product. -/
theorem result (r : Fin 8448) (s : Fin 11264) :
    ((dats m 0 c).arrAt 2 cfg0.N : FVec Ideal S8448x11264 .bf16) (ix2 r s) = entry (left m c r) (right m c s) := by
  have hr := r.isLt
  have hs := s.isLt
  obtain ⟨t, ht⟩ : ∃ t : Fin cfg0.N, t.val = r / 768 * 11 + s / 1024 := ⟨⟨_, by show _ < 121; omega⟩, rfl⟩
  have hb := place ((dats m 0 c).arrAt 2 cfg0.N) t r s ht
  rw [Value.blocks2 m c t (flush t), Value.flushed2] at hb
  refine hb.symm.trans ((out m c t ⟨r % 768, by omega⟩ ⟨s % 1024, by omega⟩).trans ?_)
  exact congrArg₂ entry (funext (row_0 m c t _ r (by dsimp only; omega))) (funext (col_1 m c t _ s (by dsimp only; omega)))

end Cert.InFwdIdeal.Step

end
-- ==== Proof.OutDxValue.lean ====
/-
  The feed-forward's second product, the gradient of its left operand: the kernel's result at an index.
-/
module

public import proofs.«01_k».proof.Proof.Product
public import proofs.«01_k».proof.Proof.Gen.OutDxIdeal.Value
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.OutDxIdeal.Step

open Cert.Product Cert.OutDxIdeal Cert.OutDxIdeal.Gen Idealize.ShloMosaic Idealize.ShloMosaic.TcCoe Idealize.SL.Sem

/-- What a point stores: the product of its blocks, which hold whole rows of the operands. -/
theorem stored (a : FVec Ideal S768x2048 .f32) (b : FVec Ideal S512x2048 .bf16) (i : Fin 768) (j : Fin 512) :
    k0_pay1 (F := Ideal) a b (ix2 i j)
      = entry (fun x : Fin 2048 => a (ix2 i x)) (fun x : Fin 2048 => b (ix2 j x)) := by
  pointwise [entry, k0_pay1]

variable (m : (ℓ : Loc nD τ sig) → Buf (Elt Ideal) ℓ) (c : Dev nD)

/-- The blocks of one grid point. -/
theorem idx : ∀ t : Fin cfg0.N,
    (win0_0.index t (0 : Fin 2) = t.val / 11 ∧ win0_0.index t (1 : Fin 2) = 0)
    ∧ (win0_1.index t (0 : Fin 2) = t.val % 11 ∧ win0_1.index t (1 : Fin 2) = 0)
    ∧ (win0_2.index t (0 : Fin 2) = t.val / 11 ∧ win0_2.index t (1 : Fin 2) = t.val % 11) :=
  (by decide +kernel : ∀ t : Fin grid0.N, _)

/-- Every point writes its block back. -/
theorem flush : ∀ t : Fin cfg0.N, (cfg0.win 2).flush t = true := (by decide +kernel : ∀ t : Fin grid0.N, win0_2.flush t = true)

theorem lt_points (t : Fin cfg0.N) : t.val < 121 := t.isLt

theorem block_0 (X : Vec Ideal S8448x2048 .f32) (t : Fin cfg0.N) (i : Fin 768) (x : Fin 2048) :
    (((cfg0.win 0).blk t).view.read (Elt Ideal) X : Vec Ideal S768x2048 .f32) (ix2 i x)
      = X (ix2 ⟨t.val / 11 * 768 + i, by have := lt_points t; omega⟩ x) := by
  blk_simp [idx t]
  blk_ext [idx t]

theorem block_1 (X : Vec Ideal S5632x2048 .bf16) (t : Fin cfg0.N) (i : Fin 512) (x : Fin 2048) :
    (((cfg0.win 1).blk t).view.read (Elt Ideal) X : Vec Ideal S512x2048 .bf16) (ix2 i x)
      = X (ix2 ⟨t.val % 11 * 512 + i, by omega⟩ x) := by
  blk_simp [idx t]
  blk_ext [idx t]

theorem block_2 (X : Vec Ideal S8448x5632 .f32) (t : Fin cfg0.N) (i : Fin 768) (j : Fin 512) :
    (((cfg0.win 2).blk t).view.read (Elt Ideal) X : Vec Ideal S768x512 .f32) (ix2 i j)
      = X (ix2 ⟨t.val / 11 * 768 + i, by have := lt_points t; omega⟩ ⟨t.val % 11 * 512 + j, by omega⟩) := by
  blk_simp [idx t]
  blk_ext [idx t]

/-- The point whose block holds an entry of the result. -/
theorem place (X : Vec Ideal S8448x5632 .f32) (t : Fin cfg0.N) (r : Fin 8448) (s : Fin 5632) (ht : t.val = r / 768 * 11 + s / 512) :
    (((cfg0.win 2).blk t).view.read (Elt Ideal) X : Vec Ideal S768x512 .f32) (ix2 ⟨r % 768, by omega⟩ ⟨s % 512, by omega⟩)
      = X (ix2 r s) := by
  rw [block_2]
  congr 2 <;> apply Fin.ext <;> dsimp only <;> omega

/-- The operands: the arguments, whose casts change no value. -/
abbrev argA : FVec Ideal S8448x2048 .f32 := m ((c.tc : Thread nD τ).loc main_arg2)
abbrev argB : FVec Ideal S5632x2048 .f32 := m ((c.tc : Thread nD τ).loc main_arg1)

theorem V_b : V m c main_v0 = argB m c := by
  unfold_abbrev_sides
  after_reads_simp
  rfl

/-- A row of each operand. -/
abbrev left (r : Fin 8448) (k : Fin 2048) : EReal := argA m c (ix2 r k)
abbrev right (s : Fin 5632) (k : Fin 2048) : EReal := argB m c (ix2 s k)

/-- A row of each block is a row of its operand. -/
theorem row_0 (t : Fin cfg0.N) (i : Fin 768) (r : Fin 8448) (h : r.val = t.val / 11 * 768 + i) (x : Fin 2048) :
    (iblk m c 0 t : FVec Ideal S768x2048 .f32) (ix2 i x) = left m c r x := by
  refine (block_0 (V m c main_arg2) t i x).trans ?_
  rw [V_main_arg2]
  exact congrArg (fun r => left m c r x) (Fin.ext h.symm)

theorem row_1 (t : Fin cfg0.N) (j : Fin 512) (s : Fin 5632) (h : s.val = t.val % 11 * 512 + j) (x : Fin 2048) :
    (iblk m c 1 t : FVec Ideal S512x2048 .bf16) (ix2 j x) = right m c s x := by
  refine (block_1 (V m c main_v0) t j x).trans ?_
  rw [V_b]
  exact congrArg (fun s => right m c s x) (Fin.ext h.symm)

/-- What a point leaves in the result's block. -/
theorem out (t : Fin cfg0.N) (i : Fin 768) (j : Fin 512) :
    out0_2 (iblk m c 0 t) (iblk m c 1 t) (ix2 i j)
      = entry (fun x : Fin 2048 => (iblk m c 0 t : FVec Ideal S768x2048 .f32) (ix2 i x))
        (fun x : Fin 2048 => (iblk m c 1 t : FVec Ideal S512x2048 .bf16) (ix2 j x)) := by
  unfold out0_2
  frame_out
  exact stored _ _ _ _

/-- The kernel's result is the plain product. -/
theorem result (r : Fin 8448) (s : Fin 5632) :
    ((dats m 0 c).arrAt 2 cfg0.N : FVec Ideal S8448x5632 .f32) (ix2 r s) = entry (left m c r) (right m c s) := by
  have hr := r.isLt
  have hs := s.isLt
  obtain ⟨t, ht⟩ : ∃ t : Fin cfg0.N, t.val = r / 768 * 11 + s / 512 := ⟨⟨_, by show _ < 121; omega⟩, rfl⟩
  have hb := place ((dats m 0 c).arrAt 2 cfg0.N) t r s ht
  rw [Value.blocks2 m c t (flush t), Value.flushed2] at hb
  refine hb.symm.trans ((out m c t ⟨r % 768, by omega⟩ ⟨s % 512, by omega⟩).trans ?_)
  exact congrArg₂ entry (funext (row_0 m c t _ r (by dsimp only; omega))) (funext (row_1 m c t _ s (by dsimp only; omega)))

end Cert.OutDxIdeal.Step

end
-- ==== Proof.OutDwValue.lean ====
/-
  The feed-forward's second product, the gradient of its weights: the kernel's result at an index.
-/
module

public import proofs.«01_k».proof.Proof.Product
public import proofs.«01_k».proof.Proof.Gen.OutDwIdeal.Value
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.OutDwIdeal.Step

open Cert.Product Cert.OutDwIdeal Cert.OutDwIdeal.Gen Idealize.ShloMosaic Idealize.ShloMosaic.TcCoe Idealize.SL.Sem

/-- The product of two blocks, which share their rows. -/
def mul (a : FVec Ideal S2816x512 .bf16) (b : FVec Ideal S2816x1024 .f32) (i : Fin 512) (j : Fin 1024) : EReal :=
  entry (fun x : Fin 2816 => a (ix2 x i)) (fun x : Fin 2816 => b (ix2 x j))

/-- What a point stores: the blocks' product, alone or added to what the accumulator held. -/
theorem stored (a : FVec Ideal S2816x512 .bf16) (b : FVec Ideal S2816x1024 .f32) (s : FVec Ideal S512x1024 .f32)
    (i : Fin 512) (j : Fin 1024) :
    k0_pay2 (F := Ideal) a b (ix2 i j) = mul a b i j
    ∧ k0_pay3 (F := Ideal) a b s (ix2 i j) = s (ix2 i j) + mul a b i j
    ∧ k0_pay4 (F := Ideal) a b s (ix2 i j) = s (ix2 i j) + mul a b i j := by
  refine ⟨?_, ?_, ?_⟩ <;> pointwise [mul, entry, k0_pay1, k0_pay2, k0_pay3, k0_pay4]

variable (m : (ℓ : Loc nD τ sig) → Buf (Elt Ideal) ℓ) (c : Dev nD)

/-- The product of one grid point's blocks. -/
def dot (t : Fin cfg0.N) (i : Fin 512) (j : Fin 1024) : EReal := mul (iblk m c 0 t) (iblk m c 1 t) i j

/-- The accumulator after a first point. -/
theorem acc_first (t : Fin cfg0.N) (h : t.val % 3 = 0) (i : Fin 512) (j : Fin 1024) :
    (outsAt0 m c t.val t.isLt).2 (ix2 i j) = dot m c t i j := by
  rw [outsAt0_A m c t h (by omega) (by omega)]
  dsimp only
  frame_out
  exact (stored _ _ 0 i j).1

/-- The accumulator after a middle point. -/
theorem acc_next (n : ℕ) (hn : n + 1 < cfg0.N) (h : (n + 1) % 3 = 1) (i : Fin 512) (j : Fin 1024) :
    (outsAt0 m c (n + 1) hn).2 (ix2 i j) = (outsAt0 m c n (Nat.lt_of_succ_lt hn)).2 (ix2 i j) + dot m c ⟨n + 1, hn⟩ i j := by
  rw [outsAt0_B m c ⟨n + 1, hn⟩ (by dsimp only; omega) h (by dsimp only; omega)]
  dsimp only
  frame_out
  simp only [read_unread_whole]
  exact (stored _ _ _ i j).2.1

/-- The result's block at a last point. -/
theorem out_last (n : ℕ) (hn : n + 1 < cfg0.N) (h : (n + 1) % 3 = 2) (i : Fin 512) (j : Fin 1024) :
    (outsAt0 m c (n + 1) hn).1 (ix2 i j) = (outsAt0 m c n (Nat.lt_of_succ_lt hn)).2 (ix2 i j) + dot m c ⟨n + 1, hn⟩ i j := by
  rw [outsAt0_C m c ⟨n + 1, hn⟩ (by dsimp only; omega) (by dsimp only; omega) h]
  dsimp only
  frame_out
  simp only [read_unread_whole]
  exact (stored _ _ _ i j).2.2

/-- The blocks that one grid point reads. -/
theorem idx : ∀ t : Fin cfg0.N,
    (win0_0.index t (0 : Fin 2) = t.val % 3 ∧ win0_0.index t (1 : Fin 2) = t.val / 6)
    ∧ (win0_1.index t (0 : Fin 2) = t.val % 3 ∧ win0_1.index t (1 : Fin 2) = t.val / 3 % 2) :=
  (by decide +kernel : ∀ t : Fin grid0.N, _)

theorem lt_points (t : Fin cfg0.N) : t.val < 66 := t.isLt

theorem block_0 (X : Vec Ideal S8448x5632 .bf16) (t : Fin cfg0.N) (x : Fin 2816) (i : Fin 512) :
    (((cfg0.win 0).blk t).view.read (Elt Ideal) X : Vec Ideal S2816x512 .bf16) (ix2 x i)
      = X (ix2 ⟨t.val % 3 * 2816 + x, by omega⟩ ⟨t.val / 6 * 512 + i, by have := lt_points t; omega⟩) := by
  blk_simp [idx t]
  blk_ext [idx t]

theorem block_1 (X : Vec Ideal S8448x2048 .f32) (t : Fin cfg0.N) (x : Fin 2816) (i : Fin 1024) :
    (((cfg0.win 1).blk t).view.read (Elt Ideal) X : Vec Ideal S2816x1024 .f32) (ix2 x i)
      = X (ix2 ⟨t.val % 3 * 2816 + x, by omega⟩ ⟨t.val / 3 % 2 * 1024 + i, by omega⟩) := by
  blk_simp [idx t]
  blk_ext [idx t]

/-- The operands: the arguments, whose casts change no value. -/
abbrev argA : FVec Ideal S8448x5632 .f32 := m ((c.tc : Thread nD τ).loc main_arg0)
abbrev argB : FVec Ideal S8448x2048 .f32 := m ((c.tc : Thread nD τ).loc main_arg2)

theorem V_a : V m c main_v0 = argA m c := by
  unfold_abbrev_sides
  after_reads_simp
  rfl

/-- A column of each operand. -/
abbrev left (r : Fin 5632) (k : Fin 8448) : EReal := argA m c (ix2 k r)
abbrev right (s : Fin 2048) (k : Fin 8448) : EReal := argB m c (ix2 k s)

/-- The product of the blocks is its part of the entry. -/
theorem dot_eq (t : Fin cfg0.N) (b q : ℕ) (ht : t.val = 3 * b + q) (hq : q < 3) (r : Fin 5632) (s : Fin 2048)
    (hb : b = r / 512 * 2 + s / 1024) :
    dot m c t ⟨r % 512, by omega⟩ ⟨s % 1024, by omega⟩ = part (left m c r) (right m c s) 2816 q := by
  refine entry_block _ _ _ _ q (by omega) (fun x => (block_0 (V m c main_v0) _ _ _).trans ?_)
    (fun x => (block_1 (V m c main_arg2) _ _ _).trans ?_)
  · rw [V_a]
    congr 2 <;> apply Fin.ext <;> dsimp only <;> omega
  · rw [V_main_arg2]
    congr 2 <;> apply Fin.ext <;> dsimp only <;> omega

/-- The kernel's result is the plain product. -/
theorem result (r : Fin 5632) (s : Fin 2048) :
    (Value.G2 m c : FVec Ideal S5632x2048 .f32) (ix2 r s) = entry (left m c r) (right m c s) := by
  have hr := r.isLt
  have hs := s.isLt
  obtain ⟨b, hb⟩ : ∃ b : ℕ, b = r / 512 * 2 + s / 1024 := ⟨_, rfl⟩
  have hn : 3 * b + 2 < cfg0.N := by show _ < 66; omega
  have h0 : 3 * b < cfg0.N := by omega
  have hp : Value.pt2Of (ix2 r s) = 3 * b + 2 := by
    show 3 * (2 * (r.val / 512 - 0) + 1 * (s.val / 1024 - 0)) + 2 = _
    omega
  have hl : Value.loc2Of (ix2 r s) = ix2 (⟨r % 512, by omega⟩ : Fin 512) (⟨s % 1024, by omega⟩ : Fin 1024) := by
    funext a
    fin_cases a <;> rfl
  unfold Value.G2
  rw [dif_pos (by rw [hp]; exact hn), ← Value.outsAt0_sweep m c _ (by rw [hp]; exact hn), hl]
  simp only [hp]
  rw [out_last m c (3 * b + 1) hn (by omega), acc_next m c (3 * b) _ (by omega), acc_first m c ⟨3 * b, h0⟩ (by dsimp only; omega),
    dot_eq m c ⟨3 * b + 2, hn⟩ b 2 rfl (by omega) r s hb, dot_eq m c ⟨3 * b + 1, _⟩ b 1 rfl (by omega) r s hb,
    dot_eq m c ⟨3 * b, h0⟩ b 0 rfl (by omega) r s hb]
  exact three _ _ _ rfl

end Cert.OutDwIdeal.Step

end
-- ==== Proof.OutFwdValue.lean ====
/-
  The feed-forward's second product: the kernel's result at an index.
-/
module

public import proofs.«01_k».proof.Proof.Product
public import proofs.«01_k».proof.Proof.Gen.OutFwdIdeal.Value
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.OutFwdIdeal.Step

open Cert.Product Cert.OutFwdIdeal Cert.OutFwdIdeal.Gen Idealize.ShloMosaic Idealize.ShloMosaic.TcCoe Idealize.SL.Sem

/-- The product of two blocks. -/
def mul (a : FVec Ideal S768x2816 .bf16) (b : FVec Ideal S2816x1024 .bf16) (i : Fin 768) (j : Fin 1024) : EReal :=
  entry (fun x : Fin 2816 => a (ix2 i x)) (fun x : Fin 2816 => b (ix2 x j))

/-- What a point stores: the blocks' product, alone or added to what the accumulator held. -/
theorem stored (a : FVec Ideal S768x2816 .bf16) (b : FVec Ideal S2816x1024 .bf16) (s : FVec Ideal S768x1024 .f32)
    (i : Fin 768) (j : Fin 1024) :
    k0_pay2 (F := Ideal) a b (ix2 i j) = mul a b i j
    ∧ k0_pay4 (F := Ideal) a b s (ix2 i j) = s (ix2 i j) + mul a b i j := by
  refine ⟨?_, ?_⟩ <;> pointwise [mul, entry, k0_pay1, k0_pay2, k0_pay4]

variable (m : (ℓ : Loc nD τ sig) → Buf (Elt Ideal) ℓ) (c : Dev nD)

/-- The product of one grid point's blocks. -/
def dot (t : Fin cfg0.N) (i : Fin 768) (j : Fin 1024) : EReal := mul (iblk m c 0 t) (iblk m c 1 t) i j

/-- The accumulator after a first point. -/
theorem acc_first (t : Fin cfg0.N) (h : t.val % 2 = 0) (i : Fin 768) (j : Fin 1024) :
    (outsAt0 m c t.val t.isLt).2 (ix2 i j) = dot m c t i j := by
  rw [outsAt0_A m c t h (by omega)]
  dsimp only
  frame_out
  exact (stored _ _ 0 i j).1

/-- The result's block at a last point. -/
theorem out_last (n : ℕ) (hn : n + 1 < cfg0.N) (h : (n + 1) % 2 = 1) (i : Fin 768) (j : Fin 1024) :
    (outsAt0 m c (n + 1) hn).1 (ix2 i j) = (outsAt0 m c n (Nat.lt_of_succ_lt hn)).2 (ix2 i j) + dot m c ⟨n + 1, hn⟩ i j := by
  rw [outsAt0_B m c ⟨n + 1, hn⟩ (by dsimp only; omega) h]
  dsimp only
  frame_out
  simp only [read_unread_whole]
  exact (stored _ _ _ i j).2

/-- The blocks that one grid point reads. -/
theorem idx : ∀ t : Fin cfg0.N,
    (win0_0.index t (0 : Fin 2) = t.val / 4 ∧ win0_0.index t (1 : Fin 2) = t.val % 2)
    ∧ (win0_1.index t (0 : Fin 2) = t.val % 2 ∧ win0_1.index t (1 : Fin 2) = t.val / 2 % 2) :=
  (by decide +kernel : ∀ t : Fin grid0.N, _)

theorem lt_points (t : Fin cfg0.N) : t.val < 44 := t.isLt

theorem block_0 (X : Vec Ideal S8448x5632 .bf16) (t : Fin cfg0.N) (i : Fin 768) (x : Fin 2816) :
    (((cfg0.win 0).blk t).view.read (Elt Ideal) X : Vec Ideal S768x2816 .bf16) (ix2 i x)
      = X (ix2 ⟨t.val / 4 * 768 + i, by have := lt_points t; omega⟩ ⟨t.val % 2 * 2816 + x, by omega⟩) := by
  blk_simp [idx t]
  blk_ext [idx t]

theorem block_1 (X : Vec Ideal S5632x2048 .bf16) (t : Fin cfg0.N) (x : Fin 2816) (i : Fin 1024) :
    (((cfg0.win 1).blk t).view.read (Elt Ideal) X : Vec Ideal S2816x1024 .bf16) (ix2 x i)
      = X (ix2 ⟨t.val % 2 * 2816 + x, by omega⟩ ⟨t.val / 2 % 2 * 1024 + i, by omega⟩) := by
  blk_simp [idx t]
  blk_ext [idx t]

/-- The operands: the arguments, whose casts change no value. -/
abbrev argA : FVec Ideal S8448x5632 .f32 := m ((c.tc : Thread nD τ).loc main_arg0)
abbrev argB : FVec Ideal S5632x2048 .f32 := m ((c.tc : Thread nD τ).loc main_arg1)

theorem V_a : V m c main_v0 = argA m c := by
  unfold_abbrev_sides
  after_reads_simp
  rfl

theorem V_b : V m c main_v1 = argB m c := by
  unfold_abbrev_sides
  after_reads_simp
  rfl

/-- A row of the left operand and a column of the right one. -/
abbrev left (r : Fin 8448) (k : Fin 5632) : EReal := argA m c (ix2 r k)
abbrev right (s : Fin 2048) (k : Fin 5632) : EReal := argB m c (ix2 k s)

/-- The product of the blocks is its part of the entry. -/
theorem dot_eq (t : Fin cfg0.N) (b q : ℕ) (ht : t.val = 2 * b + q) (hq : q < 2) (r : Fin 8448) (s : Fin 2048)
    (hb : b = r / 768 * 2 + s / 1024) :
    dot m c t ⟨r % 768, by omega⟩ ⟨s % 1024, by omega⟩ = part (left m c r) (right m c s) 2816 q := by
  refine entry_block _ _ _ _ q (by omega) (fun x => (block_0 (V m c main_v0) _ _ _).trans ?_)
    (fun x => (block_1 (V m c main_v1) _ _ _).trans ?_)
  · rw [V_a]
    congr 2 <;> apply Fin.ext <;> dsimp only <;> omega
  · rw [V_b]
    congr 2 <;> apply Fin.ext <;> dsimp only <;> omega

/-- The kernel's result is the plain product. -/
theorem result (r : Fin 8448) (s : Fin 2048) :
    (Value.G2 m c : FVec Ideal S8448x2048 .f32) (ix2 r s) = entry (left m c r) (right m c s) := by
  have hr := r.isLt
  have hs := s.isLt
  obtain ⟨b, hb⟩ : ∃ b : ℕ, b = r / 768 * 2 + s / 1024 := ⟨_, rfl⟩
  have hn : 2 * b + 1 < cfg0.N := by show _ < 44; omega
  have h0 : 2 * b < cfg0.N := by omega
  have hp : Value.pt2Of (ix2 r s) = 2 * b + 1 := by
    show 2 * (2 * (r.val / 768 - 0) + 1 * (s.val / 1024 - 0)) + 1 = _
    omega
  have hl : Value.loc2Of (ix2 r s) = ix2 (⟨r % 768, by omega⟩ : Fin 768) (⟨s % 1024, by omega⟩ : Fin 1024) := by
    funext a
    fin_cases a <;> rfl
  unfold Value.G2
  rw [dif_pos (by rw [hp]; exact hn), ← Value.outsAt0_sweep m c _ (by rw [hp]; exact hn), hl]
  simp only [hp]
  rw [out_last m c (2 * b) hn (by omega), acc_first m c ⟨2 * b, h0⟩ (by dsimp only; omega),
    dot_eq m c ⟨2 * b + 1, hn⟩ b 1 rfl (by omega) r s hb, dot_eq m c ⟨2 * b, h0⟩ b 0 rfl (by omega) r s hb]
  exact two _ _ _ rfl

end Cert.OutFwdIdeal.Step

end
-- ==== Proof.FfnTie.lean ====
/-
  The feed-forward's products: each kernel's result is the plain product's, or its gradient's.
-/
module

public import proofs.«01_k».proof.Defs
public import proofs.«01_k».proof.Proof.InDxValue
public import proofs.«01_k».proof.Proof.InDwValue
public import proofs.«01_k».proof.Proof.InFwdValue
public import proofs.«01_k».proof.Proof.OutDxValue
public import proofs.«01_k».proof.Proof.OutDwValue
public import proofs.«01_k».proof.Proof.OutFwdValue
public import proofs.«01_k».proof.Proof.Gen.InDxRefIdeal.Run
public import proofs.«01_k».proof.Proof.Gen.InDwRefIdeal.Run
public import proofs.«01_k».proof.Proof.Gen.InFwdRefIdeal.Run
public import proofs.«01_k».proof.Proof.Gen.OutDxRefIdeal.Run
public import proofs.«01_k».proof.Proof.Gen.OutDwRefIdeal.Run
public import proofs.«01_k».proof.Proof.Gen.OutFwdRefIdeal.Run

@[expose] public section

set_option maxRecDepth 16384

noncomputable section

/-! ## The plain products at an index -/

namespace Cert.InDxRefIdeal

open Cert.Product Idealize.ShloMosaic

theorem plain (X : FVec Ideal S8448x11264 .f32) (Y : FVec Ideal S2048x11264 .f32) (r : Fin 8448) (s : Fin 2048) :
    Host.dotGeneral dot_S8448x11264_S2048x11264_S8448x2048_1_1_0_0_n_n none X Y (ix2 r s)
      = entry (fun k : Fin 11264 => X (ix2 r k)) (fun k : Fin 11264 => Y (ix2 s k)) := by
  pointwise [entry]

end Cert.InDxRefIdeal

namespace Cert.InDwRefIdeal

open Cert.Product Idealize.ShloMosaic

theorem plain (X : FVec Ideal S8448x11264 .f32) (Y : FVec Ideal S8448x2048 .f32) (r : Fin 2048) (s : Fin 11264) :
    transpose S2048x11264 [1, 0] (Host.dotGeneral dot_S8448x11264_S8448x2048_S11264x2048_0_0_1_1_n_n none X Y)
        Facts₀.transposes_S11264x2048_S2048x11264_1_0 (ix2 r s)
      = entry (fun k : Fin 8448 => Y (ix2 k r)) (fun k : Fin 8448 => X (ix2 k s)) := by
  pointwise [entry]
  exact Finset.sum_congr rfl fun k _ => mul_comm _ _

end Cert.InDwRefIdeal

namespace Cert.InFwdRefIdeal

open Cert.Product Idealize.ShloMosaic

theorem plain (X : FVec Ideal S8448x2048 .f32) (Y : FVec Ideal S2048x11264 .f32) (r : Fin 8448) (s : Fin 11264) :
    truncf .bf16 (Host.dotGeneral dot_S8448x2048_S2048x11264_S8448x11264_1_0_0_1_n_n none X Y) Facts₀.bitsLt_bf16_f32 (ix2 r s)
      = entry (fun k : Fin 2048 => X (ix2 r k)) (fun k : Fin 2048 => Y (ix2 k s)) := by
  pointwise [entry]

end Cert.InFwdRefIdeal

namespace Cert.OutDxRefIdeal

open Cert.Product Idealize.ShloMosaic

theorem plain (X : FVec Ideal S8448x2048 .f32) (Y : FVec Ideal S5632x2048 .f32) (r : Fin 8448) (s : Fin 5632) :
    Host.dotGeneral dot_S8448x2048_S5632x2048_S8448x5632_1_1_0_0_n_n none X Y (ix2 r s)
      = entry (fun k : Fin 2048 => X (ix2 r k)) (fun k : Fin 2048 => Y (ix2 s k)) := by
  pointwise [entry]

end Cert.OutDxRefIdeal

namespace Cert.OutDwRefIdeal

open Cert.Product Idealize.ShloMosaic

theorem plain (X : FVec Ideal S8448x2048 .f32) (Y : FVec Ideal S8448x5632 .f32) (r : Fin 5632) (s : Fin 2048) :
    transpose S5632x2048 [1, 0] (Host.dotGeneral dot_S8448x2048_S8448x5632_S2048x5632_0_0_1_1_n_n none X Y)
        Facts₀.transposes_S2048x5632_S5632x2048_1_0 (ix2 r s)
      = entry (fun k : Fin 8448 => Y (ix2 k r)) (fun k : Fin 8448 => X (ix2 k s)) := by
  pointwise [entry]
  exact Finset.sum_congr rfl fun k _ => mul_comm _ _

end Cert.OutDwRefIdeal

namespace Cert.OutFwdRefIdeal

open Cert.Product Idealize.ShloMosaic

theorem plain (X : FVec Ideal S8448x5632 .f32) (Y : FVec Ideal S5632x2048 .f32) (r : Fin 8448) (s : Fin 2048) :
    Host.dotGeneral dot_S8448x5632_S5632x2048_S8448x2048_1_0_0_1_n_n none X Y (ix2 r s)
      = entry (fun k : Fin 5632 => X (ix2 r k)) (fun k : Fin 5632 => Y (ix2 k s)) := by
  pointwise [entry]

end Cert.OutFwdRefIdeal

/-! ## The claims -/

namespace Cert.Proof

open Idealize.ShloMosaic Idealize.SL.Sem

/-- Two arrays that agree at every row and column are one. -/
theorem ext2 {a b : ℕ} {α : Type} (f g : (⟨2, ![a, b]⟩ : Shape).Idx → α) (h : ∀ r s, f (ix2 r s) = g (ix2 r s)) : f = g := by
  funext y
  rw [eq_ix2 y]
  exact h _ _

/-- The first product's gradients. -/
theorem in_dx_algebraic : Cert.algebraic_InDxIdeal_InDxRefIdeal := by
  intro m ρ m' ρ' _ hagree
  refine ⟨_, Cert.InDxIdeal.Value.run (F := Ideal) m ρ, ?_⟩
  refine (θ_run Cert.InDxRefIdeal.defs _ _).mono (fun r h c => ⟨(h c).1.trans ?_, (h c).2⟩)
    (Cert.InDxRefIdeal.Value.run (F := Ideal) m' ρ')
  obtain ⟨_, e1, e2⟩ := hagree c
  rw [e1, e2]
  exact ext2 _ _ fun r s => (Cert.InDxRefIdeal.plain _ _ r s).trans (Cert.InDxIdeal.Step.result m c r s).symm

theorem in_dw_algebraic : Cert.algebraic_InDwIdeal_InDwRefIdeal := by
  intro m ρ m' ρ' _ hagree
  refine ⟨_, Cert.InDwIdeal.Value.run (F := Ideal) m ρ, ?_⟩
  refine (θ_run Cert.InDwRefIdeal.defs _ _).mono (fun r h c => ⟨(h c).1.trans ?_, (h c).2⟩)
    (Cert.InDwRefIdeal.Value.run (F := Ideal) m' ρ')
  obtain ⟨e0, _, e2⟩ := hagree c
  rw [e0, e2]
  exact ext2 _ _ fun r s => (Cert.InDwRefIdeal.plain _ _ r s).trans (Cert.InDwIdeal.Step.result m c r s).symm

/-- The first product. -/
theorem in_algebraic : Cert.algebraic_InFwdIdeal_InFwdRefIdeal := by
  intro m ρ m' ρ' _ hagree
  refine ⟨_, Cert.InFwdIdeal.Value.run_blocks (F := Ideal) m ρ, ?_⟩
  refine (θ_run Cert.InFwdRefIdeal.defs _ _).mono (fun r h c => ⟨(h c).1.trans ?_, (h c).2⟩)
    (Cert.InFwdRefIdeal.Value.run (F := Ideal) m' ρ')
  obtain ⟨e0, e1⟩ := hagree c
  rw [e0, e1]
  exact ext2 _ _ fun r s => (Cert.InFwdRefIdeal.plain _ _ r s).trans (Cert.InFwdIdeal.Step.result m c r s).symm

/-- The second product's gradients. -/
theorem out_dx_algebraic : Cert.algebraic_OutDxIdeal_OutDxRefIdeal := by
  intro m ρ m' ρ' _ hagree
  refine ⟨_, Cert.OutDxIdeal.Value.run_blocks (F := Ideal) m ρ, ?_⟩
  refine (θ_run Cert.OutDxRefIdeal.defs _ _).mono (fun r h c => ⟨(h c).1.trans ?_, (h c).2⟩)
    (Cert.OutDxRefIdeal.Value.run (F := Ideal) m' ρ')
  obtain ⟨_, e1, e2⟩ := hagree c
  rw [e1, e2]
  exact ext2 _ _ fun r s => (Cert.OutDxRefIdeal.plain _ _ r s).trans (Cert.OutDxIdeal.Step.result m c r s).symm

theorem out_dw_algebraic : Cert.algebraic_OutDwIdeal_OutDwRefIdeal := by
  intro m ρ m' ρ' _ hagree
  refine ⟨_, Cert.OutDwIdeal.Value.run (F := Ideal) m ρ, ?_⟩
  refine (θ_run Cert.OutDwRefIdeal.defs _ _).mono (fun r h c => ⟨(h c).1.trans ?_, (h c).2⟩)
    (Cert.OutDwRefIdeal.Value.run (F := Ideal) m' ρ')
  obtain ⟨e0, _, e2⟩ := hagree c
  rw [e0, e2]
  exact ext2 _ _ fun r s => (Cert.OutDwRefIdeal.plain _ _ r s).trans (Cert.OutDwIdeal.Step.result m c r s).symm

/-- The second product. -/
theorem out_algebraic : Cert.algebraic_OutFwdIdeal_OutFwdRefIdeal := by
  intro m ρ m' ρ' _ hagree
  refine ⟨_, Cert.OutFwdIdeal.Value.run (F := Ideal) m ρ, ?_⟩
  refine (θ_run Cert.OutFwdRefIdeal.defs _ _).mono (fun r h c => ⟨(h c).1.trans ?_, (h c).2⟩)
    (Cert.OutFwdRefIdeal.Value.run (F := Ideal) m' ρ')
  obtain ⟨e0, e1⟩ := hagree c
  rw [e0, e1]
  exact ext2 _ _ fun r s => (Cert.OutFwdRefIdeal.plain _ _ r s).trans (Cert.OutFwdIdeal.Step.result m c r s).symm

end Cert.Proof

end
-- ==== Proof.MixRuns.lean ====
/-
  The projections: each program's run ends with its arguments unchanged; no kernel has a replaced operation.
-/
module

public import proofs.«01_k».proof.Defs
public import proofs.«01_k».proof.Proof.Gen.MixInDx.Frame
public import proofs.«01_k».proof.Proof.Gen.MixInDxIdeal.Frame
public import proofs.«01_k».proof.Proof.Gen.MixInDxRefIdeal.Run
public import proofs.«01_k».proof.Proof.Gen.MixInDw.Frame
public import proofs.«01_k».proof.Proof.Gen.MixInDwIdeal.Frame
public import proofs.«01_k».proof.Proof.Gen.MixInDwRefIdeal.Run
public import proofs.«01_k».proof.Proof.Gen.MixIn.Frame
public import proofs.«01_k».proof.Proof.Gen.MixInIdeal.Frame
public import proofs.«01_k».proof.Proof.Gen.MixInRefIdeal.Run
public import proofs.«01_k».proof.Proof.Gen.MixOutDx.Frame
public import proofs.«01_k».proof.Proof.Gen.MixOutDxIdeal.Frame
public import proofs.«01_k».proof.Proof.Gen.MixOutDxRefIdeal.Run
public import proofs.«01_k».proof.Proof.Gen.MixOutDw.Frame
public import proofs.«01_k».proof.Proof.Gen.MixOutDwIdeal.Frame
public import proofs.«01_k».proof.Proof.Gen.MixOutDwRefIdeal.Run
public import proofs.«01_k».proof.Proof.Gen.MixOut.Frame
public import proofs.«01_k».proof.Proof.Gen.MixOutIdeal.Frame
public import proofs.«01_k».proof.Proof.Gen.MixOutRefIdeal.Run

@[expose] public section

set_option maxRecDepth 16384

noncomputable section

namespace Cert.Proof

open Idealize.ShloMosaic Idealize.SL.Sem

theorem mix_in_dx_frame : Cert.quiescent_MixInDx := fun m ρ _ => Cert.MixInDx.Gen.frame m ρ

theorem mix_in_dx_ideal_frame : Cert.quiescent_MixInDxIdeal := fun m ρ _ => Cert.MixInDxIdeal.Gen.frame m ρ

theorem mix_in_dx_ref_frame : Cert.quiescent_MixInDxRefIdeal := fun m ρ _ =>
  (θ_run Cert.MixInDxRefIdeal.defs _ _).mono (fun r h => ⟨fun c => (h c).2, sem_eq_zero_of_no_sems (by decide) r.2⟩)
    (Cert.MixInDxRefIdeal.Value.run (F := Ideal) m ρ)

theorem mix_in_dx_preserves : Cert.preserves_MixInDx_MixInDxIdeal := trivial

theorem mix_in_dw_frame : Cert.quiescent_MixInDw := fun m ρ _ => Cert.MixInDw.Gen.frame m ρ

theorem mix_in_dw_ideal_frame : Cert.quiescent_MixInDwIdeal := fun m ρ _ => Cert.MixInDwIdeal.Gen.frame m ρ

theorem mix_in_dw_ref_frame : Cert.quiescent_MixInDwRefIdeal := fun m ρ _ =>
  (θ_run Cert.MixInDwRefIdeal.defs _ _).mono (fun r h => ⟨fun c => (h c).2, sem_eq_zero_of_no_sems (by decide) r.2⟩)
    (Cert.MixInDwRefIdeal.Value.run (F := Ideal) m ρ)

theorem mix_in_dw_preserves : Cert.preserves_MixInDw_MixInDwIdeal := trivial

theorem mix_in_frame : Cert.quiescent_MixIn := fun m ρ _ => Cert.MixIn.Gen.frame m ρ

theorem mix_in_ideal_frame : Cert.quiescent_MixInIdeal := fun m ρ _ => Cert.MixInIdeal.Gen.frame m ρ

theorem mix_in_ref_frame : Cert.quiescent_MixInRefIdeal := fun m ρ _ =>
  (θ_run Cert.MixInRefIdeal.defs _ _).mono (fun r h => ⟨fun c => (h c).2, sem_eq_zero_of_no_sems (by decide) r.2⟩)
    (Cert.MixInRefIdeal.Value.run (F := Ideal) m ρ)

theorem mix_in_preserves : Cert.preserves_MixIn_MixInIdeal := trivial

theorem mix_out_dx_frame : Cert.quiescent_MixOutDx := fun m ρ _ => Cert.MixOutDx.Gen.frame m ρ

theorem mix_out_dx_ideal_frame : Cert.quiescent_MixOutDxIdeal := fun m ρ _ => Cert.MixOutDxIdeal.Gen.frame m ρ

theorem mix_out_dx_ref_frame : Cert.quiescent_MixOutDxRefIdeal := fun m ρ _ =>
  (θ_run Cert.MixOutDxRefIdeal.defs _ _).mono (fun r h => ⟨fun c => (h c).2, sem_eq_zero_of_no_sems (by decide) r.2⟩)
    (Cert.MixOutDxRefIdeal.Value.run (F := Ideal) m ρ)

theorem mix_out_dx_preserves : Cert.preserves_MixOutDx_MixOutDxIdeal := trivial

theorem mix_out_dw_frame : Cert.quiescent_MixOutDw := fun m ρ _ => Cert.MixOutDw.Gen.frame m ρ

theorem mix_out_dw_ideal_frame : Cert.quiescent_MixOutDwIdeal := fun m ρ _ => Cert.MixOutDwIdeal.Gen.frame m ρ

theorem mix_out_dw_ref_frame : Cert.quiescent_MixOutDwRefIdeal := fun m ρ _ =>
  (θ_run Cert.MixOutDwRefIdeal.defs _ _).mono (fun r h => ⟨fun c => (h c).2, sem_eq_zero_of_no_sems (by decide) r.2⟩)
    (Cert.MixOutDwRefIdeal.Value.run (F := Ideal) m ρ)

theorem mix_out_dw_preserves : Cert.preserves_MixOutDw_MixOutDwIdeal := trivial

theorem mix_out_frame : Cert.quiescent_MixOut := fun m ρ _ => Cert.MixOut.Gen.frame m ρ

theorem mix_out_ideal_frame : Cert.quiescent_MixOutIdeal := fun m ρ _ => Cert.MixOutIdeal.Gen.frame m ρ

theorem mix_out_ref_frame : Cert.quiescent_MixOutRefIdeal := fun m ρ _ =>
  (θ_run Cert.MixOutRefIdeal.defs _ _).mono (fun r h => ⟨fun c => (h c).2, sem_eq_zero_of_no_sems (by decide) r.2⟩)
    (Cert.MixOutRefIdeal.Value.run (F := Ideal) m ρ)

theorem mix_out_preserves : Cert.preserves_MixOut_MixOutIdeal := trivial

end Cert.Proof

end
-- ==== Proof.MixInDxValue.lean ====
/-
  The mixers' input projection, the gradient of its left operand: the kernel's result at an index.
-/
module

public import proofs.«01_k».proof.Proof.Product
public import proofs.«01_k».proof.Proof.Gen.MixInDxIdeal.Value
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.MixInDxIdeal.Step

open Cert.Product Cert.MixInDxIdeal Cert.MixInDxIdeal.Gen Idealize.ShloMosaic Idealize.ShloMosaic.TcCoe Idealize.SL.Sem

/-- The product of two blocks. -/
def mul (a : FVec Ideal S768x1920 .f32) (b : FVec Ideal S1024x1920 .bf16) (i : Fin 768) (j : Fin 1024) : EReal :=
  entry (fun x : Fin 1920 => a (ix2 i x)) (fun x : Fin 1920 => b (ix2 j x))

/-- What a point stores: the blocks' product, alone or added to what the accumulator held. -/
theorem stored (a : FVec Ideal S768x1920 .f32) (b : FVec Ideal S1024x1920 .bf16) (s : FVec Ideal S768x1024 .f32)
    (i : Fin 768) (j : Fin 1024) :
    k0_pay2 (F := Ideal) a b (ix2 i j) = mul a b i j
    ∧ k0_pay3 (F := Ideal) a b s (ix2 i j) = s (ix2 i j) + mul a b i j
    ∧ k0_pay4 (F := Ideal) a b s (ix2 i j) = s (ix2 i j) + mul a b i j := by
  refine ⟨?_, ?_, ?_⟩ <;> pointwise [mul, entry, k0_pay1, k0_pay2, k0_pay3, k0_pay4]

/-- The weights as the projection reads them: the small gates' columns moved last, and zeros up to a whole block. -/
def arranged (w : FVec Ideal S2048x5648 .f32) : FVec Ideal S2048x5760 .f32 :=
  concatenate S2048x5760 1
    [⟨S2048x4096, extractStridedSlice S2048x4096 ![0, 0] w Facts₀.slices_S2048x5648_S2048x4096_0_0⟩,
      ⟨S2048x1536, extractStridedSlice S2048x1536 ![0, 4112] w Facts₀.slices_S2048x5648_S2048x1536_0_4112⟩,
      ⟨S2048x16, extractStridedSlice S2048x16 ![0, 4096] w Facts₀.slices_S2048x5648_S2048x16_0_4096⟩,
      ⟨S2048x112, broadcastInDim S2048x112 ![] Facts₀.bcast_S_S2048x112 (constant S_ .f32 0x00000000#32)⟩]
    Facts₀.concatenates_S2048x4096_S2048x1536_S2048x16_S2048x112_S2048x5760_d1

variable (m : (ℓ : Loc nD τ sig) → Buf (Elt Ideal) ℓ) (c : Dev nD)

/-- The product of one grid point's blocks. -/
def dot (t : Fin cfg0.N) (i : Fin 768) (j : Fin 1024) : EReal := mul (iblk m c 0 t) (iblk m c 1 t) i j

/-- The accumulator after a first point. -/
theorem acc_first (t : Fin cfg0.N) (h : t.val % 3 = 0) (i : Fin 768) (j : Fin 1024) :
    (outsAt0 m c t.val t.isLt).2 (ix2 i j) = dot m c t i j := by
  rw [outsAt0_A m c t h (by omega) (by omega)]
  dsimp only
  frame_out
  exact (stored _ _ 0 i j).1

/-- The accumulator after a middle point. -/
theorem acc_next (n : ℕ) (hn : n + 1 < cfg0.N) (h : (n + 1) % 3 = 1) (i : Fin 768) (j : Fin 1024) :
    (outsAt0 m c (n + 1) hn).2 (ix2 i j) = (outsAt0 m c n (Nat.lt_of_succ_lt hn)).2 (ix2 i j) + dot m c ⟨n + 1, hn⟩ i j := by
  rw [outsAt0_B m c ⟨n + 1, hn⟩ (by dsimp only; omega) h (by dsimp only; omega)]
  dsimp only
  frame_out
  simp only [read_unread_whole]
  exact (stored _ _ _ i j).2.1

/-- The result's block at a last point. -/
theorem out_last (n : ℕ) (hn : n + 1 < cfg0.N) (h : (n + 1) % 3 = 2) (i : Fin 768) (j : Fin 1024) :
    (outsAt0 m c (n + 1) hn).1 (ix2 i j) = (outsAt0 m c n (Nat.lt_of_succ_lt hn)).2 (ix2 i j) + dot m c ⟨n + 1, hn⟩ i j := by
  rw [outsAt0_C m c ⟨n + 1, hn⟩ (by dsimp only; omega) (by dsimp only; omega) h]
  dsimp only
  frame_out
  simp only [read_unread_whole]
  exact (stored _ _ _ i j).2.2

/-- The blocks that one grid point reads. -/
theorem idx : ∀ t : Fin cfg0.N,
    (win0_0.index t (0 : Fin 2) = t.val / 6 ∧ win0_0.index t (1 : Fin 2) = t.val % 3)
    ∧ (win0_1.index t (0 : Fin 2) = t.val / 3 % 2 ∧ win0_1.index t (1 : Fin 2) = t.val % 3) :=
  (by decide +kernel : ∀ t : Fin grid0.N, _)

theorem lt_points (t : Fin cfg0.N) : t.val < 66 := t.isLt

theorem block_0 (X : Vec Ideal S8448x5760 .f32) (t : Fin cfg0.N) (i : Fin 768) (x : Fin 1920) :
    (((cfg0.win 0).blk t).view.read (Elt Ideal) X : Vec Ideal S768x1920 .f32) (ix2 i x)
      = X (ix2 ⟨t.val / 6 * 768 + i, by have := lt_points t; omega⟩ ⟨t.val % 3 * 1920 + x, by omega⟩) := by
  blk_simp [idx t]
  blk_ext [idx t]

theorem block_1 (X : Vec Ideal S2048x5760 .bf16) (t : Fin cfg0.N) (i : Fin 1024) (x : Fin 1920) :
    (((cfg0.win 1).blk t).view.read (Elt Ideal) X : Vec Ideal S1024x1920 .bf16) (ix2 i x)
      = X (ix2 ⟨t.val / 3 % 2 * 1024 + i, by omega⟩ ⟨t.val % 3 * 1920 + x, by omega⟩) := by
  blk_simp [idx t]
  blk_ext [idx t]

/-- The operands: the arguments, whose casts change no value; the weights rearranged. -/
abbrev argA : FVec Ideal S8448x5760 .f32 := m ((c.tc : Thread nD τ).loc main_arg2)
abbrev argB : FVec Ideal S2048x5760 .f32 := arranged (m ((c.tc : Thread nD τ).loc main_arg1))

theorem V_b : V m c main_v5 = argB m c := by
  unfold_abbrev_sides
  after_reads_simp
  rfl

/-- A row of the left operand and a row of the right one. -/
abbrev left (r : Fin 8448) (k : Fin 5760) : EReal := argA m c (ix2 r k)
abbrev right (s : Fin 2048) (k : Fin 5760) : EReal := argB m c (ix2 s k)

/-- The product of the blocks is its part of the entry. -/
theorem dot_eq (t : Fin cfg0.N) (b q : ℕ) (ht : t.val = 3 * b + q) (hq : q < 3) (r : Fin 8448) (s : Fin 2048)
    (hb : b = r / 768 * 2 + s / 1024) :
    dot m c t ⟨r % 768, by omega⟩ ⟨s % 1024, by omega⟩ = part (left m c r) (right m c s) 1920 q := by
  refine entry_block _ _ _ _ q (by omega) (fun x => (block_0 (V m c main_arg2) _ _ _).trans ?_)
    (fun x => (block_1 (V m c main_v5) _ _ _).trans ?_)
  · rw [V_main_arg2]
    congr 2 <;> apply Fin.ext <;> dsimp only <;> omega
  · rw [V_b]
    congr 2 <;> apply Fin.ext <;> dsimp only <;> omega

/-- The kernel's result is the plain product. -/
theorem result (r : Fin 8448) (s : Fin 2048) :
    (Value.G2 m c : FVec Ideal S8448x2048 .f32) (ix2 r s) = entry (left m c r) (right m c s) := by
  have hr := r.isLt
  have hs := s.isLt
  obtain ⟨b, hb⟩ : ∃ b : ℕ, b = r / 768 * 2 + s / 1024 := ⟨_, rfl⟩
  have hn : 3 * b + 2 < cfg0.N := by show _ < 66; omega
  have h0 : 3 * b < cfg0.N := by omega
  have hp : Value.pt2Of (ix2 r s) = 3 * b + 2 := by
    show 3 * (2 * (r.val / 768 - 0) + 1 * (s.val / 1024 - 0)) + 2 = _
    omega
  have hl : Value.loc2Of (ix2 r s) = ix2 (⟨r % 768, by omega⟩ : Fin 768) (⟨s % 1024, by omega⟩ : Fin 1024) := by
    funext a
    fin_cases a <;> rfl
  unfold Value.G2
  rw [dif_pos (by rw [hp]; exact hn), ← Value.outsAt0_sweep m c _ (by rw [hp]; exact hn), hl]
  simp only [hp]
  rw [out_last m c (3 * b + 1) hn (by omega), acc_next m c (3 * b) _ (by omega),
    acc_first m c ⟨3 * b, h0⟩ (by dsimp only; omega), dot_eq m c ⟨3 * b + 2, hn⟩ b 2 rfl (by omega) r s hb,
    dot_eq m c ⟨3 * b + 1, _⟩ b 1 rfl (by omega) r s hb, dot_eq m c ⟨3 * b, h0⟩ b 0 rfl (by omega) r s hb]
  exact three _ _ _ rfl

end Cert.MixInDxIdeal.Step

end
-- ==== Proof.MixInDwValue.lean ====
/-
  The mixers' input projection, the gradient of its weights: the kernel's result at an index.
-/
module

public import proofs.«01_k».proof.Proof.Product
public import proofs.«01_k».proof.Proof.Gen.MixInDwIdeal.Value
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.MixInDwIdeal.Step

open Cert.Product Cert.MixInDwIdeal Cert.MixInDwIdeal.Gen Idealize.ShloMosaic Idealize.ShloMosaic.TcCoe Idealize.SL.Sem

/-- The product of two blocks, which share their rows. -/
def mul (a : FVec Ideal S4224x512 .bf16) (b : FVec Ideal S4224x640 .f32) (i : Fin 512) (j : Fin 640) : EReal :=
  entry (fun x : Fin 4224 => a (ix2 x i)) (fun x : Fin 4224 => b (ix2 x j))

/-- What a point stores: the blocks' product, alone or added to what the accumulator held. -/
theorem stored (a : FVec Ideal S4224x512 .bf16) (b : FVec Ideal S4224x640 .f32) (s : FVec Ideal S512x640 .f32)
    (i : Fin 512) (j : Fin 640) :
    k0_pay2 (F := Ideal) a b (ix2 i j) = mul a b i j
    ∧ k0_pay4 (F := Ideal) a b s (ix2 i j) = s (ix2 i j) + mul a b i j := by
  refine ⟨?_, ?_⟩ <;> pointwise [mul, entry, k0_pay1, k0_pay2, k0_pay4]

variable (m : (ℓ : Loc nD τ sig) → Buf (Elt Ideal) ℓ) (c : Dev nD)

/-- The product of one grid point's blocks. -/
def dot (t : Fin cfg0.N) (i : Fin 512) (j : Fin 640) : EReal := mul (iblk m c 0 t) (iblk m c 1 t) i j

/-- The accumulator after a first point. -/
theorem acc_first (t : Fin cfg0.N) (h : t.val % 2 = 0) (i : Fin 512) (j : Fin 640) :
    (outsAt0 m c t.val t.isLt).2 (ix2 i j) = dot m c t i j := by
  rw [outsAt0_A m c t h (by omega)]
  dsimp only
  frame_out
  exact (stored _ _ 0 i j).1

/-- The result's block at a last point. -/
theorem out_last (n : ℕ) (hn : n + 1 < cfg0.N) (h : (n + 1) % 2 = 1) (i : Fin 512) (j : Fin 640) :
    (outsAt0 m c (n + 1) hn).1 (ix2 i j) = (outsAt0 m c n (Nat.lt_of_succ_lt hn)).2 (ix2 i j) + dot m c ⟨n + 1, hn⟩ i j := by
  rw [outsAt0_B m c ⟨n + 1, hn⟩ (by dsimp only; omega) h]
  dsimp only
  frame_out
  simp only [read_unread_whole]
  exact (stored _ _ _ i j).2

/-- The blocks that one grid point reads. -/
theorem idx : ∀ t : Fin cfg0.N,
    (win0_0.index t (0 : Fin 2) = t.val % 2 ∧ win0_0.index t (1 : Fin 2) = t.val / 18)
    ∧ (win0_1.index t (0 : Fin 2) = t.val % 2 ∧ win0_1.index t (1 : Fin 2) = t.val / 2 % 9) :=
  (by decide +kernel : ∀ t : Fin grid0.N, _)

theorem lt_points (t : Fin cfg0.N) : t.val < 72 := t.isLt

theorem block_0 (X : Vec Ideal S8448x2048 .bf16) (t : Fin cfg0.N) (x : Fin 4224) (i : Fin 512) :
    (((cfg0.win 0).blk t).view.read (Elt Ideal) X : Vec Ideal S4224x512 .bf16) (ix2 x i)
      = X (ix2 ⟨t.val % 2 * 4224 + x, by omega⟩ ⟨t.val / 18 * 512 + i, by have := lt_points t; omega⟩) := by
  blk_simp [idx t]
  blk_ext [idx t]

theorem block_1 (X : Vec Ideal S8448x5760 .f32) (t : Fin cfg0.N) (x : Fin 4224) (i : Fin 640) :
    (((cfg0.win 1).blk t).view.read (Elt Ideal) X : Vec Ideal S4224x640 .f32) (ix2 x i)
      = X (ix2 ⟨t.val % 2 * 4224 + x, by omega⟩ ⟨t.val / 2 % 9 * 640 + i, by omega⟩) := by
  blk_simp [idx t]
  blk_ext [idx t]

/-- The operands: the arguments, whose casts change no value. -/
abbrev argA : FVec Ideal S8448x2048 .f32 := m ((c.tc : Thread nD τ).loc main_arg0)
abbrev argB : FVec Ideal S8448x5760 .f32 := m ((c.tc : Thread nD τ).loc main_arg2)

theorem V_a : V m c main_v0 = argA m c := by
  unfold_abbrev_sides
  after_reads_simp
  rfl

/-- A column of each operand. -/
abbrev left (r : Fin 2048) (k : Fin 8448) : EReal := argA m c (ix2 k r)
abbrev right (s : Fin 5760) (k : Fin 8448) : EReal := argB m c (ix2 k s)

/-- The product of the blocks is its part of the entry. -/
theorem dot_eq (t : Fin cfg0.N) (b q : ℕ) (ht : t.val = 2 * b + q) (hq : q < 2) (r : Fin 2048) (s : Fin 5760)
    (hb : b = r / 512 * 9 + s / 640) :
    dot m c t ⟨r % 512, by omega⟩ ⟨s % 640, by omega⟩ = part (left m c r) (right m c s) 4224 q := by
  refine entry_block _ _ _ _ q (by omega) (fun x => (block_0 (V m c main_v0) _ _ _).trans ?_)
    (fun x => (block_1 (V m c main_arg2) _ _ _).trans ?_)
  · rw [V_a]
    congr 2 <;> apply Fin.ext <;> dsimp only <;> omega
  · rw [V_main_arg2]
    congr 2 <;> apply Fin.ext <;> dsimp only <;> omega

/-- The kernel's result is the plain product. -/
theorem result (r : Fin 2048) (s : Fin 5760) :
    (Value.G2 m c : FVec Ideal S2048x5760 .f32) (ix2 r s) = entry (left m c r) (right m c s) := by
  have hr := r.isLt
  have hs := s.isLt
  obtain ⟨b, hb⟩ : ∃ b : ℕ, b = r / 512 * 9 + s / 640 := ⟨_, rfl⟩
  have hn : 2 * b + 1 < cfg0.N := by show _ < 72; omega
  have h0 : 2 * b < cfg0.N := by omega
  have hp : Value.pt2Of (ix2 r s) = 2 * b + 1 := by
    show 2 * (9 * (r.val / 512 - 0) + 1 * (s.val / 640 - 0)) + 1 = _
    omega
  have hl : Value.loc2Of (ix2 r s) = ix2 (⟨r % 512, by omega⟩ : Fin 512) (⟨s % 640, by omega⟩ : Fin 640) := by
    funext a
    fin_cases a <;> rfl
  unfold Value.G2
  rw [dif_pos (by rw [hp]; exact hn), ← Value.outsAt0_sweep m c _ (by rw [hp]; exact hn), hl]
  simp only [hp]
  rw [out_last m c (2 * b) hn (by omega), acc_first m c ⟨2 * b, h0⟩ (by dsimp only; omega),
    dot_eq m c ⟨2 * b + 1, hn⟩ b 1 rfl (by omega) r s hb, dot_eq m c ⟨2 * b, h0⟩ b 0 rfl (by omega) r s hb]
  exact two _ _ _ rfl

end Cert.MixInDwIdeal.Step

end
-- ==== Proof.MixInValue.lean ====
/-
  The mixers' input projection: the kernel's result at an index.
-/
module

public import proofs.«01_k».proof.Proof.Product
public import proofs.«01_k».proof.Proof.Gen.MixInIdeal.Value
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.MixInIdeal.Step

open Cert.Product Cert.MixInIdeal Cert.MixInIdeal.Gen Idealize.ShloMosaic Idealize.ShloMosaic.TcCoe Idealize.SL.Sem

/-- What a point stores: the product of its blocks, which hold whole rows and whole columns of the operands. -/
theorem stored (a : FVec Ideal S768x2048 .bf16) (b : FVec Ideal S2048x640 .bf16) (i : Fin 768) (j : Fin 640) :
    k0_pay1 (F := Ideal) a b (ix2 i j)
      = entry (fun x : Fin 2048 => a (ix2 i x)) (fun x : Fin 2048 => b (ix2 x j)) := by
  pointwise [entry, k0_pay1]

/-- The weights as the projection reads them: the small gates' columns moved last, and zeros up to a whole block. -/
def arranged (w : FVec Ideal S2048x5648 .f32) : FVec Ideal S2048x5760 .f32 :=
  concatenate S2048x5760 1
    [⟨S2048x4096, extractStridedSlice S2048x4096 ![0, 0] w Facts₀.slices_S2048x5648_S2048x4096_0_0⟩,
      ⟨S2048x1536, extractStridedSlice S2048x1536 ![0, 4112] w Facts₀.slices_S2048x5648_S2048x1536_0_4112⟩,
      ⟨S2048x16, extractStridedSlice S2048x16 ![0, 4096] w Facts₀.slices_S2048x5648_S2048x16_0_4096⟩,
      ⟨S2048x112, broadcastInDim S2048x112 ![] Facts₀.bcast_S_S2048x112 (constant S_ .f32 0x00000000#32)⟩]
    Facts₀.concatenates_S2048x4096_S2048x1536_S2048x16_S2048x112_S2048x5760_d1

variable (m : (ℓ : Loc nD τ sig) → Buf (Elt Ideal) ℓ) (c : Dev nD)

/-- The blocks of one grid point. -/
theorem idx : ∀ t : Fin cfg0.N,
    (win0_0.index t (0 : Fin 2) = t.val / 9 ∧ win0_0.index t (1 : Fin 2) = 0)
    ∧ (win0_1.index t (0 : Fin 2) = 0 ∧ win0_1.index t (1 : Fin 2) = t.val % 9)
    ∧ (win0_2.index t (0 : Fin 2) = t.val / 9 ∧ win0_2.index t (1 : Fin 2) = t.val % 9) :=
  (by decide +kernel : ∀ t : Fin grid0.N, _)

/-- Every point writes its block back. -/
theorem flush : ∀ t : Fin cfg0.N, (cfg0.win 2).flush t = true := (by decide +kernel : ∀ t : Fin grid0.N, win0_2.flush t = true)

theorem lt_points (t : Fin cfg0.N) : t.val < 99 := t.isLt

theorem block_0 (X : Vec Ideal S8448x2048 .bf16) (t : Fin cfg0.N) (i : Fin 768) (x : Fin 2048) :
    (((cfg0.win 0).blk t).view.read (Elt Ideal) X : Vec Ideal S768x2048 .bf16) (ix2 i x)
      = X (ix2 ⟨t.val / 9 * 768 + i, by have := lt_points t; omega⟩ x) := by
  blk_simp [idx t]
  blk_ext [idx t]

theorem block_1 (X : Vec Ideal S2048x5760 .bf16) (t : Fin cfg0.N) (x : Fin 2048) (i : Fin 640) :
    (((cfg0.win 1).blk t).view.read (Elt Ideal) X : Vec Ideal S2048x640 .bf16) (ix2 x i)
      = X (ix2 x ⟨t.val % 9 * 640 + i, by omega⟩) := by
  blk_simp [idx t]
  blk_ext [idx t]

theorem block_2 (X : Vec Ideal S8448x5760 .f32) (t : Fin cfg0.N) (i : Fin 768) (j : Fin 640) :
    (((cfg0.win 2).blk t).view.read (Elt Ideal) X : Vec Ideal S768x640 .f32) (ix2 i j)
      = X (ix2 ⟨t.val / 9 * 768 + i, by have := lt_points t; omega⟩ ⟨t.val % 9 * 640 + j, by omega⟩) := by
  blk_simp [idx t]
  blk_ext [idx t]

/-- The point whose block holds an entry of the result. -/
theorem place (X : Vec Ideal S8448x5760 .f32) (t : Fin cfg0.N) (r : Fin 8448) (s : Fin 5760) (ht : t.val = r / 768 * 9 + s / 640) :
    (((cfg0.win 2).blk t).view.read (Elt Ideal) X : Vec Ideal S768x640 .f32) (ix2 ⟨r % 768, by omega⟩ ⟨s % 640, by omega⟩)
      = X (ix2 r s) := by
  rw [block_2]
  congr 2 <;> apply Fin.ext <;> dsimp only <;> omega

/-- The operands: the arguments, whose casts change no value; the weights rearranged. -/
abbrev argA : FVec Ideal S8448x2048 .f32 := m ((c.tc : Thread nD τ).loc main_arg0)
abbrev argB : FVec Ideal S2048x5760 .f32 := arranged (m ((c.tc : Thread nD τ).loc main_arg1))

theorem V_a : V m c main_v0 = argA m c := by
  unfold_abbrev_sides
  after_reads_simp
  rfl

theorem V_b : V m c main_v6 = argB m c := by
  unfold_abbrev_sides
  after_reads_simp
  rfl

/-- A row of the left operand and a column of the right one. -/
abbrev left (r : Fin 8448) (k : Fin 2048) : EReal := argA m c (ix2 r k)
abbrev right (s : Fin 5760) (k : Fin 2048) : EReal := argB m c (ix2 k s)

/-- A row of the left block is a row of its operand, a column of the right block a column. -/
theorem row_0 (t : Fin cfg0.N) (i : Fin 768) (r : Fin 8448) (h : r.val = t.val / 9 * 768 + i) (x : Fin 2048) :
    (iblk m c 0 t : FVec Ideal S768x2048 .bf16) (ix2 i x) = left m c r x := by
  refine (block_0 (V m c main_v0) t i x).trans ?_
  rw [V_a]
  exact congrArg (fun r => left m c r x) (Fin.ext h.symm)

theorem col_1 (t : Fin cfg0.N) (j : Fin 640) (s : Fin 5760) (h : s.val = t.val % 9 * 640 + j) (x : Fin 2048) :
    (iblk m c 1 t : FVec Ideal S2048x640 .bf16) (ix2 x j) = right m c s x := by
  refine (block_1 (V m c main_v6) t x j).trans ?_
  rw [V_b]
  exact congrArg (fun s => right m c s x) (Fin.ext h.symm)

/-- What a point leaves in the result's block. -/
theorem out (t : Fin cfg0.N) (i : Fin 768) (j : Fin 640) :
    out0_2 (iblk m c 0 t) (iblk m c 1 t) (ix2 i j)
      = entry (fun x : Fin 2048 => (iblk m c 0 t : FVec Ideal S768x2048 .bf16) (ix2 i x))
        (fun x : Fin 2048 => (iblk m c 1 t : FVec Ideal S2048x640 .bf16) (ix2 x j)) := by
  unfold out0_2
  frame_out
  exact stored _ _ _ _

/-- The kernel's result is the plain product. -/
theorem result (r : Fin 8448) (s : Fin 5760) :
    ((dats m 0 c).arrAt 2 cfg0.N : FVec Ideal S8448x5760 .f32) (ix2 r s) = entry (left m c r) (right m c s) := by
  have hr := r.isLt
  have hs := s.isLt
  obtain ⟨t, ht⟩ : ∃ t : Fin cfg0.N, t.val = r / 768 * 9 + s / 640 := ⟨⟨_, by show _ < 99; omega⟩, rfl⟩
  have hb := place ((dats m 0 c).arrAt 2 cfg0.N) t r s ht
  rw [Value.blocks2 m c t (flush t), Value.flushed2] at hb
  refine hb.symm.trans ((out m c t ⟨r % 768, by omega⟩ ⟨s % 640, by omega⟩).trans ?_)
  exact congrArg₂ entry (funext (row_0 m c t _ r (by dsimp only; omega))) (funext (col_1 m c t _ s (by dsimp only; omega)))

end Cert.MixInIdeal.Step

end
-- ==== Proof.MixOutDxValue.lean ====
/-
  The mixers' output projection, the gradient of its left operand: the kernel's result at an index.
-/
module

public import proofs.«01_k».proof.Proof.Product
public import proofs.«01_k».proof.Proof.Gen.MixOutDxIdeal.Value
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.MixOutDxIdeal.Step

open Cert.Product Cert.MixOutDxIdeal Cert.MixOutDxIdeal.Gen Idealize.ShloMosaic Idealize.ShloMosaic.TcCoe Idealize.SL.Sem

/-- What a point stores: the product of its blocks, which hold whole rows of the operands. -/
theorem stored (a : FVec Ideal S768x2048 .f32) (b : FVec Ideal S1024x2048 .bf16) (i : Fin 768) (j : Fin 1024) :
    k0_pay1 (F := Ideal) a b (ix2 i j)
      = entry (fun x : Fin 2048 => a (ix2 i x)) (fun x : Fin 2048 => b (ix2 j x)) := by
  pointwise [entry, k0_pay1]

variable (m : (ℓ : Loc nD τ sig) → Buf (Elt Ideal) ℓ) (c : Dev nD)

/-- The blocks of one grid point. -/
theorem idx : ∀ t : Fin cfg0.N,
    (win0_0.index t (0 : Fin 2) = t.val / 2 ∧ win0_0.index t (1 : Fin 2) = 0)
    ∧ (win0_1.index t (0 : Fin 2) = t.val % 2 ∧ win0_1.index t (1 : Fin 2) = 0)
    ∧ (win0_2.index t (0 : Fin 2) = t.val / 2 ∧ win0_2.index t (1 : Fin 2) = t.val % 2) :=
  (by decide +kernel : ∀ t : Fin grid0.N, _)

/-- Every point writes its block back. -/
theorem flush : ∀ t : Fin cfg0.N, (cfg0.win 2).flush t = true := (by decide +kernel : ∀ t : Fin grid0.N, win0_2.flush t = true)

theorem lt_points (t : Fin cfg0.N) : t.val < 22 := t.isLt

theorem block_0 (X : Vec Ideal S8448x2048 .f32) (t : Fin cfg0.N) (i : Fin 768) (x : Fin 2048) :
    (((cfg0.win 0).blk t).view.read (Elt Ideal) X : Vec Ideal S768x2048 .f32) (ix2 i x)
      = X (ix2 ⟨t.val / 2 * 768 + i, by have := lt_points t; omega⟩ x) := by
  blk_simp [idx t]
  blk_ext [idx t]

theorem block_1 (X : Vec Ideal S2048x2048 .bf16) (t : Fin cfg0.N) (i : Fin 1024) (x : Fin 2048) :
    (((cfg0.win 1).blk t).view.read (Elt Ideal) X : Vec Ideal S1024x2048 .bf16) (ix2 i x)
      = X (ix2 ⟨t.val % 2 * 1024 + i, by omega⟩ x) := by
  blk_simp [idx t]
  blk_ext [idx t]

theorem block_2 (X : Vec Ideal S8448x2048 .f32) (t : Fin cfg0.N) (i : Fin 768) (j : Fin 1024) :
    (((cfg0.win 2).blk t).view.read (Elt Ideal) X : Vec Ideal S768x1024 .f32) (ix2 i j)
      = X (ix2 ⟨t.val / 2 * 768 + i, by have := lt_points t; omega⟩ ⟨t.val % 2 * 1024 + j, by omega⟩) := by
  blk_simp [idx t]
  blk_ext [idx t]

/-- The point whose block holds an entry of the result. -/
theorem place (X : Vec Ideal S8448x2048 .f32) (t : Fin cfg0.N) (r : Fin 8448) (s : Fin 2048) (ht : t.val = r / 768 * 2 + s / 1024) :
    (((cfg0.win 2).blk t).view.read (Elt Ideal) X : Vec Ideal S768x1024 .f32) (ix2 ⟨r % 768, by omega⟩ ⟨s % 1024, by omega⟩)
      = X (ix2 r s) := by
  rw [block_2]
  congr 2 <;> apply Fin.ext <;> dsimp only <;> omega

/-- The operands: the arguments, whose casts change no value. -/
abbrev argA : FVec Ideal S8448x2048 .f32 := m ((c.tc : Thread nD τ).loc main_arg2)
abbrev argB : FVec Ideal S2048x2048 .f32 := m ((c.tc : Thread nD τ).loc main_arg1)

theorem V_b : V m c main_v0 = argB m c := by
  unfold_abbrev_sides
  after_reads_simp
  rfl

/-- A row of each operand. -/
abbrev left (r : Fin 8448) (k : Fin 2048) : EReal := argA m c (ix2 r k)
abbrev right (s : Fin 2048) (k : Fin 2048) : EReal := argB m c (ix2 s k)

/-- A row of each block is a row of its operand. -/
theorem row_0 (t : Fin cfg0.N) (i : Fin 768) (r : Fin 8448) (h : r.val = t.val / 2 * 768 + i) (x : Fin 2048) :
    (iblk m c 0 t : FVec Ideal S768x2048 .f32) (ix2 i x) = left m c r x := by
  refine (block_0 (V m c main_arg2) t i x).trans ?_
  rw [V_main_arg2]
  exact congrArg (fun r => left m c r x) (Fin.ext h.symm)

theorem row_1 (t : Fin cfg0.N) (j : Fin 1024) (s : Fin 2048) (h : s.val = t.val % 2 * 1024 + j) (x : Fin 2048) :
    (iblk m c 1 t : FVec Ideal S1024x2048 .bf16) (ix2 j x) = right m c s x := by
  refine (block_1 (V m c main_v0) t j x).trans ?_
  rw [V_b]
  exact congrArg (fun s => right m c s x) (Fin.ext h.symm)

/-- What a point leaves in the result's block. -/
theorem out (t : Fin cfg0.N) (i : Fin 768) (j : Fin 1024) :
    out0_2 (iblk m c 0 t) (iblk m c 1 t) (ix2 i j)
      = entry (fun x : Fin 2048 => (iblk m c 0 t : FVec Ideal S768x2048 .f32) (ix2 i x))
        (fun x : Fin 2048 => (iblk m c 1 t : FVec Ideal S1024x2048 .bf16) (ix2 j x)) := by
  unfold out0_2
  frame_out
  exact stored _ _ _ _

/-- The kernel's result is the plain product. -/
theorem result (r : Fin 8448) (s : Fin 2048) :
    ((dats m 0 c).arrAt 2 cfg0.N : FVec Ideal S8448x2048 .f32) (ix2 r s) = entry (left m c r) (right m c s) := by
  have hr := r.isLt
  have hs := s.isLt
  obtain ⟨t, ht⟩ : ∃ t : Fin cfg0.N, t.val = r / 768 * 2 + s / 1024 := ⟨⟨_, by show _ < 22; omega⟩, rfl⟩
  have hb := place ((dats m 0 c).arrAt 2 cfg0.N) t r s ht
  rw [Value.blocks2 m c t (flush t), Value.flushed2] at hb
  refine hb.symm.trans ((out m c t ⟨r % 768, by omega⟩ ⟨s % 1024, by omega⟩).trans ?_)
  exact congrArg₂ entry (funext (row_0 m c t _ r (by dsimp only; omega))) (funext (row_1 m c t _ s (by dsimp only; omega)))

end Cert.MixOutDxIdeal.Step

end
-- ==== Proof.MixOutDwValue.lean ====
/-
  The mixers' output projection, the gradient of its weights: the kernel's result at an index.
-/
module

public import proofs.«01_k».proof.Proof.Product
public import proofs.«01_k».proof.Proof.Gen.MixOutDwIdeal.Value
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.MixOutDwIdeal.Step

open Cert.Product Cert.MixOutDwIdeal Cert.MixOutDwIdeal.Gen Idealize.ShloMosaic Idealize.ShloMosaic.TcCoe Idealize.SL.Sem

/-- The product of two blocks, which share their rows. -/
def mul (a : FVec Ideal S2816x512 .f32) (b : FVec Ideal S2816x1024 .f32) (i : Fin 512) (j : Fin 1024) : EReal :=
  entry (fun x : Fin 2816 => a (ix2 x i)) (fun x : Fin 2816 => b (ix2 x j))

/-- What a point stores: the blocks' product, alone or added to what the accumulator held. -/
theorem stored (a : FVec Ideal S2816x512 .f32) (b : FVec Ideal S2816x1024 .f32) (s : FVec Ideal S512x1024 .f32)
    (i : Fin 512) (j : Fin 1024) :
    k0_pay2 (F := Ideal) a b (ix2 i j) = mul a b i j
    ∧ k0_pay3 (F := Ideal) a b s (ix2 i j) = s (ix2 i j) + mul a b i j
    ∧ k0_pay4 (F := Ideal) a b s (ix2 i j) = s (ix2 i j) + mul a b i j := by
  refine ⟨?_, ?_, ?_⟩ <;> pointwise [mul, entry, k0_pay1, k0_pay2, k0_pay3, k0_pay4]

variable (m : (ℓ : Loc nD τ sig) → Buf (Elt Ideal) ℓ) (c : Dev nD)

/-- The product of one grid point's blocks. -/
def dot (t : Fin cfg0.N) (i : Fin 512) (j : Fin 1024) : EReal := mul (iblk m c 0 t) (iblk m c 1 t) i j

/-- The accumulator after a first point. -/
theorem acc_first (t : Fin cfg0.N) (h : t.val % 3 = 0) (i : Fin 512) (j : Fin 1024) :
    (outsAt0 m c t.val t.isLt).2 (ix2 i j) = dot m c t i j := by
  rw [outsAt0_A m c t h (by omega) (by omega)]
  dsimp only
  frame_out
  exact (stored _ _ 0 i j).1

/-- The accumulator after a middle point. -/
theorem acc_next (n : ℕ) (hn : n + 1 < cfg0.N) (h : (n + 1) % 3 = 1) (i : Fin 512) (j : Fin 1024) :
    (outsAt0 m c (n + 1) hn).2 (ix2 i j) = (outsAt0 m c n (Nat.lt_of_succ_lt hn)).2 (ix2 i j) + dot m c ⟨n + 1, hn⟩ i j := by
  rw [outsAt0_B m c ⟨n + 1, hn⟩ (by dsimp only; omega) h (by dsimp only; omega)]
  dsimp only
  frame_out
  simp only [read_unread_whole]
  exact (stored _ _ _ i j).2.1

/-- The result's block at a last point. -/
theorem out_last (n : ℕ) (hn : n + 1 < cfg0.N) (h : (n + 1) % 3 = 2) (i : Fin 512) (j : Fin 1024) :
    (outsAt0 m c (n + 1) hn).1 (ix2 i j) = (outsAt0 m c n (Nat.lt_of_succ_lt hn)).2 (ix2 i j) + dot m c ⟨n + 1, hn⟩ i j := by
  rw [outsAt0_C m c ⟨n + 1, hn⟩ (by dsimp only; omega) (by dsimp only; omega) h]
  dsimp only
  frame_out
  simp only [read_unread_whole]
  exact (stored _ _ _ i j).2.2

/-- The blocks that one grid point reads. -/
theorem idx : ∀ t : Fin cfg0.N,
    (win0_0.index t (0 : Fin 2) = t.val % 3 ∧ win0_0.index t (1 : Fin 2) = t.val / 6)
    ∧ (win0_1.index t (0 : Fin 2) = t.val % 3 ∧ win0_1.index t (1 : Fin 2) = t.val / 3 % 2) :=
  (by decide +kernel : ∀ t : Fin grid0.N, _)

theorem lt_points (t : Fin cfg0.N) : t.val < 24 := t.isLt

theorem block_0 (X : Vec Ideal S8448x2048 .f32) (t : Fin cfg0.N) (x : Fin 2816) (i : Fin 512) :
    (((cfg0.win 0).blk t).view.read (Elt Ideal) X : Vec Ideal S2816x512 .f32) (ix2 x i)
      = X (ix2 ⟨t.val % 3 * 2816 + x, by omega⟩ ⟨t.val / 6 * 512 + i, by have := lt_points t; omega⟩) := by
  blk_simp [idx t]
  blk_ext [idx t]

theorem block_1 (X : Vec Ideal S8448x2048 .f32) (t : Fin cfg0.N) (x : Fin 2816) (i : Fin 1024) :
    (((cfg0.win 1).blk t).view.read (Elt Ideal) X : Vec Ideal S2816x1024 .f32) (ix2 x i)
      = X (ix2 ⟨t.val % 3 * 2816 + x, by omega⟩ ⟨t.val / 3 % 2 * 1024 + i, by omega⟩) := by
  blk_simp [idx t]
  blk_ext [idx t]

/-- The operands: the arguments, whose casts change no value. -/
abbrev argA : FVec Ideal S8448x2048 .f32 := m ((c.tc : Thread nD τ).loc main_arg0)
abbrev argB : FVec Ideal S8448x2048 .f32 := m ((c.tc : Thread nD τ).loc main_arg2)

/-- A column of each operand. -/
abbrev left (r : Fin 2048) (k : Fin 8448) : EReal := argA m c (ix2 k r)
abbrev right (s : Fin 2048) (k : Fin 8448) : EReal := argB m c (ix2 k s)

/-- The product of the blocks is its part of the entry. -/
theorem dot_eq (t : Fin cfg0.N) (b q : ℕ) (ht : t.val = 3 * b + q) (hq : q < 3) (r : Fin 2048) (s : Fin 2048)
    (hb : b = r / 512 * 2 + s / 1024) :
    dot m c t ⟨r % 512, by omega⟩ ⟨s % 1024, by omega⟩ = part (left m c r) (right m c s) 2816 q := by
  refine entry_block _ _ _ _ q (by omega) (fun x => (block_0 (V m c main_arg0) _ _ _).trans ?_)
    (fun x => (block_1 (V m c main_arg2) _ _ _).trans ?_)
  · rw [V_main_arg0]
    congr 2 <;> apply Fin.ext <;> dsimp only <;> omega
  · rw [V_main_arg2]
    congr 2 <;> apply Fin.ext <;> dsimp only <;> omega

/-- The kernel's result is the plain product. -/
theorem result (r : Fin 2048) (s : Fin 2048) :
    (Value.G2 m c : FVec Ideal S2048x2048 .f32) (ix2 r s) = entry (left m c r) (right m c s) := by
  have hr := r.isLt
  have hs := s.isLt
  obtain ⟨b, hb⟩ : ∃ b : ℕ, b = r / 512 * 2 + s / 1024 := ⟨_, rfl⟩
  have hn : 3 * b + 2 < cfg0.N := by show _ < 24; omega
  have h0 : 3 * b < cfg0.N := by omega
  have hp : Value.pt2Of (ix2 r s) = 3 * b + 2 := by
    show 3 * (2 * (r.val / 512 - 0) + 1 * (s.val / 1024 - 0)) + 2 = _
    omega
  have hl : Value.loc2Of (ix2 r s) = ix2 (⟨r % 512, by omega⟩ : Fin 512) (⟨s % 1024, by omega⟩ : Fin 1024) := by
    funext a
    fin_cases a <;> rfl
  unfold Value.G2
  rw [dif_pos (by rw [hp]; exact hn), ← Value.outsAt0_sweep m c _ (by rw [hp]; exact hn), hl]
  simp only [hp]
  rw [out_last m c (3 * b + 1) hn (by omega), acc_next m c (3 * b) _ (by omega), acc_first m c ⟨3 * b, h0⟩ (by dsimp only; omega),
    dot_eq m c ⟨3 * b + 2, hn⟩ b 2 rfl (by omega) r s hb, dot_eq m c ⟨3 * b + 1, _⟩ b 1 rfl (by omega) r s hb,
    dot_eq m c ⟨3 * b, h0⟩ b 0 rfl (by omega) r s hb]
  exact three _ _ _ rfl

end Cert.MixOutDwIdeal.Step

end
-- ==== Proof.MixOutValue.lean ====
/-
  The mixers' output projection: the kernel's result at an index.
-/
module

public import proofs.«01_k».proof.Proof.Product
public import proofs.«01_k».proof.Proof.Gen.MixOutIdeal.Value
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.MixOutIdeal.Step

open Cert.Product Cert.MixOutIdeal Cert.MixOutIdeal.Gen Idealize.ShloMosaic Idealize.ShloMosaic.TcCoe Idealize.SL.Sem

/-- What a point stores: the product of its blocks, which hold whole rows and whole columns of the operands. -/
theorem stored (a : FVec Ideal S768x2048 .f32) (b : FVec Ideal S2048x1024 .bf16) (i : Fin 768) (j : Fin 1024) :
    k0_pay1 (F := Ideal) a b (ix2 i j)
      = entry (fun x : Fin 2048 => a (ix2 i x)) (fun x : Fin 2048 => b (ix2 x j)) := by
  pointwise [entry, k0_pay1]

variable (m : (ℓ : Loc nD τ sig) → Buf (Elt Ideal) ℓ) (c : Dev nD)

/-- The blocks of one grid point. -/
theorem idx : ∀ t : Fin cfg0.N,
    (win0_0.index t (0 : Fin 2) = t.val / 2 ∧ win0_0.index t (1 : Fin 2) = 0)
    ∧ (win0_1.index t (0 : Fin 2) = 0 ∧ win0_1.index t (1 : Fin 2) = t.val % 2)
    ∧ (win0_2.index t (0 : Fin 2) = t.val / 2 ∧ win0_2.index t (1 : Fin 2) = t.val % 2) :=
  (by decide +kernel : ∀ t : Fin grid0.N, _)

/-- Every point writes its block back. -/
theorem flush : ∀ t : Fin cfg0.N, (cfg0.win 2).flush t = true := (by decide +kernel : ∀ t : Fin grid0.N, win0_2.flush t = true)

theorem lt_points (t : Fin cfg0.N) : t.val < 22 := t.isLt

theorem block_0 (X : Vec Ideal S8448x2048 .f32) (t : Fin cfg0.N) (i : Fin 768) (x : Fin 2048) :
    (((cfg0.win 0).blk t).view.read (Elt Ideal) X : Vec Ideal S768x2048 .f32) (ix2 i x)
      = X (ix2 ⟨t.val / 2 * 768 + i, by have := lt_points t; omega⟩ x) := by
  blk_simp [idx t]
  blk_ext [idx t]

theorem block_1 (X : Vec Ideal S2048x2048 .bf16) (t : Fin cfg0.N) (x : Fin 2048) (i : Fin 1024) :
    (((cfg0.win 1).blk t).view.read (Elt Ideal) X : Vec Ideal S2048x1024 .bf16) (ix2 x i)
      = X (ix2 x ⟨t.val % 2 * 1024 + i, by omega⟩) := by
  blk_simp [idx t]
  blk_ext [idx t]

theorem block_2 (X : Vec Ideal S8448x2048 .f32) (t : Fin cfg0.N) (i : Fin 768) (j : Fin 1024) :
    (((cfg0.win 2).blk t).view.read (Elt Ideal) X : Vec Ideal S768x1024 .f32) (ix2 i j)
      = X (ix2 ⟨t.val / 2 * 768 + i, by have := lt_points t; omega⟩ ⟨t.val % 2 * 1024 + j, by omega⟩) := by
  blk_simp [idx t]
  blk_ext [idx t]

/-- The point whose block holds an entry of the result. -/
theorem place (X : Vec Ideal S8448x2048 .f32) (t : Fin cfg0.N) (r : Fin 8448) (s : Fin 2048) (ht : t.val = r / 768 * 2 + s / 1024) :
    (((cfg0.win 2).blk t).view.read (Elt Ideal) X : Vec Ideal S768x1024 .f32) (ix2 ⟨r % 768, by omega⟩ ⟨s % 1024, by omega⟩)
      = X (ix2 r s) := by
  rw [block_2]
  congr 2 <;> apply Fin.ext <;> dsimp only <;> omega

/-- The operands: the arguments, whose casts change no value. -/
abbrev argA : FVec Ideal S8448x2048 .f32 := m ((c.tc : Thread nD τ).loc main_arg0)
abbrev argB : FVec Ideal S2048x2048 .f32 := m ((c.tc : Thread nD τ).loc main_arg1)

theorem V_b : V m c main_v0 = argB m c := by
  unfold_abbrev_sides
  after_reads_simp
  rfl

/-- A row of the left operand and a column of the right one. -/
abbrev left (r : Fin 8448) (k : Fin 2048) : EReal := argA m c (ix2 r k)
abbrev right (s : Fin 2048) (k : Fin 2048) : EReal := argB m c (ix2 k s)

/-- A row of the left block is a row of its operand, a column of the right block a column. -/
theorem row_0 (t : Fin cfg0.N) (i : Fin 768) (r : Fin 8448) (h : r.val = t.val / 2 * 768 + i) (x : Fin 2048) :
    (iblk m c 0 t : FVec Ideal S768x2048 .f32) (ix2 i x) = left m c r x := by
  refine (block_0 (V m c main_arg0) t i x).trans ?_
  rw [V_main_arg0]
  exact congrArg (fun r => left m c r x) (Fin.ext h.symm)

theorem col_1 (t : Fin cfg0.N) (j : Fin 1024) (s : Fin 2048) (h : s.val = t.val % 2 * 1024 + j) (x : Fin 2048) :
    (iblk m c 1 t : FVec Ideal S2048x1024 .bf16) (ix2 x j) = right m c s x := by
  refine (block_1 (V m c main_v0) t x j).trans ?_
  rw [V_b]
  exact congrArg (fun s => right m c s x) (Fin.ext h.symm)

/-- What a point leaves in the result's block. -/
theorem out (t : Fin cfg0.N) (i : Fin 768) (j : Fin 1024) :
    out0_2 (iblk m c 0 t) (iblk m c 1 t) (ix2 i j)
      = entry (fun x : Fin 2048 => (iblk m c 0 t : FVec Ideal S768x2048 .f32) (ix2 i x))
        (fun x : Fin 2048 => (iblk m c 1 t : FVec Ideal S2048x1024 .bf16) (ix2 x j)) := by
  unfold out0_2
  frame_out
  exact stored _ _ _ _

/-- The kernel's result is the plain product. -/
theorem result (r : Fin 8448) (s : Fin 2048) :
    ((dats m 0 c).arrAt 2 cfg0.N : FVec Ideal S8448x2048 .f32) (ix2 r s) = entry (left m c r) (right m c s) := by
  have hr := r.isLt
  have hs := s.isLt
  obtain ⟨t, ht⟩ : ∃ t : Fin cfg0.N, t.val = r / 768 * 2 + s / 1024 := ⟨⟨_, by show _ < 22; omega⟩, rfl⟩
  have hb := place ((dats m 0 c).arrAt 2 cfg0.N) t r s ht
  rw [Value.blocks2 m c t (flush t), Value.flushed2] at hb
  refine hb.symm.trans ((out m c t ⟨r % 768, by omega⟩ ⟨s % 1024, by omega⟩).trans ?_)
  exact congrArg₂ entry (funext (row_0 m c t _ r (by dsimp only; omega))) (funext (col_1 m c t _ s (by dsimp only; omega)))

end Cert.MixOutIdeal.Step

end
-- ==== Proof.MixTie.lean ====
/-
  The projections: each kernel's result is the plain product's, or its gradient's.
-/
module

public import proofs.«01_k».proof.Proof.FfnTie
public import proofs.«01_k».proof.Proof.MixInDxValue
public import proofs.«01_k».proof.Proof.MixInDwValue
public import proofs.«01_k».proof.Proof.MixInValue
public import proofs.«01_k».proof.Proof.MixOutDxValue
public import proofs.«01_k».proof.Proof.MixOutDwValue
public import proofs.«01_k».proof.Proof.MixOutValue
public import proofs.«01_k».proof.Proof.Gen.MixInDxRefIdeal.Run
public import proofs.«01_k».proof.Proof.Gen.MixInDwRefIdeal.Run
public import proofs.«01_k».proof.Proof.Gen.MixInRefIdeal.Run
public import proofs.«01_k».proof.Proof.Gen.MixOutDxRefIdeal.Run
public import proofs.«01_k».proof.Proof.Gen.MixOutDwRefIdeal.Run
public import proofs.«01_k».proof.Proof.Gen.MixOutRefIdeal.Run

@[expose] public section

set_option maxRecDepth 16384

noncomputable section

/-! ## The plain products at an index -/

namespace Cert.MixInDxRefIdeal

open Cert.Product Idealize.ShloMosaic

theorem plain (X : FVec Ideal S8448x5760 .f32) (Y : FVec Ideal S2048x5760 .f32) (r : Fin 8448) (s : Fin 2048) :
    Host.dotGeneral dot_S8448x5760_S2048x5760_S8448x2048_1_1_0_0_n_n none X Y (ix2 r s)
      = entry (fun k : Fin 5760 => X (ix2 r k)) (fun k : Fin 5760 => Y (ix2 s k)) := by
  pointwise [entry]

end Cert.MixInDxRefIdeal

namespace Cert.MixInDwRefIdeal

open Cert.Product Idealize.ShloMosaic

theorem plain (X : FVec Ideal S8448x5760 .f32) (Y : FVec Ideal S8448x2048 .f32) (r : Fin 2048) (s : Fin 5760) :
    transpose S2048x5760 [1, 0] (Host.dotGeneral dot_S8448x5760_S8448x2048_S5760x2048_0_0_1_1_n_n none X Y)
        Facts₀.transposes_S5760x2048_S2048x5760_1_0 (ix2 r s)
      = entry (fun k : Fin 8448 => Y (ix2 k r)) (fun k : Fin 8448 => X (ix2 k s)) := by
  pointwise [entry]
  exact Finset.sum_congr rfl fun k _ => mul_comm _ _

end Cert.MixInDwRefIdeal

namespace Cert.MixInRefIdeal

open Cert.Product Idealize.ShloMosaic

theorem plain (X : FVec Ideal S8448x2048 .f32) (Y : FVec Ideal S2048x5760 .f32) (r : Fin 8448) (s : Fin 5760) :
    Host.dotGeneral dot_S8448x2048_S2048x5760_S8448x5760_1_0_0_1_n_n none X Y (ix2 r s)
      = entry (fun k : Fin 2048 => X (ix2 r k)) (fun k : Fin 2048 => Y (ix2 k s)) := by
  pointwise [entry]

end Cert.MixInRefIdeal

namespace Cert.MixOutDxRefIdeal

open Cert.Product Idealize.ShloMosaic

theorem plain (X : FVec Ideal S8448x2048 .f32) (Y : FVec Ideal S2048x2048 .f32) (r : Fin 8448) (s : Fin 2048) :
    Host.dotGeneral dot_S8448x2048_S2048x2048_S8448x2048_1_1_0_0_n_n none X Y (ix2 r s)
      = entry (fun k : Fin 2048 => X (ix2 r k)) (fun k : Fin 2048 => Y (ix2 s k)) := by
  pointwise [entry]

end Cert.MixOutDxRefIdeal

namespace Cert.MixOutDwRefIdeal

open Cert.Product Idealize.ShloMosaic

theorem plain (X Y : FVec Ideal S8448x2048 .f32) (r s : Fin 2048) :
    transpose S2048x2048 [1, 0] (Host.dotGeneral dot_S8448x2048_S8448x2048_S2048x2048_0_0_1_1_n_n none X Y)
        Facts₀.transposes_S2048x2048_S2048x2048_1_0 (ix2 r s)
      = entry (fun k : Fin 8448 => Y (ix2 k r)) (fun k : Fin 8448 => X (ix2 k s)) := by
  pointwise [entry]
  exact Finset.sum_congr rfl fun k _ => mul_comm _ _

end Cert.MixOutDwRefIdeal

namespace Cert.MixOutRefIdeal

open Cert.Product Idealize.ShloMosaic

theorem plain (X : FVec Ideal S8448x2048 .f32) (Y : FVec Ideal S2048x2048 .f32) (r : Fin 8448) (s : Fin 2048) :
    Host.dotGeneral dot_S8448x2048_S2048x2048_S8448x2048_1_0_0_1_n_n none X Y (ix2 r s)
      = entry (fun k : Fin 2048 => X (ix2 r k)) (fun k : Fin 2048 => Y (ix2 k s)) := by
  pointwise [entry]

end Cert.MixOutRefIdeal

/-! ## The claims -/

namespace Cert.Proof

open Idealize.ShloMosaic Idealize.SL.Sem

/-- The input projection's gradients. -/
theorem mix_in_dx_algebraic : Cert.algebraic_MixInDxIdeal_MixInDxRefIdeal := by
  intro m ρ m' ρ' _ hagree
  refine ⟨_, Cert.MixInDxIdeal.Value.run (F := Ideal) m ρ, ?_⟩
  refine (θ_run Cert.MixInDxRefIdeal.defs _ _).mono (fun r h c => ⟨(h c).1.trans ?_, (h c).2⟩)
    (Cert.MixInDxRefIdeal.Value.run (F := Ideal) m' ρ')
  obtain ⟨_, e1, e2⟩ := hagree c
  rw [e1, e2]
  exact ext2 _ _ fun r s => (Cert.MixInDxRefIdeal.plain _ _ r s).trans (Cert.MixInDxIdeal.Step.result m c r s).symm

theorem mix_in_dw_algebraic : Cert.algebraic_MixInDwIdeal_MixInDwRefIdeal := by
  intro m ρ m' ρ' _ hagree
  refine ⟨_, Cert.MixInDwIdeal.Value.run (F := Ideal) m ρ, ?_⟩
  refine (θ_run Cert.MixInDwRefIdeal.defs _ _).mono (fun r h c => ⟨(h c).1.trans ?_, (h c).2⟩)
    (Cert.MixInDwRefIdeal.Value.run (F := Ideal) m' ρ')
  obtain ⟨e0, _, e2⟩ := hagree c
  rw [e0, e2]
  exact ext2 _ _ fun r s => (Cert.MixInDwRefIdeal.plain _ _ r s).trans (Cert.MixInDwIdeal.Step.result m c r s).symm

/-- The input projection. -/
theorem mix_in_algebraic : Cert.algebraic_MixInIdeal_MixInRefIdeal := by
  intro m ρ m' ρ' _ hagree
  refine ⟨_, Cert.MixInIdeal.Value.run_blocks (F := Ideal) m ρ, ?_⟩
  refine (θ_run Cert.MixInRefIdeal.defs _ _).mono (fun r h c => ⟨(h c).1.trans ?_, (h c).2⟩)
    (Cert.MixInRefIdeal.Value.run (F := Ideal) m' ρ')
  obtain ⟨e0, e1⟩ := hagree c
  rw [e0, e1]
  exact ext2 _ _ fun r s => (Cert.MixInRefIdeal.plain _ _ r s).trans (Cert.MixInIdeal.Step.result m c r s).symm

/-- The output projection's gradients. -/
theorem mix_out_dx_algebraic : Cert.algebraic_MixOutDxIdeal_MixOutDxRefIdeal := by
  intro m ρ m' ρ' _ hagree
  refine ⟨_, Cert.MixOutDxIdeal.Value.run_blocks (F := Ideal) m ρ, ?_⟩
  refine (θ_run Cert.MixOutDxRefIdeal.defs _ _).mono (fun r h c => ⟨(h c).1.trans ?_, (h c).2⟩)
    (Cert.MixOutDxRefIdeal.Value.run (F := Ideal) m' ρ')
  obtain ⟨_, e1, e2⟩ := hagree c
  rw [e1, e2]
  exact ext2 _ _ fun r s => (Cert.MixOutDxRefIdeal.plain _ _ r s).trans (Cert.MixOutDxIdeal.Step.result m c r s).symm

theorem mix_out_dw_algebraic : Cert.algebraic_MixOutDwIdeal_MixOutDwRefIdeal := by
  intro m ρ m' ρ' _ hagree
  refine ⟨_, Cert.MixOutDwIdeal.Value.run (F := Ideal) m ρ, ?_⟩
  refine (θ_run Cert.MixOutDwRefIdeal.defs _ _).mono (fun r h c => ⟨(h c).1.trans ?_, (h c).2⟩)
    (Cert.MixOutDwRefIdeal.Value.run (F := Ideal) m' ρ')
  obtain ⟨e0, _, e2⟩ := hagree c
  rw [e0, e2]
  exact ext2 _ _ fun r s => (Cert.MixOutDwRefIdeal.plain _ _ r s).trans (Cert.MixOutDwIdeal.Step.result m c r s).symm

/-- The output projection. -/
theorem mix_out_algebraic : Cert.algebraic_MixOutIdeal_MixOutRefIdeal := by
  intro m ρ m' ρ' _ hagree
  refine ⟨_, Cert.MixOutIdeal.Value.run_blocks (F := Ideal) m ρ, ?_⟩
  refine (θ_run Cert.MixOutRefIdeal.defs _ _).mono (fun r h c => ⟨(h c).1.trans ?_, (h c).2⟩)
    (Cert.MixOutRefIdeal.Value.run (F := Ideal) m' ρ')
  obtain ⟨e0, e1⟩ := hagree c
  rw [e0, e1]
  exact ext2 _ _ fun r s => (Cert.MixOutRefIdeal.plain _ _ r s).trans (Cert.MixOutIdeal.Step.result m c r s).symm

end Cert.Proof

end
-- ==== Proof.lean ====
/- The attention of one layer and the products of its feed-forward and projections, forward and backward: each program's run ends,
   and its results are the plain computation's results. -/
module

public import proofs.«01_k».proof.Proof.Runs
public import proofs.«01_k».proof.Proof.DqTie
public import proofs.«01_k».proof.Proof.DkvTie
public import proofs.«01_k».proof.Proof.FwdTie
public import proofs.«01_k».proof.Proof.Gen.Dq
public import proofs.«01_k».proof.Proof.Gen.DqIdeal
public import proofs.«01_k».proof.Proof.Gen.DqRefIdeal
public import proofs.«01_k».proof.Proof.Gen.Dkv
public import proofs.«01_k».proof.Proof.Gen.DkvIdeal
public import proofs.«01_k».proof.Proof.Gen.DkvRefIdeal
public import proofs.«01_k».proof.Proof.Gen.Fwd
public import proofs.«01_k».proof.Proof.Gen.FwdIdeal
public import proofs.«01_k».proof.Proof.Gen.FwdRefIdeal
public import proofs.«01_k».proof.Proof.FfnRuns
public import proofs.«01_k».proof.Proof.FfnTie
public import proofs.«01_k».proof.Proof.Gen.InDx
public import proofs.«01_k».proof.Proof.Gen.InDxIdeal
public import proofs.«01_k».proof.Proof.Gen.InDxRefIdeal
public import proofs.«01_k».proof.Proof.Gen.InDw
public import proofs.«01_k».proof.Proof.Gen.InDwIdeal
public import proofs.«01_k».proof.Proof.Gen.InDwRefIdeal
public import proofs.«01_k».proof.Proof.Gen.InFwd
public import proofs.«01_k».proof.Proof.Gen.InFwdIdeal
public import proofs.«01_k».proof.Proof.Gen.InFwdRefIdeal
public import proofs.«01_k».proof.Proof.Gen.OutDx
public import proofs.«01_k».proof.Proof.Gen.OutDxIdeal
public import proofs.«01_k».proof.Proof.Gen.OutDxRefIdeal
public import proofs.«01_k».proof.Proof.Gen.OutDw
public import proofs.«01_k».proof.Proof.Gen.OutDwIdeal
public import proofs.«01_k».proof.Proof.Gen.OutDwRefIdeal
public import proofs.«01_k».proof.Proof.Gen.OutFwd
public import proofs.«01_k».proof.Proof.Gen.OutFwdIdeal
public import proofs.«01_k».proof.Proof.Gen.OutFwdRefIdeal
public import proofs.«01_k».proof.Proof.MixRuns
public import proofs.«01_k».proof.Proof.MixTie
public import proofs.«01_k».proof.Proof.Gen.MixInDx
public import proofs.«01_k».proof.Proof.Gen.MixInDxIdeal
public import proofs.«01_k».proof.Proof.Gen.MixInDxRefIdeal
public import proofs.«01_k».proof.Proof.Gen.MixInDw
public import proofs.«01_k».proof.Proof.Gen.MixInDwIdeal
public import proofs.«01_k».proof.Proof.Gen.MixInDwRefIdeal
public import proofs.«01_k».proof.Proof.Gen.MixIn
public import proofs.«01_k».proof.Proof.Gen.MixInIdeal
public import proofs.«01_k».proof.Proof.Gen.MixInRefIdeal
public import proofs.«01_k».proof.Proof.Gen.MixOutDx
public import proofs.«01_k».proof.Proof.Gen.MixOutDxIdeal
public import proofs.«01_k».proof.Proof.Gen.MixOutDxRefIdeal
public import proofs.«01_k».proof.Proof.Gen.MixOutDw
public import proofs.«01_k».proof.Proof.Gen.MixOutDwIdeal
public import proofs.«01_k».proof.Proof.Gen.MixOutDwRefIdeal
public import proofs.«01_k».proof.Proof.Gen.MixOut
public import proofs.«01_k».proof.Proof.Gen.MixOutIdeal
public import proofs.«01_k».proof.Proof.Gen.MixOutRefIdeal

@[expose] public section

noncomputable section

namespace Cert.Proof

open Idealize.ShloMosaic Idealize.SL.Sem

theorem claim : Cert.Claim :=
  ⟨Cert.Dq.Gen.facts, Cert.DqIdeal.Gen.facts, Cert.DqRefIdeal.Gen.facts, Cert.Dkv.Gen.facts, Cert.DkvIdeal.Gen.facts,
    Cert.DkvRefIdeal.Gen.facts, Cert.Fwd.Gen.facts, Cert.FwdIdeal.Gen.facts, Cert.FwdRefIdeal.Gen.facts,
    Cert.InDx.Gen.facts, Cert.InDxIdeal.Gen.facts, Cert.InDxRefIdeal.Gen.facts,
    Cert.InDw.Gen.facts, Cert.InDwIdeal.Gen.facts, Cert.InDwRefIdeal.Gen.facts,
    Cert.InFwd.Gen.facts, Cert.InFwdIdeal.Gen.facts, Cert.InFwdRefIdeal.Gen.facts,
    Cert.OutDx.Gen.facts, Cert.OutDxIdeal.Gen.facts, Cert.OutDxRefIdeal.Gen.facts,
    Cert.OutDw.Gen.facts, Cert.OutDwIdeal.Gen.facts, Cert.OutDwRefIdeal.Gen.facts,
    Cert.OutFwd.Gen.facts, Cert.OutFwdIdeal.Gen.facts, Cert.OutFwdRefIdeal.Gen.facts,
    Cert.MixInDx.Gen.facts, Cert.MixInDxIdeal.Gen.facts, Cert.MixInDxRefIdeal.Gen.facts,
    Cert.MixInDw.Gen.facts, Cert.MixInDwIdeal.Gen.facts, Cert.MixInDwRefIdeal.Gen.facts,
    Cert.MixIn.Gen.facts, Cert.MixInIdeal.Gen.facts, Cert.MixInRefIdeal.Gen.facts,
    Cert.MixOutDx.Gen.facts, Cert.MixOutDxIdeal.Gen.facts, Cert.MixOutDxRefIdeal.Gen.facts,
    Cert.MixOutDw.Gen.facts, Cert.MixOutDwIdeal.Gen.facts, Cert.MixOutDwRefIdeal.Gen.facts,
    Cert.MixOut.Gen.facts, Cert.MixOutIdeal.Gen.facts, Cert.MixOutRefIdeal.Gen.facts,
    Cert.Pre_finite.Gen.facts, Cert.Pre_finite_qkv.Gen.facts,
    dq_frame, dq_ideal_frame, dq_ideal_frame_pre, dq_ref_frame, dq_ref_frame_pre,
    dkv_frame, dkv_ideal_frame, dkv_ideal_frame_pre, dkv_ref_frame, dkv_ref_frame_pre,
    fwd_frame, fwd_ideal_frame, fwd_ideal_frame_pre, fwd_ref_frame, fwd_ref_frame_pre,
    in_dx_frame, in_dx_ideal_frame, in_dx_ref_frame,
    in_dw_frame, in_dw_ideal_frame, in_dw_ref_frame,
    in_frame, in_ideal_frame, in_ref_frame,
    out_dx_frame, out_dx_ideal_frame, out_dx_ref_frame,
    out_dw_frame, out_dw_ideal_frame, out_dw_ref_frame,
    out_frame, out_ideal_frame, out_ref_frame,
    mix_in_dx_frame, mix_in_dx_ideal_frame, mix_in_dx_ref_frame,
    mix_in_dw_frame, mix_in_dw_ideal_frame, mix_in_dw_ref_frame,
    mix_in_frame, mix_in_ideal_frame, mix_in_ref_frame,
    mix_out_dx_frame, mix_out_dx_ideal_frame, mix_out_dx_ref_frame,
    mix_out_dw_frame, mix_out_dw_ideal_frame, mix_out_dw_ref_frame,
    mix_out_frame, mix_out_ideal_frame, mix_out_ref_frame,
    dq_preserves, dq_algebraic, dkv_preserves, dkv_algebraic, fwd_preserves, fwd_algebraic,
    in_dx_preserves, in_dx_algebraic,
    in_dw_preserves, in_dw_algebraic,
    in_preserves, in_algebraic,
    out_dx_preserves, out_dx_algebraic,
    out_dw_preserves, out_dw_algebraic,
    out_preserves, out_algebraic,
    mix_in_dx_preserves, mix_in_dx_algebraic,
    mix_in_dw_preserves, mix_in_dw_algebraic,
    mix_in_preserves, mix_in_algebraic,
    mix_out_dx_preserves, mix_out_dx_algebraic,
    mix_out_dw_preserves, mix_out_dw_algebraic,
    mix_out_preserves, mix_out_algebraic⟩

end Cert.Proof

end
